-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)) (v5 : (c : Dev Cert.Kernel2Ideal.nD) → Buf (Elt Ideal) ((c.tc : Thread Cert.Kernel2Ideal.nD Cert.Kernel2Ideal.τ).loc Cert.Kernel2Ideal.main_v22_5)) (v6 : (c : Dev Cert.Kernel2Ideal.nD) → Buf (Elt Ideal) ((c.tc : Thread Cert.Kernel2Ideal.nD Cert.Kernel2Ideal.τ).loc Cert.Kernel2Ideal.main_v22_6)) (v7 : (c : Dev Cert.Kernel2Ideal.nD) → Buf (Elt Ideal) ((c.tc : Thread Cert.Kernel2Ideal.nD Cert.Kernel2Ideal.τ).loc Cert.Kernel2Ideal.main_v22_7)) (v8 : (c : Dev Cert.Kernel2Ideal.nD) → Buf (Elt Ideal) ((c.tc : Thread Cert.Kernel2Ideal.nD Cert.Kernel2Ideal.τ).loc Cert.Kernel2Ideal.main_v22_8)) (v9 : (c : Dev Cert.Kernel2Ideal.nD) → Buf (Elt Ideal) ((c.tc : Thread Cert.Kernel2Ideal.nD Cert.Kernel2Ideal.τ).loc Cert.Kernel2Ideal.main_v22_9)) (v10 : (c : Dev Cert.Kernel2Ideal.nD) → Buf (Elt Ideal) ((c.tc : Thread Cert.Kernel2Ideal.nD Cert.Kernel2Ideal.τ).loc Cert.Kernel2Ideal.main_v22_10)) (v11 : (c : Dev Cert.Kernel2Ideal.nD) → Buf (Elt Ideal) ((c.tc : Thread Cert.Kernel2Ideal.nD Cert.Kernel2Ideal.τ).loc Cert.Kernel2Ideal.main_v22_11)) (v12 : (c : Dev Cert.Kernel2Ideal.nD) → Buf (Elt Ideal) ((c.tc : Thread Cert.Kernel2Ideal.nD Cert.Kernel2Ideal.τ).loc Cert.Kernel2Ideal.main_v22_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_v22_5) = v5 c
          ∧ r.2.mem ((c.tc : Thread Cert.Kernel2Ideal.nD Cert.Kernel2Ideal.τ).loc Cert.Kernel2Ideal.main_v22_6) = v6 c
          ∧ r.2.mem ((c.tc : Thread Cert.Kernel2Ideal.nD Cert.Kernel2Ideal.τ).loc Cert.Kernel2Ideal.main_v22_7) = v7 c
          ∧ r.2.mem ((c.tc : Thread Cert.Kernel2Ideal.nD Cert.Kernel2Ideal.τ).loc Cert.Kernel2Ideal.main_v22_8) = v8 c
          ∧ r.2.mem ((c.tc : Thread Cert.Kernel2Ideal.nD Cert.Kernel2Ideal.τ).loc Cert.Kernel2Ideal.main_v22_9) = v9 c
          ∧ r.2.mem ((c.tc : Thread Cert.Kernel2Ideal.nD Cert.Kernel2Ideal.τ).loc Cert.Kernel2Ideal.main_v22_10) = v10 c
          ∧ r.2.mem ((c.tc : Thread Cert.Kernel2Ideal.nD Cert.Kernel2Ideal.τ).loc Cert.Kernel2Ideal.main_v22_11) = v11 c
          ∧ r.2.mem ((c.tc : Thread Cert.Kernel2Ideal.nD Cert.Kernel2Ideal.τ).loc Cert.Kernel2Ideal.main_v22_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_v43) = v4 c
          ∧ r.2.mem ((c.tc : Thread Cert.Reference2Ideal.nD Cert.Reference2Ideal.τ).loc Cert.Reference2Ideal.main_v44) = v5 c
          ∧ r.2.mem ((c.tc : Thread Cert.Reference2Ideal.nD Cert.Reference2Ideal.τ).loc Cert.Reference2Ideal.main_v45) = v6 c
          ∧ r.2.mem ((c.tc : Thread Cert.Reference2Ideal.nD Cert.Reference2Ideal.τ).loc Cert.Reference2Ideal.main_v46) = v7 c
          ∧ r.2.mem ((c.tc : Thread Cert.Reference2Ideal.nD Cert.Reference2Ideal.τ).loc Cert.Reference2Ideal.main_v68) = v8 c
          ∧ r.2.mem ((c.tc : Thread Cert.Reference2Ideal.nD Cert.Reference2Ideal.τ).loc Cert.Reference2Ideal.main_v70) = v9 c
          ∧ r.2.mem ((c.tc : Thread Cert.Reference2Ideal.nD Cert.Reference2Ideal.τ).loc Cert.Reference2Ideal.main_v71) = v10 c
          ∧ r.2.mem ((c.tc : Thread Cert.Reference2Ideal.nD Cert.Reference2Ideal.τ).loc Cert.Reference2Ideal.main_v72) = v11 c
          ∧ r.2.mem ((c.tc : Thread Cert.Reference2Ideal.nD Cert.Reference2Ideal.τ).loc Cert.Reference2Ideal.main_v73) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)) (v2 : (c : Dev Cert.Kernel4Ideal.nD) → Buf (Elt Ideal) ((c.tc : Thread Cert.Kernel4Ideal.nD Cert.Kernel4Ideal.τ).loc Cert.Kernel4Ideal.main_v22_2)) (v3 : (c : Dev Cert.Kernel4Ideal.nD) → Buf (Elt Ideal) ((c.tc : Thread Cert.Kernel4Ideal.nD Cert.Kernel4Ideal.τ).loc Cert.Kernel4Ideal.main_v22_3)) (v4 : (c : Dev Cert.Kernel4Ideal.nD) → Buf (Elt Ideal) ((c.tc : Thread Cert.Kernel4Ideal.nD Cert.Kernel4Ideal.τ).loc Cert.Kernel4Ideal.main_v22_4)) (v5 : (c : Dev Cert.Kernel4Ideal.nD) → Buf (Elt Ideal) ((c.tc : Thread Cert.Kernel4Ideal.nD Cert.Kernel4Ideal.τ).loc Cert.Kernel4Ideal.main_v22_5)) (v6 : (c : Dev Cert.Kernel4Ideal.nD) → Buf (Elt Ideal) ((c.tc : Thread Cert.Kernel4Ideal.nD Cert.Kernel4Ideal.τ).loc Cert.Kernel4Ideal.main_v22_6)) (v7 : (c : Dev Cert.Kernel4Ideal.nD) → Buf (Elt Ideal) ((c.tc : Thread Cert.Kernel4Ideal.nD Cert.Kernel4Ideal.τ).loc Cert.Kernel4Ideal.main_v22_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_v22_2) = v2 c
          ∧ r.2.mem ((c.tc : Thread Cert.Kernel4Ideal.nD Cert.Kernel4Ideal.τ).loc Cert.Kernel4Ideal.main_v22_3) = v3 c
          ∧ r.2.mem ((c.tc : Thread Cert.Kernel4Ideal.nD Cert.Kernel4Ideal.τ).loc Cert.Kernel4Ideal.main_v22_4) = v4 c
          ∧ r.2.mem ((c.tc : Thread Cert.Kernel4Ideal.nD Cert.Kernel4Ideal.τ).loc Cert.Kernel4Ideal.main_v22_5) = v5 c
          ∧ r.2.mem ((c.tc : Thread Cert.Kernel4Ideal.nD Cert.Kernel4Ideal.τ).loc Cert.Kernel4Ideal.main_v22_6) = v6 c
          ∧ r.2.mem ((c.tc : Thread Cert.Kernel4Ideal.nD Cert.Kernel4Ideal.τ).loc Cert.Kernel4Ideal.main_v22_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v36) = v3 c
          ∧ r.2.mem ((c.tc : Thread Cert.Reference4Ideal.nD Cert.Reference4Ideal.τ).loc Cert.Reference4Ideal.main_v37) = v4 c
          ∧ r.2.mem ((c.tc : Thread Cert.Reference4Ideal.nD Cert.Reference4Ideal.τ).loc Cert.Reference4Ideal.main_v38) = v5 c
          ∧ r.2.mem ((c.tc : Thread Cert.Reference4Ideal.nD Cert.Reference4Ideal.τ).loc Cert.Reference4Ideal.main_v39) = v6 c
          ∧ r.2.mem ((c.tc : Thread Cert.Reference4Ideal.nD Cert.Reference4Ideal.τ).loc Cert.Reference4Ideal.main_v40) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v73) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_finite.lean ====
abbrev S32x8x768 : Shape := ⟨3, ![32, 8, 768]⟩
abbrev S32x8x128 : Shape := ⟨3, ![32, 8, 128]⟩
abbrev S16x128 : Shape := ⟨2, ![16, 128]⟩
abbrev S128 : Shape := ⟨1, ![128]⟩
abbrev S64 : Shape := ⟨1, ![64]⟩
abbrev S32x4x32x64 : Shape := ⟨4, ![32, 4, 32, 64]⟩
abbrev S32x8x512 : Shape := ⟨3, ![32, 8, 512]⟩
abbrev S_ : Shape := ⟨0, ![]⟩

class Facts : Prop where
  slices_S32x8x768_S32x8x512_0_0_0 : S32x8x768.Slices ![0, 0, 0] S32x8x512
  bcast_S_S32x8x512 : S_.BroadcastsInDim S32x8x512 (![] : Fin 0 → Fin S32x8x512.rank)
  bcast_S_S32x4x32x64 : S_.BroadcastsInDim S32x4x32x64 (![] : Fin 0 → Fin S32x4x32x64.rank)

variable [Facts]

def fn {F : FTy → Type} [FloatOps F] (main_arg0 : FVec F S32x8x768 .f32) (main_arg1 : FVec F S32x8x128 .f32) (main_arg2 : FVec F S16x128 .f32) (main_arg3 : FVec F S128 .f32) (main_arg4 : FVec F S64 .f32) (main_arg5 : FVec F S32x4x32x64 .f32) : IVec S32x8x512 1 × IVec S32x4x32x64 1 :=
  let main_v0 : FVec F S32x8x512 .f32 := (extractStridedSlice S32x8x512 ![0, 0, 0] · slices_S32x8x768_S32x8x512_0_0_0) main_arg0
  let main_v1 : FVec F S32x8x512 .f32 := Host.absf main_v0
  let main_cst : FVec F S_ .f32 := constant S_ .f32 0x7F800000#32
  let main_v2 : FVec F S32x8x512 .f32 := broadcastInDim S32x8x512 ![] bcast_S_S32x8x512 main_cst
  let main_v3 : IVec S32x8x512 1 := cmpf .olt main_v1 main_v2
  let main_v4 : FVec F S32x4x32x64 .f32 := Host.absf main_arg5
  let main_cst_0 : FVec F S_ .f32 := constant S_ .f32 0x7F800000#32
  let main_v5 : FVec F S32x4x32x64 .f32 := broadcastInDim S32x4x32x64 ![] bcast_S_S32x4x32x64 main_cst_0
  let main_v6 : IVec S32x4x32x64 1 := cmpf .olt main_v4 main_v5
  (main_v3, main_v6)
-- ==== Kernel.lean ====
abbrev S16384x512 : Shape := ⟨2, ![16384, 512]⟩
abbrev S16384x24 : Shape := ⟨2, ![16384, 24]⟩
abbrev S16384x256 : Shape := ⟨2, ![16384, 256]⟩
abbrev S64 : Shape := ⟨1, ![64]⟩
abbrev S_ : Shape := ⟨0, ![]⟩
abbrev S16384x128 : Shape := ⟨2, ![16384, 128]⟩
abbrev S64x1 : Shape := ⟨2, ![64, 1]⟩
abbrev S64x128 : Shape := ⟨2, ![64, 128]⟩
abbrev S64x256 : Shape := ⟨2, ![64, 256]⟩
abbrev S256x64x256 : Shape := ⟨3, ![256, 64, 256]⟩
abbrev S1x64x256 : Shape := ⟨3, ![1, 64, 256]⟩
abbrev S256x256 : Shape := ⟨2, ![256, 256]⟩
abbrev S16384 : Shape := ⟨1, ![16384]⟩
abbrev S128 : Shape := ⟨1, ![128]⟩
abbrev S1x128 : Shape := ⟨2, ![1, 128]⟩
abbrev S16384x1 : Shape := ⟨2, ![16384, 1]⟩
abbrev S2x16x512x128 : Shape := ⟨4, ![2, 16, 512, 128]⟩
abbrev S2x16x128x512 : Shape := ⟨4, ![2, 16, 128, 512]⟩
abbrev S2x64x128x128 : Shape := ⟨4, ![2, 64, 128, 128]⟩
abbrev S2x128x256 : Shape := ⟨3, ![2, 128, 256]⟩
abbrev S128x512 : Shape := ⟨2, ![128, 512]⟩
abbrev S128x128 : Shape := ⟨2, ![128, 128]⟩
abbrev S1x128x256 : Shape := ⟨3, ![1, 128, 256]⟩
abbrev S8192x256 : Shape := ⟨2, ![8192, 256]⟩
abbrev S1x16x128x512 : Shape := ⟨4, ![1, 16, 128, 512]⟩
abbrev S8192x128 : Shape := ⟨2, ![8192, 128]⟩
abbrev S1x64x128x128 : Shape := ⟨4, ![1, 64, 128, 128]⟩
abbrev S2x2x512x512 : Shape := ⟨4, ![2, 2, 512, 512]⟩
abbrev S128x256 : Shape := ⟨2, ![128, 256]⟩
abbrev S1x512 : Shape := ⟨2, ![1, 512]⟩
abbrev S512x128 : Shape := ⟨2, ![512, 128]⟩
abbrev S512 : Shape := ⟨1, ![512]⟩
abbrev S64x512 : Shape := ⟨2, ![64, 512]⟩
abbrev S256 : Shape := ⟨1, ![256]⟩
abbrev S1x256 : Shape := ⟨2, ![1, 256]⟩
abbrev S512x256 : Shape := ⟨2, ![512, 256]⟩
abbrev S640x512 : Shape := ⟨2, ![640, 512]⟩
abbrev S512x512 : Shape := ⟨2, ![512, 512]⟩
abbrev S1x1x512x512 : Shape := ⟨4, ![1, 1, 512, 512]⟩
abbrev S1x1x64x512 : Shape := ⟨4, ![1, 1, 64, 512]⟩
abbrev S1x1x64x128 : Shape := ⟨4, ![1, 1, 64, 128]⟩

abbrev nBuf : Space → Nat
  | .hbm => 90
  | .vmem => 19
  | .smem => 0
  | _ => 0

abbrev bufTy : (tb : Table) → Fin (tcTables nBuf tb) → BufTy
  | .hbm, ⟨0, _⟩ => ⟨S16384x512, .f32⟩
  | .hbm, ⟨1, _⟩ => ⟨S16384x24, .f32⟩
  | .hbm, ⟨2, _⟩ => ⟨S16384x512, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S64, .f32⟩
  | .hbm, ⟨7, _⟩ => ⟨S64, .f32⟩
  | .hbm, ⟨8, _⟩ => ⟨S_, .i32⟩
  | .hbm, ⟨9, _⟩ => ⟨S_, .f32⟩
  | .hbm, ⟨10, _⟩ => ⟨S16384x128, .f32⟩
  | .hbm, ⟨11, _⟩ => ⟨S64x1, .f32⟩
  | .hbm, ⟨12, _⟩ => ⟨S64x128, .f32⟩
  | .hbm, ⟨13, _⟩ => ⟨S64x1, .f32⟩
  | .hbm, ⟨14, _⟩ => ⟨S64x128, .f32⟩
  | .hbm, ⟨15, _⟩ => ⟨S64x256, .f32⟩
  | .hbm, ⟨16, _⟩ => ⟨S256x64x256, .f32⟩
  | .hbm, ⟨17, _⟩ => ⟨S1x64x256, .f32⟩
  | .hbm, ⟨18, _⟩ => ⟨S256x64x256, .f32⟩
  | .hbm, ⟨19, _⟩ => ⟨S256x64x256, .f32⟩
  | .hbm, ⟨20, _⟩ => ⟨S_, .f32⟩
  | .hbm, ⟨21, _⟩ => ⟨S256x256, .f32⟩
  | .hbm, ⟨22, _⟩ => ⟨S16384, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S_, .i1⟩
  | .hbm, ⟨39, _⟩ => ⟨S16384, .i1⟩
  | .hbm, ⟨40, _⟩ => ⟨S16384, .i1⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S_, .i32⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S16384, .i32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S128, .i32⟩
  | .hbm, ⟨64, _⟩ => ⟨S1x128, .i32⟩
  | .hbm, ⟨65, _⟩ => ⟨S16384x1, .i32⟩
  | .hbm, ⟨66, _⟩ => ⟨S16384x128, .i32⟩
  | .hbm, ⟨67, _⟩ => ⟨S16384x128, .i32⟩
  | .hbm, ⟨68, _⟩ => ⟨S16384x128, .i1⟩
  | .hbm, ⟨69, _⟩ => ⟨S_, .f32⟩
  | .hbm, ⟨70, _⟩ => ⟨S_, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S16384x128, .f32⟩
  | .hbm, ⟨76, _⟩ => ⟨S16384x256, .f32⟩
  | .hbm, ⟨77, _⟩ => ⟨S16384x256, .bf16⟩
  | .hbm, ⟨78, _⟩ => ⟨S16384x128, .f32⟩
  | .hbm, ⟨79, _⟩ => ⟨S16384x128, .bf16⟩
  | .hbm, ⟨80, _⟩ => ⟨S16384x128, .f32⟩
  | .hbm, ⟨81, _⟩ => ⟨S2x16x512x128, .f32⟩
  | .hbm, ⟨82, _⟩ => ⟨S2x16x128x512, .f32⟩
  | .hbm, ⟨83, _⟩ => ⟨S2x16x128x512, .bf16⟩
  | .hbm, ⟨84, _⟩ => ⟨S16384x128, .f32⟩
  | .hbm, ⟨85, _⟩ => ⟨S2x64x128x128, .f32⟩
  | .hbm, ⟨86, _⟩ => ⟨S2x64x128x128, .f32⟩
  | .hbm, ⟨87, _⟩ => ⟨S2x64x128x128, .bf16⟩
  | .hbm, ⟨88, _⟩ => ⟨S2x128x256, .f32⟩
  | .hbm, ⟨89, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x512, .f32⟩
  | .local _ .vmem, ⟨5, _⟩ => ⟨S128x512, .f32⟩
  | .local _ .vmem, ⟨6, _⟩ => ⟨S1x128x256, .f32⟩
  | .local _ .vmem, ⟨7, _⟩ => ⟨S1x128x256, .f32⟩
  | .local _ .vmem, ⟨8, _⟩ => ⟨S8192x256, .bf16⟩
  | .local _ .vmem, ⟨9, _⟩ => ⟨S8192x256, .bf16⟩
  | .local _ .vmem, ⟨10, _⟩ => ⟨S1x16x128x512, .bf16⟩
  | .local _ .vmem, ⟨11, _⟩ => ⟨S1x16x128x512, .bf16⟩
  | .local _ .vmem, ⟨12, _⟩ => ⟨S8192x128, .bf16⟩
  | .local _ .vmem, ⟨13, _⟩ => ⟨S8192x128, .bf16⟩
  | .local _ .vmem, ⟨14, _⟩ => ⟨S1x64x128x128, .bf16⟩
  | .local _ .vmem, ⟨15, _⟩ => ⟨S1x64x128x128, .bf16⟩
  | .local _ .vmem, ⟨16, _⟩ => ⟨S128x512, .f32⟩
  | .local _ .vmem, ⟨17, _⟩ => ⟨S128x512, .f32⟩
  | .local _ .vmem, ⟨18, _⟩ => ⟨S2x2x512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v12 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_cst_2 : Ref sig .tc := ⟨.hbm, 69, rfl⟩
abbrev main_cst_3 : Ref sig .tc := ⟨.hbm, 70, rfl⟩
abbrev main_call3_v0 : Ref sig .tc := ⟨.hbm, 71, rfl⟩
abbrev main_call3_v1 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v420 : BitVec 32 := Scalar.subi v0 c512_i32
  let c0_i32_126 : BitVec 32 := 0#32
  let v421 : BitVec 32 := Scalar.addi v420 c0_i32_126
  let c0_i32_127 : BitVec 32 := 0#32
  let v422 : BitVec 32 := Scalar.maxsi v421 c0_i32_127
  v422
def k0_off1 (i : grid0.Coords) (c0_i32_126 : BitVec 32) : Fin 2 → Nat :=
  let arg1 : BitVec 32 := BitVec.ofNat 32 (i 1).val
  let c128_i32 : BitVec 32 := 128#32
  let v0 : BitVec 32 := Scalar.muli arg1 c128_i32
  let c512_i32 : BitVec 32 := 512#32
  let v420 : BitVec 32 := Scalar.subi v0 c512_i32
  let v421 : BitVec 32 := Scalar.addi v420 c0_i32_126
  let c0_i32_127 : BitVec 32 := 0#32
  let v422 : BitVec 32 := Scalar.maxsi v421 c0_i32_127
  let v423 : BitVec 32 := v422
  let v424 : Index := Scalar.indexCast v423
  let c0_128 : Index := 0#32
  ![v424.toNat, 0]
def k0_mult2 (i : grid0.Coords) : BitVec 32 :=
  let arg1 : BitVec 32 := BitVec.ofNat 32 (i 1).val
  let c128_i32 : BitVec 32 := 128#32
  let v0 : BitVec 32 := Scalar.muli arg1 c128_i32
  let c512_i32_133 : BitVec 32 := 512#32
  let v433 : BitVec 32 := Scalar.subi v0 c512_i32_133
  let c128_i32_134 : BitVec 32 := 128#32
  let v434 : BitVec 32 := Scalar.addi v433 c128_i32_134
  let c0_i32_135 : BitVec 32 := 0#32
  let v435 : BitVec 32 := Scalar.maxsi v434 c0_i32_135
  v435
def k0_mult3 (i : grid0.Coords) : BitVec 32 :=
  let arg1 : BitVec 32 := BitVec.ofNat 32 (i 1).val
  let c128_i32 : BitVec 32 := 128#32
  let v0 : BitVec 32 := Scalar.muli arg1 c128_i32
  let c512_i32_140 : BitVec 32 := 512#32
  let v444 : BitVec 32 := Scalar.subi v0 c512_i32_140
  let c256_i32 : BitVec 32 := 256#32
  let v445 : BitVec 32 := Scalar.addi v444 c256_i32
  let c0_i32_141 : BitVec 32 := 0#32
  let v446 : BitVec 32 := Scalar.maxsi v445 c0_i32_141
  v446
def k0_mult4 (i : grid0.Coords) : BitVec 32 :=
  let arg1 : BitVec 32 := BitVec.ofNat 32 (i 1).val
  let c128_i32 : BitVec 32 := 128#32
  let v0 : BitVec 32 := Scalar.muli arg1 c128_i32
  let c512_i32_146 : BitVec 32 := 512#32
  let v455 : BitVec 32 := Scalar.subi v0 c512_i32_146
  let c384_i32 : BitVec 32 := 384#32
  let v456 : BitVec 32 := Scalar.addi v455 c384_i32
  let c0_i32_147 : BitVec 32 := 0#32
  let v457 : BitVec 32 := Scalar.maxsi v456 c0_i32_147
  v457
def k0_mult5 (i : grid0.Coords) : BitVec 32 :=
  let arg1 : BitVec 32 := BitVec.ofNat 32 (i 1).val
  let c128_i32 : BitVec 32 := 128#32
  let v0 : BitVec 32 := Scalar.muli arg1 c128_i32
  let c512_i32_152 : BitVec 32 := 512#32
  let v466 : BitVec 32 := Scalar.subi v0 c512_i32_152
  let c512_i32_153 : BitVec 32 := 512#32
  let v467 : BitVec 32 := Scalar.addi v466 c512_i32_153
  let c0_i32_154 : BitVec 32 := 0#32
  let v468 : BitVec 32 := Scalar.maxsi v467 c0_i32_154
  v468
def k0_mult6 (i : grid0.Coords) : BitVec 32 :=
  let arg1 : BitVec 32 := BitVec.ofNat 32 (i 1).val
  let c128_i32 : BitVec 32 := 128#32
  let v0 : BitVec 32 := Scalar.muli arg1 c128_i32
  let c512_i32_158 : BitVec 32 := 512#32
  let v477 : BitVec 32 := Scalar.subi v0 c512_i32_158
  let c0_i32_159 : BitVec 32 := 0#32
  let v478 : BitVec 32 := Scalar.addi v477 c0_i32_159
  let c0_i32_160 : BitVec 32 := 0#32
  let v479 : BitVec 32 := Scalar.maxsi v478 c0_i32_160
  v479
def k0_mult7 (i : grid0.Coords) : BitVec 32 :=
  let arg1 : BitVec 32 := BitVec.ofNat 32 (i 1).val
  let c128_i32 : BitVec 32 := 128#32
  let v0 : BitVec 32 := Scalar.muli arg1 c128_i32
  let c512_i32_166 : BitVec 32 := 512#32
  let v490 : BitVec 32 := Scalar.subi v0 c512_i32_166
  let c128_i32_167 : BitVec 32 := 128#32
  let v491 : BitVec 32 := Scalar.addi v490 c128_i32_167
  let c0_i32_168 : BitVec 32 := 0#32
  let v492 : BitVec 32 := Scalar.maxsi v491 c0_i32_168
  v492
def k0_mult8 (i : grid0.Coords) : BitVec 32 :=
  let arg1 : BitVec 32 := BitVec.ofNat 32 (i 1).val
  let c128_i32 : BitVec 32 := 128#32
  let v0 : BitVec 32 := Scalar.muli arg1 c128_i32
  let c512_i32_173 : BitVec 32 := 512#32
  let v501 : BitVec 32 := Scalar.subi v0 c512_i32_173
  let c256_i32_174 : BitVec 32 := 256#32
  let v502 : BitVec 32 := Scalar.addi v501 c256_i32_174
  let c0_i32_175 : BitVec 32 := 0#32
  let v503 : BitVec 32 := Scalar.maxsi v502 c0_i32_175
  v503
def k0_mult9 (i : grid0.Coords) : BitVec 32 :=
  let arg1 : BitVec 32 := BitVec.ofNat 32 (i 1).val
  let c128_i32 : BitVec 32 := 128#32
  let v0 : BitVec 32 := Scalar.muli arg1 c128_i32
  let c512_i32_180 : BitVec 32 := 512#32
  let v512 : BitVec 32 := Scalar.subi v0 c512_i32_180
  let c384_i32_181 : BitVec 32 := 384#32
  let v513 : BitVec 32 := Scalar.addi v512 c384_i32_181
  let c0_i32_182 : BitVec 32 := 0#32
  let v514 : BitVec 32 := Scalar.maxsi v513 c0_i32_182
  v514
def k0_mult10 (i : grid0.Coords) : BitVec 32 :=
  let arg1 : BitVec 32 := BitVec.ofNat 32 (i 1).val
  let c128_i32 : BitVec 32 := 128#32
  let v0 : BitVec 32 := Scalar.muli arg1 c128_i32
  let c512_i32_187 : BitVec 32 := 512#32
  let v523 : BitVec 32 := Scalar.subi v0 c512_i32_187
  let c512_i32_188 : BitVec 32 := 512#32
  let v524 : BitVec 32 := Scalar.addi v523 c512_i32_188
  let c0_i32_189 : BitVec 32 := 0#32
  let v525 : BitVec 32 := Scalar.maxsi v524 c0_i32_189
  v525
def k0_mult11 : BitVec 32 :=
  let c0_i32_209 : BitVec 32 := 0#32
  c0_i32_209
@[reducible] def k0_t1_loop (i : grid0.Coords) : Scf.Loop 32 :=
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let c1_i32_222 : BitVec 32 := 1#32
  ⟨c0_i32_220, v587, c1_i32_222⟩
def k0_mult12 (i : grid0.Coords) (k0_t1 : Fin (k0_t1_loop i).trips) : BitVec 32 :=
  let c2_i32_369 : BitVec 32 := 2#32
  let c0_i32_220 : BitVec 32 := 0#32
  let c1_i32_222 : BitVec 32 := 1#32
  let arg12 : BitVec 32 := Scf.iv c0_i32_220 c1_i32_222 k0_t1
  let v903 : BitVec 32 := Scalar.muli c2_i32_369 arg12
  let c1_i32_370 : BitVec 32 := 1#32
  let v904 : BitVec 32 := Scalar.addi v903 c1_i32_370
  let c512_i32_371 : BitVec 32 := 512#32
  let v905 : BitVec 32 := Scalar.muli v904 c512_i32_371
  v905
def k0_off2 (i : grid0.Coords) (k0_t1 : Fin (k0_t1_loop i).trips) (c1_i32_370 : BitVec 32) : Fin 2 → Nat :=
  let c2_i32_369 : BitVec 32 := 2#32
  let c0_i32_220 : BitVec 32 := 0#32
  let c1_i32_222 : BitVec 32 := 1#32
  let arg12 : BitVec 32 := Scf.iv c0_i32_220 c1_i32_222 k0_t1
  let v903 : BitVec 32 := Scalar.muli c2_i32_369 arg12
  let v904 : BitVec 32 := Scalar.addi v903 c1_i32_370
  let c512_i32_371 : BitVec 32 := 512#32
  let v905 : BitVec 32 := Scalar.muli v904 c512_i32_371
  let v906 : BitVec 32 := v905
  let v907 : Index := Scalar.indexCast v906
  let c0_372 : Index := 0#32
  ![v907.toNat, 0]
def k0_off3 (i : grid0.Coords) (k0_t1 : Fin (k0_t1_loop i).trips) : Fin 4 → Nat :=
  let c0_396 : Index := 0#32
  let c2_i32_383 : BitVec 32 := 2#32
  let c0_i32_220 : BitVec 32 := 0#32
  let c1_i32_222 : BitVec 32 := 1#32
  let arg12 : BitVec 32 := Scf.iv c0_i32_220 c1_i32_222 k0_t1
  let v918 : BitVec 32 := Scalar.muli c2_i32_383 arg12
  let v949 : Index := Scalar.indexCast v918
  let c0_397 : Index := 0#32
  let c0_398 : Index := 0#32
  ![0, v949.toNat, 0, 0]
def k0_off4 (i : grid0.Coords) (k0_t1 : Fin (k0_t1_loop i).trips) : Fin 4 → Nat :=
  let c0_400 : Index := 0#32
  let c2_i32_383 : BitVec 32 := 2#32
  let c0_i32_220 : BitVec 32 := 0#32
  let c1_i32_222 : BitVec 32 := 1#32
  let arg12 : BitVec 32 := Scf.iv c0_i32_220 c1_i32_222 k0_t1
  let v918 : BitVec 32 := Scalar.muli c2_i32_383 arg12
  let v956 : Index := Scalar.indexCast v918
  let c64_401 : Index := 64#32
  let c0_402 : Index := 0#32
  ![0, v956.toNat, 64, 0]
def k0_mult13 (i : grid0.Coords) (k0_t1 : Fin (k0_t1_loop i).trips) : BitVec 32 :=
  let c2_i32_404 : BitVec 32 := 2#32
  let c0_i32_220 : BitVec 32 := 0#32
  let c1_i32_222 : BitVec 32 := 1#32
  let arg12 : BitVec 32 := Scf.iv c0_i32_220 c1_i32_222 k0_t1
  let v963 : BitVec 32 := Scalar.muli c2_i32_404 arg12
  let c2_i32_405 : BitVec 32 := 2#32
  let v964 : BitVec 32 := Scalar.addi v963 c2_i32_405
  let c512_i32_406 : BitVec 32 := 512#32
  let v965 : BitVec 32 := Scalar.muli v964 c512_i32_406
  v965
def k0_off5 (i : grid0.Coords) (k0_t1 : Fin (k0_t1_loop i).trips) : Fin 4 → Nat :=
  let c0_432 : Index := 0#32
  let c2_i32_418 : BitVec 32 := 2#32
  let c0_i32_220 : BitVec 32 := 0#32
  let c1_i32_222 : BitVec 32 := 1#32
  let arg12 : BitVec 32 := Scf.iv c0_i32_220 c1_i32_222 k0_t1
  let v978 : BitVec 32 := Scalar.muli c2_i32_418 arg12
  let c1_i32_419 : BitVec 32 := 1#32
  let v979 : BitVec 32 := Scalar.addi v978 c1_i32_419
  let v1010 : Index := Scalar.indexCast v979
  let c0_433 : Index := 0#32
  let c0_434 : Index := 0#32
  ![0, v1010.toNat, 0, 0]
def k0_off6 (i : grid0.Coords) (k0_t1 : Fin (k0_t1_loop i).trips) : Fin 4 → Nat :=
  let c0_436 : Index := 0#32
  let c2_i32_418 : BitVec 32 := 2#32
  let c0_i32_220 : BitVec 32 := 0#32
  let c1_i32_222 : BitVec 32 := 1#32
  let arg12 : BitVec 32 := Scf.iv c0_i32_220 c1_i32_222 k0_t1
  let v978 : BitVec 32 := Scalar.muli c2_i32_418 arg12
  let c1_i32_419 : BitVec 32 := 1#32
  let v979 : BitVec 32 := Scalar.addi v978 c1_i32_419
  let v1017 : Index := Scalar.indexCast v979
  let c64_437 : Index := 64#32
  let c0_438 : Index := 0#32
  ![0, v1017.toNat, 64, 0]
@[reducible] def k0_t2_loop (i : grid0.Coords) : Scf.Loop 32 :=
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let v584 : BitVec 32 := Scalar.addi c0_i32_220 v583
  let c1_i32_223 : BitVec 32 := 1#32
  ⟨v587, v584, c1_i32_223⟩
def k0_mult14 (i : grid0.Coords) (k0_t2 : Fin (k0_t2_loop i).trips) : BitVec 32 :=
  let c2_i32_369 : BitVec 32 := 2#32
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let c1_i32_223 : BitVec 32 := 1#32
  let arg12 : BitVec 32 := Scf.iv v587 c1_i32_223 k0_t2
  let v903 : BitVec 32 := Scalar.muli c2_i32_369 arg12
  let c1_i32_370 : BitVec 32 := 1#32
  let v904 : BitVec 32 := Scalar.addi v903 c1_i32_370
  let c512_i32_371 : BitVec 32 := 512#32
  let v905 : BitVec 32 := Scalar.muli v904 c512_i32_371
  v905
def k0_off7 (i : grid0.Coords) (k0_t2 : Fin (k0_t2_loop i).trips) (c1_i32_370 : BitVec 32) : Fin 2 → Nat :=
  let c2_i32_369 : BitVec 32 := 2#32
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let c1_i32_223 : BitVec 32 := 1#32
  let arg12 : BitVec 32 := Scf.iv v587 c1_i32_223 k0_t2
  let v903 : BitVec 32 := Scalar.muli c2_i32_369 arg12
  let v904 : BitVec 32 := Scalar.addi v903 c1_i32_370
  let c512_i32_371 : BitVec 32 := 512#32
  let v905 : BitVec 32 := Scalar.muli v904 c512_i32_371
  let v906 : BitVec 32 := v905
  let v907 : Index := Scalar.indexCast v906
  let c0_372 : Index := 0#32
  ![v907.toNat, 0]
def k0_off8 (i : grid0.Coords) (k0_t2 : Fin (k0_t2_loop i).trips) : Fin 4 → Nat :=
  let c0_396 : Index := 0#32
  let c2_i32_383 : BitVec 32 := 2#32
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let c1_i32_223 : BitVec 32 := 1#32
  let arg12 : BitVec 32 := Scf.iv v587 c1_i32_223 k0_t2
  let v918 : BitVec 32 := Scalar.muli c2_i32_383 arg12
  let v949 : Index := Scalar.indexCast v918
  let c0_397 : Index := 0#32
  let c0_398 : Index := 0#32
  ![0, v949.toNat, 0, 0]
def k0_off9 (i : grid0.Coords) (k0_t2 : Fin (k0_t2_loop i).trips) : Fin 4 → Nat :=
  let c0_400 : Index := 0#32
  let c2_i32_383 : BitVec 32 := 2#32
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let c1_i32_223 : BitVec 32 := 1#32
  let arg12 : BitVec 32 := Scf.iv v587 c1_i32_223 k0_t2
  let v918 : BitVec 32 := Scalar.muli c2_i32_383 arg12
  let v956 : Index := Scalar.indexCast v918
  let c64_401 : Index := 64#32
  let c0_402 : Index := 0#32
  ![0, v956.toNat, 64, 0]
def k0_mult15 (i : grid0.Coords) (k0_t2 : Fin (k0_t2_loop i).trips) : BitVec 32 :=
  let c2_i32_404 : BitVec 32 := 2#32
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let c1_i32_223 : BitVec 32 := 1#32
  let arg12 : BitVec 32 := Scf.iv v587 c1_i32_223 k0_t2
  let v963 : BitVec 32 := Scalar.muli c2_i32_404 arg12
  let c2_i32_405 : BitVec 32 := 2#32
  let v964 : BitVec 32 := Scalar.addi v963 c2_i32_405
  let c512_i32_406 : BitVec 32 := 512#32
  let v965 : BitVec 32 := Scalar.muli v964 c512_i32_406
  v965
def k0_off10 (i : grid0.Coords) (k0_t2 : Fin (k0_t2_loop i).trips) : Fin 4 → Nat :=
  let c0_432 : Index := 0#32
  let c2_i32_418 : BitVec 32 := 2#32
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let c1_i32_223 : BitVec 32 := 1#32
  let arg12 : BitVec 32 := Scf.iv v587 c1_i32_223 k0_t2
  let v978 : BitVec 32 := Scalar.muli c2_i32_418 arg12
  let c1_i32_419 : BitVec 32 := 1#32
  let v979 : BitVec 32 := Scalar.addi v978 c1_i32_419
  let v1010 : Index := Scalar.indexCast v979
  let c0_433 : Index := 0#32
  let c0_434 : Index := 0#32
  ![0, v1010.toNat, 0, 0]
def k0_off11 (i : grid0.Coords) (k0_t2 : Fin (k0_t2_loop i).trips) : Fin 4 → Nat :=
  let c0_436 : Index := 0#32
  let c2_i32_418 : BitVec 32 := 2#32
  let c0_i32_220 : BitVec 32 := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v583 : BitVec 32 := Scalar.subi v570 c0_i32_220
  let c1_i32_221 : BitVec 32 := 1#32
  let v585 : BitVec 32 := Scalar.divsi v583 c1_i32_221
  let v586 : BitVec 32 := Scalar.muli v585 c1_i32_221
  let v587 : BitVec 32 := Scalar.addi c0_i32_220 v586
  let c1_i32_223 : BitVec 32 := 1#32
  let arg12 : BitVec 32 := Scf.iv v587 c1_i32_223 k0_t2
  let v978 : BitVec 32 := Scalar.muli c2_i32_418 arg12
  let c1_i32_419 : BitVec 32 := 1#32
  let v979 : BitVec 32 := Scalar.addi v978 c1_i32_419
  let v1017 : Index := Scalar.indexCast v979
  let c64_437 : Index := 64#32
  let c0_438 : Index := 0#32
  ![0, v1017.toNat, 64, 0]
def k0_mult16 (i : grid0.Coords) : BitVec 32 :=
  let c2_i32_224 : BitVec 32 := 2#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v590 : BitVec 32 := Scalar.muli c2_i32_224 v570
  let c1_i32_225 : BitVec 32 := 1#32
  let v591 : BitVec 32 := Scalar.addi v590 c1_i32_225
  let c15_i32 : BitVec 32 := 15#32
  let v592 : BitVec 32 := Scalar.minsi v591 c15_i32
  let c512_i32_226 : BitVec 32 := 512#32
  let v593 : BitVec 32 := Scalar.muli v592 c512_i32_226
  v593
def k0_off12 (i : grid0.Coords) : Fin 2 → Nat :=
  let c2_i32_224 : BitVec 32 := 2#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v590 : BitVec 32 := Scalar.muli c2_i32_224 v570
  let c1_i32_225 : BitVec 32 := 1#32
  let v591 : BitVec 32 := Scalar.addi v590 c1_i32_225
  let c15_i32 : BitVec 32 := 15#32
  let v592 : BitVec 32 := Scalar.minsi v591 c15_i32
  let c512_i32_226 : BitVec 32 := 512#32
  let v593 : BitVec 32 := Scalar.muli v592 c512_i32_226
  let v594 : BitVec 32 := v593
  let v595 : Index := Scalar.indexCast v594
  let c0_227 : Index := 0#32
  ![v595.toNat, 0]
def k0_off13 (i : grid0.Coords) : Fin 4 → Nat :=
  let c0_255 : Index := 0#32
  let c2_i32_238 : BitVec 32 := 2#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v606 : BitVec 32 := Scalar.muli c2_i32_238 v570
  let v653 : Index := Scalar.indexCast v606
  let c0_256 : Index := 0#32
  let c0_257 : Index := 0#32
  ![0, v653.toNat, 0, 0]
def k0_off14 (i : grid0.Coords) : Fin 4 → Nat :=
  let c0_259 : Index := 0#32
  let c2_i32_238 : BitVec 32 := 2#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c0_i32_203 : BitVec 32 := 0#32
  let v555 : BitVec 1 := Scalar.cmpi .sgt v553 c0_i32_203
  let v556 : BitVec 32 := Scalar.extui v555
  let c0_i32_204 : BitVec 32 := 0#32
  let v557 : BitVec 1 := Scalar.cmpi .slt v553 c0_i32_204
  let v558 : BitVec 32 := Scalar.extui v557
  let v559 : BitVec 32 := Scalar.subi v556 v558
  let c2_i32 : BitVec 32 := 2#32
  let c0_i32_205 : BitVec 32 := 0#32
  let v560 : BitVec 1 := Scalar.cmpi .sgt c2_i32 c0_i32_205
  let v561 : BitVec 32 := Scalar.extui v560
  let c0_i32_206 : BitVec 32 := 0#32
  let v562 : BitVec 1 := Scalar.cmpi .slt c2_i32 c0_i32_206
  let v563 : BitVec 32 := Scalar.extui v562
  let v564 : BitVec 32 := Scalar.subi v561 v563
  let v565 : BitVec 1 := Scalar.cmpi .ne v559 v564
  let v566 : BitVec 32 := Scalar.remsi v553 c2_i32
  let c0_i32_207 : BitVec 32 := 0#32
  let v567 : BitVec 1 := Scalar.cmpi .ne v566 c0_i32_207
  let v568 : BitVec 1 := Scalar.andi v565 v567
  let v554 : BitVec 32 := Scalar.divsi v553 c2_i32
  let c1_i32_208 : BitVec 32 := 1#32
  let v569 : BitVec 32 := Scalar.subi v554 c1_i32_208
  let v570 : BitVec 32 := Scalar.select v568 v569 v554
  let v606 : BitVec 32 := Scalar.muli c2_i32_238 v570
  let v660 : Index := Scalar.indexCast v606
  let c64 : Index := 64#32
  let c0_260 : Index := 0#32
  ![0, v660.toNat, 64, 0]
def k0_cond1 (i : grid0.Coords) : BitVec 1 :=
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let c2_i32_262 : BitVec 32 := 2#32
  let c0_i32_263 : BitVec 32 := 0#32
  let v667 : BitVec 1 := Scalar.cmpi .eq c2_i32_262 c0_i32_263
  let c1_i32_264 : BitVec 32 := 1#32
  let v668 : BitVec 32 := Scalar.select v667 c1_i32_264 c2_i32_262
  let v669 : BitVec 32 := Scalar.remsi v553 v668
  let c0_i32_266 : BitVec 32 := 0#32
  let v671 : BitVec 1 := Scalar.cmpi .slt v669 c0_i32_266
  let c0_i32_267 : BitVec 32 := 0#32
  let v672 : BitVec 1 := Scalar.cmpi .slt v668 c0_i32_267
  let v673 : BitVec 1 := Scalar.xori v671 v672
  let c0_i32_265 : BitVec 32 := 0#32
  let v670 : BitVec 1 := Scalar.cmpi .ne v669 c0_i32_265
  let v674 : BitVec 1 := Scalar.andi v673 v670
  let v675 : BitVec 32 := Scalar.addi v669 v668
  let v676 : BitVec 32 := Scalar.select v674 v675 v669
  let c1_i32_268 : BitVec 32 := 1#32
  let v677 : BitVec 1 := Scalar.cmpi .eq v676 c1_i32_268
  let v678 : BitVec 32 := Scalar.extui v677
  let c0_i32_269 : BitVec 32 := 0#32
  let v679 : BitVec 1 := Scalar.cmpi .ne v678 c0_i32_269
  v679

def k0_off15 (i : grid0.Coords) : Fin 4 → Nat :=
  let c0_385 : Index := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let v949 : Index := Scalar.indexCast v553
  let c0_386 : Index := 0#32
  let c0_387 : Index := 0#32
  ![0, v949.toNat, 0, 0]
def k0_off16 (i : grid0.Coords) : Fin 4 → Nat :=
  let c0_389 : Index := 0#32
  let arg1 : BitVec 32 := BitVec.ofNat 32 (i 1).val
  let c128_i32 : BitVec 32 := 128#32
  let v0 : BitVec 32 := Scalar.muli arg1 c128_i32
  let c0_i32_197 : BitVec 32 := 0#32
  let v538 : BitVec 1 := Scalar.cmpi .sgt v0 c0_i32_197
  let v539 : BitVec 32 := Scalar.extui v538
  let c0_i32_198 : BitVec 32 := 0#32
  let v540 : BitVec 1 := Scalar.cmpi .slt v0 c0_i32_198
  let v541 : BitVec 32 := Scalar.extui v540
  let v542 : BitVec 32 := Scalar.subi v539 v541
  let c512_i32_196 : BitVec 32 := 512#32
  let c0_i32_199 : BitVec 32 := 0#32
  let v543 : BitVec 1 := Scalar.cmpi .sgt c512_i32_196 c0_i32_199
  let v544 : BitVec 32 := Scalar.extui v543
  let c0_i32_200 : BitVec 32 := 0#32
  let v545 : BitVec 1 := Scalar.cmpi .slt c512_i32_196 c0_i32_200
  let v546 : BitVec 32 := Scalar.extui v545
  let v547 : BitVec 32 := Scalar.subi v544 v546
  let v548 : BitVec 1 := Scalar.cmpi .ne v542 v547
  let v549 : BitVec 32 := Scalar.remsi v0 c512_i32_196
  let c0_i32_201 : BitVec 32 := 0#32
  let v550 : BitVec 1 := Scalar.cmpi .ne v549 c0_i32_201
  let v551 : BitVec 1 := Scalar.andi v548 v550
  let v537 : BitVec 32 := Scalar.divsi v0 c512_i32_196
  let c1_i32_202 : BitVec 32 := 1#32
  let v552 : BitVec 32 := Scalar.subi v537 c1_i32_202
  let v553 : BitVec 32 := Scalar.select v551 v552 v537
  let v956 : Index := Scalar.indexCast v553
  let c64_390 : Index := 64#32
  let c0_391 : Index := 0#32
  ![0, v956.toNat, 64, 0]
def k0_off17 (i : grid0.Coords) (c0_i32_273 : BitVec 32) : Fin 4 → Nat :=
  let c0_275 : Index := 0#32
  let arg1 : BitVec 32 := BitVec.ofNat 32 (i 1).val
  let c4_i32 : BitVec 32 := 4#32
  let v692 : BitVec 32 := Scalar.subi arg1 c4_i32
  let v693 : BitVec 32 := Scalar.addi v692 c0_i32_273
  let c0_i32_274 : BitVec 32 := 0#32
  let v694 : BitVec 32 := Scalar.maxsi v693 c0_i32_274
  let v695 : Index := Scalar.indexCast v694
  let c0_276 : Index := 0#32
  let c0_277 : Index := 0#32
  ![0, v695.toNat, 0, 0]
def k0_off18 (i : grid0.Coords) (c0_i32_323 : BitVec 32) : Fin 4 → Nat :=
  let c0_325 : Index := 0#32
  let arg1 : BitVec 32 := BitVec.ofNat 32 (i 1).val
  let c4_i32_322 : BitVec 32 := 4#32
  let v803 : BitVec 32 := Scalar.subi arg1 c4_i32_322
  let v804 : BitVec 32 := Scalar.addi v803 c0_i32_323
  let c0_i32_324 : BitVec 32 := 0#32
  let v805 : BitVec 32 := Scalar.maxsi v804 c0_i32_324
  let v806 : Index := Scalar.indexCast v805
  let c64_326 : Index := 64#32
  let c0_327 : Index := 0#32
  ![0, v806.toNat, 64, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | "scale" => some (((1 / 8) * (Real.log 2)⁻¹ : ℝ) : EReal)
  | _ => none
-- ==== ReferenceIdeal.lean ====
abbrev S16384x512 : Shape := ⟨2, ![16384, 512]⟩
abbrev S16384x24 : Shape := ⟨2, ![16384, 24]⟩
abbrev S16384x256 : Shape := ⟨2, ![16384, 256]⟩
abbrev S64 : Shape := ⟨1, ![64]⟩
abbrev S2x8192x2x4x64 : Shape := ⟨5, ![2, 8192, 2, 4, 64]⟩
abbrev S2x8192x2x4x3 : Shape := ⟨5, ![2, 8192, 2, 4, 3]⟩
abbrev S_ : Shape := ⟨0, ![]⟩
abbrev S2x8192x2x2x64 : Shape := ⟨5, ![2, 8192, 2, 2, 64]⟩
abbrev S8192 : Shape := ⟨1, ![8192]⟩
abbrev S64x1 : Shape := ⟨2, ![64, 1]⟩
abbrev S64x2 : Shape := ⟨2, ![64, 2]⟩
abbrev S2x128x64x2x2x64 : Shape := ⟨6, ![2, 128, 64, 2, 2, 64]⟩
abbrev S2x2x128x2x64 : Shape := ⟨5, ![2, 2, 128, 2, 64]⟩
abbrev S2x128x2x2x64 : Shape := ⟨5, ![2, 128, 2, 2, 64]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S1x8192x1x1x128 : Shape := ⟨5, ![1, 8192, 1, 1, 128]⟩
abbrev S2x128x1x2x64 : Shape := ⟨5, ![2, 128, 1, 2, 64]⟩
abbrev S2x128x2x64 : Shape := ⟨4, ![2, 128, 2, 64]⟩
abbrev S2x2x128x8192x4 : Shape := ⟨5, ![2, 2, 128, 8192, 4]⟩
abbrev S2x8192x2x4x128 : Shape := ⟨5, ![2, 8192, 2, 4, 128]⟩
abbrev S2x8192x2x4 : Shape := ⟨4, ![2, 8192, 2, 4]⟩
abbrev S2x8192x2x4x1 : Shape := ⟨5, ![2, 8192, 2, 4, 1]⟩
abbrev S2x2x64x8192x4 : Shape := ⟨5, ![2, 2, 64, 8192, 4]⟩
abbrev S2x8192x2x128 : Shape := ⟨4, ![2, 8192, 2, 128]⟩
abbrev S1x8192x1x128 : Shape := ⟨4, ![1, 8192, 1, 128]⟩
abbrev S2x8192x2x16 : Shape := ⟨4, ![2, 8192, 2, 16]⟩
abbrev S2 : Shape := ⟨1, ![2]⟩
abbrev S2x1x1x1 : Shape := ⟨4, ![2, 1, 1, 1]⟩
abbrev S1x1x2x1 : Shape := ⟨4, ![1, 1, 2, 1]⟩
abbrev S2x8192x2x16x1 : Shape := ⟨5, ![2, 8192, 2, 16, 1]⟩
abbrev S2x8192x2x16x3 : Shape := ⟨5, ![2, 8192, 2, 16, 3]⟩
abbrev S2x8192x2x16x64x2x64 : Shape := ⟨7, ![2, 8192, 2, 16, 64, 2, 64]⟩
abbrev S1x1x1x1x64 : Shape := ⟨5, ![1, 1, 1, 1, 64]⟩
abbrev S2x8192x2x16x64 : Shape := ⟨5, ![2, 8192, 2, 16, 64]⟩
abbrev S1x8192x1x1x1 : Shape := ⟨5, ![1, 8192, 1, 1, 1]⟩
abbrev S2x8192x2x1x16x64 : Shape := ⟨6, ![2, 8192, 2, 1, 16, 64]⟩
abbrev S2x8192x2x16x64x1x64 : Shape := ⟨7, ![2, 8192, 2, 16, 64, 1, 64]⟩
abbrev S2x8192x2x16x64x64 : Shape := ⟨6, ![2, 8192, 2, 16, 64, 64]⟩
abbrev S2x8192x2x4x16x64 : Shape := ⟨6, ![2, 8192, 2, 4, 16, 64]⟩
abbrev S2x8192x2x4x1x1 : Shape := ⟨6, ![2, 8192, 2, 4, 1, 1]⟩
abbrev S1x8192 : Shape := ⟨2, ![1, 8192]⟩
abbrev S8192x8192 : Shape := ⟨2, ![8192, 8192]⟩
abbrev S1x8192x1x1x8192 : Shape := ⟨5, ![1, 8192, 1, 1, 8192]⟩
abbrev S2x8192x1x2x64 : Shape := ⟨5, ![2, 8192, 1, 2, 64]⟩
abbrev S2x8192x2x64 : Shape := ⟨4, ![2, 8192, 2, 64]⟩
abbrev S2x2x8192x8192x4 : Shape := ⟨5, ![2, 2, 8192, 8192, 4]⟩
abbrev S2x8192x2x4x8192 : Shape := ⟨5, ![2, 8192, 2, 4, 8192]⟩

abbrev nBuf : Space → Nat
  | .hbm => 301
  | .vmem => 0
  | .smem => 0
  | _ => 0

abbrev hbmTy0_0 (i : Nat) : BufTy := match i % 128 with
  | 0 => ⟨S16384x512, .f32⟩
  | 1 => ⟨S16384x24, .f32⟩
  | 2 => ⟨S16384x512, .f32⟩
  | 3 => ⟨S16384x256, .f32⟩
  | 4 => ⟨S16384x256, .f32⟩
  | 5 => ⟨S16384x256, .f32⟩
  | 6 => ⟨S64, .f32⟩
  | 7 => ⟨S64, .f32⟩
  | 8 => ⟨S2x8192x2x4x64, .f32⟩
  | 9 => ⟨S2x8192x2x4x3, .f32⟩
  | 10 => ⟨S2x8192x2x4x3, .f32⟩
  | 11 => ⟨S2x8192x2x4x3, .f32⟩
  | 12 => ⟨S_, .f32⟩
  | 13 => ⟨S2x8192x2x4x3, .f32⟩
  | 14 => ⟨S2x8192x2x4x3, .f32⟩
  | 15 => ⟨S_, .f32⟩
  | 16 => ⟨S2x8192x2x4x3, .f32⟩
  | 17 => ⟨S2x8192x2x4x3, .f32⟩
  | 18 => ⟨S2x8192x2x2x64, .f32⟩
  | 19 => ⟨S2x8192x2x2x64, .f32⟩
  | 20 => ⟨S2x8192x2x2x64, .f32⟩
  | 21 => ⟨S8192, .i32⟩
  | 22 => ⟨S64x1, .f32⟩
  | 23 => ⟨S64x1, .f32⟩
  | 24 => ⟨S64x2, .f32⟩
  | 25 => ⟨S2x128x64x2x2x64, .f32⟩
  | 26 => ⟨S2x2x128x2x64, .f32⟩
  | 27 => ⟨S2x128x2x2x64, .f32⟩
  | 28 => ⟨S_, .f32⟩
  | 29 => ⟨S2x8192x2x4x64, .f32⟩
  | 30 => ⟨S2x8192x2x4x64, .f32⟩
  | 31 => ⟨S128, .i32⟩
  | 32 => ⟨S_, .i32⟩
  | 33 => ⟨S128, .i32⟩
  | 34 => ⟨S128, .i32⟩
  | 35 => ⟨S_, .i32⟩
  | 36 => ⟨S128, .i32⟩
  | 37 => ⟨S128, .i32⟩
  | 38 => ⟨S_, .i32⟩
  | 39 => ⟨S128, .i32⟩
  | 40 => ⟨S128, .i32⟩
  | 41 => ⟨S1x128, .i32⟩
  | 42 => ⟨S8192x1, .i32⟩
  | 43 => ⟨S8192x128, .i32⟩
  | 44 => ⟨S8192x128, .i32⟩
  | 45 => ⟨S8192x128, .i1⟩
  | 46 => ⟨S1x8192x1x1x128, .i1⟩
  | 47 => ⟨S2x128x1x2x64, .f32⟩
  | 48 => ⟨S2x128x2x64, .f32⟩
  | 49 => ⟨S2x2x128x8192x4, .f32⟩
  | 50 => ⟨S2x8192x2x4x128, .f32⟩
  | 51 => ⟨S_, .f32⟩
  | 52 => ⟨S2x8192x2x4x128, .i1⟩
  | 53 => ⟨S2x8192x2x4x128, .f32⟩
  | 54 => ⟨S2x8192x2x4x128, .f32⟩
  | 55 => ⟨S_, .f32⟩
  | 56 => ⟨S2x8192x2x4, .f32⟩
  | 57 => ⟨S_, .f32⟩
  | 58 => ⟨S2x8192x2x4, .f32⟩
  | 59 => ⟨S2x8192x2x4, .f32⟩
  | 60 => ⟨S2x8192x2x4x1, .f32⟩
  | 61 => ⟨S_, .f32⟩
  | 62 => ⟨S_, .f32⟩
  | 63 => ⟨S2x8192x2x4x128, .i1⟩
  | 64 => ⟨S2x8192x2x4x128, .f32⟩
  | 65 => ⟨S2x8192x2x4x128, .f32⟩
  | 66 => ⟨S2x8192x2x4x128, .f32⟩
  | 67 => ⟨S2x8192x2x4x128, .f32⟩
  | 68 => ⟨S2x8192x2x4x128, .f32⟩
  | 69 => ⟨S_, .f32⟩
  | 70 => ⟨S2x8192x2x4x128, .i1⟩
  | 71 => ⟨S2x8192x2x4x128, .f32⟩
  | 72 => ⟨S2x8192x2x4x128, .f32⟩
  | 73 => ⟨S_, .f32⟩
  | 74 => ⟨S2x8192x2x4, .f32⟩
  | 75 => ⟨S2x8192x2x4x1, .f32⟩
  | 76 => ⟨S2x8192x2x4x128, .f32⟩
  | 77 => ⟨S2x8192x2x4x128, .f32⟩
  | 78 => ⟨S_, .i32⟩
  | 79 => ⟨S_, .f32⟩
  | 80 => ⟨S2x8192x2x4x128, .i1⟩
  | 81 => ⟨S2x8192x2x4x128, .f32⟩
  | 82 => ⟨S2x8192x2x4x128, .f32⟩
  | 83 => ⟨S2x128x1x2x64, .f32⟩
  | 84 => ⟨S2x128x2x64, .f32⟩
  | 85 => ⟨S2x2x64x8192x4, .f32⟩
  | 86 => ⟨S2x8192x2x4x64, .f32⟩
  | 87 => ⟨S_, .f32⟩
  | 88 => ⟨S2x8192x2x128, .f32⟩
  | 89 => ⟨S128, .i32⟩
  | 90 => ⟨S1x128, .i32⟩
  | 91 => ⟨S_, .i32⟩
  | 92 => ⟨S_, .i32⟩
  | 93 => ⟨S8192, .i32⟩
  | 94 => ⟨S8192, .i32⟩
  | 95 => ⟨S8192, .i32⟩
  | 96 => ⟨S_, .i32⟩
  | 97 => ⟨S8192, .i32⟩
  | 98 => ⟨S8192, .i1⟩
  | 99 => ⟨S8192, .i32⟩
  | 100 => ⟨S8192, .i32⟩
  | 101 => ⟨S_, .i32⟩
  | 102 => ⟨S8192, .i32⟩
  | 103 => ⟨S8192, .i1⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S_, .i32⟩
  | 111 => ⟨S1x128, .i32⟩
  | 112 => ⟨S1x128, .i1⟩
  | 113 => ⟨S8192x128, .i32⟩
  | 114 => ⟨S8192x128, .i32⟩
  | 115 => ⟨S8192x128, .i1⟩
  | 116 => ⟨S8192x128, .i1⟩
  | 117 => ⟨S8192x128, .i1⟩
  | 118 => ⟨S_, .i32⟩
  | 119 => ⟨S8192x1, .i32⟩
  | 120 => ⟨S8192x1, .i32⟩
  | 121 => ⟨S8192x128, .i32⟩
  | 122 => ⟨S8192x128, .i32⟩
  | 123 => ⟨S8192x128, .i1⟩
  | 124 => ⟨S8192x128, .i1⟩
  | 125 => ⟨S1x8192x1x128, .i1⟩
  | 126 => ⟨S8192x128, .i32⟩
  | 127 => ⟨S8192x128, .i32⟩
  | _ => ⟨S16384x512, .f32⟩

abbrev hbmTy0_1 (i : Nat) : BufTy := match i % 128 with
  | 0 => ⟨S8192x128, .i1⟩
  | 1 => ⟨S1x8192x1x128, .i1⟩
  | 2 => ⟨S_, .f32⟩
  | 3 => ⟨S_, .f32⟩
  | 4 => ⟨S2x8192x2x128, .i1⟩
  | 5 => ⟨S2x8192x2x128, .f32⟩
  | 6 => ⟨S2x8192x2x128, .f32⟩
  | 7 => ⟨S_, .f32⟩
  | 8 => ⟨S_, .f32⟩
  | 9 => ⟨S2x8192x2x128, .i1⟩
  | 10 => ⟨S2x8192x2x128, .f32⟩
  | 11 => ⟨S2x8192x2x128, .f32⟩
  | 12 => ⟨S2x8192x2x16, .f32⟩
  | 13 => ⟨S2x8192x2x16, .i32⟩
  | 14 => ⟨S2x128x64x2x2x64, .f32⟩
  | 15 => ⟨S2, .i32⟩
  | 16 => ⟨S2x1x1x1, .i32⟩
  | 17 => ⟨S2, .i32⟩
  | 18 => ⟨S1x1x2x1, .i32⟩
  | 19 => ⟨S_, .i32⟩
  | 20 => ⟨S2x1x1x1, .i32⟩
  | 21 => ⟨S2x1x1x1, .i1⟩
  | 22 => ⟨S_, .i32⟩
  | 23 => ⟨S2x1x1x1, .i32⟩
  | 24 => ⟨S2x1x1x1, .i32⟩
  | 25 => ⟨S2x1x1x1, .i32⟩
  | 26 => ⟨S_, .i32⟩
  | 27 => ⟨S2x8192x2x16, .i32⟩
  | 28 => ⟨S2x8192x2x16, .i1⟩
  | 29 => ⟨S_, .i32⟩
  | 30 => ⟨S2x8192x2x16, .i32⟩
  | 31 => ⟨S2x8192x2x16, .i32⟩
  | 32 => ⟨S2x8192x2x16, .i32⟩
  | 33 => ⟨S_, .i32⟩
  | 34 => ⟨S1x1x2x1, .i32⟩
  | 35 => ⟨S1x1x2x1, .i1⟩
  | 36 => ⟨S_, .i32⟩
  | 37 => ⟨S1x1x2x1, .i32⟩
  | 38 => ⟨S1x1x2x1, .i32⟩
  | 39 => ⟨S1x1x2x1, .i32⟩
  | 40 => ⟨S2x8192x2x16, .i32⟩
  | 41 => ⟨S2x8192x2x16, .i32⟩
  | 42 => ⟨S2x8192x2x16x1, .i32⟩
  | 43 => ⟨S2x8192x2x16x1, .i32⟩
  | 44 => ⟨S2x8192x2x16x1, .i32⟩
  | 45 => ⟨S2x8192x2x16x3, .i32⟩
  | 46 => ⟨S2x8192x2x16x64x2x64, .f32⟩
  | 47 => ⟨S2x8192x2x16x1, .i32⟩
  | 48 => ⟨S_, .i32⟩
  | 49 => ⟨S2x8192x2x16x1, .i32⟩
  | 50 => ⟨S2x8192x2x16x1, .i32⟩
  | 51 => ⟨S64, .i32⟩
  | 52 => ⟨S1x1x1x1x64, .i32⟩
  | 53 => ⟨S2x8192x2x16x64, .i32⟩
  | 54 => ⟨S2x8192x2x16x64, .i32⟩
  | 55 => ⟨S2x8192x2x16x64, .i32⟩
  | 56 => ⟨S1x8192x1x1x1, .i32⟩
  | 57 => ⟨S2x8192x2x16x64, .i32⟩
  | 58 => ⟨S2x8192x2x16x64, .i1⟩
  | 59 => ⟨S2x8192x2x1x16x64, .i1⟩
  | 60 => ⟨S2x8192x2x16x64x1x64, .f32⟩
  | 61 => ⟨S2x8192x2x16x64x64, .f32⟩
  | 62 => ⟨S2x8192x2x4x16x64, .f32⟩
  | 63 => ⟨S_, .f32⟩
  | 64 => ⟨S2x8192x2x4x16x64, .i1⟩
  | 65 => ⟨S2x8192x2x4x16x64, .f32⟩
  | 66 => ⟨S2x8192x2x4x16x64, .f32⟩
  | 67 => ⟨S_, .f32⟩
  | 68 => ⟨S2x8192x2x4, .f32⟩
  | 69 => ⟨S_, .f32⟩
  | 70 => ⟨S2x8192x2x4, .f32⟩
  | 71 => ⟨S2x8192x2x4, .f32⟩
  | 72 => ⟨S2x8192x2x4x1x1, .f32⟩
  | 73 => ⟨S_, .f32⟩
  | 74 => ⟨S_, .f32⟩
  | 75 => ⟨S2x8192x2x4x16x64, .i1⟩
  | 76 => ⟨S2x8192x2x4x16x64, .f32⟩
  | 77 => ⟨S2x8192x2x4x16x64, .f32⟩
  | 78 => ⟨S2x8192x2x4x16x64, .f32⟩
  | 79 => ⟨S2x8192x2x4x16x64, .f32⟩
  | 80 => ⟨S2x8192x2x4x16x64, .f32⟩
  | 81 => ⟨S_, .f32⟩
  | 82 => ⟨S2x8192x2x4x16x64, .i1⟩
  | 83 => ⟨S2x8192x2x4x16x64, .f32⟩
  | 84 => ⟨S2x8192x2x4x16x64, .f32⟩
  | 85 => ⟨S_, .f32⟩
  | 86 => ⟨S2x8192x2x4, .f32⟩
  | 87 => ⟨S2x8192x2x4x1x1, .f32⟩
  | 88 => ⟨S2x8192x2x4x16x64, .f32⟩
  | 89 => ⟨S2x8192x2x4x16x64, .f32⟩
  | 90 => ⟨S_, .i32⟩
  | 91 => ⟨S_, .f32⟩
  | 92 => ⟨S2x8192x2x4x16x64, .i1⟩
  | 93 => ⟨S2x8192x2x4x16x64, .f32⟩
  | 94 => ⟨S2x8192x2x4x16x64, .f32⟩
  | 95 => ⟨S2x8192x2x16x64x1x64, .f32⟩
  | 96 => ⟨S2x8192x2x16x64x64, .f32⟩
  | 97 => ⟨S2x8192x2x4x64, .f32⟩
  | 98 => ⟨S8192x1, .i32⟩
  | 99 => ⟨S1x8192, .i32⟩
  | 100 => ⟨S8192x8192, .i32⟩
  | 101 => ⟨S8192x8192, .i32⟩
  | 102 => ⟨S8192x8192, .i32⟩
  | 103 => ⟨S_, .i32⟩
  | 104 => ⟨S8192x8192, .i32⟩
  | 105 => ⟨S8192x8192, .i1⟩
  | 106 => ⟨S_, .i32⟩
  | 107 => ⟨S8192x8192, .i32⟩
  | 108 => ⟨S8192x8192, .i1⟩
  | 109 => ⟨S8192x8192, .i1⟩
  | 110 => ⟨S1x8192x1x1x8192, .i1⟩
  | 111 => ⟨S2x8192x1x2x64, .f32⟩
  | 112 => ⟨S2x8192x2x64, .f32⟩
  | 113 => ⟨S2x2x8192x8192x4, .f32⟩
  | 114 => ⟨S2x8192x2x4x8192, .f32⟩
  | 115 => ⟨S_, .f32⟩
  | 116 => ⟨S2x8192x2x4x8192, .i1⟩
  | 117 => ⟨S2x8192x2x4x8192, .f32⟩
  | 118 => ⟨S2x8192x2x4x8192, .f32⟩
  | 119 => ⟨S_, .f32⟩
  | 120 => ⟨S2x8192x2x4, .f32⟩
  | 121 => ⟨S_, .f32⟩
  | 122 => ⟨S2x8192x2x4, .f32⟩
  | 123 => ⟨S2x8192x2x4, .f32⟩
  | 124 => ⟨S2x8192x2x4x1, .f32⟩
  | 125 => ⟨S_, .f32⟩
  | 126 => ⟨S_, .f32⟩
  | 127 => ⟨S2x8192x2x4x8192, .i1⟩
  | _ => ⟨S16384x512, .f32⟩

abbrev hbmTy0_2 (i : Nat) : BufTy := match i % 128 with
  | 0 => ⟨S2x8192x2x4x8192, .f32⟩
  | 1 => ⟨S2x8192x2x4x8192, .f32⟩
  | 2 => ⟨S2x8192x2x4x8192, .f32⟩
  | 3 => ⟨S2x8192x2x4x8192, .f32⟩
  | 4 => ⟨S2x8192x2x4x8192, .f32⟩
  | 5 => ⟨S_, .f32⟩
  | 6 => ⟨S2x8192x2x4x8192, .i1⟩
  | 7 => ⟨S2x8192x2x4x8192, .f32⟩
  | 8 => ⟨S2x8192x2x4x8192, .f32⟩
  | 9 => ⟨S_, .f32⟩
  | 10 => ⟨S2x8192x2x4, .f32⟩
  | 11 => ⟨S2x8192x2x4x1, .f32⟩
  | 12 => ⟨S2x8192x2x4x8192, .f32⟩
  | 13 => ⟨S2x8192x2x4x8192, .f32⟩
  | 14 => ⟨S_, .i32⟩
  | 15 => ⟨S_, .f32⟩
  | 16 => ⟨S2x8192x2x4x8192, .i1⟩
  | 17 => ⟨S2x8192x2x4x8192, .f32⟩
  | 18 => ⟨S2x8192x2x4x8192, .f32⟩
  | 19 => ⟨S2x8192x1x2x64, .f32⟩
  | 20 => ⟨S2x8192x2x64, .f32⟩
  | 21 => ⟨S2x2x64x8192x4, .f32⟩
  | 22 => ⟨S2x8192x2x4x64, .f32⟩
  | 23 => ⟨S2x8192x2x4x1, .f32⟩
  | 24 => ⟨S2x8192x2x4x64, .f32⟩
  | 25 => ⟨S2x8192x2x4x64, .f32⟩
  | 26 => ⟨S2x8192x2x4x1, .f32⟩
  | 27 => ⟨S2x8192x2x4x64, .f32⟩
  | 28 => ⟨S2x8192x2x4x64, .f32⟩
  | 29 => ⟨S2x8192x2x4x64, .f32⟩
  | 30 => ⟨S2x8192x2x4x1, .f32⟩
  | 31 => ⟨S2x8192x2x4x64, .f32⟩
  | 32 => ⟨S2x8192x2x4x64, .f32⟩
  | 33 => ⟨S2x8192x2x4x64, .f32⟩
  | 34 => ⟨S16384x512, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S16384x512, .f32⟩
  | 44 => ⟨S16384x512, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_call2_v0 : Ref sig .tc := ⟨.hbm, 70, rfl⟩
abbrev main_call2_v1 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_c : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_0 : Ref sig .tc := ⟨.hbm, 105, rfl⟩
abbrev main_call4_v12 : Ref sig .tc := ⟨.hbm, 106, rfl⟩
abbrev main_call4_v13 : Ref sig .tc := ⟨.hbm, 107, rfl⟩
abbrev main_v59 : Ref sig .tc := ⟨.hbm, 108, rfl⟩
abbrev main_v60 : Ref sig .tc := ⟨.hbm, 109, rfl⟩
abbrev main_c_13 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_14 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_15 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_v79 : Ref sig .tc := ⟨.hbm, 134, rfl⟩
abbrev main_cst_16 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_v80 : Ref sig .tc := ⟨.hbm, 139, rfl⟩
abbrev main_values : Ref sig .tc := ⟨.hbm, 140, rfl⟩
abbrev main_indices : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_c_17 : Ref sig .tc := ⟨.hbm, 147, rfl⟩
abbrev main_v86 : Ref sig .tc := ⟨.hbm, 148, rfl⟩
abbrev main_v87 : Ref sig .tc := ⟨.hbm, 149, rfl⟩
abbrev main_c_18 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_c_19 : Ref sig .tc := ⟨.hbm, 154, rfl⟩
abbrev main_v91 : Ref sig .tc := ⟨.hbm, 155, rfl⟩
abbrev main_v92 : Ref sig .tc := ⟨.hbm, 156, rfl⟩
abbrev main_c_20 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_c_21 : Ref sig .tc := ⟨.hbm, 161, rfl⟩
abbrev main_v96 : Ref sig .tc := ⟨.hbm, 162, rfl⟩
abbrev main_v97 : Ref sig .tc := ⟨.hbm, 163, rfl⟩
abbrev main_c_22 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_c_23 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_cst_24 : Ref sig .tc := ⟨.hbm, 191, rfl⟩
abbrev main_call7_v0 : Ref sig .tc := ⟨.hbm, 192, rfl⟩
abbrev main_call7_v1 : Ref sig .tc := ⟨.hbm, 193, rfl⟩
abbrev main_v123 : Ref sig .tc := ⟨.hbm, 194, rfl⟩
abbrev main_cst_25 : Ref sig .tc := ⟨.hbm, 195, rfl⟩
abbrev main_v124 : Ref sig .tc := ⟨.hbm, 196, rfl⟩
abbrev main_cst_26 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_cst_27 : Ref sig .tc := ⟨.hbm, 201, rfl⟩
abbrev main_call8_v0 : Ref sig .tc := ⟨.hbm, 202, rfl⟩
abbrev main_call8_v1 : Ref sig .tc := ⟨.hbm, 203, rfl⟩
abbrev main_call8_v2 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_cst_28 : Ref sig .tc := ⟨.hbm, 209, rfl⟩
abbrev main_call9_v0 : Ref sig .tc := ⟨.hbm, 210, rfl⟩
abbrev main_call9_v1 : Ref sig .tc := ⟨.hbm, 211, rfl⟩
abbrev main_v132 : Ref sig .tc := ⟨.hbm, 212, rfl⟩
abbrev main_cst_29 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_c_30 : Ref sig .tc := ⟨.hbm, 218, rfl⟩
abbrev main_call10_v0 : Ref sig .tc := ⟨.hbm, 219, rfl⟩
abbrev main_call10_v1 : Ref sig .tc := ⟨.hbm, 220, rfl⟩
abbrev main_call10_v2 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_c_31 : Ref sig .tc := ⟨.hbm, 231, rfl⟩
abbrev main_v146 : Ref sig .tc := ⟨.hbm, 232, rfl⟩
abbrev main_v147 : Ref sig .tc := ⟨.hbm, 233, rfl⟩
abbrev main_c_32 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_cst_33 : Ref sig .tc := ⟨.hbm, 243, rfl⟩
abbrev main_call11_v0 : Ref sig .tc := ⟨.hbm, 244, rfl⟩
abbrev main_call11_v1 : Ref sig .tc := ⟨.hbm, 245, rfl⟩
abbrev main_v156 : Ref sig .tc := ⟨.hbm, 246, rfl⟩
abbrev main_cst_34 : Ref sig .tc := ⟨.hbm, 247, rfl⟩
abbrev main_v157 : Ref sig .tc := ⟨.hbm, 248, rfl⟩
abbrev main_cst_35 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_cst_36 : Ref sig .tc := ⟨.hbm, 253, rfl⟩
abbrev main_call12_v0 : Ref sig .tc := ⟨.hbm, 254, rfl⟩
abbrev main_call12_v1 : Ref sig .tc := ⟨.hbm, 255, rfl⟩
abbrev main_call12_v2 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_cst_37 : Ref sig .tc := ⟨.hbm, 261, rfl⟩
abbrev main_call13_v0 : Ref sig .tc := ⟨.hbm, 262, rfl⟩
abbrev main_call13_v1 : Ref sig .tc := ⟨.hbm, 263, rfl⟩
abbrev main_v165 : Ref sig .tc := ⟨.hbm, 264, rfl⟩
abbrev main_cst_38 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_c_39 : Ref sig .tc := ⟨.hbm, 270, rfl⟩
abbrev main_call14_v0 : Ref sig .tc := ⟨.hbm, 271, rfl⟩
abbrev main_call14_v1 : Ref sig .tc := ⟨.hbm, 272, rfl⟩
abbrev main_call14_v2 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_call15_v0 : Ref sig .tc := ⟨.hbm, 291, rfl⟩
abbrev main_call15_v1 : Ref sig .tc := ⟨.hbm, 292, rfl⟩
abbrev main_call15_cst : Ref sig .tc := ⟨.hbm, 293, rfl⟩
abbrev main_call15_v2 : Ref sig .tc := ⟨.hbm, 294, rfl⟩
abbrev main_call15_v3 : Ref sig .tc := ⟨.hbm, 295, rfl⟩
abbrev main_call15_cst_0 : Ref sig .tc := ⟨.hbm, 296, rfl⟩
abbrev main_call15_v4 : Ref sig .tc := ⟨.hbm, 297, rfl⟩
abbrev main_call15_v5 : Ref sig .tc := ⟨.hbm, 298, rfl⟩
abbrev main_v187 : Ref sig .tc := ⟨.hbm, 299, rfl⟩
abbrev main_v188 : Ref sig .tc := ⟨.hbm, 300, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x3624 : Shape := ⟨2, ![1024, 3624]⟩
abbrev S64 : Shape := ⟨1, ![64]⟩
abbrev S_ : Shape := ⟨0, ![]⟩
abbrev S1x128 : Shape := ⟨2, ![1, 128]⟩
abbrev S64x1 : Shape := ⟨2, ![64, 1]⟩
abbrev S64x128 : Shape := ⟨2, ![64, 128]⟩
abbrev S64x256 : Shape := ⟨2, ![64, 256]⟩
abbrev S16384x1024 : Shape := ⟨2, ![16384, 1024]⟩
abbrev S1x1024 : Shape := ⟨2, ![1, 1024]⟩
abbrev S1024x88 : Shape := ⟨2, ![1024, 88]⟩
abbrev S1024x1280 : Shape := ⟨2, ![1024, 1280]⟩
abbrev S1024x512 : Shape := ⟨2, ![1024, 512]⟩
abbrev S1024x256 : Shape := ⟨2, ![1024, 256]⟩
abbrev S1024x1024 : Shape := ⟨2, ![1024, 1024]⟩
abbrev S1024x24 : Shape := ⟨2, ![1024, 24]⟩
abbrev S1024x16 : Shape := ⟨2, ![1024, 16]⟩
abbrev S1024x3712 : Shape := ⟨2, ![1024, 3712]⟩
abbrev S16384x512 : Shape := ⟨2, ![16384, 512]⟩
abbrev S16384x256 : Shape := ⟨2, ![16384, 256]⟩
abbrev S16384x768 : Shape := ⟨2, ![16384, 768]⟩
abbrev S16384x128 : Shape := ⟨2, ![16384, 128]⟩
abbrev S2x16x128x512 : Shape := ⟨4, ![2, 16, 128, 512]⟩
abbrev S2x64x128x128 : Shape := ⟨4, ![2, 64, 128, 128]⟩
abbrev S256x256 : Shape := ⟨2, ![256, 256]⟩
abbrev S512x1024 : Shape := ⟨2, ![512, 1024]⟩
abbrev S512x512 : Shape := ⟨2, ![512, 512]⟩
abbrev S512x256 : Shape := ⟨2, ![512, 256]⟩
abbrev S512x768 : Shape := ⟨2, ![512, 768]⟩
abbrev S512x128 : Shape := ⟨2, ![512, 128]⟩
abbrev S1x1x128x512 : Shape := ⟨4, ![1, 1, 128, 512]⟩
abbrev S1x4x128x128 : Shape := ⟨4, ![1, 4, 128, 128]⟩
abbrev S8x256 : Shape := ⟨2, ![8, 256]⟩
abbrev S512 : Shape := ⟨1, ![512]⟩
abbrev S512x1 : Shape := ⟨2, ![512, 1]⟩
abbrev S1024x768 : Shape := ⟨2, ![1024, 768]⟩
abbrev S1024x128 : Shape := ⟨2, ![1024, 128]⟩
abbrev S128x512 : Shape := ⟨2, ![128, 512]⟩
abbrev S128x128 : Shape := ⟨2, ![128, 128]⟩
abbrev S1x1x128x128 : Shape := ⟨4, ![1, 1, 128, 128]⟩
abbrev S8x64x256 : Shape := ⟨3, ![8, 64, 256]⟩
abbrev S1x64x256 : Shape := ⟨3, ![1, 64, 256]⟩

abbrev nBuf : Space → Nat
  | .hbm => 42
  | .vmem => 31
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3624, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S1x128, .f32⟩
  | .hbm, ⟨7, _⟩ => ⟨S64x1, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S64x1, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S64x256, .f32⟩
  | .hbm, ⟨16, _⟩ => ⟨S16384x1024, .f32⟩
  | .hbm, ⟨17, _⟩ => ⟨S1x1024, .f32⟩
  | .hbm, ⟨18, _⟩ => ⟨S_, .f32⟩
  | .hbm, ⟨19, _⟩ => ⟨S1024x88, .f32⟩
  | .hbm, ⟨20, _⟩ => ⟨S1024x1280, .f32⟩
  | .hbm, ⟨21, _⟩ => ⟨S1024x512, .f32⟩
  | .hbm, ⟨22, _⟩ => ⟨S1024x512, .f32⟩
  | .hbm, ⟨23, _⟩ => ⟨S1024x256, .f32⟩
  | .hbm, ⟨24, _⟩ => ⟨S1024x1024, .f32⟩
  | .hbm, ⟨25, _⟩ => ⟨S1024x24, .f32⟩
  | .hbm, ⟨26, _⟩ => ⟨S1024x16, .f32⟩
  | .hbm, ⟨27, _⟩ => ⟨S1024x3712, .f32⟩
  | .hbm, ⟨28, _⟩ => ⟨S1024x3712, .bf16⟩
  | .hbm, ⟨29, _⟩ => ⟨S16384x512, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x512, .f32⟩
  | .hbm, ⟨34, _⟩ => ⟨S16384x768, .f32⟩
  | .hbm, ⟨35, _⟩ => ⟨S16384x1024, .f32⟩
  | .hbm, ⟨36, _⟩ => ⟨S16384x128, .f32⟩
  | .hbm, ⟨37, _⟩ => ⟨S16384x256, .bf16⟩
  | .hbm, ⟨38, _⟩ => ⟨S16384x128, .bf16⟩
  | .hbm, ⟨39, _⟩ => ⟨S2x16x128x512, .bf16⟩
  | .hbm, ⟨40, _⟩ => ⟨S2x64x128x128, .bf16⟩
  | .hbm, ⟨41, _⟩ => ⟨S256x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S64x256, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x512, .f32⟩
  | .local _ .vmem, ⟨14, _⟩ => ⟨S512x512, .f32⟩
  | .local _ .vmem, ⟨15, _⟩ => ⟨S512x768, .f32⟩
  | .local _ .vmem, ⟨16, _⟩ => ⟨S512x768, .f32⟩
  | .local _ .vmem, ⟨17, _⟩ => ⟨S512x1024, .f32⟩
  | .local _ .vmem, ⟨18, _⟩ => ⟨S512x1024, .f32⟩
  | .local _ .vmem, ⟨19, _⟩ => ⟨S512x128, .f32⟩
  | .local _ .vmem, ⟨20, _⟩ => ⟨S512x128, .f32⟩
  | .local _ .vmem, ⟨21, _⟩ => ⟨S512x256, .bf16⟩
  | .local _ .vmem, ⟨22, _⟩ => ⟨S512x256, .bf16⟩
  | .local _ .vmem, ⟨23, _⟩ => ⟨S512x128, .bf16⟩
  | .local _ .vmem, ⟨24, _⟩ => ⟨S512x128, .bf16⟩
  | .local _ .vmem, ⟨25, _⟩ => ⟨S1x1x128x512, .bf16⟩
  | .local _ .vmem, ⟨26, _⟩ => ⟨S1x1x128x512, .bf16⟩
  | .local _ .vmem, ⟨27, _⟩ => ⟨S1x4x128x128, .bf16⟩
  | .local _ .vmem, ⟨28, _⟩ => ⟨S1x4x128x128, .bf16⟩
  | .local _ .vmem, ⟨29, _⟩ => ⟨S8x256, .f32⟩
  | .local _ .vmem, ⟨30, _⟩ => ⟨S8x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev main_v22_4 : Ref sig .tc := ⟨.hbm, 33, rfl⟩
abbrev main_v22_5 : Ref sig .tc := ⟨.hbm, 34, rfl⟩
abbrev main_v22_6 : Ref sig .tc := ⟨.hbm, 35, rfl⟩
abbrev main_v22_7 : Ref sig .tc := ⟨.hbm, 36, rfl⟩
abbrev main_v22_8 : Ref sig .tc := ⟨.hbm, 37, rfl⟩
abbrev main_v22_9 : Ref sig .tc := ⟨.hbm, 38, rfl⟩
abbrev main_v22_10 : Ref sig .tc := ⟨.hbm, 39, rfl⟩
abbrev main_v22_11 : Ref sig .tc := ⟨.hbm, 40, rfl⟩
abbrev main_v22_12 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S2x8192x1024 : Shape := ⟨3, ![2, 8192, 1024]⟩
abbrev S1024 : Shape := ⟨1, ![1024]⟩
abbrev S1024x3624 : Shape := ⟨2, ![1024, 3624]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3624 : Shape := ⟨3, ![2, 8192, 3624]⟩
abbrev S2x8192x512 : Shape := ⟨3, ![2, 8192, 512]⟩
abbrev S2x8192x256 : Shape := ⟨3, ![2, 8192, 256]⟩
abbrev S2x8192x24 : Shape := ⟨3, ![2, 8192, 24]⟩
abbrev S2x8192x128 : Shape := ⟨3, ![2, 8192, 128]⟩
abbrev S2x8192x16 : Shape := ⟨3, ![2, 8192, 16]⟩
abbrev S2x128x64x2x2x64 : Shape := ⟨6, ![2, 128, 64, 2, 2, 64]⟩
abbrev S64x1 : Shape := ⟨2, ![64, 1]⟩
abbrev S64x2 : Shape := ⟨2, ![64, 2]⟩
abbrev S2x2x128x2x64 : Shape := ⟨5, ![2, 2, 128, 2, 64]⟩
abbrev S2x128x2x2x64 : Shape := ⟨5, ![2, 128, 2, 2, 64]⟩
abbrev S2x8192x768 : Shape := ⟨3, ![2, 8192, 768]⟩
abbrev S2x8192x40 : Shape := ⟨3, ![2, 8192, 40]⟩
abbrev S16384x512 : Shape := ⟨2, ![16384, 512]⟩
abbrev S16384x256 : Shape := ⟨2, ![16384, 256]⟩
abbrev S16384x768 : Shape := ⟨2, ![16384, 768]⟩
abbrev S16384x1024 : Shape := ⟨2, ![16384, 1024]⟩
abbrev S16384x128 : Shape := ⟨2, ![16384, 128]⟩
abbrev S8192 : Shape := ⟨1, ![8192]⟩
abbrev S1x8192x1 : Shape := ⟨3, ![1, 8192, 1]⟩
abbrev S128 : Shape := ⟨1, ![128]⟩
abbrev S1x1x128 : Shape := ⟨3, ![1, 1, 128]⟩
abbrev S1x8192x128 : Shape := ⟨3, ![1, 8192, 128]⟩
abbrev S2x16x512x128 : Shape := ⟨4, ![2, 16, 512, 128]⟩
abbrev S2x16x128x512 : Shape := ⟨4, ![2, 16, 128, 512]⟩
abbrev S2x64x128x128 : Shape := ⟨4, ![2, 64, 128, 128]⟩
abbrev S256x256 : Shape := ⟨2, ![256, 256]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3624, .f32⟩
  | .hbm, ⟨3, _⟩ => ⟨S64, .f32⟩
  | .hbm, ⟨4, _⟩ => ⟨S64, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x3624, .f32⟩
  | .hbm, ⟨22, _⟩ => ⟨S2x8192x512, .f32⟩
  | .hbm, ⟨23, _⟩ => ⟨S2x8192x256, .f32⟩
  | .hbm, ⟨24, _⟩ => ⟨S2x8192x256, .f32⟩
  | .hbm, ⟨25, _⟩ => ⟨S2x8192x256, .f32⟩
  | .hbm, ⟨26, _⟩ => ⟨S2x8192x24, .f32⟩
  | .hbm, ⟨27, _⟩ => ⟨S2x8192x512, .f32⟩
  | .hbm, ⟨28, _⟩ => ⟨S2x8192x128, .f32⟩
  | .hbm, ⟨29, _⟩ => ⟨S2x8192x128, .f32⟩
  | .hbm, ⟨30, _⟩ => ⟨S2x8192x256, .f32⟩
  | .hbm, ⟨31, _⟩ => ⟨S2x8192x16, .f32⟩
  | .hbm, ⟨32, _⟩ => ⟨S2x8192x256, .f32⟩
  | .hbm, ⟨33, _⟩ => ⟨S2x8192x256, .f32⟩
  | .hbm, ⟨34, _⟩ => ⟨S2x8192x256, .f32⟩
  | .hbm, ⟨35, _⟩ => ⟨S2x8192x256, .f32⟩
  | .hbm, ⟨36, _⟩ => ⟨S2x8192x256, .f32⟩
  | .hbm, ⟨37, _⟩ => ⟨S2x128x64x2x2x64, .f32⟩
  | .hbm, ⟨38, _⟩ => ⟨S64x1, .f32⟩
  | .hbm, ⟨39, _⟩ => ⟨S64x1, .f32⟩
  | .hbm, ⟨40, _⟩ => ⟨S64x2, .f32⟩
  | .hbm, ⟨41, _⟩ => ⟨S2x2x128x2x64, .f32⟩
  | .hbm, ⟨42, _⟩ => ⟨S2x128x2x2x64, .f32⟩
  | .hbm, ⟨43, _⟩ => ⟨S2x8192x768, .f32⟩
  | .hbm, ⟨44, _⟩ => ⟨S2x8192x1024, .f32⟩
  | .hbm, ⟨45, _⟩ => ⟨S2x8192x40, .f32⟩
  | .hbm, ⟨46, _⟩ => ⟨S_, .i32⟩
  | .hbm, ⟨47, _⟩ => ⟨S_, .f32⟩
  | .hbm, ⟨48, _⟩ => ⟨S2x8192x128, .f32⟩
  | .hbm, ⟨49, _⟩ => ⟨S16384x512, .f32⟩
  | .hbm, ⟨50, _⟩ => ⟨S16384x256, .f32⟩
  | .hbm, ⟨51, _⟩ => ⟨S16384x256, .f32⟩
  | .hbm, ⟨52, _⟩ => ⟨S16384x256, .f32⟩
  | .hbm, ⟨53, _⟩ => ⟨S16384x512, .f32⟩
  | .hbm, ⟨54, _⟩ => ⟨S16384x768, .f32⟩
  | .hbm, ⟨55, _⟩ => ⟨S16384x1024, .f32⟩
  | .hbm, ⟨56, _⟩ => ⟨S16384x128, .f32⟩
  | .hbm, ⟨57, _⟩ => ⟨S2x8192x128, .f32⟩
  | .hbm, ⟨58, _⟩ => ⟨S2x8192x128, .f32⟩
  | .hbm, ⟨59, _⟩ => ⟨S2x8192x128, .f32⟩
  | .hbm, ⟨60, _⟩ => ⟨S2x8192x128, .f32⟩
  | .hbm, ⟨61, _⟩ => ⟨S8192, .i32⟩
  | .hbm, ⟨62, _⟩ => ⟨S_, .i32⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S8192, .i32⟩
  | .hbm, ⟨71, _⟩ => ⟨S8192, .i32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S8192, .i1⟩
  | .hbm, ⟨76, _⟩ => ⟨S_, .i32⟩
  | .hbm, ⟨77, _⟩ => ⟨S8192, .i32⟩
  | .hbm, ⟨78, _⟩ => ⟨S8192, .i32⟩
  | .hbm, ⟨79, _⟩ => ⟨S8192, .i32⟩
  | .hbm, ⟨80, _⟩ => ⟨S1x8192x1, .i32⟩
  | .hbm, ⟨81, _⟩ => ⟨S128, .i32⟩
  | .hbm, ⟨82, _⟩ => ⟨S1x1x128, .i32⟩
  | .hbm, ⟨83, _⟩ => ⟨S1x8192x128, .i32⟩
  | .hbm, ⟨84, _⟩ => ⟨S1x8192x128, .i32⟩
  | .hbm, ⟨85, _⟩ => ⟨S1x8192x128, .i1⟩
  | .hbm, ⟨86, _⟩ => ⟨S_, .f32⟩
  | .hbm, ⟨87, _⟩ => ⟨S_, .f32⟩
  | .hbm, ⟨88, _⟩ => ⟨S1x8192x128, .f32⟩
  | .hbm, ⟨89, _⟩ => ⟨S1x8192x128, .f32⟩
  | .hbm, ⟨90, _⟩ => ⟨S1x8192x128, .f32⟩
  | .hbm, ⟨91, _⟩ => ⟨S2x8192x128, .f32⟩
  | .hbm, ⟨92, _⟩ => ⟨S2x8192x128, .f32⟩
  | .hbm, ⟨93, _⟩ => ⟨S2x8192x256, .f32⟩
  | .hbm, ⟨94, _⟩ => ⟨S2x16x512x128, .f32⟩
  | .hbm, ⟨95, _⟩ => ⟨S2x16x128x512, .f32⟩
  | .hbm, ⟨96, _⟩ => ⟨S2x64x128x128, .f32⟩
  | .hbm, ⟨97, _⟩ => ⟨S2x64x128x128, .f32⟩
  | .hbm, ⟨98, _⟩ => ⟨S16384x256, .f32⟩
  | .hbm, ⟨99, _⟩ => ⟨S16384x256, .bf16⟩
  | .hbm, ⟨100, _⟩ => ⟨S16384x128, .f32⟩
  | .hbm, ⟨101, _⟩ => ⟨S16384x128, .bf16⟩
  | .hbm, ⟨102, _⟩ => ⟨S2x16x128x512, .bf16⟩
  | .hbm, ⟨103, _⟩ => ⟨S2x64x128x128, .bf16⟩
  | .hbm, ⟨104, _⟩ => ⟨S256x256, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c_2 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_c : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_0 : Ref sig .tc := ⟨.hbm, 76, rfl⟩
abbrev main_call1_v12 : Ref sig .tc := ⟨.hbm, 77, rfl⟩
abbrev main_call1_v13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_3 : Ref sig .tc := ⟨.hbm, 86, rfl⟩
abbrev main_cst_4 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S2x8192x256 : Shape := ⟨3, ![2, 8192, 256]⟩
abbrev S2x2x256 : Shape := ⟨3, ![2, 2, 256]⟩
abbrev S3x256 : Shape := ⟨2, ![3, 256]⟩
abbrev S1024x1024 : Shape := ⟨2, ![1024, 1024]⟩
abbrev S1024 : Shape := ⟨1, ![1024]⟩
abbrev S16384x1024 : Shape := ⟨2, ![16384, 1024]⟩
abbrev S16384x512 : Shape := ⟨2, ![16384, 512]⟩
abbrev S16384x256 : Shape := ⟨2, ![16384, 256]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S8x1024 : Shape := ⟨2, ![8, 1024]⟩
abbrev S1x2x256 : Shape := ⟨3, ![1, 2, 256]⟩
abbrev S8x256 : Shape := ⟨2, ![8, 256]⟩
abbrev S2x256 : Shape := ⟨2, ![2, 256]⟩
abbrev S1x256 : Shape := ⟨2, ![1, 256]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x256, .f32⟩
  | .hbm, ⟨3, _⟩ => ⟨S2x8192x1024, .f32⟩
  | .hbm, ⟨4, _⟩ => ⟨S2x2x256, .f32⟩
  | .hbm, ⟨5, _⟩ => ⟨S3x256, .f32⟩
  | .hbm, ⟨6, _⟩ => ⟨S1024x1024, .f32⟩
  | .hbm, ⟨7, _⟩ => ⟨S1024, .f32⟩
  | .hbm, ⟨8, _⟩ => ⟨S16384x1024, .f32⟩
  | .hbm, ⟨9, _⟩ => ⟨S16384x512, .f32⟩
  | .hbm, ⟨10, _⟩ => ⟨S16384x256, .f32⟩
  | .hbm, ⟨11, _⟩ => ⟨S16384x1024, .f32⟩
  | .hbm, ⟨12, _⟩ => ⟨S1024x1024, .bf16⟩
  | .hbm, ⟨13, _⟩ => ⟨S1x1024, .f32⟩
  | .hbm, ⟨14, _⟩ => ⟨S16384x1024, .f32⟩
  | .hbm, ⟨15, _⟩ => ⟨S2x2x256, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S1x2x256, .f32⟩
  | .local _ .vmem, ⟨11, _⟩ => ⟨S1x2x256, .f32⟩
  | .local _ .vmem, ⟨12, _⟩ => ⟨S3x256, .f32⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1x2x256, .f32⟩
  | .local _ .vmem, ⟨18, _⟩ => ⟨S1x2x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S2x8192x1024 : Shape := ⟨3, ![2, 8192, 1024]⟩
abbrev S2x8192x512 : Shape := ⟨3, ![2, 8192, 512]⟩
abbrev S2x8192x256 : Shape := ⟨3, ![2, 8192, 256]⟩
abbrev S2x2x256 : Shape := ⟨3, ![2, 2, 256]⟩
abbrev S3x256 : Shape := ⟨2, ![3, 256]⟩
abbrev S1024x1024 : Shape := ⟨2, ![1024, 1024]⟩
abbrev S1024 : Shape := ⟨1, ![1024]⟩
abbrev S2x8194x256 : Shape := ⟨3, ![2, 8194, 256]⟩
abbrev S1x256 : Shape := ⟨2, ![1, 256]⟩
abbrev S256 : Shape := ⟨1, ![256]⟩
abbrev S1x1x256 : Shape := ⟨3, ![1, 1, 256]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x256, .f32⟩
  | .hbm, ⟨3, _⟩ => ⟨S2x8192x1024, .f32⟩
  | .hbm, ⟨4, _⟩ => ⟨S2x2x256, .f32⟩
  | .hbm, ⟨5, _⟩ => ⟨S3x256, .f32⟩
  | .hbm, ⟨6, _⟩ => ⟨S1024x1024, .f32⟩
  | .hbm, ⟨7, _⟩ => ⟨S1024, .f32⟩
  | .hbm, ⟨8, _⟩ => ⟨S2x8192x256, .f32⟩
  | .hbm, ⟨9, _⟩ => ⟨S2x8192x256, .f32⟩
  | .hbm, ⟨10, _⟩ => ⟨S2x8192x256, .f32⟩
  | .hbm, ⟨11, _⟩ => ⟨S2x8192x256, .f32⟩
  | .hbm, ⟨12, _⟩ => ⟨S2x8192x256, .f32⟩
  | .hbm, ⟨13, _⟩ => ⟨S2x8194x256, .f32⟩
  | .hbm, ⟨14, _⟩ => ⟨S2x8192x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S2x8192x256, .f32⟩
  | .hbm, ⟨19, _⟩ => ⟨S2x8192x256, .f32⟩
  | .hbm, ⟨20, _⟩ => ⟨S_, .f32⟩
  | .hbm, ⟨21, _⟩ => ⟨S2x8192x256, .f32⟩
  | .hbm, ⟨22, _⟩ => ⟨S2x8192x256, .f32⟩
  | .hbm, ⟨23, _⟩ => ⟨S2x8192x256, .f32⟩
  | .hbm, ⟨24, _⟩ => ⟨S1x256, .f32⟩
  | .hbm, ⟨25, _⟩ => ⟨S256, .f32⟩
  | .hbm, ⟨26, _⟩ => ⟨S1x1x256, .f32⟩
  | .hbm, ⟨27, _⟩ => ⟨S2x8192x256, .f32⟩
  | .hbm, ⟨28, _⟩ => ⟨S2x8192x256, .f32⟩
  | .hbm, ⟨29, _⟩ => ⟨S2x8192x256, .f32⟩
  | .hbm, ⟨30, _⟩ => ⟨S2x8192x256, .f32⟩
  | .hbm, ⟨31, _⟩ => ⟨S1x256, .f32⟩
  | .hbm, ⟨32, _⟩ => ⟨S256, .f32⟩
  | .hbm, ⟨33, _⟩ => ⟨S1x1x256, .f32⟩
  | .hbm, ⟨34, _⟩ => ⟨S2x8192x256, .f32⟩
  | .hbm, ⟨35, _⟩ => ⟨S2x8192x256, .f32⟩
  | .hbm, ⟨36, _⟩ => ⟨S2x8192x256, .f32⟩
  | .hbm, ⟨37, _⟩ => ⟨S2x2x256, .f32⟩
  | .hbm, ⟨38, _⟩ => ⟨S2x8192x256, .f32⟩
  | .hbm, ⟨39, _⟩ => ⟨S2x8192x256, .f32⟩
  | .hbm, ⟨40, _⟩ => ⟨S2x8192x256, .f32⟩
  | .hbm, ⟨41, _⟩ => ⟨S_, .f32⟩
  | .hbm, ⟨42, _⟩ => ⟨S2x8192x256, .f32⟩
  | .hbm, ⟨43, _⟩ => ⟨S2x8192x256, .f32⟩
  | .hbm, ⟨44, _⟩ => ⟨S_, .f32⟩
  | .hbm, ⟨45, _⟩ => ⟨S2x8192x256, .f32⟩
  | .hbm, ⟨46, _⟩ => ⟨S2x8192x256, .f32⟩
  | .hbm, ⟨47, _⟩ => ⟨S2x8192x256, .f32⟩
  | .hbm, ⟨48, _⟩ => ⟨S2x8192x256, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel4.lean ====
abbrev S32x8x1024 : Shape := ⟨3, ![32, 8, 1024]⟩
abbrev S1024 : Shape := ⟨1, ![1024]⟩
abbrev S1024x3624 : Shape := ⟨2, ![1024, 3624]⟩
abbrev S64 : Shape := ⟨1, ![64]⟩
abbrev S_ : Shape := ⟨0, ![]⟩
abbrev S1x128 : Shape := ⟨2, ![1, 128]⟩
abbrev S64x1 : Shape := ⟨2, ![64, 1]⟩
abbrev S64x128 : Shape := ⟨2, ![64, 128]⟩
abbrev S64x256 : Shape := ⟨2, ![64, 256]⟩
abbrev S256x1024 : Shape := ⟨2, ![256, 1024]⟩
abbrev S1x1024 : Shape := ⟨2, ![1, 1024]⟩
abbrev S1024x88 : Shape := ⟨2, ![1024, 88]⟩
abbrev S1024x1280 : Shape := ⟨2, ![1024, 1280]⟩
abbrev S1024x512 : Shape := ⟨2, ![1024, 512]⟩
abbrev S1024x256 : Shape := ⟨2, ![1024, 256]⟩
abbrev S1024x1024 : Shape := ⟨2, ![1024, 1024]⟩
abbrev S1024x24 : Shape := ⟨2, ![1024, 24]⟩
abbrev S1024x16 : Shape := ⟨2, ![1024, 16]⟩
abbrev S1024x3712 : Shape := ⟨2, ![1024, 3712]⟩
abbrev S256x512 : Shape := ⟨2, ![256, 512]⟩
abbrev S256x256 : Shape := ⟨2, ![256, 256]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S1024x768 : Shape := ⟨2, ![1024, 768]⟩
abbrev S1024x128 : Shape := ⟨2, ![1024, 128]⟩

abbrev nBuf : Space → Nat
  | .hbm => 37
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3624, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S1x128, .f32⟩
  | .hbm, ⟨7, _⟩ => ⟨S64x1, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S64x1, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S64x256, .f32⟩
  | .hbm, ⟨16, _⟩ => ⟨S256x1024, .f32⟩
  | .hbm, ⟨17, _⟩ => ⟨S1x1024, .f32⟩
  | .hbm, ⟨18, _⟩ => ⟨S_, .f32⟩
  | .hbm, ⟨19, _⟩ => ⟨S1024x88, .f32⟩
  | .hbm, ⟨20, _⟩ => ⟨S1024x1280, .f32⟩
  | .hbm, ⟨21, _⟩ => ⟨S1024x512, .f32⟩
  | .hbm, ⟨22, _⟩ => ⟨S1024x512, .f32⟩
  | .hbm, ⟨23, _⟩ => ⟨S1024x256, .f32⟩
  | .hbm, ⟨24, _⟩ => ⟨S1024x1024, .f32⟩
  | .hbm, ⟨25, _⟩ => ⟨S1024x24, .f32⟩
  | .hbm, ⟨26, _⟩ => ⟨S1024x16, .f32⟩
  | .hbm, ⟨27, _⟩ => ⟨S1024x3712, .f32⟩
  | .hbm, ⟨28, _⟩ => ⟨S1024x3712, .bf16⟩
  | .hbm, ⟨29, _⟩ => ⟨S256x512, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x512, .f32⟩
  | .hbm, ⟨34, _⟩ => ⟨S256x768, .f32⟩
  | .hbm, ⟨35, _⟩ => ⟨S256x1024, .f32⟩
  | .hbm, ⟨36, _⟩ => ⟨S256x128, .f32⟩
  | .local _ .vmem, ⟨0, _⟩ => ⟨S256x1024, .f32⟩
  | .local _ .vmem, ⟨1, _⟩ => ⟨S1x1024, .f32⟩
  | .local _ .vmem, ⟨2, _⟩ => ⟨S1024x3712, .bf16⟩
  | .local _ .vmem, ⟨3, _⟩ => ⟨S64x256, .f32⟩
  | .local _ .vmem, ⟨4, _⟩ => ⟨S256x512, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x512, .f32⟩
  | .local _ .vmem, ⟨9, _⟩ => ⟨S256x768, .f32⟩
  | .local _ .vmem, ⟨10, _⟩ => ⟨S256x1024, .f32⟩
  | .local _ .vmem, ⟨11, _⟩ => ⟨S256x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev main_v22_4 : Ref sig .tc := ⟨.hbm, 33, rfl⟩
abbrev main_v22_5 : Ref sig .tc := ⟨.hbm, 34, rfl⟩
abbrev main_v22_6 : Ref sig .tc := ⟨.hbm, 35, rfl⟩
abbrev main_v22_7 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference4Ideal.lean ====
abbrev S32x8x1024 : Shape := ⟨3, ![32, 8, 1024]⟩
abbrev S1024 : Shape := ⟨1, ![1024]⟩
abbrev S1024x3624 : Shape := ⟨2, ![1024, 3624]⟩
abbrev S64 : Shape := ⟨1, ![64]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3624 : Shape := ⟨3, ![32, 8, 3624]⟩
abbrev S32x8x512 : Shape := ⟨3, ![32, 8, 512]⟩
abbrev S32x8x256 : Shape := ⟨3, ![32, 8, 256]⟩
abbrev S32x8x24 : Shape := ⟨3, ![32, 8, 24]⟩
abbrev S32x8x128 : Shape := ⟨3, ![32, 8, 128]⟩
abbrev S32x8x16 : Shape := ⟨3, ![32, 8, 16]⟩
abbrev S32x8x768 : Shape := ⟨3, ![32, 8, 768]⟩
abbrev S32x8x40 : Shape := ⟨3, ![32, 8, 40]⟩
abbrev S256x512 : Shape := ⟨2, ![256, 512]⟩
abbrev S256x256 : Shape := ⟨2, ![256, 256]⟩
abbrev S256x768 : Shape := ⟨2, ![256, 768]⟩
abbrev S256x1024 : Shape := ⟨2, ![256, 1024]⟩
abbrev S256x128 : Shape := ⟨2, ![256, 128]⟩

abbrev nBuf : Space → Nat
  | .hbm => 51
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3624, .f32⟩
  | .hbm, ⟨3, _⟩ => ⟨S64, .f32⟩
  | .hbm, ⟨4, _⟩ => ⟨S64, .f32⟩
  | .hbm, ⟨5, _⟩ => ⟨S32x8x1024, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S32x8x3624, .f32⟩
  | .hbm, ⟨22, _⟩ => ⟨S32x8x512, .f32⟩
  | .hbm, ⟨23, _⟩ => ⟨S32x8x256, .f32⟩
  | .hbm, ⟨24, _⟩ => ⟨S32x8x256, .f32⟩
  | .hbm, ⟨25, _⟩ => ⟨S32x8x256, .f32⟩
  | .hbm, ⟨26, _⟩ => ⟨S32x8x24, .f32⟩
  | .hbm, ⟨27, _⟩ => ⟨S32x8x512, .f32⟩
  | .hbm, ⟨28, _⟩ => ⟨S32x8x128, .f32⟩
  | .hbm, ⟨29, _⟩ => ⟨S32x8x128, .f32⟩
  | .hbm, ⟨30, _⟩ => ⟨S32x8x256, .f32⟩
  | .hbm, ⟨31, _⟩ => ⟨S32x8x16, .f32⟩
  | .hbm, ⟨32, _⟩ => ⟨S32x8x256, .f32⟩
  | .hbm, ⟨33, _⟩ => ⟨S32x8x256, .f32⟩
  | .hbm, ⟨34, _⟩ => ⟨S32x8x256, .f32⟩
  | .hbm, ⟨35, _⟩ => ⟨S32x8x256, .f32⟩
  | .hbm, ⟨36, _⟩ => ⟨S32x8x256, .f32⟩
  | .hbm, ⟨37, _⟩ => ⟨S32x8x768, .f32⟩
  | .hbm, ⟨38, _⟩ => ⟨S32x8x1024, .f32⟩
  | .hbm, ⟨39, _⟩ => ⟨S32x8x40, .f32⟩
  | .hbm, ⟨40, _⟩ => ⟨S_, .i32⟩
  | .hbm, ⟨41, _⟩ => ⟨S_, .f32⟩
  | .hbm, ⟨42, _⟩ => ⟨S32x8x128, .f32⟩
  | .hbm, ⟨43, _⟩ => ⟨S256x512, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S256x512, .f32⟩
  | .hbm, ⟨48, _⟩ => ⟨S256x768, .f32⟩
  | .hbm, ⟨49, _⟩ => ⟨S256x1024, .f32⟩
  | .hbm, ⟨50, _⟩ => ⟨S256x128, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel5.lean ====
abbrev S32x8x1024 : Shape := ⟨3, ![32, 8, 1024]⟩
abbrev S32x8x512 : Shape := ⟨3, ![32, 8, 512]⟩
abbrev S32x8x256 : Shape := ⟨3, ![32, 8, 256]⟩
abbrev S32x2x256 : Shape := ⟨3, ![32, 2, 256]⟩
abbrev S3x256 : Shape := ⟨2, ![3, 256]⟩
abbrev S1024x1024 : Shape := ⟨2, ![1024, 1024]⟩
abbrev S1024 : Shape := ⟨1, ![1024]⟩
abbrev S256x1024 : Shape := ⟨2, ![256, 1024]⟩
abbrev S256x512 : Shape := ⟨2, ![256, 512]⟩
abbrev S256x256 : Shape := ⟨2, ![256, 256]⟩
abbrev S1x1024 : Shape := ⟨2, ![1, 1024]⟩
abbrev S8x1024 : Shape := ⟨2, ![8, 1024]⟩
abbrev S32x1x256 : Shape := ⟨3, ![32, 1, 256]⟩
abbrev S1x256 : Shape := ⟨2, ![1, 256]⟩
abbrev S512x1024 : Shape := ⟨2, ![512, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x256, .f32⟩
  | .hbm, ⟨3, _⟩ => ⟨S32x8x1024, .f32⟩
  | .hbm, ⟨4, _⟩ => ⟨S32x2x256, .f32⟩
  | .hbm, ⟨5, _⟩ => ⟨S3x256, .f32⟩
  | .hbm, ⟨6, _⟩ => ⟨S1024x1024, .f32⟩
  | .hbm, ⟨7, _⟩ => ⟨S1024, .f32⟩
  | .hbm, ⟨8, _⟩ => ⟨S256x1024, .f32⟩
  | .hbm, ⟨9, _⟩ => ⟨S256x512, .f32⟩
  | .hbm, ⟨10, _⟩ => ⟨S256x256, .f32⟩
  | .hbm, ⟨11, _⟩ => ⟨S256x1024, .f32⟩
  | .hbm, ⟨12, _⟩ => ⟨S1024x1024, .bf16⟩
  | .hbm, ⟨13, _⟩ => ⟨S1x1024, .f32⟩
  | .hbm, ⟨14, _⟩ => ⟨S256x1024, .f32⟩
  | .hbm, ⟨15, _⟩ => ⟨S32x2x256, .f32⟩
  | .local _ .vmem, ⟨0, _⟩ => ⟨S256x1024, .f32⟩
  | .local _ .vmem, ⟨1, _⟩ => ⟨S256x512, .f32⟩
  | .local _ .vmem, ⟨2, _⟩ => ⟨S256x256, .f32⟩
  | .local _ .vmem, ⟨3, _⟩ => ⟨S256x1024, .f32⟩
  | .local _ .vmem, ⟨4, _⟩ => ⟨S8x1024, .f32⟩
  | .local _ .vmem, ⟨5, _⟩ => ⟨S32x2x256, .f32⟩
  | .local _ .vmem, ⟨6, _⟩ => ⟨S3x256, .f32⟩
  | .local _ .vmem, ⟨7, _⟩ => ⟨S1024x1024, .bf16⟩
  | .local _ .vmem, ⟨8, _⟩ => ⟨S1x1024, .f32⟩
  | .local _ .vmem, ⟨9, _⟩ => ⟨S256x1024, .f32⟩
  | .local _ .vmem, ⟨10, _⟩ => ⟨S32x2x256, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x2x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S32x8x1024 : Shape := ⟨3, ![32, 8, 1024]⟩
abbrev S32x8x512 : Shape := ⟨3, ![32, 8, 512]⟩
abbrev S32x8x256 : Shape := ⟨3, ![32, 8, 256]⟩
abbrev S32x2x256 : Shape := ⟨3, ![32, 2, 256]⟩
abbrev S3x256 : Shape := ⟨2, ![3, 256]⟩
abbrev S1024x1024 : Shape := ⟨2, ![1024, 1024]⟩
abbrev S1024 : Shape := ⟨1, ![1024]⟩
abbrev S32x10x256 : Shape := ⟨3, ![32, 10, 256]⟩
abbrev S1x256 : Shape := ⟨2, ![1, 256]⟩
abbrev S256 : Shape := ⟨1, ![256]⟩
abbrev S1x1x256 : Shape := ⟨3, ![1, 1, 256]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S256x1024 : Shape := ⟨2, ![256, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x256, .f32⟩
  | .hbm, ⟨3, _⟩ => ⟨S32x8x1024, .f32⟩
  | .hbm, ⟨4, _⟩ => ⟨S32x2x256, .f32⟩
  | .hbm, ⟨5, _⟩ => ⟨S3x256, .f32⟩
  | .hbm, ⟨6, _⟩ => ⟨S1024x1024, .f32⟩
  | .hbm, ⟨7, _⟩ => ⟨S1024, .f32⟩
  | .hbm, ⟨8, _⟩ => ⟨S32x8x256, .f32⟩
  | .hbm, ⟨9, _⟩ => ⟨S32x8x256, .f32⟩
  | .hbm, ⟨10, _⟩ => ⟨S32x8x256, .f32⟩
  | .hbm, ⟨11, _⟩ => ⟨S32x8x256, .f32⟩
  | .hbm, ⟨12, _⟩ => ⟨S32x8x256, .f32⟩
  | .hbm, ⟨13, _⟩ => ⟨S32x10x256, .f32⟩
  | .hbm, ⟨14, _⟩ => ⟨S32x8x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S32x8x256, .f32⟩
  | .hbm, ⟨19, _⟩ => ⟨S32x8x256, .f32⟩
  | .hbm, ⟨20, _⟩ => ⟨S_, .f32⟩
  | .hbm, ⟨21, _⟩ => ⟨S32x8x256, .f32⟩
  | .hbm, ⟨22, _⟩ => ⟨S32x8x256, .f32⟩
  | .hbm, ⟨23, _⟩ => ⟨S32x8x256, .f32⟩
  | .hbm, ⟨24, _⟩ => ⟨S1x256, .f32⟩
  | .hbm, ⟨25, _⟩ => ⟨S256, .f32⟩
  | .hbm, ⟨26, _⟩ => ⟨S1x1x256, .f32⟩
  | .hbm, ⟨27, _⟩ => ⟨S32x8x256, .f32⟩
  | .hbm, ⟨28, _⟩ => ⟨S32x8x256, .f32⟩
  | .hbm, ⟨29, _⟩ => ⟨S32x8x256, .f32⟩
  | .hbm, ⟨30, _⟩ => ⟨S32x8x256, .f32⟩
  | .hbm, ⟨31, _⟩ => ⟨S1x256, .f32⟩
  | .hbm, ⟨32, _⟩ => ⟨S256, .f32⟩
  | .hbm, ⟨33, _⟩ => ⟨S1x1x256, .f32⟩
  | .hbm, ⟨34, _⟩ => ⟨S32x8x256, .f32⟩
  | .hbm, ⟨35, _⟩ => ⟨S32x8x256, .f32⟩
  | .hbm, ⟨36, _⟩ => ⟨S32x8x256, .f32⟩
  | .hbm, ⟨37, _⟩ => ⟨S32x2x256, .f32⟩
  | .hbm, ⟨38, _⟩ => ⟨S32x8x256, .f32⟩
  | .hbm, ⟨39, _⟩ => ⟨S32x8x256, .f32⟩
  | .hbm, ⟨40, _⟩ => ⟨S32x8x256, .f32⟩
  | .hbm, ⟨41, _⟩ => ⟨S_, .f32⟩
  | .hbm, ⟨42, _⟩ => ⟨S32x8x256, .f32⟩
  | .hbm, ⟨43, _⟩ => ⟨S32x8x256, .f32⟩
  | .hbm, ⟨44, _⟩ => ⟨S_, .f32⟩
  | .hbm, ⟨45, _⟩ => ⟨S32x8x256, .f32⟩
  | .hbm, ⟨46, _⟩ => ⟨S32x8x256, .f32⟩
  | .hbm, ⟨47, _⟩ => ⟨S32x8x256, .f32⟩
  | .hbm, ⟨48, _⟩ => ⟨S32x8x256, .f32⟩
  | .hbm, ⟨49, _⟩ => ⟨S32x8x1024, .f32⟩
  | .hbm, ⟨50, _⟩ => ⟨S32x8x1024, .f32⟩
  | .hbm, ⟨51, _⟩ => ⟨S32x8x1024, .f32⟩
  | .hbm, ⟨52, _⟩ => ⟨S_, .f32⟩
  | .hbm, ⟨53, _⟩ => ⟨S32x8, .f32⟩
  | .hbm, ⟨54, _⟩ => ⟨S32x8x1, .f32⟩
  | .hbm, ⟨55, _⟩ => ⟨S_, .f32⟩
  | .hbm, ⟨56, _⟩ => ⟨S32x8x1, .f32⟩
  | .hbm, ⟨57, _⟩ => ⟨S32x8x1, .f32⟩
  | .hbm, ⟨58, _⟩ => ⟨S_, .f32⟩
  | .hbm, ⟨59, _⟩ => ⟨S32x8x1, .f32⟩
  | .hbm, ⟨60, _⟩ => ⟨S32x8x1, .f32⟩
  | .hbm, ⟨61, _⟩ => ⟨S32x8x1, .f32⟩
  | .hbm, ⟨62, _⟩ => ⟨S32x8x1024, .f32⟩
  | .hbm, ⟨63, _⟩ => ⟨S32x8x1024, .f32⟩
  | .hbm, ⟨64, _⟩ => ⟨S1x1x1024, .f32⟩
  | .hbm, ⟨65, _⟩ => ⟨S32x8x1024, .f32⟩
  | .hbm, ⟨66, _⟩ => ⟨S32x8x1024, .f32⟩
  | .hbm, ⟨67, _⟩ => ⟨S32x8x1024, .f32⟩
  | .hbm, ⟨68, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel6.lean ====
abbrev S32x8x768 : Shape := ⟨3, ![32, 8, 768]⟩
abbrev S32x8x128 : Shape := ⟨3, ![32, 8, 128]⟩
abbrev S16x128 : Shape := ⟨2, ![16, 128]⟩
abbrev S128 : Shape := ⟨1, ![128]⟩
abbrev S64 : Shape := ⟨1, ![64]⟩
abbrev S32x4x32x64 : Shape := ⟨4, ![32, 4, 32, 64]⟩
abbrev S_ : Shape := ⟨0, ![]⟩
abbrev S128x128 : Shape := ⟨2, ![128, 128]⟩
abbrev S1 : Shape := ⟨1, ![1]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S256x768 : Shape := ⟨2, ![256, 768]⟩
abbrev S256x128 : Shape := ⟨2, ![256, 128]⟩
abbrev S1x128 : Shape := ⟨2, ![1, 128]⟩
abbrev S32x8x256 : Shape := ⟨3, ![32, 8, 256]⟩
abbrev S8x8x768 : Shape := ⟨3, ![8, 8, 768]⟩
abbrev S8x8x128 : Shape := ⟨3, ![8, 8, 128]⟩
abbrev S8x4x32x64 : Shape := ⟨4, ![8, 4, 32, 64]⟩
abbrev S8x8x256 : Shape := ⟨3, ![8, 8, 256]⟩
abbrev S8x256x128 : Shape := ⟨3, ![8, 256, 128]⟩
abbrev S32x128 : Shape := ⟨2, ![32, 128]⟩
abbrev S32x256 : Shape := ⟨2, ![32, 256]⟩
abbrev S256x64 : Shape := ⟨2, ![256, 64]⟩
abbrev S1x4x32x64 : Shape := ⟨4, ![1, 4, 32, 64]⟩
abbrev S4x32x64 : Shape := ⟨3, ![4, 32, 64]⟩
abbrev S128x64 : Shape := ⟨2, ![128, 64]⟩
abbrev S1x256x128 : Shape := ⟨3, ![1, 256, 128]⟩
abbrev S8x8 : Shape := ⟨2, ![8, 8]⟩
abbrev S8x128 : Shape := ⟨2, ![8, 128]⟩
abbrev S256x256 : Shape := ⟨2, ![256, 256]⟩
abbrev S8x32 : Shape := ⟨2, ![8, 32]⟩
abbrev S1x8x128 : Shape := ⟨3, ![1, 8, 128]⟩
abbrev S1x8x768 : Shape := ⟨3, ![1, 8, 768]⟩
abbrev S8x768 : Shape := ⟨2, ![8, 768]⟩
abbrev S8x256 : Shape := ⟨2, ![8, 256]⟩
abbrev S256x8 : Shape := ⟨2, ![256, 8]⟩
abbrev S1x8x256 : Shape := ⟨3, ![1, 8, 256]⟩
abbrev S64x128 : Shape := ⟨2, ![64, 128]⟩

abbrev nBuf : Space → Nat
  | .hbm => 22
  | .vmem => 14
  | .smem => 0
  | _ => 0

abbrev bufTy : (tb : Table) → Fin (tcTables nBuf tb) → BufTy
  | .hbm, ⟨0, _⟩ => ⟨S32x8x768, .f32⟩
  | .hbm, ⟨1, _⟩ => ⟨S32x8x128, .f32⟩
  | .hbm, ⟨2, _⟩ => ⟨S16x128, .f32⟩
  | .hbm, ⟨3, _⟩ => ⟨S128, .f32⟩
  | .hbm, ⟨4, _⟩ => ⟨S64, .f32⟩
  | .hbm, ⟨5, _⟩ => ⟨S32x4x32x64, .f32⟩
  | .hbm, ⟨6, _⟩ => ⟨S_, .f32⟩
  | .hbm, ⟨7, _⟩ => ⟨S128x128, .f32⟩
  | .hbm, ⟨8, _⟩ => ⟨S_, .i32⟩
  | .hbm, ⟨9, _⟩ => ⟨S1, .i32⟩
  | .hbm, ⟨10, _⟩ => ⟨S128x128, .f32⟩
  | .hbm, ⟨11, _⟩ => ⟨S1x64, .f32⟩
  | .hbm, ⟨12, _⟩ => ⟨S1x1x1x64, .f32⟩
  | .hbm, ⟨13, _⟩ => ⟨S1x1x4x64, .f32⟩
  | .hbm, ⟨14, _⟩ => ⟨S1x256, .f32⟩
  | .hbm, ⟨15, _⟩ => ⟨S256x768, .f32⟩
  | .hbm, ⟨16, _⟩ => ⟨S256x128, .f32⟩
  | .hbm, ⟨17, _⟩ => ⟨S1x128, .f32⟩
  | .hbm, ⟨18, _⟩ => ⟨S32x8x768, .f32⟩
  | .hbm, ⟨19, _⟩ => ⟨S32x8x128, .f32⟩
  | .hbm, ⟨20, _⟩ => ⟨S32x8x256, .f32⟩
  | .hbm, ⟨21, _⟩ => ⟨S32x4x32x64, .f32⟩
  | .local _ .vmem, ⟨0, _⟩ => ⟨S8x8x768, .f32⟩
  | .local _ .vmem, ⟨1, _⟩ => ⟨S8x8x768, .f32⟩
  | .local _ .vmem, ⟨2, _⟩ => ⟨S8x8x128, .f32⟩
  | .local _ .vmem, ⟨3, _⟩ => ⟨S8x8x128, .f32⟩
  | .local _ .vmem, ⟨4, _⟩ => ⟨S128x128, .f32⟩
  | .local _ .vmem, ⟨5, _⟩ => ⟨S1x128, .f32⟩
  | .local _ .vmem, ⟨6, _⟩ => ⟨S1x256, .f32⟩
  | .local _ .vmem, ⟨7, _⟩ => ⟨S8x4x32x64, .f32⟩
  | .local _ .vmem, ⟨8, _⟩ => ⟨S8x4x32x64, .f32⟩
  | .local _ .vmem, ⟨9, _⟩ => ⟨S8x8x256, .f32⟩
  | .local _ .vmem, ⟨10, _⟩ => ⟨S8x8x256, .f32⟩
  | .local _ .vmem, ⟨11, _⟩ => ⟨S8x4x32x64, .f32⟩
  | .local _ .vmem, ⟨12, _⟩ => ⟨S8x4x32x64, .f32⟩
  | .local _ .vmem, ⟨13, _⟩ => ⟨S8x256x128, .f32⟩
  | _, _ => ⟨S32x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_536 : BitVec 32 := 0#32
  let v1367 : BitVec 1 := Scalar.cmpi .eq arg1 c0_i32_536
  let v1368 : BitVec 32 := Scalar.extui v1367
  let c0_i32_537 : BitVec 32 := 0#32
  let v1369 : BitVec 1 := Scalar.cmpi .ne v1368 c0_i32_537
  v1369

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x4x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x4x32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S32x8x768 : Shape := ⟨3, ![32, 8, 768]⟩
abbrev S32x8x128 : Shape := ⟨3, ![32, 8, 128]⟩
abbrev S16x128 : Shape := ⟨2, ![16, 128]⟩
abbrev S128 : Shape := ⟨1, ![128]⟩
abbrev S64 : Shape := ⟨1, ![64]⟩
abbrev S32x4x32x64 : Shape := ⟨4, ![32, 4, 32, 64]⟩
abbrev S32x8x256 : Shape := ⟨3, ![32, 8, 256]⟩
abbrev S32x8x4x32 : Shape := ⟨4, ![32, 8, 4, 32]⟩
abbrev S_ : Shape := ⟨0, ![]⟩
abbrev S32x8x4x64 : Shape := ⟨4, ![32, 8, 4, 64]⟩
abbrev S32x8x16 : Shape := ⟨3, ![32, 8, 16]⟩
abbrev S1x1x128 : Shape := ⟨3, ![1, 1, 128]⟩
abbrev S8x8 : Shape := ⟨2, ![8, 8]⟩
abbrev S8x8x1 : Shape := ⟨3, ![8, 8, 1]⟩
abbrev S32x4x8x32 : Shape := ⟨4, ![32, 4, 8, 32]⟩
abbrev S32x4x8x64 : Shape := ⟨4, ![32, 4, 8, 64]⟩
abbrev S32x4x8x1x32 : Shape := ⟨5, ![32, 4, 8, 1, 32]⟩
abbrev S32x4x1x8x32 : Shape := ⟨5, ![32, 4, 1, 8, 32]⟩
abbrev S32x4x8x8x32 : Shape := ⟨5, ![32, 4, 8, 8, 32]⟩
abbrev S32x4x8x8 : Shape := ⟨4, ![32, 4, 8, 8]⟩
abbrev S32x4x1x32 : Shape := ⟨4, ![32, 4, 1, 32]⟩
abbrev S32x4x32 : Shape := ⟨3, ![32, 4, 32]⟩
abbrev S32x4x32x1 : Shape := ⟨4, ![32, 4, 32, 1]⟩
abbrev S32x8x4 : Shape := ⟨3, ![32, 8, 4]⟩
abbrev S32x8x4x1 : Shape := ⟨4, ![32, 8, 4, 1]⟩
abbrev S1x1x1x64 : Shape := ⟨4, ![1, 1, 1, 64]⟩

abbrev nBuf : Space → Nat
  | .hbm => 124
  | .vmem => 0
  | .smem => 0
  | _ => 0

abbrev bufTy : (tb : Table) → Fin (tcTables nBuf tb) → BufTy
  | .hbm, ⟨0, _⟩ => ⟨S32x8x768, .f32⟩
  | .hbm, ⟨1, _⟩ => ⟨S32x8x128, .f32⟩
  | .hbm, ⟨2, _⟩ => ⟨S16x128, .f32⟩
  | .hbm, ⟨3, _⟩ => ⟨S128, .f32⟩
  | .hbm, ⟨4, _⟩ => ⟨S64, .f32⟩
  | .hbm, ⟨5, _⟩ => ⟨S32x4x32x64, .f32⟩
  | .hbm, ⟨6, _⟩ => ⟨S32x8x128, .f32⟩
  | .hbm, ⟨7, _⟩ => ⟨S32x8x128, .f32⟩
  | .hbm, ⟨8, _⟩ => ⟨S32x8x256, .f32⟩
  | .hbm, ⟨9, _⟩ => ⟨S32x8x256, .f32⟩
  | .hbm, ⟨10, _⟩ => ⟨S32x8x4x32, .f32⟩
  | .hbm, ⟨11, _⟩ => ⟨S_, .f32⟩
  | .hbm, ⟨12, _⟩ => ⟨S32x8x4x32, .f32⟩
  | .hbm, ⟨13, _⟩ => ⟨S32x8x4x32, .f32⟩
  | .hbm, ⟨14, _⟩ => ⟨S32x8x4x32, .f32⟩
  | .hbm, ⟨15, _⟩ => ⟨S32x8x4x64, .f32⟩
  | .hbm, ⟨16, _⟩ => ⟨S32x8x16, .f32⟩
  | .hbm, ⟨17, _⟩ => ⟨S32x8x128, .f32⟩
  | .hbm, ⟨18, _⟩ => ⟨S1x1x128, .f32⟩
  | .hbm, ⟨19, _⟩ => ⟨S32x8x128, .f32⟩
  | .hbm, ⟨20, _⟩ => ⟨S32x8x128, .f32⟩
  | .hbm, ⟨21, _⟩ => ⟨S32x8x128, .f32⟩
  | .hbm, ⟨22, _⟩ => ⟨S_, .f32⟩
  | .hbm, ⟨23, _⟩ => ⟨S32x8x128, .f32⟩
  | .hbm, ⟨24, _⟩ => ⟨S32x8x128, .f32⟩
  | .hbm, ⟨25, _⟩ => ⟨S32x8x128, .f32⟩
  | .hbm, ⟨26, _⟩ => ⟨S32x8x128, .f32⟩
  | .hbm, ⟨27, _⟩ => ⟨S32x8x128, .i1⟩
  | .hbm, ⟨28, _⟩ => ⟨S32x8x128, .f32⟩
  | .hbm, ⟨29, _⟩ => ⟨S32x8x128, .f32⟩
  | .hbm, ⟨30, _⟩ => ⟨S32x8x128, .f32⟩
  | .hbm, ⟨31, _⟩ => ⟨S32x8x128, .f32⟩
  | .hbm, ⟨32, _⟩ => ⟨S32x8x128, .f32⟩
  | .hbm, ⟨33, _⟩ => ⟨S32x8x128, .f32⟩
  | .hbm, ⟨34, _⟩ => ⟨S32x8x128, .f32⟩
  | .hbm, ⟨35, _⟩ => ⟨S32x8x128, .f32⟩
  | .hbm, ⟨36, _⟩ => ⟨S32x8x128, .f32⟩
  | .hbm, ⟨37, _⟩ => ⟨S_, .f32⟩
  | .hbm, ⟨38, _⟩ => ⟨S32x8x128, .f32⟩
  | .hbm, ⟨39, _⟩ => ⟨S32x8x128, .f32⟩
  | .hbm, ⟨40, _⟩ => ⟨S32x8x4x32, .f32⟩
  | .hbm, ⟨41, _⟩ => ⟨S_, .i1⟩
  | .hbm, ⟨42, _⟩ => ⟨S8x8, .i1⟩
  | .hbm, ⟨43, _⟩ => ⟨S8x8, .i32⟩
  | .hbm, ⟨44, _⟩ => ⟨S_, .i32⟩
  | .hbm, ⟨45, _⟩ => ⟨S8x8, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S_, .i1⟩
  | .hbm, ⟨50, _⟩ => ⟨S8x8, .i1⟩
  | .hbm, ⟨51, _⟩ => ⟨S8x8, .i1⟩
  | .hbm, ⟨52, _⟩ => ⟨S8x8x1, .i1⟩
  | .hbm, ⟨53, _⟩ => ⟨S32x4x8x32, .f32⟩
  | .hbm, ⟨54, _⟩ => ⟨S32x4x8x32, .f32⟩
  | .hbm, ⟨55, _⟩ => ⟨S32x4x8x64, .f32⟩
  | .hbm, ⟨56, _⟩ => ⟨S32x4x8x32, .f32⟩
  | .hbm, ⟨57, _⟩ => ⟨S_, .f32⟩
  | .hbm, ⟨58, _⟩ => ⟨S_, .f32⟩
  | .hbm, ⟨59, _⟩ => ⟨S32x4x8x32, .f32⟩
  | .hbm, ⟨60, _⟩ => ⟨S32x4x8x32, .f32⟩
  | .hbm, ⟨61, _⟩ => ⟨S32x4x8x32, .f32⟩
  | .hbm, ⟨62, _⟩ => ⟨S32x4x8x64, .f32⟩
  | .hbm, ⟨63, _⟩ => ⟨S32x4x8x1x32, .f32⟩
  | .hbm, ⟨64, _⟩ => ⟨S32x4x1x8x32, .f32⟩
  | .hbm, ⟨65, _⟩ => ⟨S32x4x8x8x32, .f32⟩
  | .hbm, ⟨66, _⟩ => ⟨S32x4x8x8x32, .f32⟩
  | .hbm, ⟨67, _⟩ => ⟨S32x4x8x8x32, .f32⟩
  | .hbm, ⟨68, _⟩ => ⟨S_, .f32⟩
  | .hbm, ⟨69, _⟩ => ⟨S_, .f32⟩
  | .hbm, ⟨70, _⟩ => ⟨S32x4x8x8x32, .i1⟩
  | .hbm, ⟨71, _⟩ => ⟨S32x4x8x8x32, .f32⟩
  | .hbm, ⟨72, _⟩ => ⟨S32x4x8x8x32, .f32⟩
  | .hbm, ⟨73, _⟩ => ⟨S32x4x8x8x32, .f32⟩
  | .hbm, ⟨74, _⟩ => ⟨S32x4x8x1x32, .f32⟩
  | .hbm, ⟨75, _⟩ => ⟨S32x4x1x8x32, .f32⟩
  | .hbm, ⟨76, _⟩ => ⟨S32x4x8x8x32, .f32⟩
  | .hbm, ⟨77, _⟩ => ⟨S32x4x8x8x32, .f32⟩
  | .hbm, ⟨78, _⟩ => ⟨S32x4x8x8x32, .f32⟩
  | .hbm, ⟨79, _⟩ => ⟨S32x4x8x8x32, .f32⟩
  | .hbm, ⟨80, _⟩ => ⟨S_, .f32⟩
  | .hbm, ⟨81, _⟩ => ⟨S32x4x8x8, .f32⟩
  | .hbm, ⟨82, _⟩ => ⟨S32x4x8x64, .f32⟩
  | .hbm, ⟨83, _⟩ => ⟨S32x4x8x64, .f32⟩
  | .hbm, ⟨84, _⟩ => ⟨S32x4x1x32, .f32⟩
  | .hbm, ⟨85, _⟩ => ⟨S32x4x32, .f32⟩
  | .hbm, ⟨86, _⟩ => ⟨S32x4x32, .f32⟩
  | .hbm, ⟨87, _⟩ => ⟨S32x4x32x1, .f32⟩
  | .hbm, ⟨88, _⟩ => ⟨S32x4x32x64, .f32⟩
  | .hbm, ⟨89, _⟩ => ⟨S32x4x32x64, .f32⟩
  | .hbm, ⟨90, _⟩ => ⟨S32x4x8x32, .f32⟩
  | .hbm, ⟨91, _⟩ => ⟨S32x4x8x32, .f32⟩
  | .hbm, ⟨92, _⟩ => ⟨S32x4x8x32, .f32⟩
  | .hbm, ⟨93, _⟩ => ⟨S32x4x8x32, .f32⟩
  | .hbm, ⟨94, _⟩ => ⟨S32x4x32x64, .f32⟩
  | .hbm, ⟨95, _⟩ => ⟨S32x4x32x64, .f32⟩
  | .hbm, ⟨96, _⟩ => ⟨S32x8x4x64, .f32⟩
  | .hbm, ⟨97, _⟩ => ⟨S32x8x4x64, .f32⟩
  | .hbm, ⟨98, _⟩ => ⟨S_, .f32⟩
  | .hbm, ⟨99, _⟩ => ⟨S32x8x4, .f32⟩
  | .hbm, ⟨100, _⟩ => ⟨S32x8x4x1, .f32⟩
  | .hbm, ⟨101, _⟩ => ⟨S_, .f32⟩
  | .hbm, ⟨102, _⟩ => ⟨S32x8x4x1, .f32⟩
  | .hbm, ⟨103, _⟩ => ⟨S32x8x4x1, .f32⟩
  | .hbm, ⟨104, _⟩ => ⟨S_, .f32⟩
  | .hbm, ⟨105, _⟩ => ⟨S32x8x4x1, .f32⟩
  | .hbm, ⟨106, _⟩ => ⟨S32x8x4x1, .f32⟩
  | .hbm, ⟨107, _⟩ => ⟨S32x8x4x1, .f32⟩
  | .hbm, ⟨108, _⟩ => ⟨S32x8x4x64, .f32⟩
  | .hbm, ⟨109, _⟩ => ⟨S32x8x4x64, .f32⟩
  | .hbm, ⟨110, _⟩ => ⟨S1x1x1x64, .f32⟩
  | .hbm, ⟨111, _⟩ => ⟨S32x8x4x64, .f32⟩
  | .hbm, ⟨112, _⟩ => ⟨S32x8x4x64, .f32⟩
  | .hbm, ⟨113, _⟩ => ⟨S32x8x256, .f32⟩
  | .hbm, ⟨114, _⟩ => ⟨S32x8x256, .f32⟩
  | .hbm, ⟨115, _⟩ => ⟨S32x8x256, .f32⟩
  | .hbm, ⟨116, _⟩ => ⟨S_, .f32⟩
  | .hbm, ⟨117, _⟩ => ⟨S32x8x256, .f32⟩
  | .hbm, ⟨118, _⟩ => ⟨S32x8x256, .f32⟩
  | .hbm, ⟨119, _⟩ => ⟨S_, .f32⟩
  | .hbm, ⟨120, _⟩ => ⟨S32x8x256, .f32⟩
  | .hbm, ⟨121, _⟩ => ⟨S32x8x256, .f32⟩
  | .hbm, ⟨122, _⟩ => ⟨S32x8x256, .f32⟩
  | .hbm, ⟨123, _⟩ => ⟨S32x8x256, .f32⟩
  | _, _ => ⟨S32x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_0 : Ref sig .tc := ⟨.hbm, 49, rfl⟩
abbrev main_call1_v5 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call2_call0_cst : Ref sig .tc := ⟨.hbm, 57, rfl⟩
abbrev main_call2_call0_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_1 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_2 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_3 : Ref sig .tc := ⟨.hbm, 98, rfl⟩
abbrev main_v59 : Ref sig .tc := ⟨.hbm, 99, rfl⟩
abbrev main_v60 : Ref sig .tc := ⟨.hbm, 100, rfl⟩
abbrev main_cst_4 : Ref sig .tc := ⟨.hbm, 101, rfl⟩
abbrev main_v61 : Ref sig .tc := ⟨.hbm, 102, rfl⟩
abbrev main_v62 : Ref sig .tc := ⟨.hbm, 103, rfl⟩
abbrev main_cst_5 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v72 : Ref sig .tc := ⟨.hbm, 122, rfl⟩
abbrev main_v73 : Ref sig .tc := ⟨.hbm, 123, rfl⟩

abbrev nD : Nat := 1
abbrev τ : Topo := Topo.v7x

variable {F : FTy → Type} [FloatOps F]
-- ==== Proof.Body.lean ====
/-
  The frame of `KernelIdeal`'s attention call: the kernel body run once at a grid point, through its two loops and both arms of its
  conditional, and the launch made from it. Nothing here names what the kernel leaves in its output: the output window is
  forgotten, and what is concluded is that the program terminates without a fault, leaves its arguments as they were, and ends
  with every semaphore counter at zero.
-/
module

public import proofs.«01_k».proof.Proof.Gen.KernelIdeal.Frame
public import proofs.«01_k».proof.Proof.Gen.KernelIdeal.Loops
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows' staging buffers at a point. -/
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64x128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .f32 := win0_8.stage (cfg0.slots t 8)
abbrev hs0_8 (t : Fin cfg0.N) : (ms0_8 t).IsWhole := hstage0_8 ((cfg0.slots t 8).cast nbuf0_8)

/-- The scratch holding two chunks' scores, whole. -/
abbrev scM : Memref sig .tc .vmem S2x2x512x512 .f32 := Memref.whole cc0_scratch0

/-- The invariant between the grid's points, conjunct by conjunct: the scratch at some contents and the generator register. -/
theorem PhiA_eq (c : Dev nD) :
    (Pipeline.ΦA spec0 c : sProp 𝕄) = iprop(iprop(∃ d, owns (c : Thread nD τ) scM fullShare d) ∗ (∃ r, prngReg c r)) := by
  unfold Pipeline.ΦA; rw [scopedRest0_eq]; simp only [scM, owns_whole]; try rfl

set_option maxHeartbeats 4000000 in
/-- The body's triple at a grid point: from its eight inputs at any contents and its output and scratch at anything, it runs to its
    return, the inputs as they were, the output and the scratch at some contents. -/
theorem kernelRun (c : Dev nD) (i : grid0.Coords) (arg2 : Memref sig .tc .vmem S128x512 .f32) (harg2 : arg2.IsWhole) (arg3 : Memref sig .tc .vmem S128x128 .f32) (harg3 : arg3.IsWhole) (arg4 : Memref sig .tc .vmem S128x512 .f32) (harg4 : arg4.IsWhole) (arg5 : Memref sig .tc .vmem S1x128x256 .f32) (harg5 : arg5.IsWhole) (arg6 : Memref sig .tc .vmem S8192x256 .bf16) (harg6 : arg6.IsWhole) (arg7 : Memref sig .tc .vmem S1x16x128x512 .bf16) (harg7 : arg7.IsWhole) (arg8 : Memref sig .tc .vmem S8192x128 .bf16) (harg8 : arg8.IsWhole) (arg9 : Memref sig .tc .vmem S1x64x128x128 .bf16) (harg9 : arg9.IsWhole)
    (arg10 : Memref sig .tc .vmem S128x512 .f32) (harg10 : arg10.IsWhole) (arg11 : Memref sig .tc .vmem S2x2x512x512 .f32) (harg11 : arg11.IsWhole) (x0 : S128x512.Idx → Elt F .f32) (x1 : S128x128.Idx → Elt F .f32) (x2 : S128x512.Idx → Elt F .f32) (x3 : S1x128x256.Idx → Elt F .f32) (x4 : S8192x256.Idx → Elt F .bf16) (x5 : S1x16x128x512.Idx → Elt F .bf16) (x6 : S8192x128.Idx → Elt F .bf16) (x7 : S1x64x128x128.Idx → Elt F .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)) -∗ K ⟨⟩))
      ⊢ wp frame (wpE (defs₀ (F := F)) Variants.none c none) Set.univ
          (cc0_nsa_prompt i arg2 harg2 arg3 harg3 arg4 harg4 arg5 harg5 arg6 harg6 arg7 harg7 arg8 harg8 arg9 harg9 arg10 harg10 arg11 harg11) K := by
  simp only [cc0_nsa_prompt_eq_skeleton]; unfold cc0_nsa_prompt_skel
  simp only [k0_part29_eq_skeleton]; unfold k0_part29_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d, %f8, -, H8⟩, ⟨%ds, %fs, -, HS⟩, Hk⟩
  by_cases hc : k0_cond1 i = 1#1
  all_goals
    sl_exec (disch := sl_exact hc)
    sl_step
    iapply Hk
    isplitl [H0]
    · iexists f0; isplitr
      · ipureintro; exact hf0
      · iexact H0
    isplitl [H1]
    · iexists f1; isplitr
      · ipureintro; exact hf1
      · iexact H1
    isplitl [H2]
    · iexists f2; isplitr
      · ipureintro; exact hf2
      · iexact H2
    isplitl [H3]
    · iexists f3; isplitr
      · ipureintro; exact hf3
      · iexact H3
    isplitl [H4]
    · iexists f4; isplitr
      · ipureintro; exact hf4
      · iexact H4
    isplitl [H5]
    · iexists f5; isplitr
      · ipureintro; exact hf5
      · iexact H5
    isplitl [H6]
    · iexists f6; isplitr
      · ipureintro; exact hf6
      · iexact H6
    isplitl [H7]
    · iexists f7; isplitr
      · ipureintro; exact hf7
      · iexact H7
    isplitl [H8]
    · iexists _, _; isplitr; swap; · iexact H8
      ipureintro; rfl
    iexists _, _; isplitr; swap; · iexact HS
    ipureintro; rfl

end Cert.KernelIdeal.Hand

end
-- ==== Proof.Run.lean ====
/-
  The launch of `KernelIdeal`'s attention call from its body's triple, and the program's frame.
-/
module

public import proofs.«01_k».proof.Proof.Gen.KernelIdeal.Frame
public import proofs.«01_k».proof.Proof.Gen.KernelIdeal.Loops
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output, window 8, forgotten. -/
def forgets0 : Fin 9 → Bool := fun w => w == 8

/-- The proof data on core `c`: the arrays as the region finds them; each input's block kept; the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, _⟩ => Pipeline.Dat.unnamed (cfg := cfg0) 8 t
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t := before0_0_of m (dats m 0 c) (A_eq m c 0) (fun _ => rfl) t d
theorem before_1 (c : Dev nD) (t : Fin cfg0.N) (d) : (dats m 0 c).before 1 t d = iblk m c 1 t := before0_1_of m (dats m 0 c) (A_eq m c 1) (fun _ => rfl) t d
theorem before_2 (c : Dev nD) (t : Fin cfg0.N) (d) : (dats m 0 c).before 2 t d = iblk m c 2 t := before0_2_of m (dats m 0 c) (A_eq m c 2) (fun _ => rfl) t d
theorem before_3 (c : Dev nD) (t : Fin cfg0.N) (d) : (dats m 0 c).before 3 t d = iblk m c 3 t := before0_3_of m (dats m 0 c) (A_eq m c 3) (fun _ => rfl) t d
theorem before_4 (c : Dev nD) (t : Fin cfg0.N) (d) : (dats m 0 c).before 4 t d = iblk m c 4 t := before0_4_of m (dats m 0 c) (A_eq m c 4) (fun _ => rfl) t d
theorem before_5 (c : Dev nD) (t : Fin cfg0.N) (d) : (dats m 0 c).before 5 t d = iblk m c 5 t := before0_5_of m (dats m 0 c) (A_eq m c 5) (fun _ => rfl) t d
theorem before_6 (c : Dev nD) (t : Fin cfg0.N) (d) : (dats m 0 c).before 6 t d = iblk m c 6 t := before0_6_of m (dats m 0 c) (A_eq m c 6) (fun _ => rfl) t d
theorem before_7 (c : Dev nD) (t : Fin cfg0.N) (d) : (dats m 0 c).before 7 t d = iblk m c 7 t := before0_7_of m (dats m 0 c) (A_eq m c 7) (fun _ => rfl) t d

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare d))
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t)
    ∗ (∃ d, owns (c : Thread nD τ) (ms0_8 t) fullShare d))

set_option maxHeartbeats 4000000 in
/-- The body at a point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, H8⟩
  iapply (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM (Memref.isWhole_whole _) (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option maxHeartbeats 4000000 in
set_option backward.isDefEq.respectTransparency.types false in
/-- Every weakly fair execution of the program terminates, the arrays that are no output as they were, the counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The frame: every weakly fair execution terminates without a fault, the eight arguments end as they were and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
      (h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ)

end Cert.KernelIdeal.Hand

end
-- ==== Proof.ProjBlock.lean ====
/- What one grid point of the input projection computes, block by block: each output of the body, at an index, as the
   product of a normalised row of its block of `x` with a column of the weights. -/
module
public import proofs.«01_k».proof.Proof.Gen.Kernel2Ideal.Frame
public import Idealize.ShloMosaic.Lib.Pointwise
public import Idealize.ShloMosaic.Lib.Pipeline.Value

@[expose] public section

set_option maxRecDepth 16384

noncomputable section

namespace Cert.Proof.ProjBlock

open Cert.Kernel2Ideal Cert.Kernel2Ideal.Gen Idealize.ShloMosaic Idealize.SL.Sem

/-- Row `r` of a block, normalised and scaled, times column `c` of the weights. -/
def prod (x0 : FVec Ideal S512x1024 .f32) (x1 : FVec Ideal S1x1024 .f32) (x2 : FVec Ideal S1024x3712 .bf16)
    (r : Fin 512) (c : Fin 3712) : EReal :=
  ∑ k : Fin 1024, x0 (ix2 r k) * Ideal.rsqrt (Ideal.div (∑ k' : Fin 1024, x0 (ix2 r k') * x0 (ix2 r k'))
    (Ideal.ofBits .f32 0x44800000#32) + Ideal.ofBits .f32 0x358637BD#32) * x1 (ix2 0 k) * x2 (ix2 k c)

theorem hz2 : (![0, 0] : Fin 2 → Nat) = fun _ => 0 := funext fun a => by fin_cases a <;> rfl

theorem hz4 : (![0, 0, 0, 0] : Fin 4 → Nat) = fun _ => 0 := funext fun a => by fin_cases a <;> rfl

variable (i : grid0.Coords) (x0 : FVec Ideal S512x1024 .f32) (x1 : FVec Ideal S1x1024 .f32)
  (x2 : FVec Ideal S1024x3712 .bf16) (x3 : FVec Ideal S64x256 .f32)

theorem out4 (r : Fin 512) (j : Fin 512) :
    out0_4 (F := Ideal) i x0 x1 x2 x3 (ix2 r j) = prod x0 x1 x2 r ⟨0 + (j : ℕ), by omega⟩ := by
  unfold_out out0_4
  rw [View.canon_unit_zero hz2]
  pointwise [k0_pay3, k0_pay2, r0_0, r0_1, r0_2, prod]

theorem out5 (r : Fin 512) (j : Fin 256) :
    out0_5 (F := Ideal) i x0 x1 x2 x3 (ix2 r j) = prod x0 x1 x2 r ⟨512 + j, by omega⟩ := by
  unfold_out out0_5
  rw [View.canon_unit_zero hz2]
  pointwise [k0_pay4, k0_pay2, r0_0, r0_1, r0_4, prod]

theorem out6 (r : Fin 512) (j : Fin 256) :
    out0_6 (F := Ideal) i x0 x1 x2 x3 (ix2 r j) = prod x0 x1 x2 r ⟨768 + j, by omega⟩ := by
  unfold_out out0_6
  rw [View.canon_unit_zero hz2]
  pointwise [k0_pay5, k0_pay2, r0_0, r0_1, r0_5, prod]

theorem out7 (r : Fin 512) (j : Fin 256) :
    out0_7 (F := Ideal) i x0 x1 x2 x3 (ix2 r j) = prod x0 x1 x2 r ⟨1024 + j, by omega⟩ := by
  unfold_out out0_7
  rw [View.canon_unit_zero hz2]
  pointwise [k0_pay6, k0_pay2, r0_0, r0_1, r0_6, prod]

theorem out8 (r : Fin 512) (j : Fin 512) :
    out0_8 (F := Ideal) i x0 x1 x2 x3 (ix2 r j) = prod x0 x1 x2 r ⟨1280 + j, by omega⟩ := by
  unfold_out out0_8
  rw [View.canon_unit_zero hz2]
  pointwise [k0_pay7, k0_pay2, r0_0, r0_1, r0_8, prod]

theorem out9 (r : Fin 512) (j : Fin 768) :
    out0_9 (F := Ideal) i x0 x1 x2 x3 (ix2 r j) = prod x0 x1 x2 r ⟨1792 + j, by omega⟩ := by
  unfold_out out0_9
  rw [View.canon_unit_zero hz2]
  pointwise [k0_pay8, k0_pay2, r0_0, r0_1, r0_9, prod]

theorem out10 (r : Fin 512) (j : Fin 1024) :
    out0_10 (F := Ideal) i x0 x1 x2 x3 (ix2 r j) = prod x0 x1 x2 r ⟨2560 + j, by omega⟩ := by
  unfold_out out0_10
  rw [View.canon_unit_zero hz2]
  pointwise [k0_pay9, k0_pay2, r0_0, r0_1, r0_11, prod]

theorem out11 (r : Fin 512) (j : Fin 128) :
    out0_11 (F := Ideal) i x0 x1 x2 x3 (ix2 r j) = prod x0 x1 x2 r ⟨3584 + j, by omega⟩ := by
  unfold_out out0_11
  rw [View.canon_unit_zero hz2]
  pointwise [k0_pay10, k0_pay2, r0_0, r0_1, r0_12, prod]

theorem out13 (r : Fin 512) (j : Fin 128) :
    out0_13 (F := Ideal) i x0 x1 x2 x3 (ix2 r j) = prod x0 x1 x2 r ⟨1024 + j, by omega⟩ := by
  unfold_out out0_13
  rw [View.canon_unit_zero hz2]
  pointwise [k0_pay12, k0_pay6, k0_pay2, r0_0, r0_1, r0_6, prod]

theorem out14 (d : Fin 128) (r : Fin 512) :
    out0_14 (F := Ideal) i x0 x1 x2 x3 (ix4 0 0 d r) = prod x0 x1 x2 r ⟨768 + (128 + d), by omega⟩ := by
  unfold_out out0_14
  rw [View.canon_unit_zero hz4]
  pointwise [k0_pay14, k0_pay13, k0_pay5, k0_pay2, r0_0, r0_1, r0_5, prod]

theorem out16 (n : Fin 8) (j : Fin 256) :
    out0_16 (F := Ideal) i x0 x1 x2 x3 (ix2 n j)
      = ∑ l : Fin 64, prod x0 x1 x2 ⟨n * 64 + l, by omega⟩ ⟨512 + j, by omega⟩ * x3 (ix2 l j) := by
  unfold_out out0_16
  rw [View.canon_unit_zero hz2]
  pointwise [k0_pay1, k0_pay19, k0_pay4, k0_pay2, r0_0, r0_1, r0_4, r0_19, prod]

/-- What the four stores of the window's transposed values hold, as one function of the block's index. -/
def pieces15 (y : S1x4x128x128.Idx) : EReal :=
  prod x0 x1 x2 ⟨(y 1).val * 128 + (y 3).val, by have h1 : (y 1).val < 4 := (y 1).isLt; have h3 : (y 3).val < 128 := (y 3).isLt; omega⟩
    ⟨1024 + (128 + (y 2).val), by have h2 : (y 2).val < 128 := (y 2).isLt; omega⟩

theorem piece15 (x : S1x1x128x128.Idx) :
    k0_pay15 (k0_pay22 (F := Ideal) i x0 x1 x2 x3) x = pieces15 x0 x1 x2 (r0_15.emb x) := by
  have h : ∀ (d s : Fin 128), k0_pay15 (k0_pay22 (F := Ideal) i x0 x1 x2 x3) (ix4 0 0 d s)
      = prod x0 x1 x2 ⟨s, by omega⟩ ⟨1024 + (128 + d), by omega⟩ := by
    intro d s
    pointwise [k0_pay15, k0_pay22, k0_pay6, k0_pay2, r0_0, r0_1, r0_6, prod]
  obtain ⟨a, b, d, s, rfl⟩ : ∃ a b d s, x = ix4 a b d s := ⟨x 0, x 1, x 2, x 3, eq_ix4 x⟩
  rw [Subsingleton.elim a 0, Subsingleton.elim b 0, h]
  refine congrArg₂ (prod x0 x1 x2) (Fin.ext ?_) (Fin.ext ?_)
  · show s.val = (0 + 1 * 0) * 128 + (0 + 1 * s.val)
    omega
  · show 1024 + (128 + d.val) = 1024 + (128 + (0 + 1 * d.val))
    omega

theorem piece16 (x : S1x1x128x128.Idx) :
    k0_pay16 (k0_pay22 (F := Ideal) i x0 x1 x2 x3) x = pieces15 x0 x1 x2 (r0_16.emb x) := by
  have h : ∀ (d s : Fin 128), k0_pay16 (k0_pay22 (F := Ideal) i x0 x1 x2 x3) (ix4 0 0 d s)
      = prod x0 x1 x2 ⟨128 + s, by omega⟩ ⟨1024 + (128 + d), by omega⟩ := by
    intro d s
    pointwise [k0_pay16, k0_pay22, k0_pay6, k0_pay2, r0_0, r0_1, r0_6, prod]
  obtain ⟨a, b, d, s, rfl⟩ : ∃ a b d s, x = ix4 a b d s := ⟨x 0, x 1, x 2, x 3, eq_ix4 x⟩
  rw [Subsingleton.elim a 0, Subsingleton.elim b 0, h]
  refine congrArg₂ (prod x0 x1 x2) (Fin.ext ?_) (Fin.ext ?_)
  · show 128 + s.val = (1 + 1 * 0) * 128 + (0 + 1 * s.val)
    omega
  · show 1024 + (128 + d.val) = 1024 + (128 + (0 + 1 * d.val))
    omega

theorem piece17 (x : S1x1x128x128.Idx) :
    k0_pay17 (k0_pay22 (F := Ideal) i x0 x1 x2 x3) x = pieces15 x0 x1 x2 (r0_17.emb x) := by
  have h : ∀ (d s : Fin 128), k0_pay17 (k0_pay22 (F := Ideal) i x0 x1 x2 x3) (ix4 0 0 d s)
      = prod x0 x1 x2 ⟨256 + s, by omega⟩ ⟨1024 + (128 + d), by omega⟩ := by
    intro d s
    pointwise [k0_pay17, k0_pay22, k0_pay6, k0_pay2, r0_0, r0_1, r0_6, prod]
  obtain ⟨a, b, d, s, rfl⟩ : ∃ a b d s, x = ix4 a b d s := ⟨x 0, x 1, x 2, x 3, eq_ix4 x⟩
  rw [Subsingleton.elim a 0, Subsingleton.elim b 0, h]
  refine congrArg₂ (prod x0 x1 x2) (Fin.ext ?_) (Fin.ext ?_)
  · show 256 + s.val = (2 + 1 * 0) * 128 + (0 + 1 * s.val)
    omega
  · show 1024 + (128 + d.val) = 1024 + (128 + (0 + 1 * d.val))
    omega

theorem piece18 (x : S1x1x128x128.Idx) :
    k0_pay18 (k0_pay22 (F := Ideal) i x0 x1 x2 x3) x = pieces15 x0 x1 x2 (r0_18.emb x) := by
  have h : ∀ (d s : Fin 128), k0_pay18 (k0_pay22 (F := Ideal) i x0 x1 x2 x3) (ix4 0 0 d s)
      = prod x0 x1 x2 ⟨384 + s, by omega⟩ ⟨1024 + (128 + d), by omega⟩ := by
    intro d s
    pointwise [k0_pay18, k0_pay22, k0_pay6, k0_pay2, r0_0, r0_1, r0_6, prod]
  obtain ⟨a, b, d, s, rfl⟩ : ∃ a b d s, x = ix4 a b d s := ⟨x 0, x 1, x 2, x 3, eq_ix4 x⟩
  rw [Subsingleton.elim a 0, Subsingleton.elim b 0, h]
  refine congrArg₂ (prod x0 x1 x2) (Fin.ext ?_) (Fin.ext ?_)
  · show 384 + s.val = (3 + 1 * 0) * 128 + (0 + 1 * s.val)
    omega
  · show 1024 + (128 + d.val) = 1024 + (128 + (0 + 1 * d.val))
    omega

theorem out15 (p : Fin 4) (d s : Fin 128) :
    out0_15 (F := Ideal) i x0 x1 x2 x3 (ix4 0 p d s)
      = prod x0 x1 x2 ⟨p * 128 + s, by omega⟩ ⟨1024 + (128 + d), by omega⟩ := by
  unfold out0_15
  refine View.canon_apply_of_pieces (Val := Elt Ideal) (pieces15 x0 x1 x2) _ ?_ _ (cover0_15 _ _ _ _ _)
  intro q hq x
  simp only [List.mem_cons, List.not_mem_nil, or_false] at hq
  rcases hq with rfl | rfl | rfl | rfl
  · exact piece18 i x0 x1 x2 x3 x
  · exact piece17 i x0 x1 x2 x3 x
  · exact piece16 i x0 x1 x2 x3 x
  · exact piece15 i x0 x1 x2 x3 x

end Cert.Proof.ProjBlock
-- ==== Proof.ProjMask.lean ====
/- The block's keys beside the one-hot of the block that each row lies in. -/
module
public import proofs.«01_k».proof.Proof.ProjBlock
public import Idealize.ShloMosaic.Lib.WordCmp
@[expose] public section
set_option maxRecDepth 16384
noncomputable section
namespace Cert.Proof.ProjBlock
open Cert.Kernel2Ideal Cert.Kernel2Ideal.Gen Idealize.ShloMosaic Idealize.SL.Sem
variable (i : grid0.Coords) (x0 : FVec Ideal S512x1024 .f32) (x1 : FVec Ideal S1x1024 .f32)
  (x2 : FVec Ideal S1024x3712 .bf16) (x3 : FVec Ideal S64x256 .f32)

/-- The word that the body computes for the first block of a grid point: eight blocks a point, sixteen points a sequence. -/
theorem base_word : ∀ n : Fin 32, Scalar.muli
              (Scalar.select
                (Scalar.andi
                  (Scalar.xori
                    (Scalar.cmpi CmpIPredicate.slt
                      (Scalar.remsi (BitVec.ofNat 32 n.val)
                        (Scalar.select (Scalar.cmpi CmpIPredicate.eq 16#32 0#32) 1#32 16#32))
                      0#32)
                    (Scalar.cmpi CmpIPredicate.slt (Scalar.select (Scalar.cmpi CmpIPredicate.eq 16#32 0#32) 1#32 16#32)
                      0#32))
                  (Scalar.cmpi CmpIPredicate.ne
                    (Scalar.remsi (BitVec.ofNat 32 n.val)
                      (Scalar.select (Scalar.cmpi CmpIPredicate.eq 16#32 0#32) 1#32 16#32))
                    0#32))
                (Scalar.addi
                  (Scalar.remsi (BitVec.ofNat 32 n.val)
                    (Scalar.select (Scalar.cmpi CmpIPredicate.eq 16#32 0#32) 1#32 16#32))
                  (Scalar.select (Scalar.cmpi CmpIPredicate.eq 16#32 0#32) 1#32 16#32))
                (Scalar.remsi (BitVec.ofNat 32 n.val)
                  (Scalar.select (Scalar.cmpi CmpIPredicate.eq 16#32 0#32) 1#32 16#32)))
              8#32 = BitVec.ofNat 32 (8 * (n.val % 16)) := by decide +kernel

/-- The word that the body computes for a row's block among those eight. -/
theorem row_word : ∀ r : Fin 512, Scalar.select
              (IntOp.andi
                (IntOp.cmpi CmpIPredicate.ne
                  (IntOp.subi (BitVec.setWidth 32 (IntOp.cmpi CmpIPredicate.sgt (BitVec.ofNat 32 r.val) 0#32))
                    (BitVec.setWidth 32 (IntOp.cmpi CmpIPredicate.slt (BitVec.ofNat 32 r.val) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 r.val) 64#32) 0#32))
              (IntOp.subi (IntOp.divsi ArithUnit.vector (BitVec.ofNat 32 r.val) 64#32) 1#32)
              (IntOp.divsi ArithUnit.vector (BitVec.ofNat 32 r.val) 64#32) = BitVec.ofNat 32 (r.val / 64) := by decide +kernel

theorem mask_word (a b : ℕ) (ha : a < 4096) (hb : b < 4096) (n : ℕ) (hn : n < 4096) (x y : EReal) :
    Scalar.select (IntOp.cmpi CmpIPredicate.eq (BitVec.ofNat 32 n) (IntOp.addi (BitVec.ofNat 32 a) (BitVec.ofNat 32 b))) x y
      = if n = a + b then x else y := by
  have h : IntOp.addi (BitVec.ofNat 32 a) (BitVec.ofNat 32 b) = BitVec.ofNat 32 (a + b) := (BitVec.ofNat_add a b).symm
  rw [h, WordCmp.cmpi_eq_eq]
  by_cases e : n = a + b
  · subst e; simp [Scalar.select]
  · have : BitVec.ofNat 32 n ≠ BitVec.ofNat 32 (a + b) := by
      intro q; apply e
      have := congrArg BitVec.toNat q
      simp only [BitVec.toNat_ofNat] at this
      omega
    simp [Scalar.select, this, e]

theorem out12 (r : Fin 512) (j : Fin 256) :
    out0_12 (F := Ideal) i x0 x1 x2 x3 (ix2 r j)
      = if h : j.val < 128 then prod x0 x1 x2 r ⟨768 + j, by omega⟩
        else if j.val - 128 = 8 * ((i 0).val % 16) + r / 64 then 1 else 0 := by
  unfold_out out0_12
  rw [View.canon_unit_zero hz2]
  pointwise [k0_pay11, k0_pay5, k0_pay2, r0_0, r0_1, r0_5, prod]
  have hb := base_word (i 0)
  have hr := row_word r
  rw [hb, hr, mask_word _ _ (by omega) (by omega) _ (by omega)]

end Cert.Proof.ProjBlock
-- ==== Proof.ProjArr.lean ====
/- What the input projection's arrays hold after the run: every element is a product of a normalised row of `x` with a
   column of the weights as the host lays them out. -/
module
public import proofs.«01_k».proof.Proof.ProjMask
public import proofs.«01_k».proof.Proof.Gen.Kernel2Ideal.Value
public import Idealize.ShloMosaic.Lib.StableHlo.ReadAt

@[expose] public section

set_option maxRecDepth 16384

noncomputable section

namespace Cert.Proof.ProjArr

open Cert.Kernel2Ideal Cert.Kernel2Ideal.Gen Cert.Kernel2Ideal.Value Cert.Proof.ProjBlock Idealize.ShloMosaic
open Idealize.ShloMosaic.TcCoe Idealize.SL.Sem

variable (m : (ℓ : Loc nD τ sig) → Buf (Elt Ideal) ℓ)

/-- The weights as the kernel's host code lays them out: the groups of columns permuted and padded by zeros. -/
def wcat (w : FVec Ideal S1024x3624 .f32) : FVec Ideal S1024x3712 .bf16 :=
  truncf .bf16 (concatenate S1024x3712 1 [⟨S1024x1280, extractStridedSlice S1024x1280 ![0, 0] w slices_S1024x3624_S1024x1280_0_0⟩,
    ⟨S1024x512, extractStridedSlice S1024x512 ![0, 1304] w slices_S1024x3624_S1024x512_0_1304⟩,
    ⟨S1024x512, extractStridedSlice S1024x512 ![0, 1816] w slices_S1024x3624_S1024x512_0_1816⟩,
    ⟨S1024x256, extractStridedSlice S1024x256 ![0, 2344] w slices_S1024x3624_S1024x256_0_2344⟩,
    ⟨S1024x1024, extractStridedSlice S1024x1024 ![0, 2600] w slices_S1024x3624_S1024x1024_0_2600⟩,
    ⟨S1024x24, extractStridedSlice S1024x24 ![0, 1280] w slices_S1024x3624_S1024x24_0_1280⟩,
    ⟨S1024x16, extractStridedSlice S1024x16 ![0, 2328] w slices_S1024x3624_S1024x16_0_2328⟩,
    ⟨S1024x88, broadcastInDim S1024x88 ![] bcast_S_S1024x88 (constant (F := Ideal) S_ .f32 0x00000000#32)⟩]
    concatenates_S1024x1280_S1024x512_S1024x512_S1024x256_S1024x1024_S1024x24_S1024x16_S1024x88_S1024x3712_d1) bitsLt_bf16_f32

/-- The kernel's region finds its weights so laid out. -/
theorem V_w (c : Dev nD) : V m c main_v21 = wcat (m ((c.tc : Thread nD τ).loc main_arg2)) := by
  unfold V hostOps0
  simp only [StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- Row `R` of the tokens, both batches one after the other, normalised and scaled. -/
def hrow (x : FVec Ideal S2x8192x1024 .f32) (g : FVec Ideal S1024 .f32) (R : Fin 16384) (k : Fin 1024) : EReal :=
  x (ix3 ⟨R / 8192, by omega⟩ ⟨R % 8192, by omega⟩ k)
    * Ideal.rsqrt (Ideal.div (∑ k' : Fin 1024, x (ix3 ⟨R / 8192, by omega⟩ ⟨R % 8192, by omega⟩ k')
        * x (ix3 ⟨R / 8192, by omega⟩ ⟨R % 8192, by omega⟩ k'))
      (Ideal.ofBits .f32 0x44800000#32) + Ideal.ofBits .f32 0x358637BD#32) * g (ix1 k)

/-- That row times column `c` of the weights as laid out. -/
def kcol (x : FVec Ideal S2x8192x1024 .f32) (g : FVec Ideal S1024 .f32) (w : FVec Ideal S1024x3624 .f32)
    (R : Fin 16384) (c : Fin 3712) : EReal := ∑ k : Fin 1024, hrow x g R k * wcat w (ix2 k c)

theorem V_x (c : Dev nD) (R : Fin 16384) (k : Fin 1024) : V m c main_v10 (ix2 R k)
    = m ((c.tc : Thread nD τ).loc main_arg0) (ix3 ⟨R / 8192, by omega⟩ ⟨R % 8192, by omega⟩ k) := by
  unfold V hostOps0
  after_reads_at

theorem V_g (c : Dev nD) (k : Fin 1024) : V m c main_v11 (ix2 0 k) = m ((c.tc : Thread nD τ).loc main_arg1) (ix1 k) := by
  unfold V hostOps0
  after_reads_at

theorem V_wc (c : Dev nD) (l : Fin 64) (j : Fin 256) : V m c main_v9 (ix2 l j)
    = if j.val < 128 then m ((c.tc : Thread nD τ).loc main_arg3) (ix1 l) else m ((c.tc : Thread nD τ).loc main_arg4) (ix1 l) := by
  unfold V hostOps0
  after_reads_at
  rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

theorem tlt (t : Fin cfg0.N) : t.val < 32 := t.isLt

theorem blk0 (c : Dev nD) (t : Fin cfg0.N) (r : Fin 512) (k : Fin 1024) :
    (iblk m c 0 t : FVec Ideal S512x1024 .f32) (ix2 r k)
      = V m c main_v10 (ix2 ⟨512 * t.val + r.val, by have := tlt t; omega⟩ k) := by
  obtain ⟨e0, e1⟩ := idx0 t
  show V m c main_v10 (((cfg0.win 0).blk t).view.emb (ix2 r k)) = _
  refine congrArg (V m c main_v10) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (c : Dev nD) (t : Fin cfg0.N) (k : Fin 1024) :
    (iblk m c 1 t : FVec Ideal S1x1024 .f32) (ix2 0 k) = V m c main_v11 (ix2 0 k) := by
  obtain ⟨e0, e1⟩ := idx1 t
  show V m c main_v11 (((cfg0.win 1).blk t).view.emb (ix2 0 k)) = _
  refine congrArg (V m c main_v11) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem blk2 (c : Dev nD) (t : Fin cfg0.N) (k : Fin 1024) (j : Fin 3712) :
    (iblk m c 2 t : FVec Ideal S1024x3712 .bf16) (ix2 k j) = V m c main_v21 (ix2 k j) := by
  obtain ⟨e0, e1⟩ := idx2 t
  show V m c main_v21 (((cfg0.win 2).blk t).view.emb (ix2 k j)) = _
  refine congrArg (V m c main_v21) (funext fun a => Fin.ext ?_)
  match a with
  | ⟨0, _⟩ => show win0_2.index t (0 : Fin 2) * 1024 + 1 * k.val = k.val; omega
  | ⟨1, _⟩ => show win0_2.index t (1 : Fin 2) * 3712 + 1 * j.val = j.val; omega

theorem blk3 (c : Dev nD) (t : Fin cfg0.N) (k : Fin 64) (j : Fin 256) :
    (iblk m c 3 t : FVec Ideal S64x256 .f32) (ix2 k j) = V m c main_v9 (ix2 k j) := by
  obtain ⟨e0, e1⟩ := idx3 t
  show V m c main_v9 (((cfg0.win 3).blk t).view.emb (ix2 k j)) = _
  refine congrArg (V m c main_v9) (funext fun a => Fin.ext ?_)
  match a with
  | ⟨0, _⟩ => show win0_3.index t (0 : Fin 2) * 64 + 1 * k.val = k.val; omega
  | ⟨1, _⟩ => show win0_3.index t (1 : Fin 2) * 256 + 1 * j.val = j.val; omega

/-- A block's product is the product of the token's row. -/
theorem prod_blk (c : Dev nD) (t : Fin cfg0.N) (r : Fin 512) (j : Fin 3712) :
    prod (iblk m c 0 t) (iblk m c 1 t) (iblk m c 2 t) r j
      = kcol (m ((c.tc : Thread nD τ).loc main_arg0)) (m ((c.tc : Thread nD τ).loc main_arg1))
          (m ((c.tc : Thread nD τ).loc main_arg2)) ⟨512 * t.val + r.val, by have := tlt t; omega⟩ j := by
  unfold prod kcol hrow
  simp only [blk0, blk1, blk2]
  have hx := V_x m c ⟨512 * t.val + r.val, by have := tlt t; omega⟩
  have hg := V_g m c
  have hw := V_w m c
  refine Finset.sum_congr rfl fun k _ => ?_
  rw [hw]
  refine congrArg₂ (· * ·) (congrArg₂ (· * ·) (congrArg₂ (· * ·) (hx k) ?_) (hg k)) rfl
  exact congrArg Ideal.rsqrt (congrArg (· + _) (congrArg (Ideal.div · _)
    (Finset.sum_congr rfl fun k' _ => congrArg₂ (· * ·) (hx k') (hx k'))))

theorem idx4 : ∀ t : Fin cfg0.N, win0_4.index t (0 : Fin 2) = t.val ∧ win0_4.index t (1 : Fin 2) = 0 :=
  (by decide +kernel : ∀ t : Fin grid0.N, _)

theorem emb4 (t : Fin cfg0.N) (r : Fin 512) (j : Fin 512) : ((cfg0.win 4).blk t).view.emb (ix2 r j)
    = ix2 (⟨512 * t.val + r.val, by have := tlt t; omega⟩ : Fin 16384) j := by
  obtain ⟨e0, e1⟩ := idx4 t
  refine funext fun a => Fin.ext ?_
  match a with
  | ⟨0, _⟩ => show win0_4.index t (0 : Fin 2) * 512 + 1 * r.val = 512 * t.val + r.val; omega
  | ⟨1, _⟩ => show win0_4.index t (1 : Fin 2) * 512 + 1 * j.val = j.val; omega

theorem at4 (c : Dev nD) (t : Fin cfg0.N) (r : Fin 512) (j : Fin 512) :
    out0_4 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨0 + j.val, by omega⟩ := by
  refine (out4 (grid0.coords t) (iblk m c 0 t) (iblk m c 1 t) (iblk m c 2 t) (iblk m c 3 t) r j).trans ?_
  exact prod_blk m c t r _

/-- Output 0 of the projection, as a function of its arguments. -/
def G4 (x : FVec Ideal S2x8192x1024 .f32) (g : FVec Ideal S1024 .f32) (w : FVec Ideal S1024x3624 .f32) :
    FVec Ideal S16384x512 .f32 := fun i => kcol (x) (g)
        (w) (i 0) ⟨0 + (i 1).val, by have hi : (i 1).val < 512 := (i 1).isLt; omega⟩

theorem flushed4_eq (c : Dev nD) (t : Fin cfg0.N) : (dats m 0 c).flushed 4 t
    = ((cfg0.win 4).blk t).view.read (Elt Ideal) (G4 (m ((c.tc : Thread nD τ).loc main_arg0)) (m ((c.tc : Thread nD τ).loc main_arg1)) (m ((c.tc : Thread nD τ).loc main_arg2))) := by
  rw [flushed4]
  refine funext fun y => ?_
  obtain ⟨r, j, rfl⟩ : ∃ (r : Fin 512) (j : Fin 512), y = ix2 r j := ⟨y 0, y 1, eq_ix2 y⟩
  refine (at4 m c t r j).trans ?_
  exact (congrArg (G4 (m ((c.tc : Thread nD τ).loc main_arg0)) (m ((c.tc : Thread nD τ).loc main_arg1)) (m ((c.tc : Thread nD τ).loc main_arg2))) (emb4 t r j)).symm

theorem covered4 (i : S16384x512.Idx) :
    ∃ t : Fin cfg0.N, (cfg0.win 4).flush t = true ∧ i ∈ ((cfg0.win 4).blk t).view.set := by
  obtain ⟨R, j, rfl⟩ : ∃ (R : Fin 16384) (j : Fin 512), i = ix2 R j := ⟨i 0, i 1, eq_ix2 i⟩
  have ht : R.val / 512 < cfg0.N := by show R.val / 512 < 32; omega
  have h := ((cfg0.win 4).blk ⟨R.val / 512, ht⟩).view.emb_mem_set (ix2 ⟨R.val % 512, by omega⟩ j)
  rw [emb4 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_4 _, hR ▸ h⟩

theorem final4 (c : Dev nD) : (dats m 0 c).arrAt 4 cfg0.N = G4 (m ((c.tc : Thread nD τ).loc main_arg0)) (m ((c.tc : Thread nD τ).loc main_arg1)) (m ((c.tc : Thread nD τ).loc main_arg2)) :=
  (dats m 0 c).arrAt_eq_of_cover 4 _ (fun t _ => flushed4_eq m c t) covered4

theorem idx5 : ∀ t : Fin cfg0.N, win0_5.index t (0 : Fin 2) = t.val ∧ win0_5.index t (1 : Fin 2) = 0 :=
  (by decide +kernel : ∀ t : Fin grid0.N, _)

theorem emb5 (t : Fin cfg0.N) (r : Fin 512) (j : Fin 256) : ((cfg0.win 5).blk t).view.emb (ix2 r j)
    = ix2 (⟨512 * t.val + r.val, by have := tlt t; omega⟩ : Fin 16384) j := by
  obtain ⟨e0, e1⟩ := idx5 t
  refine funext fun a => Fin.ext ?_
  match a with
  | ⟨0, _⟩ => show win0_5.index t (0 : Fin 2) * 512 + 1 * r.val = 512 * t.val + r.val; omega
  | ⟨1, _⟩ => show win0_5.index t (1 : Fin 2) * 256 + 1 * j.val = j.val; omega

theorem at5 (c : Dev nD) (t : Fin cfg0.N) (r : Fin 512) (j : Fin 256) :
    out0_5 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨512 + j.val, by omega⟩ := by
  refine (out5 (grid0.coords t) (iblk m c 0 t) (iblk m c 1 t) (iblk m c 2 t) (iblk m c 3 t) r j).trans ?_
  exact prod_blk m c t r _

/-- Output 1 of the projection, as a function of its arguments. -/
def G5 (x : FVec Ideal S2x8192x1024 .f32) (g : FVec Ideal S1024 .f32) (w : FVec Ideal S1024x3624 .f32) :
    FVec Ideal S16384x256 .f32 := fun i => kcol (x) (g)
        (w) (i 0) ⟨512 + (i 1).val, by have hi : (i 1).val < 256 := (i 1).isLt; omega⟩

theorem flushed5_eq (c : Dev nD) (t : Fin cfg0.N) : (dats m 0 c).flushed 5 t
    = ((cfg0.win 5).blk t).view.read (Elt Ideal) (G5 (m ((c.tc : Thread nD τ).loc main_arg0)) (m ((c.tc : Thread nD τ).loc main_arg1)) (m ((c.tc : Thread nD τ).loc main_arg2))) := by
  rw [flushed5]
  refine funext fun y => ?_
  obtain ⟨r, j, rfl⟩ : ∃ (r : Fin 512) (j : Fin 256), y = ix2 r j := ⟨y 0, y 1, eq_ix2 y⟩
  refine (at5 m c t r j).trans ?_
  exact (congrArg (G5 (m ((c.tc : Thread nD τ).loc main_arg0)) (m ((c.tc : Thread nD τ).loc main_arg1)) (m ((c.tc : Thread nD τ).loc main_arg2))) (emb5 t r j)).symm

theorem covered5 (i : S16384x256.Idx) :
    ∃ t : Fin cfg0.N, (cfg0.win 5).flush t = true ∧ i ∈ ((cfg0.win 5).blk t).view.set := by
  obtain ⟨R, j, rfl⟩ : ∃ (R : Fin 16384) (j : Fin 256), i = ix2 R j := ⟨i 0, i 1, eq_ix2 i⟩
  have ht : R.val / 512 < cfg0.N := by show R.val / 512 < 32; omega
  have h := ((cfg0.win 5).blk ⟨R.val / 512, ht⟩).view.emb_mem_set (ix2 ⟨R.val % 512, by omega⟩ j)
  rw [emb5 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_5 _, hR ▸ h⟩

theorem final5 (c : Dev nD) : (dats m 0 c).arrAt 5 cfg0.N = G5 (m ((c.tc : Thread nD τ).loc main_arg0)) (m ((c.tc : Thread nD τ).loc main_arg1)) (m ((c.tc : Thread nD τ).loc main_arg2)) :=
  (dats m 0 c).arrAt_eq_of_cover 5 _ (fun t _ => flushed5_eq m c t) covered5

theorem idx6 : ∀ t : Fin cfg0.N, win0_6.index t (0 : Fin 2) = t.val ∧ win0_6.index t (1 : Fin 2) = 0 :=
  (by decide +kernel : ∀ t : Fin grid0.N, _)

theorem emb6 (t : Fin cfg0.N) (r : Fin 512) (j : Fin 256) : ((cfg0.win 6).blk t).view.emb (ix2 r j)
    = ix2 (⟨512 * t.val + r.val, by have := tlt t; omega⟩ : Fin 16384) j := by
  obtain ⟨e0, e1⟩ := idx6 t
  refine funext fun a => Fin.ext ?_
  match a with
  | ⟨0, _⟩ => show win0_6.index t (0 : Fin 2) * 512 + 1 * r.val = 512 * t.val + r.val; omega
  | ⟨1, _⟩ => show win0_6.index t (1 : Fin 2) * 256 + 1 * j.val = j.val; omega

theorem at6 (c : Dev nD) (t : Fin cfg0.N) (r : Fin 512) (j : Fin 256) :
    out0_6 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨768 + j.val, by omega⟩ := by
  refine (out6 (grid0.coords t) (iblk m c 0 t) (iblk m c 1 t) (iblk m c 2 t) (iblk m c 3 t) r j).trans ?_
  exact prod_blk m c t r _

/-- Output 2 of the projection, as a function of its arguments. -/
def G6 (x : FVec Ideal S2x8192x1024 .f32) (g : FVec Ideal S1024 .f32) (w : FVec Ideal S1024x3624 .f32) :
    FVec Ideal S16384x256 .f32 := fun i => kcol (x) (g)
        (w) (i 0) ⟨768 + (i 1).val, by have hi : (i 1).val < 256 := (i 1).isLt; omega⟩

theorem flushed6_eq (c : Dev nD) (t : Fin cfg0.N) : (dats m 0 c).flushed 6 t
    = ((cfg0.win 6).blk t).view.read (Elt Ideal) (G6 (m ((c.tc : Thread nD τ).loc main_arg0)) (m ((c.tc : Thread nD τ).loc main_arg1)) (m ((c.tc : Thread nD τ).loc main_arg2))) := by
  rw [flushed6]
  refine funext fun y => ?_
  obtain ⟨r, j, rfl⟩ : ∃ (r : Fin 512) (j : Fin 256), y = ix2 r j := ⟨y 0, y 1, eq_ix2 y⟩
  refine (at6 m c t r j).trans ?_
  exact (congrArg (G6 (m ((c.tc : Thread nD τ).loc main_arg0)) (m ((c.tc : Thread nD τ).loc main_arg1)) (m ((c.tc : Thread nD τ).loc main_arg2))) (emb6 t r j)).symm

theorem covered6 (i : S16384x256.Idx) :
    ∃ t : Fin cfg0.N, (cfg0.win 6).flush t = true ∧ i ∈ ((cfg0.win 6).blk t).view.set := by
  obtain ⟨R, j, rfl⟩ : ∃ (R : Fin 16384) (j : Fin 256), i = ix2 R j := ⟨i 0, i 1, eq_ix2 i⟩
  have ht : R.val / 512 < cfg0.N := by show R.val / 512 < 32; omega
  have h := ((cfg0.win 6).blk ⟨R.val / 512, ht⟩).view.emb_mem_set (ix2 ⟨R.val % 512, by omega⟩ j)
  rw [emb6 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_6 _, hR ▸ h⟩

theorem final6 (c : Dev nD) : (dats m 0 c).arrAt 6 cfg0.N = G6 (m ((c.tc : Thread nD τ).loc main_arg0)) (m ((c.tc : Thread nD τ).loc main_arg1)) (m ((c.tc : Thread nD τ).loc main_arg2)) :=
  (dats m 0 c).arrAt_eq_of_cover 6 _ (fun t _ => flushed6_eq m c t) covered6

theorem idx7 : ∀ t : Fin cfg0.N, win0_7.index t (0 : Fin 2) = t.val ∧ win0_7.index t (1 : Fin 2) = 0 :=
  (by decide +kernel : ∀ t : Fin grid0.N, _)

theorem emb7 (t : Fin cfg0.N) (r : Fin 512) (j : Fin 256) : ((cfg0.win 7).blk t).view.emb (ix2 r j)
    = ix2 (⟨512 * t.val + r.val, by have := tlt t; omega⟩ : Fin 16384) j := by
  obtain ⟨e0, e1⟩ := idx7 t
  refine funext fun a => Fin.ext ?_
  match a with
  | ⟨0, _⟩ => show win0_7.index t (0 : Fin 2) * 512 + 1 * r.val = 512 * t.val + r.val; omega
  | ⟨1, _⟩ => show win0_7.index t (1 : Fin 2) * 256 + 1 * j.val = j.val; omega

theorem at7 (c : Dev nD) (t : Fin cfg0.N) (r : Fin 512) (j : Fin 256) :
    out0_7 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨1024 + j.val, by omega⟩ := by
  refine (out7 (grid0.coords t) (iblk m c 0 t) (iblk m c 1 t) (iblk m c 2 t) (iblk m c 3 t) r j).trans ?_
  exact prod_blk m c t r _

/-- Output 3 of the projection, as a function of its arguments. -/
def G7 (x : FVec Ideal S2x8192x1024 .f32) (g : FVec Ideal S1024 .f32) (w : FVec Ideal S1024x3624 .f32) :
    FVec Ideal S16384x256 .f32 := fun i => kcol (x) (g)
        (w) (i 0) ⟨1024 + (i 1).val, by have hi : (i 1).val < 256 := (i 1).isLt; omega⟩

theorem flushed7_eq (c : Dev nD) (t : Fin cfg0.N) : (dats m 0 c).flushed 7 t
    = ((cfg0.win 7).blk t).view.read (Elt Ideal) (G7 (m ((c.tc : Thread nD τ).loc main_arg0)) (m ((c.tc : Thread nD τ).loc main_arg1)) (m ((c.tc : Thread nD τ).loc main_arg2))) := by
  rw [flushed7]
  refine funext fun y => ?_
  obtain ⟨r, j, rfl⟩ : ∃ (r : Fin 512) (j : Fin 256), y = ix2 r j := ⟨y 0, y 1, eq_ix2 y⟩
  refine (at7 m c t r j).trans ?_
  exact (congrArg (G7 (m ((c.tc : Thread nD τ).loc main_arg0)) (m ((c.tc : Thread nD τ).loc main_arg1)) (m ((c.tc : Thread nD τ).loc main_arg2))) (emb7 t r j)).symm

theorem covered7 (i : S16384x256.Idx) :
    ∃ t : Fin cfg0.N, (cfg0.win 7).flush t = true ∧ i ∈ ((cfg0.win 7).blk t).view.set := by
  obtain ⟨R, j, rfl⟩ : ∃ (R : Fin 16384) (j : Fin 256), i = ix2 R j := ⟨i 0, i 1, eq_ix2 i⟩
  have ht : R.val / 512 < cfg0.N := by show R.val / 512 < 32; omega
  have h := ((cfg0.win 7).blk ⟨R.val / 512, ht⟩).view.emb_mem_set (ix2 ⟨R.val % 512, by omega⟩ j)
  rw [emb7 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_7 _, hR ▸ h⟩

theorem final7 (c : Dev nD) : (dats m 0 c).arrAt 7 cfg0.N = G7 (m ((c.tc : Thread nD τ).loc main_arg0)) (m ((c.tc : Thread nD τ).loc main_arg1)) (m ((c.tc : Thread nD τ).loc main_arg2)) :=
  (dats m 0 c).arrAt_eq_of_cover 7 _ (fun t _ => flushed7_eq m c t) covered7

theorem idx8 : ∀ t : Fin cfg0.N, win0_8.index t (0 : Fin 2) = t.val ∧ win0_8.index t (1 : Fin 2) = 0 :=
  (by decide +kernel : ∀ t : Fin grid0.N, _)

theorem emb8 (t : Fin cfg0.N) (r : Fin 512) (j : Fin 512) : ((cfg0.win 8).blk t).view.emb (ix2 r j)
    = ix2 (⟨512 * t.val + r.val, by have := tlt t; omega⟩ : Fin 16384) j := by
  obtain ⟨e0, e1⟩ := idx8 t
  refine funext fun a => Fin.ext ?_
  match a with
  | ⟨0, _⟩ => show win0_8.index t (0 : Fin 2) * 512 + 1 * r.val = 512 * t.val + r.val; omega
  | ⟨1, _⟩ => show win0_8.index t (1 : Fin 2) * 512 + 1 * j.val = j.val; omega

theorem at8 (c : Dev nD) (t : Fin cfg0.N) (r : Fin 512) (j : Fin 512) :
    out0_8 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨1280 + j.val, by omega⟩ := by
  refine (out8 (grid0.coords t) (iblk m c 0 t) (iblk m c 1 t) (iblk m c 2 t) (iblk m c 3 t) r j).trans ?_
  exact prod_blk m c t r _

/-- Output 4 of the projection, as a function of its arguments. -/
def G8 (x : FVec Ideal S2x8192x1024 .f32) (g : FVec Ideal S1024 .f32) (w : FVec Ideal S1024x3624 .f32) :
    FVec Ideal S16384x512 .f32 := fun i => kcol (x) (g)
        (w) (i 0) ⟨1280 + (i 1).val, by have hi : (i 1).val < 512 := (i 1).isLt; omega⟩

theorem flushed8_eq (c : Dev nD) (t : Fin cfg0.N) : (dats m 0 c).flushed 8 t
    = ((cfg0.win 8).blk t).view.read (Elt Ideal) (G8 (m ((c.tc : Thread nD τ).loc main_arg0)) (m ((c.tc : Thread nD τ).loc main_arg1)) (m ((c.tc : Thread nD τ).loc main_arg2))) := by
  rw [flushed8]
  refine funext fun y => ?_
  obtain ⟨r, j, rfl⟩ : ∃ (r : Fin 512) (j : Fin 512), y = ix2 r j := ⟨y 0, y 1, eq_ix2 y⟩
  refine (at8 m c t r j).trans ?_
  exact (congrArg (G8 (m ((c.tc : Thread nD τ).loc main_arg0)) (m ((c.tc : Thread nD τ).loc main_arg1)) (m ((c.tc : Thread nD τ).loc main_arg2))) (emb8 t r j)).symm

theorem covered8 (i : S16384x512.Idx) :
    ∃ t : Fin cfg0.N, (cfg0.win 8).flush t = true ∧ i ∈ ((cfg0.win 8).blk t).view.set := by
  obtain ⟨R, j, rfl⟩ : ∃ (R : Fin 16384) (j : Fin 512), i = ix2 R j := ⟨i 0, i 1, eq_ix2 i⟩
  have ht : R.val / 512 < cfg0.N := by show R.val / 512 < 32; omega
  have h := ((cfg0.win 8).blk ⟨R.val / 512, ht⟩).view.emb_mem_set (ix2 ⟨R.val % 512, by omega⟩ j)
  rw [emb8 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_8 _, hR ▸ h⟩

theorem final8 (c : Dev nD) : (dats m 0 c).arrAt 8 cfg0.N = G8 (m ((c.tc : Thread nD τ).loc main_arg0)) (m ((c.tc : Thread nD τ).loc main_arg1)) (m ((c.tc : Thread nD τ).loc main_arg2)) :=
  (dats m 0 c).arrAt_eq_of_cover 8 _ (fun t _ => flushed8_eq m c t) covered8

theorem idx9 : ∀ t : Fin cfg0.N, win0_9.index t (0 : Fin 2) = t.val ∧ win0_9.index t (1 : Fin 2) = 0 :=
  (by decide +kernel : ∀ t : Fin grid0.N, _)

theorem emb9 (t : Fin cfg0.N) (r : Fin 512) (j : Fin 768) : ((cfg0.win 9).blk t).view.emb (ix2 r j)
    = ix2 (⟨512 * t.val + r.val, by have := tlt t; omega⟩ : Fin 16384) j := by
  obtain ⟨e0, e1⟩ := idx9 t
  refine funext fun a => Fin.ext ?_
  match a with
  | ⟨0, _⟩ => show win0_9.index t (0 : Fin 2) * 512 + 1 * r.val = 512 * t.val + r.val; omega
  | ⟨1, _⟩ => show win0_9.index t (1 : Fin 2) * 768 + 1 * j.val = j.val; omega

theorem at9 (c : Dev nD) (t : Fin cfg0.N) (r : Fin 512) (j : Fin 768) :
    out0_9 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨1792 + j.val, by omega⟩ := by
  refine (out9 (grid0.coords t) (iblk m c 0 t) (iblk m c 1 t) (iblk m c 2 t) (iblk m c 3 t) r j).trans ?_
  exact prod_blk m c t r _

/-- Output 5 of the projection, as a function of its arguments. -/
def G9 (x : FVec Ideal S2x8192x1024 .f32) (g : FVec Ideal S1024 .f32) (w : FVec Ideal S1024x3624 .f32) :
    FVec Ideal S16384x768 .f32 := fun i => kcol (x) (g)
        (w) (i 0) ⟨1792 + (i 1).val, by have hi : (i 1).val < 768 := (i 1).isLt; omega⟩

theorem flushed9_eq (c : Dev nD) (t : Fin cfg0.N) : (dats m 0 c).flushed 9 t
    = ((cfg0.win 9).blk t).view.read (Elt Ideal) (G9 (m ((c.tc : Thread nD τ).loc main_arg0)) (m ((c.tc : Thread nD τ).loc main_arg1)) (m ((c.tc : Thread nD τ).loc main_arg2))) := by
  rw [flushed9]
  refine funext fun y => ?_
  obtain ⟨r, j, rfl⟩ : ∃ (r : Fin 512) (j : Fin 768), y = ix2 r j := ⟨y 0, y 1, eq_ix2 y⟩
  refine (at9 m c t r j).trans ?_
  exact (congrArg (G9 (m ((c.tc : Thread nD τ).loc main_arg0)) (m ((c.tc : Thread nD τ).loc main_arg1)) (m ((c.tc : Thread nD τ).loc main_arg2))) (emb9 t r j)).symm

theorem covered9 (i : S16384x768.Idx) :
    ∃ t : Fin cfg0.N, (cfg0.win 9).flush t = true ∧ i ∈ ((cfg0.win 9).blk t).view.set := by
  obtain ⟨R, j, rfl⟩ : ∃ (R : Fin 16384) (j : Fin 768), i = ix2 R j := ⟨i 0, i 1, eq_ix2 i⟩
  have ht : R.val / 512 < cfg0.N := by show R.val / 512 < 32; omega
  have h := ((cfg0.win 9).blk ⟨R.val / 512, ht⟩).view.emb_mem_set (ix2 ⟨R.val % 512, by omega⟩ j)
  rw [emb9 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_9 _, hR ▸ h⟩

theorem final9 (c : Dev nD) : (dats m 0 c).arrAt 9 cfg0.N = G9 (m ((c.tc : Thread nD τ).loc main_arg0)) (m ((c.tc : Thread nD τ).loc main_arg1)) (m ((c.tc : Thread nD τ).loc main_arg2)) :=
  (dats m 0 c).arrAt_eq_of_cover 9 _ (fun t _ => flushed9_eq m c t) covered9

theorem idx10 : ∀ t : Fin cfg0.N, win0_10.index t (0 : Fin 2) = t.val ∧ win0_10.index t (1 : Fin 2) = 0 :=
  (by decide +kernel : ∀ t : Fin grid0.N, _)

theorem emb10 (t : Fin cfg0.N) (r : Fin 512) (j : Fin 1024) : ((cfg0.win 10).blk t).view.emb (ix2 r j)
    = ix2 (⟨512 * t.val + r.val, by have := tlt t; omega⟩ : Fin 16384) j := by
  obtain ⟨e0, e1⟩ := idx10 t
  refine funext fun a => Fin.ext ?_
  match a with
  | ⟨0, _⟩ => show win0_10.index t (0 : Fin 2) * 512 + 1 * r.val = 512 * t.val + r.val; omega
  | ⟨1, _⟩ => show win0_10.index t (1 : Fin 2) * 1024 + 1 * j.val = j.val; omega

theorem at10 (c : Dev nD) (t : Fin cfg0.N) (r : Fin 512) (j : Fin 1024) :
    out0_10 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨2560 + j.val, by omega⟩ := by
  refine (out10 (grid0.coords t) (iblk m c 0 t) (iblk m c 1 t) (iblk m c 2 t) (iblk m c 3 t) r j).trans ?_
  exact prod_blk m c t r _

/-- Output 6 of the projection, as a function of its arguments. -/
def G10 (x : FVec Ideal S2x8192x1024 .f32) (g : FVec Ideal S1024 .f32) (w : FVec Ideal S1024x3624 .f32) :
    FVec Ideal S16384x1024 .f32 := fun i => kcol (x) (g)
        (w) (i 0) ⟨2560 + (i 1).val, by have hi : (i 1).val < 1024 := (i 1).isLt; omega⟩

theorem flushed10_eq (c : Dev nD) (t : Fin cfg0.N) : (dats m 0 c).flushed 10 t
    = ((cfg0.win 10).blk t).view.read (Elt Ideal) (G10 (m ((c.tc : Thread nD τ).loc main_arg0)) (m ((c.tc : Thread nD τ).loc main_arg1)) (m ((c.tc : Thread nD τ).loc main_arg2))) := by
  rw [flushed10]
  refine funext fun y => ?_
  obtain ⟨r, j, rfl⟩ : ∃ (r : Fin 512) (j : Fin 1024), y = ix2 r j := ⟨y 0, y 1, eq_ix2 y⟩
  refine (at10 m c t r j).trans ?_
  exact (congrArg (G10 (m ((c.tc : Thread nD τ).loc main_arg0)) (m ((c.tc : Thread nD τ).loc main_arg1)) (m ((c.tc : Thread nD τ).loc main_arg2))) (emb10 t r j)).symm

theorem covered10 (i : S16384x1024.Idx) :
    ∃ t : Fin cfg0.N, (cfg0.win 10).flush t = true ∧ i ∈ ((cfg0.win 10).blk t).view.set := by
  obtain ⟨R, j, rfl⟩ : ∃ (R : Fin 16384) (j : Fin 1024), i = ix2 R j := ⟨i 0, i 1, eq_ix2 i⟩
  have ht : R.val / 512 < cfg0.N := by show R.val / 512 < 32; omega
  have h := ((cfg0.win 10).blk ⟨R.val / 512, ht⟩).view.emb_mem_set (ix2 ⟨R.val % 512, by omega⟩ j)
  rw [emb10 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_10 _, hR ▸ h⟩

theorem final10 (c : Dev nD) : (dats m 0 c).arrAt 10 cfg0.N = G10 (m ((c.tc : Thread nD τ).loc main_arg0)) (m ((c.tc : Thread nD τ).loc main_arg1)) (m ((c.tc : Thread nD τ).loc main_arg2)) :=
  (dats m 0 c).arrAt_eq_of_cover 10 _ (fun t _ => flushed10_eq m c t) covered10

theorem idx11 : ∀ t : Fin cfg0.N, win0_11.index t (0 : Fin 2) = t.val ∧ win0_11.index t (1 : Fin 2) = 0 :=
  (by decide +kernel : ∀ t : Fin grid0.N, _)

theorem emb11 (t : Fin cfg0.N) (r : Fin 512) (j : Fin 128) : ((cfg0.win 11).blk t).view.emb (ix2 r j)
    = ix2 (⟨512 * t.val + r.val, by have := tlt t; omega⟩ : Fin 16384) j := by
  obtain ⟨e0, e1⟩ := idx11 t
  refine funext fun a => Fin.ext ?_
  match a with
  | ⟨0, _⟩ => show win0_11.index t (0 : Fin 2) * 512 + 1 * r.val = 512 * t.val + r.val; omega
  | ⟨1, _⟩ => show win0_11.index t (1 : Fin 2) * 128 + 1 * j.val = j.val; omega

theorem at11 (c : Dev nD) (t : Fin cfg0.N) (r : Fin 512) (j : Fin 128) :
    out0_11 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨3584 + j.val, by omega⟩ := by
  refine (out11 (grid0.coords t) (iblk m c 0 t) (iblk m c 1 t) (iblk m c 2 t) (iblk m c 3 t) r j).trans ?_
  exact prod_blk m c t r _

/-- Output 7 of the projection, as a function of its arguments. -/
def G11 (x : FVec Ideal S2x8192x1024 .f32) (g : FVec Ideal S1024 .f32) (w : FVec Ideal S1024x3624 .f32) :
    FVec Ideal S16384x128 .f32 := fun i => kcol (x) (g)
        (w) (i 0) ⟨3584 + (i 1).val, by have hi : (i 1).val < 128 := (i 1).isLt; omega⟩

theorem flushed11_eq (c : Dev nD) (t : Fin cfg0.N) : (dats m 0 c).flushed 11 t
    = ((cfg0.win 11).blk t).view.read (Elt Ideal) (G11 (m ((c.tc : Thread nD τ).loc main_arg0)) (m ((c.tc : Thread nD τ).loc main_arg1)) (m ((c.tc : Thread nD τ).loc main_arg2))) := by
  rw [flushed11]
  refine funext fun y => ?_
  obtain ⟨r, j, rfl⟩ : ∃ (r : Fin 512) (j : Fin 128), y = ix2 r j := ⟨y 0, y 1, eq_ix2 y⟩
  refine (at11 m c t r j).trans ?_
  exact (congrArg (G11 (m ((c.tc : Thread nD τ).loc main_arg0)) (m ((c.tc : Thread nD τ).loc main_arg1)) (m ((c.tc : Thread nD τ).loc main_arg2))) (emb11 t r j)).symm

theorem covered11 (i : S16384x128.Idx) :
    ∃ t : Fin cfg0.N, (cfg0.win 11).flush t = true ∧ i ∈ ((cfg0.win 11).blk t).view.set := by
  obtain ⟨R, j, rfl⟩ : ∃ (R : Fin 16384) (j : Fin 128), i = ix2 R j := ⟨i 0, i 1, eq_ix2 i⟩
  have ht : R.val / 512 < cfg0.N := by show R.val / 512 < 32; omega
  have h := ((cfg0.win 11).blk ⟨R.val / 512, ht⟩).view.emb_mem_set (ix2 ⟨R.val % 512, by omega⟩ j)
  rw [emb11 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_11 _, hR ▸ h⟩

theorem final11 (c : Dev nD) : (dats m 0 c).arrAt 11 cfg0.N = G11 (m ((c.tc : Thread nD τ).loc main_arg0)) (m ((c.tc : Thread nD τ).loc main_arg1)) (m ((c.tc : Thread nD τ).loc main_arg2)) :=
  (dats m 0 c).arrAt_eq_of_cover 11 _ (fun t _ => flushed11_eq m c t) covered11

theorem coord0 : ∀ t : Fin cfg0.N, ((grid0.coords t) 0).val = t.val := (by decide +kernel : ∀ t : Fin grid0.N, _)

theorem idx12 : ∀ t : Fin cfg0.N, win0_12.index t (0 : Fin 2) = t.val ∧ win0_12.index t (1 : Fin 2) = 0 :=
  (by decide +kernel : ∀ t : Fin grid0.N, _)

theorem emb12 (t : Fin cfg0.N) (r : Fin 512) (j : Fin 256) : ((cfg0.win 12).blk t).view.emb (ix2 r j)
    = ix2 (⟨512 * t.val + r.val, by have := tlt t; omega⟩ : Fin 16384) j := by
  obtain ⟨e0, e1⟩ := idx12 t
  refine funext fun a => Fin.ext ?_
  match a with
  | ⟨0, _⟩ => show win0_12.index t (0 : Fin 2) * 512 + 1 * r.val = 512 * t.val + r.val; omega
  | ⟨1, _⟩ => show win0_12.index t (1 : Fin 2) * 256 + 1 * j.val = j.val; omega

theorem at12 (c : Dev nD) (t : Fin cfg0.N) (r : Fin 512) (j : Fin 256) :
    out0_12 (F := Ideal) (grid0.coords t) (iblk m c 0 t) (iblk m c 1 t) (iblk m c 2 t) (iblk m c 3 t) (ix2 r j)
      = if h : j.val < 128 then kcol (m ((c.tc : Thread nD τ).loc main_arg0)) (m ((c.tc : Thread nD τ).loc main_arg1))
        (m ((c.tc : Thread nD τ).loc main_arg2)) ⟨512 * t.val + r.val, by have := tlt t; omega⟩ ⟨768 + j.val, by omega⟩
        else if j.val - 128 = (512 * t.val + r.val) % 8192 / 64 then 1 else 0 := by
  refine (out12 (grid0.coords t) (iblk m c 0 t) (iblk m c 1 t) (iblk m c 2 t) (iblk m c 3 t) r j).trans ?_
  have h0 : ((grid0.coords t) 0).val = t.val := coord0 _
  by_cases hj : j.val < 128
  · rw [dif_pos hj, dif_pos hj]
    exact prod_blk m c t r _
  · rw [dif_neg hj, dif_neg hj, h0]
    have := tlt t
    exact if_congr (by omega) rfl rfl

/-- Output 8 of the projection, as a function of its arguments. -/
def G12 (x : FVec Ideal S2x8192x1024 .f32) (g : FVec Ideal S1024 .f32) (w : FVec Ideal S1024x3624 .f32) :
    FVec Ideal S16384x256 .bf16 := fun i => if h : (i 1).val < 128 then kcol (x) (g)
        (w) (i 0) ⟨768 + (i 1).val, by have hi : (i 1).val < 256 := (i 1).isLt; omega⟩
        else if (i 1).val - 128 = (i 0).val % 8192 / 64 then 1 else 0

theorem flushed12_eq (c : Dev nD) (t : Fin cfg0.N) : (dats m 0 c).flushed 12 t
    = ((cfg0.win 12).blk t).view.read (Elt Ideal) (G12 (m ((c.tc : Thread nD τ).loc main_arg0)) (m ((c.tc : Thread nD τ).loc main_arg1)) (m ((c.tc : Thread nD τ).loc main_arg2))) := by
  rw [flushed12]
  refine funext fun y => ?_
  obtain ⟨r, j, rfl⟩ : ∃ (r : Fin 512) (j : Fin 256), y = ix2 r j := ⟨y 0, y 1, eq_ix2 y⟩
  refine (at12 m c t r j).trans ?_
  exact (congrArg (G12 (m ((c.tc : Thread nD τ).loc main_arg0)) (m ((c.tc : Thread nD τ).loc main_arg1)) (m ((c.tc : Thread nD τ).loc main_arg2))) (emb12 t r j)).symm

theorem covered12 (i : S16384x256.Idx) :
    ∃ t : Fin cfg0.N, (cfg0.win 12).flush t = true ∧ i ∈ ((cfg0.win 12).blk t).view.set := by
  obtain ⟨R, j, rfl⟩ : ∃ (R : Fin 16384) (j : Fin 256), i = ix2 R j := ⟨i 0, i 1, eq_ix2 i⟩
  have ht : R.val / 512 < cfg0.N := by show R.val / 512 < 32; omega
  have h := ((cfg0.win 12).blk ⟨R.val / 512, ht⟩).view.emb_mem_set (ix2 ⟨R.val % 512, by omega⟩ j)
  rw [emb12 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_12 _, hR ▸ h⟩

theorem final12 (c : Dev nD) : (dats m 0 c).arrAt 12 cfg0.N = G12 (m ((c.tc : Thread nD τ).loc main_arg0)) (m ((c.tc : Thread nD τ).loc main_arg1)) (m ((c.tc : Thread nD τ).loc main_arg2)) :=
  (dats m 0 c).arrAt_eq_of_cover 12 _ (fun t _ => flushed12_eq m c t) covered12

theorem idx13 : ∀ t : Fin cfg0.N, win0_13.index t (0 : Fin 2) = t.val ∧ win0_13.index t (1 : Fin 2) = 0 :=
  (by decide +kernel : ∀ t : Fin grid0.N, _)

theorem emb13 (t : Fin cfg0.N) (r : Fin 512) (j : Fin 128) : ((cfg0.win 13).blk t).view.emb (ix2 r j)
    = ix2 (⟨512 * t.val + r.val, by have := tlt t; omega⟩ : Fin 16384) j := by
  obtain ⟨e0, e1⟩ := idx13 t
  refine funext fun a => Fin.ext ?_
  match a with
  | ⟨0, _⟩ => show win0_13.index t (0 : Fin 2) * 512 + 1 * r.val = 512 * t.val + r.val; omega
  | ⟨1, _⟩ => show win0_13.index t (1 : Fin 2) * 128 + 1 * j.val = j.val; omega

theorem at13 (c : Dev nD) (t : Fin cfg0.N) (r : Fin 512) (j : Fin 128) :
    out0_13 (F := Ideal) (grid0.coords t) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨512 * t.val + r.val, by have := tlt t; omega⟩ ⟨1024 + j.val, by omega⟩ := by
  refine (out13 (grid0.coords t) (iblk m c 0 t) (iblk m c 1 t) (iblk m c 2 t) (iblk m c 3 t) r j).trans ?_
  exact prod_blk m c t r _

/-- Output 9 of the projection, as a function of its arguments. -/
def G13 (x : FVec Ideal S2x8192x1024 .f32) (g : FVec Ideal S1024 .f32) (w : FVec Ideal S1024x3624 .f32) :
    FVec Ideal S16384x128 .bf16 := fun i => kcol (x) (g)
        (w) (i 0) ⟨1024 + (i 1).val, by have hi : (i 1).val < 128 := (i 1).isLt; omega⟩

theorem flushed13_eq (c : Dev nD) (t : Fin cfg0.N) : (dats m 0 c).flushed 13 t
    = ((cfg0.win 13).blk t).view.read (Elt Ideal) (G13 (m ((c.tc : Thread nD τ).loc main_arg0)) (m ((c.tc : Thread nD τ).loc main_arg1)) (m ((c.tc : Thread nD τ).loc main_arg2))) := by
  rw [flushed13]
  refine funext fun y => ?_
  obtain ⟨r, j, rfl⟩ : ∃ (r : Fin 512) (j : Fin 128), y = ix2 r j := ⟨y 0, y 1, eq_ix2 y⟩
  refine (at13 m c t r j).trans ?_
  exact (congrArg (G13 (m ((c.tc : Thread nD τ).loc main_arg0)) (m ((c.tc : Thread nD τ).loc main_arg1)) (m ((c.tc : Thread nD τ).loc main_arg2))) (emb13 t r j)).symm

theorem covered13 (i : S16384x128.Idx) :
    ∃ t : Fin cfg0.N, (cfg0.win 13).flush t = true ∧ i ∈ ((cfg0.win 13).blk t).view.set := by
  obtain ⟨R, j, rfl⟩ : ∃ (R : Fin 16384) (j : Fin 128), i = ix2 R j := ⟨i 0, i 1, eq_ix2 i⟩
  have ht : R.val / 512 < cfg0.N := by show R.val / 512 < 32; omega
  have h := ((cfg0.win 13).blk ⟨R.val / 512, ht⟩).view.emb_mem_set (ix2 ⟨R.val % 512, by omega⟩ j)
  rw [emb13 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_13 _, hR ▸ h⟩

theorem final13 (c : Dev nD) : (dats m 0 c).arrAt 13 cfg0.N = G13 (m ((c.tc : Thread nD τ).loc main_arg0)) (m ((c.tc : Thread nD τ).loc main_arg1)) (m ((c.tc : Thread nD τ).loc main_arg2)) :=
  (dats m 0 c).arrAt_eq_of_cover 13 _ (fun t _ => flushed13_eq m c t) covered13

end Cert.Proof.ProjArr
-- ==== Proof.ProjArr2.lean ====
/- What the input projection's transposed values and compressed blocks hold after the run. -/
module
public import proofs.«01_k».proof.Proof.ProjArr

@[expose] public section

set_option maxRecDepth 16384

noncomputable section

namespace Cert.Proof.ProjArr

open Cert.Kernel2Ideal Cert.Kernel2Ideal.Gen Cert.Kernel2Ideal.Value Cert.Proof.ProjBlock Idealize.ShloMosaic
open Idealize.ShloMosaic.TcCoe Idealize.SL.Sem

variable (m : (ℓ : Loc nD τ sig) → Buf (Elt Ideal) ℓ)

/-- Output 10 of the projection: the values of the selected branch, transposed within pieces of 512 tokens. -/
def G14 (x : FVec Ideal S2x8192x1024 .f32) (g : FVec Ideal S1024 .f32) (w : FVec Ideal S1024x3624 .f32) :
    FVec Ideal S2x16x128x512 .bf16 := fun i =>
  kcol x g w ⟨8192 * (i 0).val + (512 * (i 1).val + (i 3).val), by
      have h0 : (i 0).val < 2 := (i 0).isLt
      have h1 : (i 1).val < 16 := (i 1).isLt
      have h3 : (i 3).val < 512 := (i 3).isLt
      omega⟩
    ⟨768 + (128 + (i 2).val), by have h2 : (i 2).val < 128 := (i 2).isLt; omega⟩

theorem idx14 : ∀ t : Fin cfg0.N, win0_14.index t (0 : Fin 4) = t.val / 16 ∧ win0_14.index t (1 : Fin 4) = t.val % 16
    ∧ win0_14.index t (2 : Fin 4) = 0 ∧ win0_14.index t (3 : Fin 4) = 0 :=
  (by decide +kernel : ∀ t : Fin grid0.N, _)

theorem emb14 (t : Fin cfg0.N) (p : Fin 1) (d : Fin 128) (r : Fin 512) : ((cfg0.win 14).blk t).view.emb (ix4 0 p d r)
    = ix4 (⟨t.val / 16, by have := tlt t; omega⟩ : Fin 2) (⟨1 * (t.val % 16) + p.val, by omega⟩ : Fin 16) d r := by
  obtain ⟨e0, e1, e2, e3⟩ := idx14 t
  refine funext fun a => Fin.ext ?_
  match a with
  | ⟨0, _⟩ => show win0_14.index t (0 : Fin 4) * 1 + 1 * 0 = t.val / 16; omega
  | ⟨1, _⟩ => show win0_14.index t (1 : Fin 4) * 1 + 1 * p.val = 1 * (t.val % 16) + p.val; omega
  | ⟨2, _⟩ => show win0_14.index t (2 : Fin 4) * 128 + 1 * d.val = d.val; omega
  | ⟨3, _⟩ => show win0_14.index t (3 : Fin 4) * 512 + 1 * r.val = r.val; omega

theorem flushed14_eq (c : Dev nD) (t : Fin cfg0.N) : (dats m 0 c).flushed 14 t
    = ((cfg0.win 14).blk t).view.read (Elt Ideal) (G14 (m ((c.tc : Thread nD τ).loc main_arg0)) (m ((c.tc : Thread nD τ).loc main_arg1)) (m ((c.tc : Thread nD τ).loc main_arg2))) := by
  rw [flushed14]
  refine funext fun y => ?_
  obtain ⟨a, p, d, r, rfl⟩ : ∃ (a : Fin 1) (p : Fin 1) (d : Fin 128) (r : Fin 512), y = ix4 a p d r :=
    ⟨y 0, y 1, y 2, y 3, eq_ix4 y⟩
  obtain rfl : a = 0 := Subsingleton.elim a 0
  obtain rfl : p = 0 := Subsingleton.elim p 0
  refine ((out14 (grid0.coords t) (iblk m c 0 t) (iblk m c 1 t) (iblk m c 2 t) (iblk m c 3 t) d r).trans
    (prod_blk m c t _ _)).trans ?_
  refine Eq.trans ?_ (congrArg (G14 (m ((c.tc : Thread nD τ).loc main_arg0)) (m ((c.tc : Thread nD τ).loc main_arg1)) (m ((c.tc : Thread nD τ).loc main_arg2))) (emb14 t 0 d r)).symm
  refine congrArg₂ (kcol (m ((c.tc : Thread nD τ).loc main_arg0)) (m ((c.tc : Thread nD τ).loc main_arg1)) (m ((c.tc : Thread nD τ).loc main_arg2))) (Fin.ext ?_) (Fin.ext rfl)
  show 512 * t.val + (r.val) = 8192 * (t.val / 16) + (512 * (1 * (t.val % 16) + 0) + r.val)
  omega

theorem covered14 (i : S2x16x128x512.Idx) :
    ∃ t : Fin cfg0.N, (cfg0.win 14).flush t = true ∧ i ∈ ((cfg0.win 14).blk t).view.set := by
  obtain ⟨b, p, d, r, rfl⟩ : ∃ (b : Fin 2) (p : Fin 16) (d : Fin 128) (r : Fin 512), i = ix4 b p d r :=
    ⟨i 0, i 1, i 2, i 3, eq_ix4 i⟩
  have ht : 16 * b.val + p.val / 1 < cfg0.N := by show 16 * b.val + p.val / 1 < 32; omega
  have h := ((cfg0.win 14).blk ⟨16 * b.val + p.val / 1, ht⟩).view.emb_mem_set (ix4 0 ⟨p.val % 1, by omega⟩ d r)
  rw [emb14 ⟨16 * b.val + p.val / 1, ht⟩ ⟨p.val % 1, by omega⟩ d r] at h
  have hb : (⟨(16 * b.val + p.val / 1) / 16, by omega⟩ : Fin 2) = b := Fin.ext (by show (16 * b.val + p.val / 1) / 16 = b.val; omega)
  have hp : (⟨1 * ((16 * b.val + p.val / 1) % 16) + p.val % 1, by omega⟩ : Fin 16) = p :=
    Fin.ext (by show 1 * ((16 * b.val + p.val / 1) % 16) + p.val % 1 = p.val; omega)
  exact ⟨_, flush0_14 _, hb ▸ hp ▸ h⟩

theorem final14 (c : Dev nD) : (dats m 0 c).arrAt 14 cfg0.N = G14 (m ((c.tc : Thread nD τ).loc main_arg0)) (m ((c.tc : Thread nD τ).loc main_arg1)) (m ((c.tc : Thread nD τ).loc main_arg2)) :=
  (dats m 0 c).arrAt_eq_of_cover 14 _ (fun t _ => flushed14_eq m c t) covered14

/-- Output 11 of the projection: the values of the window branch, transposed within pieces of 128 tokens. -/
def G15 (x : FVec Ideal S2x8192x1024 .f32) (g : FVec Ideal S1024 .f32) (w : FVec Ideal S1024x3624 .f32) :
    FVec Ideal S2x64x128x128 .bf16 := fun i =>
  kcol x g w ⟨8192 * (i 0).val + (128 * (i 1).val + (i 3).val), by
      have h0 : (i 0).val < 2 := (i 0).isLt
      have h1 : (i 1).val < 64 := (i 1).isLt
      have h3 : (i 3).val < 128 := (i 3).isLt
      omega⟩
    ⟨1024 + (128 + (i 2).val), by have h2 : (i 2).val < 128 := (i 2).isLt; omega⟩

theorem idx15 : ∀ t : Fin cfg0.N, win0_15.index t (0 : Fin 4) = t.val / 16 ∧ win0_15.index t (1 : Fin 4) = t.val % 16
    ∧ win0_15.index t (2 : Fin 4) = 0 ∧ win0_15.index t (3 : Fin 4) = 0 :=
  (by decide +kernel : ∀ t : Fin grid0.N, _)

theorem emb15 (t : Fin cfg0.N) (p : Fin 4) (d : Fin 128) (r : Fin 128) : ((cfg0.win 15).blk t).view.emb (ix4 0 p d r)
    = ix4 (⟨t.val / 16, by have := tlt t; omega⟩ : Fin 2) (⟨4 * (t.val % 16) + p.val, by omega⟩ : Fin 64) d r := by
  obtain ⟨e0, e1, e2, e3⟩ := idx15 t
  refine funext fun a => Fin.ext ?_
  match a with
  | ⟨0, _⟩ => show win0_15.index t (0 : Fin 4) * 1 + 1 * 0 = t.val / 16; omega
  | ⟨1, _⟩ => show win0_15.index t (1 : Fin 4) * 4 + 1 * p.val = 4 * (t.val % 16) + p.val; omega
  | ⟨2, _⟩ => show win0_15.index t (2 : Fin 4) * 128 + 1 * d.val = d.val; omega
  | ⟨3, _⟩ => show win0_15.index t (3 : Fin 4) * 128 + 1 * r.val = r.val; omega

theorem flushed15_eq (c : Dev nD) (t : Fin cfg0.N) : (dats m 0 c).flushed 15 t
    = ((cfg0.win 15).blk t).view.read (Elt Ideal) (G15 (m ((c.tc : Thread nD τ).loc main_arg0)) (m ((c.tc : Thread nD τ).loc main_arg1)) (m ((c.tc : Thread nD τ).loc main_arg2))) := by
  rw [flushed15]
  refine funext fun y => ?_
  obtain ⟨a, p, d, r, rfl⟩ : ∃ (a : Fin 1) (p : Fin 4) (d : Fin 128) (r : Fin 128), y = ix4 a p d r :=
    ⟨y 0, y 1, y 2, y 3, eq_ix4 y⟩
  obtain rfl : a = 0 := Subsingleton.elim a 0

  refine ((out15 (grid0.coords t) (iblk m c 0 t) (iblk m c 1 t) (iblk m c 2 t) (iblk m c 3 t) p d r).trans
    (prod_blk m c t _ _)).trans ?_
  refine Eq.trans ?_ (congrArg (G15 (m ((c.tc : Thread nD τ).loc main_arg0)) (m ((c.tc : Thread nD τ).loc main_arg1)) (m ((c.tc : Thread nD τ).loc main_arg2))) (emb15 t p d r)).symm
  refine congrArg₂ (kcol (m ((c.tc : Thread nD τ).loc main_arg0)) (m ((c.tc : Thread nD τ).loc main_arg1)) (m ((c.tc : Thread nD τ).loc main_arg2))) (Fin.ext ?_) (Fin.ext rfl)
  show 512 * t.val + (p.val * 128 + r.val) = 8192 * (t.val / 16) + (128 * (4 * (t.val % 16) + p.val) + r.val)
  omega

theorem covered15 (i : S2x64x128x128.Idx) :
    ∃ t : Fin cfg0.N, (cfg0.win 15).flush t = true ∧ i ∈ ((cfg0.win 15).blk t).view.set := by
  obtain ⟨b, p, d, r, rfl⟩ : ∃ (b : Fin 2) (p : Fin 64) (d : Fin 128) (r : Fin 128), i = ix4 b p d r :=
    ⟨i 0, i 1, i 2, i 3, eq_ix4 i⟩
  have ht : 16 * b.val + p.val / 4 < cfg0.N := by show 16 * b.val + p.val / 4 < 32; omega
  have h := ((cfg0.win 15).blk ⟨16 * b.val + p.val / 4, ht⟩).view.emb_mem_set (ix4 0 ⟨p.val % 4, by omega⟩ d r)
  rw [emb15 ⟨16 * b.val + p.val / 4, ht⟩ ⟨p.val % 4, by omega⟩ d r] at h
  have hb : (⟨(16 * b.val + p.val / 4) / 16, by omega⟩ : Fin 2) = b := Fin.ext (by show (16 * b.val + p.val / 4) / 16 = b.val; omega)
  have hp : (⟨4 * ((16 * b.val + p.val / 4) % 16) + p.val % 4, by omega⟩ : Fin 64) = p :=
    Fin.ext (by show 4 * ((16 * b.val + p.val / 4) % 16) + p.val % 4 = p.val; omega)
  exact ⟨_, flush0_15 _, hb ▸ hp ▸ h⟩

theorem final15 (c : Dev nD) : (dats m 0 c).arrAt 15 cfg0.N = G15 (m ((c.tc : Thread nD τ).loc main_arg0)) (m ((c.tc : Thread nD τ).loc main_arg1)) (m ((c.tc : Thread nD τ).loc main_arg2)) :=
  (dats m 0 c).arrAt_eq_of_cover 15 _ (fun t _ => flushed15_eq m c t) covered15

/-- Output 12 of the projection: each block of 64 tokens summed with the compression's weights. -/
def G16 (x : FVec Ideal S2x8192x1024 .f32) (g : FVec Ideal S1024 .f32) (w : FVec Ideal S1024x3624 .f32)
    (a b : FVec Ideal S64 .f32) : FVec Ideal S256x256 .f32 := fun i =>
  ∑ l : Fin 64, kcol x g w ⟨64 * (i 0).val + l.val, by have h0 : (i 0).val < 256 := (i 0).isLt; omega⟩
    ⟨512 + (i 1).val, by have h1 : (i 1).val < 256 := (i 1).isLt; omega⟩
    * (if (i 1).val < 128 then a (ix1 l) else b (ix1 l))

theorem idx16 : ∀ t : Fin cfg0.N, win0_16.index t (0 : Fin 2) = t.val ∧ win0_16.index t (1 : Fin 2) = 0 :=
  (by decide +kernel : ∀ t : Fin grid0.N, _)

theorem emb16 (t : Fin cfg0.N) (n : Fin 8) (j : Fin 256) : ((cfg0.win 16).blk t).view.emb (ix2 n j)
    = ix2 (⟨8 * t.val + n.val, by have := tlt t; omega⟩ : Fin 256) j := by
  obtain ⟨e0, e1⟩ := idx16 t
  refine funext fun a => Fin.ext ?_
  match a with
  | ⟨0, _⟩ => show win0_16.index t (0 : Fin 2) * 8 + 1 * n.val = 8 * t.val + n.val; omega
  | ⟨1, _⟩ => show win0_16.index t (1 : Fin 2) * 256 + 1 * j.val = j.val; omega

theorem flushed16_eq (c : Dev nD) (t : Fin cfg0.N) : (dats m 0 c).flushed 16 t
    = ((cfg0.win 16).blk t).view.read (Elt Ideal) (G16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  rw [flushed16]
  refine funext fun y => ?_
  obtain ⟨n, j, rfl⟩ : ∃ (n : Fin 8) (j : Fin 256), y = ix2 n j := ⟨y 0, y 1, eq_ix2 y⟩
  refine (out16 (grid0.coords t) (iblk m c 0 t) (iblk m c 1 t) (iblk m c 2 t) (iblk m c 3 t) n j).trans ?_
  refine Eq.trans ?_ (congrArg (G16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (emb16 t n j)).symm
  refine Finset.sum_congr rfl fun l _ => congrArg₂ (· * ·) ((prod_blk m c t _ _).trans ?_) ((blk3 m c t l j).trans (V_wc m c l j))
  refine congrArg₂ (kcol (m ((c.tc : Thread nD τ).loc main_arg0)) (m ((c.tc : Thread nD τ).loc main_arg1)) (m ((c.tc : Thread nD τ).loc main_arg2))) (Fin.ext ?_) (Fin.ext rfl)
  show 512 * t.val + (n.val * 64 + l.val) = 64 * (8 * t.val + n.val) + l.val
  omega

theorem covered16 (i : S256x256.Idx) :
    ∃ t : Fin cfg0.N, (cfg0.win 16).flush t = true ∧ i ∈ ((cfg0.win 16).blk t).view.set := by
  obtain ⟨R, j, rfl⟩ : ∃ (R : Fin 256) (j : Fin 256), i = ix2 R j := ⟨i 0, i 1, eq_ix2 i⟩
  have ht : R.val / 8 < cfg0.N := by show R.val / 8 < 32; omega
  have h := ((cfg0.win 16).blk ⟨R.val / 8, ht⟩).view.emb_mem_set (ix2 ⟨R.val % 8, by omega⟩ j)
  rw [emb16 ⟨R.val / 8, ht⟩ ⟨R.val % 8, by omega⟩ j] at h
  have hR : (⟨8 * (R.val / 8) + R.val % 8, by omega⟩ : Fin 256) = R := Fin.ext (by show 8 * (R.val / 8) + R.val % 8 = R.val; omega)
  exact ⟨_, flush0_16 _, hR ▸ h⟩

theorem final16 (c : Dev nD) : (dats m 0 c).arrAt 16 cfg0.N = G16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 16 _ (fun t _ => flushed16_eq m c t) covered16

end Cert.Proof.ProjArr
-- ==== Proof.ProjRef.lean ====
/- The reference's projection, index by index, and its equality with what the kernel writes. -/
module
public import proofs.«01_k».proof.Proof.ProjArr2
public import proofs.«01_k».proof.Proof.Gen.Reference2Ideal.Run
public import Idealize.ShloMosaic.Lib.Pointwise
public import Idealize.ShloMosaic.Lib.WordCmp

@[expose] public section

set_option maxRecDepth 16384

noncomputable section

namespace Cert.Proof.ProjRef

open Cert.Reference2Ideal Cert.Reference2Ideal.Gen Cert.Proof.ProjArr Idealize.ShloMosaic
open Idealize.ShloMosaic.TcCoe Idealize.SL.Sem

/-- The normalised tokens times all of the weights, as the reference writes it. -/
abbrev hdot (x : FVec Ideal S2x8192x1024 .f32) (g : FVec Ideal S1024 .f32) (w : FVec Ideal S1024x3624 .f32) :
    FVec Ideal S2x8192x3624 .f32 :=
  Host.dotGeneral dot_S2x8192x1024_S1024x3624_S2x8192x3624_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) w

/-- Column `c` of the weights, times row `R` of the normalised tokens. -/
def rcol (x : FVec Ideal S2x8192x1024 .f32) (g : FVec Ideal S1024 .f32) (w : FVec Ideal S1024x3624 .f32)
    (R : Fin 16384) (c : Fin 3624) : EReal := ∑ k : Fin 1024, hrow x g R k * w (ix2 k c)

theorem hdot_at (x : FVec Ideal S2x8192x1024 .f32) (g : FVec Ideal S1024 .f32) (w : FVec Ideal S1024x3624 .f32)
    (R : Fin 16384) (c : Fin 3624) : hdot x g w (ix3 ⟨R / 8192, by omega⟩ ⟨R % 8192, by omega⟩ c) = rcol x g w R c := by
  pointwise [hdot, rcol, hrow]

theorem wcat_at (w : FVec Ideal S1024x3624 .f32) (k : Fin 1024) (c : Fin 3712) : wcat w (ix2 k c)
    = if h : c.val < 1280 then w (ix2 k ⟨c.val, by omega⟩) else if h : c.val < 1792 then w (ix2 k ⟨c.val + 24, by omega⟩)
      else if h : c.val < 2304 then w (ix2 k ⟨c.val + 24, by omega⟩) else if h : c.val < 3584 then w (ix2 k ⟨c.val + 40, by omega⟩)
      else if h : c.val < 3608 then w (ix2 k ⟨c.val - 2304, by omega⟩) else if h : c.val < 3624 then w (ix2 k ⟨c.val - 1280, by omega⟩)
      else 0 := by
  pointwise [wcat]
  have e : ∀ (p q : Fin 3624), p.val = q.val → w (ix2 k p) = w (ix2 k q) := fun p q h => by rw [Fin.ext h]
  split_ifs <;> (repeat' split) <;> first | omega | exact e _ _ (by first | omega | (dsimp only; omega)) | rfl | exact Ideal.ofBits_zero_f32 | skip

theorem kcol_eq (x : FVec Ideal S2x8192x1024 .f32) (g : FVec Ideal S1024 .f32) (w : FVec Ideal S1024x3624 .f32)
    (R : Fin 16384) (c : Fin 3712) (d : Fin 3624)
    (h : (c.val < 1280 ∧ d.val = c.val) ∨ (1280 ≤ c.val ∧ c.val < 2304 ∧ d.val = c.val + 24)
      ∨ (2304 ≤ c.val ∧ c.val < 3584 ∧ d.val = c.val + 40) ∨ (3584 ≤ c.val ∧ c.val < 3608 ∧ d.val + 2304 = c.val)
      ∨ (3608 ≤ c.val ∧ c.val < 3624 ∧ d.val + 1280 = c.val)) : kcol x g w R c = rcol x g w R d := by
  refine Finset.sum_congr rfl fun k _ => congrArg (hrow x g R k * ·) ?_
  rw [wcat_at]
  repeat' split
  all_goals first | omega | exact congrArg (fun q => w (ix2 k q)) (Fin.ext (by first | omega | (show _ = _; simp only []; omega)))

theorem kcol_zero (x : FVec Ideal S2x8192x1024 .f32) (g : FVec Ideal S1024 .f32) (w : FVec Ideal S1024x3624 .f32)
    (R : Fin 16384) (c : Fin 3712) (h : 3624 ≤ c.val) : kcol x g w R c = 0 := by
  refine Finset.sum_eq_zero fun k _ => ?_
  rw [wcat_at]
  repeat' split
  all_goals first | omega | exact mul_zero _

theorem yeq (y : FVec Ideal S2x8192x3624 .f32) {b b' : Fin 2} {t t' : Fin 8192} {d d' : Fin 3624} (hb : b.val = b'.val)
    (ht : t.val = t'.val) (hd : d.val = d'.val) : y (ix3 b t d) = y (ix3 b' t' d') := by
  rw [Fin.ext hb, Fin.ext ht, Fin.ext hd]

theorem zero_word : (FloatOps.sitofp FTy.f32 (0#32 : BitVec 32) : Ideal .f32) = 0 := by
  show ((((0#32 : BitVec 32).toInt : ℤ) : ℝ) : EReal) = 0
  simp

/-- The word that the reference computes for a token's block. -/
theorem block_word : ∀ t : Fin 8192, (Scalar.select
            (IntOp.andi
              (IntOp.cmpi CmpIPredicate.ne
                (if BitVec.ofNat 32 t.val = 0 then 0
                else if (BitVec.ofNat 32 t.val).msb = true then -1 else 1 : BitVec 32)
                (if 64#32 = 0 then 0 else if (64#32).msb = true then -1 else 1 : BitVec 32))
              (IntOp.cmpi CmpIPredicate.ne (IntOp.remsi ArithUnit.host (BitVec.ofNat 32 t.val) 64#32) 0#32))
            (IntOp.subi (IntOp.divsi ArithUnit.host (BitVec.ofNat 32 t.val) 64#32) 1#32)
            (IntOp.divsi ArithUnit.host (BitVec.ofNat 32 t.val) 64#32)) = BitVec.ofNat 32 (t.val / 64) := by decide +kernel

theorem onehot_word (t : Fin 8192) (n : ℕ) (hn : n < 4096) : Scalar.select (IntOp.cmpi CmpIPredicate.eq (Scalar.select
            (IntOp.andi
              (IntOp.cmpi CmpIPredicate.ne
                (if BitVec.ofNat 32 t.val = 0 then 0
                else if (BitVec.ofNat 32 t.val).msb = true then -1 else 1 : BitVec 32)
                (if 64#32 = 0 then 0 else if (64#32).msb = true then -1 else 1 : BitVec 32))
              (IntOp.cmpi CmpIPredicate.ne (IntOp.remsi ArithUnit.host (BitVec.ofNat 32 t.val) 64#32) 0#32))
            (IntOp.subi (IntOp.divsi ArithUnit.host (BitVec.ofNat 32 t.val) 64#32) 1#32)
            (IntOp.divsi ArithUnit.host (BitVec.ofNat 32 t.val) 64#32)) (BitVec.ofNat 32 n)) (1 : EReal) 0
    = if n = t.val / 64 then 1 else 0 := by
  rw [block_word, WordCmp.cmpi_eq_eq]
  by_cases h2 : n = t.val / 64
  · simp [Scalar.select, h2]
  · have : BitVec.ofNat 32 (t.val / 64) ≠ BitVec.ofNat 32 n := by
      intro q
      have := congrArg BitVec.toNat q
      simp only [BitVec.toNat_ofNat] at this
      omega
    simp [Scalar.select, this, h2]

theorem ref4 (x : FVec Ideal S2x8192x1024 .f32) (g : FVec Ideal S1024 .f32) (w : FVec Ideal S1024x3624 .f32) :
    shapeCast S16384x512 (extractStridedSlice S2x8192x512 ![0, 0, 0] (hdot x g w) slices_S2x8192x3624_S2x8192x512_0_0_0) shapeCasts_S2x8192x512_S16384x512
      = G4 x g w := by
  refine funext fun i => ?_
  obtain ⟨R, j, rfl⟩ : ∃ (R : Fin 16384) (j : Fin 512), i = ix2 R j := ⟨i 0, i 1, eq_ix2 i⟩
  refine Eq.trans ?_ (kcol_eq x g w R ⟨0 + j.val, by omega⟩ ⟨0 + j.val, by omega⟩ (by first | omega | (dsimp only; omega))).symm
  rw [← hdot_at x g w R ⟨0 + j.val, by omega⟩]
  generalize hdot x g w = y
  pointwise []

theorem ref5 (x : FVec Ideal S2x8192x1024 .f32) (g : FVec Ideal S1024 .f32) (w : FVec Ideal S1024x3624 .f32) :
    shapeCast S16384x256 (extractStridedSlice S2x8192x256 ![0, 0, 512] (hdot x g w) slices_S2x8192x3624_S2x8192x256_0_0_512) shapeCasts_S2x8192x256_S16384x256
      = G5 x g w := by
  refine funext fun i => ?_
  obtain ⟨R, j, rfl⟩ : ∃ (R : Fin 16384) (j : Fin 256), i = ix2 R j := ⟨i 0, i 1, eq_ix2 i⟩
  refine Eq.trans ?_ (kcol_eq x g w R ⟨512 + j.val, by omega⟩ ⟨512 + j.val, by omega⟩ (by first | omega | (dsimp only; omega))).symm
  rw [← hdot_at x g w R ⟨512 + j.val, by omega⟩]
  generalize hdot x g w = y
  pointwise []

theorem ref6 (x : FVec Ideal S2x8192x1024 .f32) (g : FVec Ideal S1024 .f32) (w : FVec Ideal S1024x3624 .f32) :
    shapeCast S16384x256 (extractStridedSlice S2x8192x256 ![0, 0, 768] (hdot x g w) slices_S2x8192x3624_S2x8192x256_0_0_768) shapeCasts_S2x8192x256_S16384x256
      = G6 x g w := by
  refine funext fun i => ?_
  obtain ⟨R, j, rfl⟩ : ∃ (R : Fin 16384) (j : Fin 256), i = ix2 R j := ⟨i 0, i 1, eq_ix2 i⟩
  refine Eq.trans ?_ (kcol_eq x g w R ⟨768 + j.val, by omega⟩ ⟨768 + j.val, by omega⟩ (by first | omega | (dsimp only; omega))).symm
  rw [← hdot_at x g w R ⟨768 + j.val, by omega⟩]
  generalize hdot x g w = y
  pointwise []

theorem ref7 (x : FVec Ideal S2x8192x1024 .f32) (g : FVec Ideal S1024 .f32) (w : FVec Ideal S1024x3624 .f32) :
    shapeCast S16384x256 (extractStridedSlice S2x8192x256 ![0, 0, 1024] (hdot x g w) slices_S2x8192x3624_S2x8192x256_0_0_1024) shapeCasts_S2x8192x256_S16384x256
      = G7 x g w := by
  refine funext fun i => ?_
  obtain ⟨R, j, rfl⟩ : ∃ (R : Fin 16384) (j : Fin 256), i = ix2 R j := ⟨i 0, i 1, eq_ix2 i⟩
  refine Eq.trans ?_ (kcol_eq x g w R ⟨1024 + j.val, by omega⟩ ⟨1024 + j.val, by omega⟩ (by first | omega | (dsimp only; omega))).symm
  rw [← hdot_at x g w R ⟨1024 + j.val, by omega⟩]
  generalize hdot x g w = y
  pointwise []

theorem ref8 (x : FVec Ideal S2x8192x1024 .f32) (g : FVec Ideal S1024 .f32) (w : FVec Ideal S1024x3624 .f32) :
    shapeCast S16384x512 (extractStridedSlice S2x8192x512 ![0, 0, 1304] (hdot x g w) slices_S2x8192x3624_S2x8192x512_0_0_1304) shapeCasts_S2x8192x512_S16384x512
      = G8 x g w := by
  refine funext fun i => ?_
  obtain ⟨R, j, rfl⟩ : ∃ (R : Fin 16384) (j : Fin 512), i = ix2 R j := ⟨i 0, i 1, eq_ix2 i⟩
  refine Eq.trans ?_ (kcol_eq x g w R ⟨1280 + j.val, by omega⟩ ⟨1304 + j.val, by omega⟩ (by first | omega | (dsimp only; omega))).symm
  rw [← hdot_at x g w R ⟨1304 + j.val, by omega⟩]
  generalize hdot x g w = y
  pointwise []

theorem ref9 (x : FVec Ideal S2x8192x1024 .f32) (g : FVec Ideal S1024 .f32) (w : FVec Ideal S1024x3624 .f32) :
    shapeCast S16384x768 (concatenate S2x8192x768 2 [⟨S2x8192x128, extractStridedSlice S2x8192x128 ![0, 0, 1816] (hdot x g w) slices_S2x8192x3624_S2x8192x128_0_0_1816⟩, ⟨S2x8192x128, extractStridedSlice S2x8192x128 ![0, 0, 1944] (hdot x g w) slices_S2x8192x3624_S2x8192x128_0_0_1944⟩, ⟨S2x8192x256, extractStridedSlice S2x8192x256 ![0, 0, 2072] (hdot x g w) slices_S2x8192x3624_S2x8192x256_0_0_2072⟩, ⟨S2x8192x256, extractStridedSlice S2x8192x256 ![0, 0, 2344] (hdot x g w) slices_S2x8192x3624_S2x8192x256_0_0_2344⟩] concatenates_S2x8192x128_S2x8192x128_S2x8192x256_S2x8192x256_S2x8192x768_d2) shapeCasts_S2x8192x768_S16384x768
      = G9 x g w := by
  refine funext fun i => ?_
  obtain ⟨R, j, rfl⟩ : ∃ (R : Fin 16384) (j : Fin 768), i = ix2 R j := ⟨i 0, i 1, eq_ix2 i⟩
  have hy := hdot_at x g w R
  have hk : ∀ (d : Fin 3624), ((j.val < 512 ∧ d.val = j.val + 1816) ∨ (512 ≤ j.val ∧ d.val = j.val + 1832)) → G9 x g w (ix2 R j) = hdot x g w (ix3 ⟨R / 8192, by omega⟩ ⟨R % 8192, by omega⟩ d) := fun d hd =>
    (kcol_eq x g w R ⟨1792 + j.val, by omega⟩ d (by first | omega | (dsimp only; omega))).trans (hy d).symm
  clear hy
  generalize hdot x g w = y at hk ⊢
  generalize G9 x g w (ix2 R j) = z at hk ⊢
  pointwise []
  split_ifs <;> exact (hk _ (by first | omega | (dsimp only; omega))).symm

theorem ref10 (x : FVec Ideal S2x8192x1024 .f32) (g : FVec Ideal S1024 .f32) (w : FVec Ideal S1024x3624 .f32) :
    shapeCast S16384x1024 (concatenate S2x8192x1024 2 [⟨S2x8192x256, extractStridedSlice S2x8192x256 ![0, 0, 2600] (hdot x g w) slices_S2x8192x3624_S2x8192x256_0_0_2600⟩, ⟨S2x8192x256, extractStridedSlice S2x8192x256 ![0, 0, 2856] (hdot x g w) slices_S2x8192x3624_S2x8192x256_0_0_2856⟩, ⟨S2x8192x256, extractStridedSlice S2x8192x256 ![0, 0, 3112] (hdot x g w) slices_S2x8192x3624_S2x8192x256_0_0_3112⟩, ⟨S2x8192x256, extractStridedSlice S2x8192x256 ![0, 0, 3368] (hdot x g w) slices_S2x8192x3624_S2x8192x256_0_0_3368⟩] concatenates_S2x8192x256_S2x8192x256_S2x8192x256_S2x8192x256_S2x8192x1024_d2) shapeCasts_S2x8192x1024_S16384x1024
      = G10 x g w := by
  refine funext fun i => ?_
  obtain ⟨R, j, rfl⟩ : ∃ (R : Fin 16384) (j : Fin 1024), i = ix2 R j := ⟨i 0, i 1, eq_ix2 i⟩
  have hy := hdot_at x g w R
  have hk : ∀ (d : Fin 3624), d.val = j.val + 2600 → G10 x g w (ix2 R j) = hdot x g w (ix3 ⟨R / 8192, by omega⟩ ⟨R % 8192, by omega⟩ d) := fun d hd =>
    (kcol_eq x g w R ⟨2560 + j.val, by omega⟩ d (by first | omega | (dsimp only; omega))).trans (hy d).symm
  clear hy
  generalize hdot x g w = y at hk ⊢
  generalize G10 x g w (ix2 R j) = z at hk ⊢
  pointwise []
  split_ifs <;> exact (hk _ (by first | omega | (dsimp only; omega))).symm

theorem ref11 (x : FVec Ideal S2x8192x1024 .f32) (g : FVec Ideal S1024 .f32) (w : FVec Ideal S1024x3624 .f32) :
    shapeCast S16384x128 (pad S2x8192x128 ![0, 0, 0] ![0, 0, 88] ![0, 0, 0] (concatenate S2x8192x40 2 [⟨S2x8192x24, extractStridedSlice S2x8192x24 ![0, 0, 1280] (hdot x g w) slices_S2x8192x3624_S2x8192x24_0_0_1280⟩, ⟨S2x8192x16, extractStridedSlice S2x8192x16 ![0, 0, 2328] (hdot x g w) slices_S2x8192x3624_S2x8192x16_0_0_2328⟩] concatenates_S2x8192x24_S2x8192x16_S2x8192x40_d2) (sitofp .f32 (constantI S_ 32 0#32)) pads_S2x8192x40_S2x8192x128_000_000_0880 h_S_) shapeCasts_S2x8192x128_S16384x128
      = G11 x g w := by
  refine funext fun i => ?_
  obtain ⟨R, j, rfl⟩ : ∃ (R : Fin 16384) (j : Fin 128), i = ix2 R j := ⟨i 0, i 1, eq_ix2 i⟩
  have hy := hdot_at x g w R
  have hk : ∀ (d : Fin 3624), ((j.val < 24 ∧ d.val = j.val + 1280) ∨ (24 ≤ j.val ∧ j.val < 40 ∧ d.val = j.val + 2304)) →
      G11 x g w (ix2 R j) = hdot x g w (ix3 ⟨R / 8192, by omega⟩ ⟨R % 8192, by omega⟩ d) := fun d hd =>
    (kcol_eq x g w R ⟨3584 + j.val, by omega⟩ d (by first | omega | (dsimp only; omega))).trans (hy d).symm
  have hz : 40 ≤ j.val → G11 x g w (ix2 R j) = 0 := fun hj =>
    kcol_zero x g w R ⟨3584 + j.val, by omega⟩ (by first | omega | (dsimp only; omega))
  clear hy
  generalize hdot x g w = y at hk ⊢
  generalize G11 x g w (ix2 R j) = z at hk hz ⊢
  pointwise []
  split_ifs
  all_goals first
    | exact (hk _ (by first | omega | (dsimp only; omega))).symm
    | exact zero_word.trans (hz (by omega)).symm

theorem ref13 (x : FVec Ideal S2x8192x1024 .f32) (g : FVec Ideal S1024 .f32) (w : FVec Ideal S1024x3624 .f32) :
    truncf .bf16 (shapeCast S16384x128 (extractStridedSlice S2x8192x128 ![0, 0, 0] (extractStridedSlice S2x8192x256 ![0, 0, 1024] (hdot x g w) slices_S2x8192x3624_S2x8192x256_0_0_1024) slices_S2x8192x256_S2x8192x128_0_0_0) shapeCasts_S2x8192x128_S16384x128) bitsLt_bf16_f32
      = G13 x g w := by
  refine funext fun i => ?_
  obtain ⟨R, j, rfl⟩ : ∃ (R : Fin 16384) (j : Fin 128), i = ix2 R j := ⟨i 0, i 1, eq_ix2 i⟩
  refine Eq.trans ?_ (kcol_eq x g w R ⟨1024 + j.val, by omega⟩ ⟨1024 + (0 + j.val), by omega⟩ (by first | omega | (dsimp only; omega))).symm
  rw [← hdot_at x g w R ⟨1024 + (0 + j.val), by omega⟩]
  generalize hdot x g w = y
  pointwise []

theorem ref14 (x : FVec Ideal S2x8192x1024 .f32) (g : FVec Ideal S1024 .f32) (w : FVec Ideal S1024x3624 .f32) :
    truncf .bf16 (transpose S2x16x128x512 [0, 1, 3, 2] (shapeCast S2x16x512x128 (extractStridedSlice S2x8192x128 ![0, 0, 128] (extractStridedSlice S2x8192x256 ![0, 0, 768] (hdot x g w) slices_S2x8192x3624_S2x8192x256_0_0_768) slices_S2x8192x256_S2x8192x128_0_0_128) shapeCasts_S2x8192x128_S2x16x512x128) transposes_S2x16x512x128_S2x16x128x512_0_1_3_2) bitsLt_bf16_f32
      = G14 x g w := by
  refine funext fun i => ?_
  obtain ⟨b, p, d, r, rfl⟩ : ∃ (b : Fin 2) (p : Fin 16) (d : Fin 128) (r : Fin 512), i = ix4 b p d r :=
    ⟨i 0, i 1, i 2, i 3, eq_ix4 i⟩
  refine Eq.trans ?_ (kcol_eq x g w ⟨8192 * b.val + (512 * p.val + r.val), by omega⟩ ⟨768 + (128 + d.val), by omega⟩ ⟨768 + (128 + d.val), by omega⟩ (by first | omega | (dsimp only; omega))).symm
  rw [← hdot_at x g w]
  generalize hdot x g w = y
  pointwise []
  exact yeq y (by dsimp only; omega) (by dsimp only; omega) rfl

theorem ref15 (x : FVec Ideal S2x8192x1024 .f32) (g : FVec Ideal S1024 .f32) (w : FVec Ideal S1024x3624 .f32) :
    truncf .bf16 (transpose S2x64x128x128 [0, 1, 3, 2] (shapeCast S2x64x128x128 (extractStridedSlice S2x8192x128 ![0, 0, 128] (extractStridedSlice S2x8192x256 ![0, 0, 1024] (hdot x g w) slices_S2x8192x3624_S2x8192x256_0_0_1024) slices_S2x8192x256_S2x8192x128_0_0_128) shapeCasts_S2x8192x128_S2x64x128x128) transposes_S2x64x128x128_S2x64x128x128_0_1_3_2) bitsLt_bf16_f32
      = G15 x g w := by
  refine funext fun i => ?_
  obtain ⟨b, p, d, r, rfl⟩ : ∃ (b : Fin 2) (p : Fin 64) (d : Fin 128) (r : Fin 128), i = ix4 b p d r :=
    ⟨i 0, i 1, i 2, i 3, eq_ix4 i⟩
  refine Eq.trans ?_ (kcol_eq x g w ⟨8192 * b.val + (128 * p.val + r.val), by omega⟩ ⟨1024 + (128 + d.val), by omega⟩ ⟨1024 + (128 + d.val), by omega⟩ (by first | omega | (dsimp only; omega))).symm
  rw [← hdot_at x g w]
  generalize hdot x g w = y
  pointwise []
  exact yeq y (by dsimp only; omega) (by dsimp only; omega) rfl

theorem ref16 (x : FVec Ideal S2x8192x1024 .f32) (g : FVec Ideal S1024 .f32) (w : FVec Ideal S1024x3624 .f32) (a b : FVec Ideal S64 .f32) :
    shapeCast S256x256 (transpose S2x128x2x2x64 [1, 2, 0, 3, 4] (Host.dotGeneral dot_S64x2_S2x128x64x2x2x64_S2x2x128x2x64_0_2_n_0145_1_3 none (concatenate S64x2 1 [⟨S64x1, (broadcastInDim S64x1 ![0] bcast_S64_S64x1_0 a)⟩, ⟨S64x1, (broadcastInDim S64x1 ![0] bcast_S64_S64x1_0 b)⟩] concatenates_S64x1_S64x1_S64x2_d1) (shapeCast S2x128x64x2x2x64 (extractStridedSlice S2x8192x256 ![0, 0, 512] (hdot x g w) slices_S2x8192x3624_S2x8192x256_0_0_512) shapeCasts_S2x8192x256_S2x128x64x2x2x64)) transposes_S2x2x128x2x64_S2x128x2x2x64_1_2_0_3_4) shapeCasts_S2x128x2x2x64_S256x256
      = G16 x g w a b := by
  refine funext fun i => ?_
  obtain ⟨n, j, rfl⟩ : ∃ (n : Fin 256) (j : Fin 256), i = ix2 n j := ⟨i 0, i 1, eq_ix2 i⟩
  have hy : G16 x g w a b (ix2 n j) = ∑ l : Fin 64, hdot x g w (ix3 ⟨n.val / 128, by omega⟩ ⟨n.val % 128 * 64 + l.val, by omega⟩ ⟨512 + j.val, by omega⟩)
      * (if j.val < 128 then a (ix1 l) else b (ix1 l)) := by
    refine Finset.sum_congr rfl fun l _ => congrArg (· * _) ?_
    refine (kcol_eq x g w ⟨64 * n.val + l.val, by omega⟩ ⟨512 + j.val, by omega⟩ ⟨512 + j.val, by omega⟩ (by first | omega | (dsimp only; omega))).trans ?_
    rw [← hdot_at x g w]
    exact yeq _ (by dsimp only; omega) (by dsimp only; omega) rfl
  rw [hy]
  generalize hdot x g w = y
  pointwise []
  refine Finset.sum_congr rfl fun l _ => (mul_comm _ _).trans (congrArg (y _ * ·) ?_)
  split_ifs <;> first | rfl | omega

theorem ref12 (x : FVec Ideal S2x8192x1024 .f32) (g : FVec Ideal S1024 .f32) (w : FVec Ideal S1024x3624 .f32) :
    truncf .bf16 (shapeCast S16384x256 (concatenate S2x8192x256 2 [⟨S2x8192x128, extractStridedSlice S2x8192x128 ![0, 0, 0] (extractStridedSlice S2x8192x256 ![0, 0, 768] (hdot x g w) slices_S2x8192x3624_S2x8192x256_0_0_768) slices_S2x8192x256_S2x8192x128_0_0_0⟩, ⟨S2x8192x128, (id (broadcastInDim S2x8192x128 ![0, 1, 2] bcast_S1x8192x128_S2x8192x128_0_1_2 (select (cmpi .eq (broadcastInDim S1x8192x128 ![0, 1, 2] bcast_S1x8192x1_S1x8192x128_0_1_2 (broadcastInDim S1x8192x1 ![1] bcast_S8192_S1x8192x1_1 (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))))) (broadcastInDim S1x8192x128 ![0, 1, 2] bcast_S1x1x128_S1x8192x128_0_1_2 (broadcastInDim S1x1x128 ![2] bcast_S128_S1x1x128_2 (iotaInDim S128 32 0)))) (broadcastInDim S1x8192x128 ![] bcast_S_S1x8192x128 (constant S_ .f32 0x3F800000#32)) (broadcastInDim S1x8192x128 ![] bcast_S_S1x8192x128 (constant S_ .f32 0x00000000#32)))))⟩] concatenates_S2x8192x128_S2x8192x128_S2x8192x256_d2) shapeCasts_S2x8192x256_S16384x256) bitsLt_bf16_f32
      = G12 x g w := by
  refine funext fun i => ?_
  obtain ⟨R, j, rfl⟩ : ∃ (R : Fin 16384) (j : Fin 256), i = ix2 R j := ⟨i 0, i 1, eq_ix2 i⟩
  have hy := fun h : j.val < 128 => (hdot_at x g w R ⟨768 + (0 + j.val), by omega⟩).trans (kcol_eq x g w R ⟨768 + j.val, by omega⟩ ⟨768 + (0 + j.val), by omega⟩ (by first | omega | (dsimp only; omega))).symm
  unfold G12
  generalize kcol x g w = z at hy ⊢
  generalize hdot x g w = y at hy ⊢
  simp only [id_eq]
  pointwise []
  by_cases h1 : j.val < 128
  · refine (dif_pos h1).trans (Eq.trans ?_ (dif_pos h1).symm)
    exact (yeq y rfl rfl (by dsimp only; omega)).trans (hy h1)
  · refine (dif_neg h1).trans (Eq.trans ?_ (dif_neg h1).symm)
    have hw := onehot_word ⟨R.val % 8192, by omega⟩ (j.val - 128) (by omega)
    dsimp only at hw
    exact hw

end Cert.Proof.ProjRef
-- ==== Proof.ProjRun.lean ====
/- What a run of the reference's projection leaves. -/
module
public import proofs.«01_k».proof.Proof.ProjRef

@[expose] public section

set_option maxRecDepth 16384

noncomputable section

namespace Cert.Proof.ProjRef

open Cert.Reference2Ideal Cert.Reference2Ideal.Gen Cert.Proof.ProjArr Idealize.ShloMosaic
open Idealize.ShloMosaic.TcCoe Idealize.SL.Sem

variable (m : (ℓ : Loc nD τ sig) → Buf (Elt Ideal) ℓ)

theorem res44 (c : Dev nD) : Cert.Reference2Ideal.Value.res_main_v44 m c = G9 (m ((c.tc : Thread nD τ).loc main_arg0)) (m ((c.tc : Thread nD τ).loc main_arg1)) (m ((c.tc : Thread nD τ).loc main_arg2)) := by
  delta Cert.Reference2Ideal.Value.res_main_v44
  exact ref9 _ _ _

theorem res45 (c : Dev nD) : Cert.Reference2Ideal.Value.res_main_v45 m c = G10 (m ((c.tc : Thread nD τ).loc main_arg0)) (m ((c.tc : Thread nD τ).loc main_arg1)) (m ((c.tc : Thread nD τ).loc main_arg2)) := by
  delta Cert.Reference2Ideal.Value.res_main_v45
  exact ref10 _ _ _

/-- Each result of the reference, index by index. -/
theorem run_ref (ρ : Dev nD → PrngReg) : θ_run defs (onTc (τ := τ) (main (F := Ideal))) ⟨m, fun _ => 0, ρ⟩ fun r => ∀ c : Dev nD,
      r.2.mem ((c.tc : Thread nD τ).loc main_v39) = G4 (m ((c.tc : Thread nD τ).loc main_arg0)) (m ((c.tc : Thread nD τ).loc main_arg1)) (m ((c.tc : Thread nD τ).loc main_arg2))
      ∧ r.2.mem ((c.tc : Thread nD τ).loc main_v40) = G5 (m ((c.tc : Thread nD τ).loc main_arg0)) (m ((c.tc : Thread nD τ).loc main_arg1)) (m ((c.tc : Thread nD τ).loc main_arg2))
      ∧ r.2.mem ((c.tc : Thread nD τ).loc main_v41) = G6 (m ((c.tc : Thread nD τ).loc main_arg0)) (m ((c.tc : Thread nD τ).loc main_arg1)) (m ((c.tc : Thread nD τ).loc main_arg2))
      ∧ r.2.mem ((c.tc : Thread nD τ).loc main_v42) = G7 (m ((c.tc : Thread nD τ).loc main_arg0)) (m ((c.tc : Thread nD τ).loc main_arg1)) (m ((c.tc : Thread nD τ).loc main_arg2))
      ∧ r.2.mem ((c.tc : Thread nD τ).loc main_v43) = G8 (m ((c.tc : Thread nD τ).loc main_arg0)) (m ((c.tc : Thread nD τ).loc main_arg1)) (m ((c.tc : Thread nD τ).loc main_arg2))
      ∧ r.2.mem ((c.tc : Thread nD τ).loc main_v44) = G9 (m ((c.tc : Thread nD τ).loc main_arg0)) (m ((c.tc : Thread nD τ).loc main_arg1)) (m ((c.tc : Thread nD τ).loc main_arg2))
      ∧ r.2.mem ((c.tc : Thread nD τ).loc main_v45) = G10 (m ((c.tc : Thread nD τ).loc main_arg0)) (m ((c.tc : Thread nD τ).loc main_arg1)) (m ((c.tc : Thread nD τ).loc main_arg2))
      ∧ r.2.mem ((c.tc : Thread nD τ).loc main_v46) = G11 (m ((c.tc : Thread nD τ).loc main_arg0)) (m ((c.tc : Thread nD τ).loc main_arg1)) (m ((c.tc : Thread nD τ).loc main_arg2))
      ∧ r.2.mem ((c.tc : Thread nD τ).loc main_v68) = G12 (m ((c.tc : Thread nD τ).loc main_arg0)) (m ((c.tc : Thread nD τ).loc main_arg1)) (m ((c.tc : Thread nD τ).loc main_arg2))
      ∧ r.2.mem ((c.tc : Thread nD τ).loc main_v70) = G13 (m ((c.tc : Thread nD τ).loc main_arg0)) (m ((c.tc : Thread nD τ).loc main_arg1)) (m ((c.tc : Thread nD τ).loc main_arg2))
      ∧ r.2.mem ((c.tc : Thread nD τ).loc main_v71) = G14 (m ((c.tc : Thread nD τ).loc main_arg0)) (m ((c.tc : Thread nD τ).loc main_arg1)) (m ((c.tc : Thread nD τ).loc main_arg2))
      ∧ r.2.mem ((c.tc : Thread nD τ).loc main_v72) = G15 (m ((c.tc : Thread nD τ).loc main_arg0)) (m ((c.tc : Thread nD τ).loc main_arg1)) (m ((c.tc : Thread nD τ).loc main_arg2))
      ∧ r.2.mem ((c.tc : Thread nD τ).loc main_v73) = G16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Reference2Ideal.Value.run (F := Ideal) m ρ)
  have hc := h c
  clear h
  obtain ⟨h4, h5, h6, h7, h8, h9, h10, h11, h12, h13, h14, h15, h16, ha⟩ := hc
  refine ⟨h4.trans ?_, h5.trans ?_, h6.trans ?_, h7.trans ?_, h8.trans ?_, h9.trans ?_, h10.trans ?_, h11.trans ?_, h12.trans ?_, h13.trans ?_, h14.trans ?_, h15.trans ?_, h16.trans ?_, ha⟩
  · exact ref4 _ _ _
  · exact ref5 _ _ _
  · exact ref6 _ _ _
  · exact ref7 _ _ _
  · exact ref8 _ _ _
  · exact res44 m c
  · exact res45 m c
  · exact ref11 _ _ _
  · exact ref12 _ _ _
  · exact ref13 _ _ _
  · exact ref14 _ _ _
  · exact ref15 _ _ _
  · exact ref16 _ _ _ _ _

end Cert.Proof.ProjRef
-- ==== Proof.Proj.lean ====
/- The input projection as a program of its own: its frames, and that it computes what the reference does. -/
module
public import proofs.«01_k».proof.Defs
public import proofs.«01_k».proof.Proof.ProjRun
public import proofs.«01_k».proof.Proof.Gen.Kernel2.Frame

@[expose] public section

set_option maxRecDepth 16384

noncomputable section

namespace Cert.Proof

open Idealize.ShloMosaic

/-- The printed projection's frame, at words. -/
theorem frame_kernel2 : Cert.quiescent_Kernel2 := fun m ρ _ => Cert.Kernel2.Gen.frame (F := Bits) m ρ

/-- The idealized projection's frame, at the extended reals. -/
theorem frame_kernel2Ideal : Cert.quiescent_Kernel2Ideal := fun m ρ _ => Cert.Kernel2Ideal.Gen.frame (F := Ideal) m ρ

/-- The projection's reference's frame. -/
theorem frame_reference2 : Cert.quiescent_Reference2Ideal := fun m ρ _ =>
  (θ_run Cert.Reference2Ideal.defs _ _).mono
    (fun r h => ⟨fun c => (h c).2.2.2.2.2.2.2.2.2.2.2.2.2, sem_eq_zero_of_no_sems (by decide) r.2⟩)
    (ProjRef.run_ref m ρ)

set_option maxHeartbeats 4000000 in
/-- Over the extended reals the kernel's thirteen arrays are the reference's. -/
theorem algebraic2 : Cert.algebraic_Kernel2Ideal_Reference2Ideal := fun m ρ m' ρ' _ hm => by
  refine ⟨fun c => ProjArr.G4 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G5 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G6 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G7 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G8 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G9 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G10 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G11 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G12 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G13 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G14 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G15 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
      fun c => ProjArr.G16 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · refine (θ_run Cert.Kernel2Ideal.defs _ _).mono (fun r h c => ?_) (Cert.Kernel2Ideal.Value.run_blocks (F := Ideal) m ρ)
    have hc := h c
    clear h
    obtain ⟨h4, h5, h6, h7, h8, h9, h10, h11, h12, h13, h14, h15, h16, ha⟩ := hc
    exact ⟨h4.trans (ProjArr.final4 m c), h5.trans (ProjArr.final5 m c), h6.trans (ProjArr.final6 m c), h7.trans (ProjArr.final7 m c), h8.trans (ProjArr.final8 m c), h9.trans (ProjArr.final9 m c), h10.trans (ProjArr.final10 m c), h11.trans (ProjArr.final11 m c), h12.trans (ProjArr.final12 m c), h13.trans (ProjArr.final13 m c), h14.trans (ProjArr.final14 m c), h15.trans (ProjArr.final15 m c), h16.trans (ProjArr.final16 m c), ha⟩
  · refine (θ_run Cert.Reference2Ideal.defs _ _).mono (fun r h c => ?_) (ProjRef.run_ref m' ρ')
    have hc := h c
    clear h
    obtain ⟨h4, h5, h6, h7, h8, h9, h10, h11, h12, h13, h14, h15, h16, ha⟩ := hc
    obtain ⟨e0, e1, e2, e3, e4⟩ := hm c
    exact ⟨h4.trans (congr (congr (congrArg ProjArr.G4 e0) e1) e2), h5.trans (congr (congr (congrArg ProjArr.G5 e0) e1) e2), h6.trans (congr (congr (congrArg ProjArr.G6 e0) e1) e2), h7.trans (congr (congr (congrArg ProjArr.G7 e0) e1) e2), h8.trans (congr (congr (congrArg ProjArr.G8 e0) e1) e2), h9.trans (congr (congr (congrArg ProjArr.G9 e0) e1) e2), h10.trans (congr (congr (congrArg ProjArr.G10 e0) e1) e2), h11.trans (congr (congr (congrArg ProjArr.G11 e0) e1) e2), h12.trans (congr (congr (congrArg ProjArr.G12 e0) e1) e2), h13.trans (congr (congr (congrArg ProjArr.G13 e0) e1) e2), h14.trans (congr (congr (congrArg ProjArr.G14 e0) e1) e2), h15.trans (congr (congr (congrArg ProjArr.G15 e0) e1) e2), h16.trans (congr (congr (congr (congr (congrArg ProjArr.G16 e0) e1) e2) e3) e4), ha⟩

end Cert.Proof
-- ==== Proof.OutBlock.lean ====
/- What the output projection's body computes of one tile of 512 tokens, at an index. -/
module
public import proofs.«01_k».proof.Proof.Gen.Kernel3Ideal.Value
public import Idealize.ShloMosaic.Lib.Pointwise
public import Idealize.ShloMosaic.Lib.WordCmp

@[expose] public section

set_option maxRecDepth 16384

noncomputable section

namespace Cert.Proof.OutBlock

open Cert.Kernel3Ideal Cert.Kernel3Ideal.Gen Idealize.ShloMosaic
open Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The condition word "this tile is the first of its sequence": sixteen tiles a sequence. -/
theorem first_word : ∀ n : Fin 32, (Scalar.cmpi CmpIPredicate.eq
        (Scalar.select
          (Scalar.andi
            (Scalar.xori
              (Scalar.cmpi CmpIPredicate.slt
                (Scalar.remsi (BitVec.ofNat 32 n.val)
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (Scalar.cmpi CmpIPredicate.ne
              (Scalar.remsi (BitVec.ofNat 32 n.val)
                (Scalar.select (Scalar.cmpi CmpIPredicate.eq 16#32 0#32) 1#32 16#32))
              0#32))
          (Scalar.addi
            (Scalar.remsi (BitVec.ofNat 32 n.val) (Scalar.select (Scalar.cmpi CmpIPredicate.eq 16#32 0#32) 1#32 16#32))
            (Scalar.select (Scalar.cmpi CmpIPredicate.eq 16#32 0#32) 1#32 16#32))
          (Scalar.remsi (BitVec.ofNat 32 n.val) (Scalar.select (Scalar.cmpi CmpIPredicate.eq 16#32 0#32) 1#32 16#32)))
        0#32) = if n.val % 16 = 0 then 1#1 else 0#1 := by decide +kernel

theorem sel_first (n : ℕ) (a b : EReal) : Scalar.select (if n % 16 = 0 then 1#1 else 0#1) a b = if n % 16 = 0 then a else b := by
  by_cases h : n % 16 = 0 <;> simp [h, Scalar.select]

/-- A selection by "the row is `k`". -/
theorem sel_row (n k : ℕ) (hn : n < 512) (hk : k < 512) (a b : EReal) :
    Scalar.select (IntOp.cmpi CmpIPredicate.eq (BitVec.ofNat 32 n) (BitVec.ofNat 32 k)) a b = if n = k then a else b := by
  rw [WordCmp.cmpi_eq_eq]
  by_cases e : n = k
  · subst e; simp [Scalar.select]
  · have : BitVec.ofNat 32 n ≠ BitVec.ofNat 32 k := by
      intro q; apply e
      have := congrArg BitVec.toNat q
      simp only [BitVec.toNat_ofNat] at this
      omega
    simp [Scalar.select, this, e]

variable (i : grid0.Coords) (x0 : FVec Ideal S512x1024 .f32) (x1 : FVec Ideal S512x512 .f32)
  (x2 : FVec Ideal S512x256 .f32) (x3 : FVec Ideal S512x1024 .f32) (x4 : FVec Ideal S8x1024 .f32)
  (x5 : FVec Ideal S1x2x256 .f32) (x6 : FVec Ideal S3x256 .f32) (x7 : FVec Ideal S1024x1024 .bf16)
  (x8 : FVec Ideal S1x1024 .f32)

/-- The convolution's input of a row of the tile: the product of the second and third groups of columns. -/
def urow (r : Fin 512) (j : Fin 256) : EReal :=
  x3 (ix2 r ⟨256 + j.val, by omega⟩) * x3 (ix2 r ⟨512 + j.val, by omega⟩)

/-- The convolution's input one token before the tile: from the buffer at a sequence's start, else from the row before. -/
def prev1 (j : Fin 256) : EReal :=
  if (i 0).val % 16 = 0 then x5 (ix3 0 1 j) else x4 (ix2 7 ⟨256 + j.val, by omega⟩) * x4 (ix2 7 ⟨512 + j.val, by omega⟩)

/-- The convolution's input two tokens before the tile. -/
def prev2 (j : Fin 256) : EReal :=
  if (i 0).val % 16 = 0 then x5 (ix3 0 0 j) else x4 (ix2 6 ⟨256 + j.val, by omega⟩) * x4 (ix2 6 ⟨512 + j.val, by omega⟩)

/-- The convolution's input one token before a row. -/
def back1 (r : Fin 512) (j : Fin 256) : EReal :=
  if r.val = 0 then prev1 i x4 x5 j else urow x3 ⟨(r.val + 512 - 1) % 512, by omega⟩ j

/-- The convolution's input two tokens before a row. -/
def back2 (r : Fin 512) (j : Fin 256) : EReal :=
  if r.val = 0 then prev2 i x4 x5 j else if r.val = 1 then prev1 i x4 x5 j
  else urow x3 ⟨(r.val + 512 - 2) % 512, by omega⟩ j

/-- The gated convolution of one row. -/
def oconv (r : Fin 512) (j : Fin 256) : EReal :=
  x3 (ix2 r ⟨j.val, by omega⟩)
    * (back2 i x3 x4 x5 r j * x6 (ix2 0 j) + back1 i x3 x4 x5 r j * x6 (ix2 1 j) + urow x3 r j * x6 (ix2 2 j))
    * (x3 (ix2 r ⟨768 + j.val, by omega⟩) * Ideal.div 1 (1 + Ideal.exp (0 - x3 (ix2 r ⟨768 + j.val, by omega⟩))))

/-- The row's product with the output weights, in the three groups of columns. -/
def acc (v : Fin 512 → Fin 256 → EReal) (r : Fin 512) (n : Fin 1024) : EReal :=
  (∑ k : Fin 512, x1 (ix2 r k) * x7 (ix2 ⟨k.val, by omega⟩ n))
    + (∑ k : Fin 256, x2 (ix2 r k) * x7 (ix2 ⟨512 + k.val, by omega⟩ n))
    + ∑ k : Fin 256, v r k * x7 (ix2 ⟨768 + k.val, by omega⟩ n)

theorem pay8_at (j : Fin 256) :
    k0_pay8 (F := Ideal) i (View.ld x4 r0_1) (View.ld x5 r0_2) (ix2 0 j) = prev1 i x4 x5 j := by
  pointwise [k0_pay8, k0_pay7, k0_pay6, r0_1, r0_2]
  have h := first_word (i 0)
  rw [h, sel_first]
  rfl

theorem pay9_at (j : Fin 256) :
    k0_pay9 (F := Ideal) i (View.ld x4 r0_1) (View.ld x5 r0_2) (ix2 0 j) = prev2 i x4 x5 j := by
  pointwise [k0_pay9, k0_pay7, k0_pay6, r0_1, r0_2]
  have h := first_word (i 0)
  rw [h, sel_first]
  rfl

theorem pay10_at (r : Fin 512) (j : Fin 256) :
    k0_pay10 (F := Ideal) i (View.ld x3 r0_0) (View.ld x4 r0_1) (View.ld x5 r0_2) (ix2 r j) = back1 i x3 x4 x5 r j := by
  have h8 := pay8_at i x4 x5 j
  generalize hp : k0_pay8 (F := Ideal) i (View.ld x4 r0_1) (View.ld x5 r0_2) = p
  rw [hp] at h8
  pointwise [k0_pay10, k0_pay4, k0_pay2, r0_0]
  rw [hp, h8]
  exact sel_row r.val 0 r.isLt (by omega) _ _

theorem pay4_at (r : Fin 512) (j : Fin 256) :
    k0_pay4 (F := Ideal) (View.ld x3 r0_0) (ix2 r j) = urow x3 r j := by
  pointwise [k0_pay4, k0_pay2, r0_0, urow]

theorem pay14_at (r : Fin 512) (j : Fin 256) :
    k0_pay14 (F := Ideal) (k0_pay3 (View.ld x3 r0_0)) (k0_pay4 (View.ld x3 r0_0)) (k0_pay5 (View.ld x3 r0_0))
      (iota .tc S512x256 32 [0] iota_S512x256_d0_w32) (k0_pay8 i (View.ld x4 r0_1) (View.ld x5 r0_2))
      (k0_pay9 i (View.ld x4 r0_1) (View.ld x5 r0_2)) (k0_pay10 i (View.ld x3 r0_0) (View.ld x4 r0_1) (View.ld x5 r0_2))
      k0_pay11 k0_pay12 (View.ld x6 r0_3) (ix2 r j) = oconv i x3 x4 x5 x6 r j := by
  have h8 := pay8_at i x4 x5 j
  have h9 := pay9_at i x4 x5 j
  have h10 := pay10_at i x3 x4 x5 r j
  have h4 := fun r => pay4_at x3 r j
  have h3 : k0_pay3 (F := Ideal) (View.ld x3 r0_0) (ix2 r j) = x3 (ix2 r ⟨j.val, by omega⟩) := by
    pointwise [k0_pay3, k0_pay2, r0_0]
  have h5 : k0_pay5 (F := Ideal) (View.ld x3 r0_0) (ix2 r j) = x3 (ix2 r ⟨768 + j.val, by omega⟩) := by
    pointwise [k0_pay5, k0_pay2, r0_0]
  generalize k0_pay8 (F := Ideal) i (View.ld x4 r0_1) (View.ld x5 r0_2) = p at *
  generalize k0_pay9 (F := Ideal) i (View.ld x4 r0_1) (View.ld x5 r0_2) = q at *
  generalize k0_pay10 (F := Ideal) i (View.ld x3 r0_0) (View.ld x4 r0_1) (View.ld x5 r0_2) = v37 at *
  generalize k0_pay4 (F := Ideal) (View.ld x3 r0_0) = v5 at *
  generalize k0_pay3 (F := Ideal) (View.ld x3 r0_0) = v2 at *
  generalize k0_pay5 (F := Ideal) (View.ld x3 r0_0) = v6 at *
  pointwise [k0_pay14, k0_pay11, k0_pay12, r0_3]
  have e0 := fun a b => sel_row r.val 0 r.isLt (by omega) a b
  have e1 := fun a b => sel_row r.val 1 r.isLt (by omega) a b
  rw [e0, e1, h8, h9, h10, h4, h4, h3, h5]
  rfl

theorem out9 (r : Fin 512) (n : Fin 1024) :
    out0_9 (F := Ideal) i x0 x1 x2 x3 x4 x5 x6 x7 x8 (ix2 r n)
      = x0 (ix2 r n) + acc x1 x2 x7 (oconv i x3 x4 x5 x6) r n
        * Ideal.rsqrt (Ideal.div (∑ k : Fin 1024, acc x1 x2 x7 (oconv i x3 x4 x5 x6) r k * acc x1 x2 x7 (oconv i x3 x4 x5 x6) r k)
            (Ideal.ofBits .f32 1149239296#32) + Ideal.ofBits .f32 897988541#32) * x8 (ix2 0 n) := by
  unfold_out out0_9
  rw [View.canon_unit_zero hz2]
  have h := fun r j => pay14_at i x3 x4 x5 x6 r j
  generalize k0_pay14 (F := Ideal) _ _ _ _ _ _ _ _ _ _ = v at *
  pointwise [k0_pay1, k0_pay15, k0_pay16, r0_0, r0_4, r0_5, r0_6, r0_7, r0_8, r0_9]
  simp only [h]
  rfl

theorem out10 (a : Fin 2) (j : Fin 256) :
    out0_10 (F := Ideal) i x0 x1 x2 x3 x4 x5 x6 x7 x8 (ix3 0 a j) = urow x3 ⟨510 + a.val, by omega⟩ j := by
  unfold_out out0_10
  rw [View.canon_unit_zero hz3]
  have h4 := fun r => pay4_at x3 r j
  generalize k0_pay4 (F := Ideal) (View.ld x3 r0_0) = v5 at *
  pointwise [k0_pay13, r0_2]
  exact h4 _

end Cert.Proof.OutBlock
-- ==== Proof.OutArr.lean ====
/- What the output projection's two arrays hold after the run, as functions of its arguments. -/
module
public import proofs.«01_k».proof.Proof.OutBlock
public import Idealize.ShloMosaic.Lib.StableHlo.ReadAt

@[expose] public section

set_option maxRecDepth 16384

noncomputable section

namespace Cert.Proof.OutArr

open Cert.Kernel3Ideal Cert.Kernel3Ideal.Gen Cert.Kernel3Ideal.Value Cert.Proof.OutBlock Idealize.ShloMosaic
open Idealize.ShloMosaic.TcCoe Idealize.SL.Sem

/-- The convolution's input, sequence by sequence: two kept tokens, then the products of two groups of columns. -/
def U (cv : FVec Ideal S2x8192x1024 .f32) (buf : FVec Ideal S2x2x256 .f32) (b : Fin 2) (n : Fin 8194) (j : Fin 256) : EReal :=
  if h : n.val < 2 then buf (ix3 b ⟨n.val, h⟩ j)
  else cv (ix3 b ⟨n.val - 2, by omega⟩ ⟨256 + j.val, by omega⟩) * cv (ix3 b ⟨n.val - 2, by omega⟩ ⟨512 + j.val, by omega⟩)

theorem U_congr (cv : FVec Ideal S2x8192x1024 .f32) (buf : FVec Ideal S2x2x256 .f32) (b b' : Fin 2) (n n' : Fin 8194) (j : Fin 256)
    (hb : b.val = b'.val) (hn : n.val = n'.val) : U cv buf b n j = U cv buf b' n' j := by
  obtain rfl := Fin.ext hb
  obtain rfl := Fin.ext hn
  rfl

/-- A token's product is the convolution's input two places further on. -/
theorem U_tok (cv : FVec Ideal S2x8192x1024 .f32) (buf : FVec Ideal S2x2x256 .f32) (b b' : Fin 2) (s : Fin 8192) (n : Fin 8194) (j : Fin 256)
    (hb : b.val = b'.val) (hn : s.val + 2 = n.val) :
    cv (ix3 b s ⟨256 + j.val, by omega⟩) * cv (ix3 b s ⟨512 + j.val, by omega⟩) = U cv buf b' n j := by
  obtain rfl := Fin.ext hb
  unfold U
  rw [dif_neg (by omega)]
  have e : ∀ s' : Fin 8192, s = s' → cv (ix3 b s ⟨256 + j.val, by omega⟩) * cv (ix3 b s ⟨512 + j.val, by omega⟩)
      = cv (ix3 b s' ⟨256 + j.val, by omega⟩) * cv (ix3 b s' ⟨512 + j.val, by omega⟩) := by rintro _ rfl; rfl
  exact e _ (Fin.ext (by show s.val = n.val - 2; omega))

theorem U_buf (cv : FVec Ideal S2x8192x1024 .f32) (buf : FVec Ideal S2x2x256 .f32) (b b' : Fin 2) (s : Fin 2) (n : Fin 8194) (j : Fin 256)
    (hb : b.val = b'.val) (hn : s.val = n.val) : buf (ix3 b s j) = U cv buf b' n j := by
  obtain rfl := Fin.ext hb
  unfold U
  rw [dif_pos (by omega)]
  exact congrArg (fun s => buf (ix3 b s j)) (Fin.ext hn)

/-- Token `R`'s gated convolution: three taps of the input, gated by the first group of columns and the sigmoid-weighted last. -/
def oc (cv : FVec Ideal S2x8192x1024 .f32) (buf : FVec Ideal S2x2x256 .f32) (cw : FVec Ideal S3x256 .f32)
    (R : Fin 16384) (j : Fin 256) : EReal :=
  cv (ix3 ⟨R / 8192, by omega⟩ ⟨R % 8192, by omega⟩ ⟨j.val, by omega⟩)
    * (U cv buf ⟨R / 8192, by omega⟩ ⟨R % 8192, by omega⟩ j * cw (ix2 0 j)
      + U cv buf ⟨R / 8192, by omega⟩ ⟨1 + R % 8192, by omega⟩ j * cw (ix2 1 j)
      + U cv buf ⟨R / 8192, by omega⟩ ⟨2 + R % 8192, by omega⟩ j * cw (ix2 2 j))
    * (cv (ix3 ⟨R / 8192, by omega⟩ ⟨R % 8192, by omega⟩ ⟨768 + j.val, by omega⟩)
      * Ideal.div 1 (1 + Ideal.exp (0 - cv (ix3 ⟨R / 8192, by omega⟩ ⟨R % 8192, by omega⟩ ⟨768 + j.val, by omega⟩))))

/-- Token `R`'s product with column `n` of the output weights: attention, recurrence and convolution side by side. -/
def mix (a : FVec Ideal S2x8192x512 .f32) (g : FVec Ideal S2x8192x256 .f32) (v : Fin 16384 → Fin 256 → EReal)
    (w : FVec Ideal S1024x1024 .f32) (R : Fin 16384) (n : Fin 1024) : EReal :=
  (∑ k : Fin 512, a (ix3 ⟨R / 8192, by omega⟩ ⟨R % 8192, by omega⟩ k) * w (ix2 ⟨k.val, by omega⟩ n))
    + (∑ k : Fin 256, g (ix3 ⟨R / 8192, by omega⟩ ⟨R % 8192, by omega⟩ k) * w (ix2 ⟨512 + k.val, by omega⟩ n))
    + ∑ k : Fin 256, v R k * w (ix2 ⟨768 + k.val, by omega⟩ n)

/-- The layer's output at token `R`, column `n`: the input plus the normalised product. -/
def yrow (x : FVec Ideal S2x8192x1024 .f32) (p : Fin 16384 → Fin 1024 → EReal) (g : FVec Ideal S1024 .f32)
    (R : Fin 16384) (n : Fin 1024) : EReal :=
  x (ix3 ⟨R / 8192, by omega⟩ ⟨R % 8192, by omega⟩ n)
    + p R n * Ideal.rsqrt (Ideal.div (∑ k : Fin 1024, p R k * p R k) (Ideal.ofBits .f32 1149239296#32)
        + Ideal.ofBits .f32 897988541#32) * g (ix1 n)

/-- The layer's output as an array. -/
def G9 (x : FVec Ideal S2x8192x1024 .f32) (a : FVec Ideal S2x8192x512 .f32) (g : FVec Ideal S2x8192x256 .f32)
    (cv : FVec Ideal S2x8192x1024 .f32) (buf : FVec Ideal S2x2x256 .f32) (cw : FVec Ideal S3x256 .f32)
    (w : FVec Ideal S1024x1024 .f32) (np : FVec Ideal S1024 .f32) : FVec Ideal S16384x1024 .f32 :=
  fun i => yrow x (mix a g (oc cv buf cw) w) np (i 0) (i 1)

/-- The convolution's last two inputs of each sequence. -/
def G10 (cv : FVec Ideal S2x8192x1024 .f32) (buf : FVec Ideal S2x2x256 .f32) : FVec Ideal S2x2x256 .f32 :=
  fun i => U cv buf (i 0) ⟨8192 + (i 1).val, by have h : (i 1).val < 2 := (i 1).isLt; omega⟩ (i 2)

variable (m : (ℓ : Loc nD τ sig) → Buf (Elt Ideal) ℓ)

theorem V_0 (c : Dev nD) (R : Fin 16384) (k : Fin 1024) : V m c main_v0 (ix2 R k)
    = m ((c.tc : Thread nD τ).loc main_arg0) (ix3 ⟨R / 8192, by omega⟩ ⟨R % 8192, by omega⟩ k) := by
  unfold V hostOps0
  after_reads_at

theorem V_1 (c : Dev nD) (R : Fin 16384) (k : Fin 512) : V m c main_v1 (ix2 R k)
    = m ((c.tc : Thread nD τ).loc main_arg1) (ix3 ⟨R / 8192, by omega⟩ ⟨R % 8192, by omega⟩ k) := by
  unfold V hostOps0
  after_reads_at

theorem V_2 (c : Dev nD) (R : Fin 16384) (k : Fin 256) : V m c main_v2 (ix2 R k)
    = m ((c.tc : Thread nD τ).loc main_arg2) (ix3 ⟨R / 8192, by omega⟩ ⟨R % 8192, by omega⟩ k) := by
  unfold V hostOps0
  after_reads_at

theorem V_3 (c : Dev nD) (R : Fin 16384) (k : Fin 1024) : V m c main_v3 (ix2 R k)
    = m ((c.tc : Thread nD τ).loc main_arg3) (ix3 ⟨R / 8192, by omega⟩ ⟨R % 8192, by omega⟩ k) := by
  unfold V hostOps0
  after_reads_at

theorem V_4 (c : Dev nD) (k n : Fin 1024) : V m c main_v4 (ix2 k n) = m ((c.tc : Thread nD τ).loc main_arg6) (ix2 k n) := by
  unfold V hostOps0
  after_reads_at

theorem V_5 (c : Dev nD) (n : Fin 1024) : V m c main_v5 (ix2 0 n) = m ((c.tc : Thread nD τ).loc main_arg7) (ix1 n) := by
  unfold V hostOps0
  after_reads_at

theorem tlt (t : Fin cfg0.N) : t.val < 32 := t.isLt

theorem coord0 : ∀ t : Fin cfg0.N, ((grid0.coords t) 0).val = t.val := (by decide +kernel : ∀ t : Fin grid0.N, _)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 64 * t.val - 1 ∧ win0_4.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, _)
theorem idx10 : ∀ t : Fin cfg0.N, win0_10.index t (0 : Fin 3) = t.val / 16 ∧ win0_10.index t (1 : Fin 3) = 0 ∧ win0_10.index t (2 : Fin 3) = 0 :=
  (by decide +kernel : ∀ t : Fin grid0.N, _)

theorem blk0 (c : Dev nD) (t : Fin cfg0.N) (r : Fin 512) (k : Fin 1024) :
    (iblk m c 0 t : FVec Ideal S512x1024 .f32) (ix2 r k)
      = m ((c.tc : Thread nD τ).loc main_arg0) (ix3 ⟨(512 * t.val + r.val) / 8192, by have := tlt t; omega⟩ ⟨(512 * t.val + r.val) % 8192, by omega⟩ k) := by
  obtain ⟨e0, e1⟩ := idx0 t
  refine Eq.trans ?_ (V_0 m c ⟨512 * t.val + r.val, by have := tlt t; omega⟩ k)
  show V m c main_v0 (((cfg0.win 0).blk t).view.emb (ix2 r k)) = _
  refine congrArg (V m c main_v0) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (c : Dev nD) (t : Fin cfg0.N) (r : Fin 512) (k : Fin 512) :
    (iblk m c 1 t : FVec Ideal S512x512 .f32) (ix2 r k)
      = m ((c.tc : Thread nD τ).loc main_arg1) (ix3 ⟨(512 * t.val + r.val) / 8192, by have := tlt t; omega⟩ ⟨(512 * t.val + r.val) % 8192, by omega⟩ k) := by
  obtain ⟨e0, e1⟩ := idx1 t
  refine Eq.trans ?_ (V_1 m c ⟨512 * t.val + r.val, by have := tlt t; omega⟩ k)
  show V m c main_v1 (((cfg0.win 1).blk t).view.emb (ix2 r k)) = _
  refine congrArg (V m c main_v1) (funext fun a => Fin.ext ?_)
  match a with
  | ⟨0, _⟩ => show win0_1.index t (0 : Fin 2) * 512 + 1 * r.val = 512 * t.val + r.val; omega
  | ⟨1, _⟩ => show win0_1.index t (1 : Fin 2) * 512 + 1 * k.val = k.val; omega

theorem blk2 (c : Dev nD) (t : Fin cfg0.N) (r : Fin 512) (k : Fin 256) :
    (iblk m c 2 t : FVec Ideal S512x256 .f32) (ix2 r k)
      = m ((c.tc : Thread nD τ).loc main_arg2) (ix3 ⟨(512 * t.val + r.val) / 8192, by have := tlt t; omega⟩ ⟨(512 * t.val + r.val) % 8192, by omega⟩ k) := by
  obtain ⟨e0, e1⟩ := idx2 t
  refine Eq.trans ?_ (V_2 m c ⟨512 * t.val + r.val, by have := tlt t; omega⟩ k)
  show V m c main_v2 (((cfg0.win 2).blk t).view.emb (ix2 r k)) = _
  refine congrArg (V m c main_v2) (funext fun a => Fin.ext ?_)
  match a with
  | ⟨0, _⟩ => show win0_2.index t (0 : Fin 2) * 512 + 1 * r.val = 512 * t.val + r.val; omega
  | ⟨1, _⟩ => show win0_2.index t (1 : Fin 2) * 256 + 1 * k.val = k.val; omega

theorem blk3 (c : Dev nD) (t : Fin cfg0.N) (r : Fin 512) (k : Fin 1024) :
    (iblk m c 3 t : FVec Ideal S512x1024 .f32) (ix2 r k)
      = m ((c.tc : Thread nD τ).loc main_arg3) (ix3 ⟨(512 * t.val + r.val) / 8192, by have := tlt t; omega⟩ ⟨(512 * t.val + r.val) % 8192, by omega⟩ k) := by
  obtain ⟨e0, e1⟩ := idx3 t
  refine Eq.trans ?_ (V_3 m c ⟨512 * t.val + r.val, by have := tlt t; omega⟩ k)
  show V m c main_v3 (((cfg0.win 3).blk t).view.emb (ix2 r k)) = _
  refine congrArg (V m c main_v3) (funext fun a => Fin.ext ?_)
  match a with
  | ⟨0, _⟩ => show win0_3.index t (0 : Fin 2) * 512 + 1 * r.val = 512 * t.val + r.val; omega
  | ⟨1, _⟩ => show win0_3.index t (1 : Fin 2) * 1024 + 1 * k.val = k.val; omega

theorem blk4 (c : Dev nD) (t : Fin cfg0.N) (r : Fin 8) (k : Fin 1024) :
    (iblk m c 4 t : FVec Ideal S8x1024 .f32) (ix2 r k)
      = m ((c.tc : Thread nD τ).loc main_arg3) (ix3 ⟨(8 * (64 * t.val - 1) + r.val) / 8192, by have := tlt t; omega⟩ ⟨(8 * (64 * t.val - 1) + r.val) % 8192, by omega⟩ k) := by
  obtain ⟨e0, e1⟩ := idx4 t
  refine Eq.trans ?_ (V_3 m c ⟨8 * (64 * t.val - 1) + r.val, by have := tlt t; omega⟩ k)
  show V m c main_v3 (((cfg0.win 4).blk t).view.emb (ix2 r k)) = _
  refine congrArg (V m c main_v3) (funext fun a => Fin.ext ?_)
  match a with
  | ⟨0, _⟩ => show win0_4.index t (0 : Fin 2) * 8 + 1 * r.val = 8 * (64 * t.val - 1) + r.val; omega
  | ⟨1, _⟩ => show win0_4.index t (1 : Fin 2) * 1024 + 1 * k.val = k.val; omega

theorem blk5 (c : Dev nD) (t : Fin cfg0.N) (r : Fin 2) (j : Fin 256) :
    (iblk m c 5 t : FVec Ideal S1x2x256 .f32) (ix3 0 r j)
      = m ((c.tc : Thread nD τ).loc main_arg4) (ix3 ⟨t.val / 16, by have := tlt t; omega⟩ r j) := by
  obtain ⟨e0, e1, e2⟩ := idx5 t
  refine Eq.trans ?_ (congrFun (V_main_arg4 m c) _)
  show V m c main_arg4 (((cfg0.win 5).blk t).view.emb (ix3 0 r j)) = _
  refine congrArg (V m c main_arg4) (funext fun a => Fin.ext ?_)
  match a with
  | ⟨0, _⟩ => show win0_5.index t (0 : Fin 3) * 1 + 1 * 0 = t.val / 16; omega
  | ⟨1, _⟩ => show win0_5.index t (1 : Fin 3) * 2 + 1 * r.val = r.val; omega
  | ⟨2, _⟩ => show win0_5.index t (2 : Fin 3) * 256 + 1 * j.val = j.val; omega

theorem blk6 (c : Dev nD) (t : Fin cfg0.N) (r : Fin 3) (j : Fin 256) :
    (iblk m c 6 t : FVec Ideal S3x256 .f32) (ix2 r j) = m ((c.tc : Thread nD τ).loc main_arg5) (ix2 r j) := by
  obtain ⟨e0, e1⟩ := idx6 t
  refine Eq.trans ?_ (congrFun (V_main_arg5 m c) _)
  show V m c main_arg5 (((cfg0.win 6).blk t).view.emb (ix2 r j)) = _
  refine congrArg (V m c main_arg5) (funext fun a => Fin.ext ?_)
  match a with
  | ⟨0, _⟩ => show win0_6.index t (0 : Fin 2) * 3 + 1 * r.val = r.val; omega
  | ⟨1, _⟩ => show win0_6.index t (1 : Fin 2) * 256 + 1 * j.val = j.val; omega

theorem blk7 (c : Dev nD) (t : Fin cfg0.N) (k n : Fin 1024) :
    (iblk m c 7 t : FVec Ideal S1024x1024 .bf16) (ix2 k n) = m ((c.tc : Thread nD τ).loc main_arg6) (ix2 k n) := by
  obtain ⟨e0, e1⟩ := idx7 t
  refine Eq.trans ?_ (V_4 m c k n)
  show V m c main_v4 (((cfg0.win 7).blk t).view.emb (ix2 k n)) = _
  refine congrArg (V m c main_v4) (funext fun a => Fin.ext ?_)
  match a with
  | ⟨0, _⟩ => show win0_7.index t (0 : Fin 2) * 1024 + 1 * k.val = k.val; omega
  | ⟨1, _⟩ => show win0_7.index t (1 : Fin 2) * 1024 + 1 * n.val = n.val; omega

theorem blk8 (c : Dev nD) (t : Fin cfg0.N) (n : Fin 1024) :
    (iblk m c 8 t : FVec Ideal S1x1024 .f32) (ix2 0 n) = m ((c.tc : Thread nD τ).loc main_arg7) (ix1 n) := by
  obtain ⟨e0, e1⟩ := idx8 t
  refine Eq.trans ?_ (V_5 m c n)
  show V m c main_v5 (((cfg0.win 8).blk t).view.emb (ix2 0 n)) = _
  refine congrArg (V m c main_v5) (funext fun a => Fin.ext ?_)
  match a with
  | ⟨0, _⟩ => show win0_8.index t (0 : Fin 2) * 1 + 1 * 0 = 0; omega
  | ⟨1, _⟩ => show win0_8.index t (1 : Fin 2) * 1024 + 1 * n.val = n.val; omega

theorem urow_at (c : Dev nD) (t : Fin cfg0.N) (r : Fin 512) (j : Fin 256) (b : Fin 2) (n : Fin 8194)
    (hb : (512 * t.val + r.val) / 8192 = b.val) (hn : (512 * t.val + r.val) % 8192 + 2 = n.val) :
    urow (iblk m c 3 t) r j = U (m ((c.tc : Thread nD τ).loc main_arg3)) (m ((c.tc : Thread nD τ).loc main_arg4)) b n j :=
  (congrArg₂ (fun p q : EReal => p * q) (blk3 m c t r ⟨256 + j.val, by omega⟩) (blk3 m c t r ⟨512 + j.val, by omega⟩)).trans
    (U_tok _ _ _ _ _ _ _ hb hn)

theorem prev1_at (c : Dev nD) (t : Fin cfg0.N) (j : Fin 256) (b : Fin 2) (n : Fin 8194)
    (hb : t.val / 16 = b.val) (hn : (512 * t.val) % 8192 + 1 = n.val) :
    prev1 (grid0.coords t) (iblk m c 4 t) (iblk m c 5 t) j = U (m ((c.tc : Thread nD τ).loc main_arg3)) (m ((c.tc : Thread nD τ).loc main_arg4)) b n j := by
  unfold prev1
  rw [coord0 t]
  have := tlt t
  by_cases h : t.val % 16 = 0
  · rw [if_pos h]
    refine (blk5 m c t 1 j).trans (U_buf _ _ _ _ _ _ _ hb (by show 1 = n.val; omega))
  · rw [if_neg h]
    refine (congrArg₂ (fun p q : EReal => p * q) (blk4 m c t 7 ⟨256 + j.val, by omega⟩) (blk4 m c t 7 ⟨512 + j.val, by omega⟩)).trans
      (U_tok _ _ _ _ _ _ _ ?_ ?_)
    · show (8 * (64 * t.val - 1) + 7) / 8192 = b.val; omega
    · show (8 * (64 * t.val - 1) + 7) % 8192 + 2 = n.val; omega

theorem prev2_at (c : Dev nD) (t : Fin cfg0.N) (j : Fin 256) (b : Fin 2) (n : Fin 8194)
    (hb : t.val / 16 = b.val) (hn : (512 * t.val) % 8192 = n.val) :
    prev2 (grid0.coords t) (iblk m c 4 t) (iblk m c 5 t) j = U (m ((c.tc : Thread nD τ).loc main_arg3)) (m ((c.tc : Thread nD τ).loc main_arg4)) b n j := by
  unfold prev2
  rw [coord0 t]
  have := tlt t
  by_cases h : t.val % 16 = 0
  · rw [if_pos h]
    refine (blk5 m c t 0 j).trans (U_buf _ _ _ _ _ _ _ hb (by show 0 = n.val; omega))
  · rw [if_neg h]
    refine (congrArg₂ (fun p q : EReal => p * q) (blk4 m c t 6 ⟨256 + j.val, by omega⟩) (blk4 m c t 6 ⟨512 + j.val, by omega⟩)).trans
      (U_tok _ _ _ _ _ _ _ ?_ ?_)
    · show (8 * (64 * t.val - 1) + 6) / 8192 = b.val; omega
    · show (8 * (64 * t.val - 1) + 6) % 8192 + 2 = n.val; omega

theorem back1_at (c : Dev nD) (t : Fin cfg0.N) (r : Fin 512) (j : Fin 256) (b : Fin 2) (n : Fin 8194)
    (hb : (512 * t.val + r.val) / 8192 = b.val) (hn : (512 * t.val + r.val) % 8192 + 1 = n.val) :
    back1 (grid0.coords t) (iblk m c 3 t) (iblk m c 4 t) (iblk m c 5 t) r j = U (m ((c.tc : Thread nD τ).loc main_arg3)) (m ((c.tc : Thread nD τ).loc main_arg4)) b n j := by
  unfold back1
  have := tlt t
  by_cases h : r.val = 0
  · rw [if_pos h]
    exact prev1_at m c t j b n (by omega) (by omega)
  · rw [if_neg h]
    exact urow_at m c t _ j b n (by show (512 * t.val + (r.val + 512 - 1) % 512) / 8192 = b.val; omega)
      (by show (512 * t.val + (r.val + 512 - 1) % 512) % 8192 + 2 = n.val; omega)

theorem back2_at (c : Dev nD) (t : Fin cfg0.N) (r : Fin 512) (j : Fin 256) (b : Fin 2) (n : Fin 8194)
    (hb : (512 * t.val + r.val) / 8192 = b.val) (hn : (512 * t.val + r.val) % 8192 = n.val) :
    back2 (grid0.coords t) (iblk m c 3 t) (iblk m c 4 t) (iblk m c 5 t) r j = U (m ((c.tc : Thread nD τ).loc main_arg3)) (m ((c.tc : Thread nD τ).loc main_arg4)) b n j := by
  unfold back2
  have := tlt t
  by_cases h : r.val = 0
  · rw [if_pos h]
    exact prev2_at m c t j b n (by omega) (by omega)
  · rw [if_neg h]
    by_cases h1 : r.val = 1
    · rw [if_pos h1]
      exact prev1_at m c t j b n (by omega) (by omega)
    · rw [if_neg h1]
      exact urow_at m c t _ j b n (by show (512 * t.val + (r.val + 512 - 2) % 512) / 8192 = b.val; omega)
        (by show (512 * t.val + (r.val + 512 - 2) % 512) % 8192 + 2 = n.val; omega)

/-- A tile's gated convolution is the token's. -/
theorem oconv_at (c : Dev nD) (t : Fin cfg0.N) (r : Fin 512) (j : Fin 256) :
    oconv (grid0.coords t) (iblk m c 3 t) (iblk m c 4 t) (iblk m c 5 t) (iblk m c 6 t) r j
      = oc (m ((c.tc : Thread nD τ).loc main_arg3)) (m ((c.tc : Thread nD τ).loc main_arg4)) (m ((c.tc : Thread nD τ).loc main_arg5)) ⟨512 * t.val + r.val, by have := tlt t; omega⟩ j := by
  unfold oconv oc
  have := tlt t
  have z := blk3 m c t r ⟨768 + j.val, by omega⟩
  refine congrArg₂ (· * ·) (congrArg₂ (· * ·) (blk3 m c t r ⟨j.val, by omega⟩) ?_)
    (congrArg₂ (· * ·) z (congrArg (fun z => Ideal.div 1 (1 + Ideal.exp (0 - z))) z))
  exact congrArg₂ (· + ·) (congrArg₂ (· + ·)
    (congrArg₂ (· * ·) (back2_at m c t r j _ _ rfl rfl) (blk6 m c t 0 j))
    (congrArg₂ (· * ·) (back1_at m c t r j _ _ rfl (Nat.add_comm _ _)) (blk6 m c t 1 j)))
    (congrArg₂ (· * ·) (urow_at m c t r j _ _ rfl (Nat.add_comm _ _)) (blk6 m c t 2 j))

/-- A tile's product is the token's. -/
theorem acc_at (c : Dev nD) (t : Fin cfg0.N) (r : Fin 512) (n : Fin 1024) :
    acc (iblk m c 1 t) (iblk m c 2 t) (iblk m c 7 t) (oconv (grid0.coords t) (iblk m c 3 t) (iblk m c 4 t) (iblk m c 5 t) (iblk m c 6 t)) r n
      = mix (m ((c.tc : Thread nD τ).loc main_arg1)) (m ((c.tc : Thread nD τ).loc main_arg2)) (oc (m ((c.tc : Thread nD τ).loc main_arg3)) (m ((c.tc : Thread nD τ).loc main_arg4)) (m ((c.tc : Thread nD τ).loc main_arg5))) (m ((c.tc : Thread nD τ).loc main_arg6)) ⟨512 * t.val + r.val, by have := tlt t; omega⟩ n := by
  unfold acc mix
  exact congrArg₂ (· + ·) (congrArg₂ (· + ·)
    (Finset.sum_congr rfl fun k _ => congrArg₂ (· * ·) (blk1 m c t r k) (blk7 m c t _ n))
    (Finset.sum_congr rfl fun k _ => congrArg₂ (· * ·) (blk2 m c t r k) (blk7 m c t _ n)))
    (Finset.sum_congr rfl fun k _ => congrArg₂ (· * ·) (oconv_at m c t r k) (blk7 m c t _ n))

theorem emb9 (t : Fin cfg0.N) (r : Fin 512) (n : Fin 1024) : ((cfg0.win 9).blk t).view.emb (ix2 r n)
    = ix2 (⟨512 * t.val + r.val, by have := tlt t; omega⟩ : Fin 16384) n := by
  obtain ⟨e0, e1⟩ := idx9 t
  refine funext fun a => Fin.ext ?_
  match a with
  | ⟨0, _⟩ => show win0_9.index t (0 : Fin 2) * 512 + 1 * r.val = 512 * t.val + r.val; omega
  | ⟨1, _⟩ => show win0_9.index t (1 : Fin 2) * 1024 + 1 * n.val = n.val; omega

theorem at9 (c : Dev nD) (t : Fin cfg0.N) (r : Fin 512) (n : Fin 1024) :
    out0_9 (F := Ideal) (grid0.coords t) (iblk m c 0 t) (iblk m c 1 t) (iblk m c 2 t) (iblk m c 3 t) (iblk m c 4 t) (iblk m c 5 t) (iblk m c 6 t) (iblk m c 7 t) (iblk m c 8 t) (ix2 r n)
      = yrow (m ((c.tc : Thread nD τ).loc main_arg0)) (mix (m ((c.tc : Thread nD τ).loc main_arg1)) (m ((c.tc : Thread nD τ).loc main_arg2)) (oc (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg7)) ⟨512 * t.val + r.val, by have := tlt t; omega⟩ n := by
  refine (out9 (grid0.coords t) (iblk m c 0 t) (iblk m c 1 t) (iblk m c 2 t) (iblk m c 3 t) (iblk m c 4 t) (iblk m c 5 t) (iblk m c 6 t) (iblk m c 7 t) (iblk m c 8 t) r n).trans ?_
  unfold yrow
  have h := fun k => acc_at m c t r k
  refine congrArg₂ (· + ·) (blk0 m c t r n) (congrArg₂ (· * ·) (congrArg₂ (· * ·) (h n) ?_) (blk8 m c t n))
  exact congrArg Ideal.rsqrt (congrArg (· + _) (congrArg (Ideal.div · _)
    (Finset.sum_congr rfl fun k _ => congrArg₂ (· * ·) (h k) (h k))))

theorem flushed9_eq (c : Dev nD) (t : Fin cfg0.N) : (dats m 0 c).flushed 9 t
    = ((cfg0.win 9).blk t).view.read (Elt Ideal) (G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  rw [flushed9]
  refine funext fun y => ?_
  obtain ⟨r, n, rfl⟩ : ∃ (r : Fin 512) (n : Fin 1024), y = ix2 r n := ⟨y 0, y 1, eq_ix2 y⟩
  refine (at9 m c t r n).trans ?_
  exact (congrArg (G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (emb9 t r n)).symm

theorem covered9 (i : S16384x1024.Idx) :
    ∃ t : Fin cfg0.N, (cfg0.win 9).flush t = true ∧ i ∈ ((cfg0.win 9).blk t).view.set := by
  obtain ⟨R, j, rfl⟩ : ∃ (R : Fin 16384) (j : Fin 1024), i = ix2 R j := ⟨i 0, i 1, eq_ix2 i⟩
  have ht : R.val / 512 < cfg0.N := by show R.val / 512 < 32; omega
  have h := ((cfg0.win 9).blk ⟨R.val / 512, ht⟩).view.emb_mem_set (ix2 ⟨R.val % 512, by omega⟩ j)
  rw [emb9 ⟨R.val / 512, ht⟩ ⟨R.val % 512, by omega⟩ j] at h
  have hR : (⟨512 * (R.val / 512) + R.val % 512, by omega⟩ : Fin 16384) = R := Fin.ext (by show 512 * (R.val / 512) + R.val % 512 = R.val; omega)
  exact ⟨_, flush0_9 _, hR ▸ h⟩

/-- The first array after the run: the layer's output. -/
theorem final9 (c : Dev nD) : (dats m 0 c).arrAt 9 cfg0.N = G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (dats m 0 c).arrAt_eq_of_cover 9 _ (fun t _ => flushed9_eq m c t) covered9

theorem emb10 (t : Fin cfg0.N) (s : Fin 2) (j : Fin 256) : ((cfg0.win 10).blk t).view.emb (ix3 0 s j)
    = ix3 (⟨t.val / 16, by have := tlt t; omega⟩ : Fin 2) s j := by
  obtain ⟨e0, e1, e2⟩ := idx10 t
  refine funext fun a => Fin.ext ?_
  match a with
  | ⟨0, _⟩ => show win0_10.index t (0 : Fin 3) * 1 + 1 * 0 = t.val / 16; omega
  | ⟨1, _⟩ => show win0_10.index t (1 : Fin 3) * 2 + 1 * s.val = s.val; omega
  | ⟨2, _⟩ => show win0_10.index t (2 : Fin 3) * 256 + 1 * j.val = j.val; omega

theorem flushed10_eq (c : Dev nD) (t : Fin cfg0.N) (hf : t.val % 16 = 15) : (dats m 0 c).flushed 10 t
    = ((cfg0.win 10).blk t).view.read (Elt Ideal) (G10 (m ((c.tc : Thread nD τ).loc main_arg3)) (m ((c.tc : Thread nD τ).loc main_arg4))) := by
  rw [flushed10]
  refine funext fun y => ?_
  obtain ⟨z, s, j, rfl⟩ : ∃ (z : Fin 1) (s : Fin 2) (j : Fin 256), y = ix3 z s j := ⟨y 0, y 1, y 2, eq_ix3 y⟩
  obtain rfl : z = 0 := Subsingleton.elim _ _
  have := tlt t
  refine (out10 (grid0.coords t) (iblk m c 0 t) (iblk m c 1 t) (iblk m c 2 t) (iblk m c 3 t) (iblk m c 4 t) (iblk m c 5 t) (iblk m c 6 t) (iblk m c 7 t) (iblk m c 8 t) s j).trans ?_
  refine (urow_at m c t ⟨510 + s.val, by omega⟩ j ⟨t.val / 16, by omega⟩ ⟨8192 + s.val, by omega⟩ ?_ ?_).trans ?_
  · show (512 * t.val + (510 + s.val)) / 8192 = t.val / 16; omega
  · show (512 * t.val + (510 + s.val)) % 8192 + 2 = 8192 + s.val; omega
  · exact (congrArg (G10 (m ((c.tc : Thread nD τ).loc main_arg3)) (m ((c.tc : Thread nD τ).loc main_arg4))) (emb10 t s j)).symm

theorem covered10 (i : S2x2x256.Idx) :
    ∃ t : Fin cfg0.N, (cfg0.win 10).flush t = true ∧ i ∈ ((cfg0.win 10).blk t).view.set := by
  obtain ⟨b, s, j, rfl⟩ : ∃ (b : Fin 2) (s : Fin 2) (j : Fin 256), i = ix3 b s j := ⟨i 0, i 1, i 2, eq_ix3 i⟩
  obtain ⟨t, h15, hb⟩ : ∃ t : Fin cfg0.N, t.val % 16 = 15 ∧ t.val / 16 = b.val :=
    ⟨⟨16 * b.val + 15, by show 16 * b.val + 15 < 32; omega⟩, by show (16 * b.val + 15) % 16 = 15; omega,
      by show (16 * b.val + 15) / 16 = b.val; omega⟩
  have h := ((cfg0.win 10).blk t).view.emb_mem_set (ix3 0 s j)
  have e : (⟨t.val / 16, by have := tlt t; omega⟩ : Fin 2) = b := Fin.ext hb
  rw [emb10 t s j, e] at h
  exact ⟨t, (flush0_10 t).mpr h15, h⟩

/-- The second array after the run: the convolution's last two inputs. -/
theorem final10 (c : Dev nD) : (dats m 0 c).arrAt 10 cfg0.N = G10 (m ((c.tc : Thread nD τ).loc main_arg3)) (m ((c.tc : Thread nD τ).loc main_arg4)) :=
  (dats m 0 c).arrAt_eq_of_cover 10 _ (fun t hf => flushed10_eq m c t ((flush0_10 t).mp hf)) covered10

end Cert.Proof.OutArr
-- ==== Proof.OutRef.lean ====
/- The reference's output projection, index by index, and its equality with what the kernel writes. -/
module
public import proofs.«01_k».proof.Proof.OutArr
public import proofs.«01_k».proof.Proof.Gen.Reference3Ideal.Run

@[expose] public section

set_option maxRecDepth 16384

noncomputable section

namespace Cert.Proof.OutRef

open Cert.Reference3Ideal Cert.Reference3Ideal.Gen Cert.Proof.OutArr Idealize.ShloMosaic
open Idealize.ShloMosaic.TcCoe Idealize.SL.Sem

variable (x : FVec Ideal S2x8192x1024 .f32) (a : FVec Ideal S2x8192x512 .f32) (g : FVec Ideal S2x8192x256 .f32)
  (cv : FVec Ideal S2x8192x1024 .f32) (buf : FVec Ideal S2x2x256 .f32) (cw : FVec Ideal S3x256 .f32)
  (w : FVec Ideal S1024x1024 .f32) (np : FVec Ideal S1024 .f32)

/-- The convolution's input with the buffer before it, as the reference writes it. -/
abbrev ucat : FVec Ideal S2x8194x256 .f32 :=
  concatenate S2x8194x256 1 [⟨S2x2x256, buf⟩, ⟨S2x8192x256, (mulf (extractStridedSlice S2x8192x256 ![0, 0, 256] cv slices_S2x8192x1024_S2x8192x256_0_0_256) (extractStridedSlice S2x8192x256 ![0, 0, 512] cv slices_S2x8192x1024_S2x8192x256_0_0_512))⟩] concatenates_S2x2x256_S2x8192x256_S2x8194x256_d1

/-- The gated convolution, as the reference writes it. -/
abbrev ocR : FVec Ideal S2x8192x256 .f32 :=
  mulf (mulf (extractStridedSlice S2x8192x256 ![0, 0, 0] cv slices_S2x8192x1024_S2x8192x256_0_0_0) (addf (addf (addf (broadcastInDim S2x8192x256 ![] bcast_S_S2x8192x256 (constant (F := Ideal) S_ .f32 0x00000000#32)) (mulf (extractStridedSlice S2x8192x256 ![0, 0, 0] (ucat cv buf) slices_S2x8194x256_S2x8192x256_0_0_0) (broadcastInDim S2x8192x256 ![0, 1, 2] bcast_S1x1x256_S2x8192x256_0_1_2 (broadcastInDim S1x1x256 ![2] bcast_S256_S1x1x256_2 (shapeCast _ (extractStridedSlice S1x256 ![0, 0] cw slices_S3x256_S1x256_0_0) shapeCasts_S1x256_S256))))) (mulf (extractStridedSlice S2x8192x256 ![0, 1, 0] (ucat cv buf) slices_S2x8194x256_S2x8192x256_0_1_0) (broadcastInDim S2x8192x256 ![0, 1, 2] bcast_S1x1x256_S2x8192x256_0_1_2 (broadcastInDim S1x1x256 ![2] bcast_S256_S1x1x256_2 (shapeCast _ (extractStridedSlice S1x256 ![1, 0] cw slices_S3x256_S1x256_1_0) shapeCasts_S1x256_S256))))) (mulf (extractStridedSlice S2x8192x256 ![0, 2, 0] (ucat cv buf) slices_S2x8194x256_S2x8192x256_0_2_0) (broadcastInDim S2x8192x256 ![0, 1, 2] bcast_S1x1x256_S2x8192x256_0_1_2 (broadcastInDim S1x1x256 ![2] bcast_S256_S1x1x256_2 (shapeCast _ (extractStridedSlice S1x256 ![2, 0] cw slices_S3x256_S1x256_2_0) shapeCasts_S1x256_S256)))))) (mulf (extractStridedSlice S2x8192x256 ![0, 0, 768] cv slices_S2x8192x1024_S2x8192x256_0_0_768) (Host.divf (broadcastInDim S2x8192x256 ![] bcast_S_S2x8192x256 (constant (F := Ideal) S_ .f32 0x3F800000#32)) (addf (broadcastInDim S2x8192x256 ![] bcast_S_S2x8192x256 (constant (F := Ideal) S_ .f32 0x3F800000#32)) (Host.exp (Host.negf (extractStridedSlice S2x8192x256 ![0, 0, 768] cv slices_S2x8192x1024_S2x8192x256_0_0_768))))))

/-- The product with the output weights, as the reference writes it. -/
abbrev mixR (v : FVec Ideal S2x8192x256 .f32) : FVec Ideal S2x8192x1024 .f32 :=
  Host.dotGeneral dot_S2x8192x1024_S1024x1024_S2x8192x1024_2_0_01_1_n_n none ((concatenate S2x8192x1024 2 [⟨S2x8192x512, (a : (⟨S2x8192x512, .f32⟩ : BufTy).Contents (Elt Ideal))⟩, ⟨S2x8192x256, (g : (⟨S2x8192x256, .f32⟩ : BufTy).Contents (Elt Ideal))⟩, ⟨S2x8192x256, (v : (⟨S2x8192x256, .f32⟩ : BufTy).Contents (Elt Ideal))⟩] concatenates_S2x8192x512_S2x8192x256_S2x8192x256_S2x8192x1024_d2 : FVec Ideal S2x8192x1024 .f32)) w

theorem ucat_at (b : Fin 2) (n : Fin 8194) (j : Fin 256) : ucat cv buf (ix3 b n j) = U cv buf b n j := by
  pointwise [ucat, U]

theorem oc_at (R : Fin 16384) (j : Fin 256) : ocR cv buf cw (ix3 ⟨R / 8192, by omega⟩ ⟨R % 8192, by omega⟩ j) = oc cv buf cw R j := by
  have h := fun n => ucat_at cv buf ⟨R / 8192, by omega⟩ n j
  unfold ocR oc
  simp only [← h]
  generalize ucat cv buf = u
  pointwise []
  rw [zero_sub]

/-- A sum over the 1024 columns is the sum of its three groups. -/
theorem sum_split (f : Fin 1024 → EReal) : ∑ k : Fin 1024, f k
    = (∑ k : Fin 512, f ⟨k.val, by omega⟩) + (∑ k : Fin 256, f ⟨512 + k.val, by omega⟩) + ∑ k : Fin 256, f ⟨768 + k.val, by omega⟩ :=
  (Fin.sum_univ_add (a := 768) (b := 256) f).trans
    (congrArg (· + _) (Fin.sum_univ_add (a := 512) (b := 256) fun k : Fin (512 + 256) => f (Fin.castAdd 256 k)))

theorem mix_at (v : FVec Ideal S2x8192x256 .f32) (R : Fin 16384) (n : Fin 1024) :
    mixR a g w v (ix3 ⟨R / 8192, by omega⟩ ⟨R % 8192, by omega⟩ n)
      = mix a g (fun R j => v (ix3 ⟨R / 8192, by omega⟩ ⟨R % 8192, by omega⟩ j)) w R n := by
  pointwise [mixR]
  rw [sum_split]
  unfold mix
  have eg : ∀ (p q : Fin 256), p.val = q.val → g (ix3 ⟨R / 8192, by omega⟩ ⟨R % 8192, by omega⟩ p)
      = g (ix3 ⟨R / 8192, by omega⟩ ⟨R % 8192, by omega⟩ q) := fun p q h => by rw [Fin.ext h]
  have ev : ∀ (p q : Fin 256), p.val = q.val → v (ix3 ⟨R / 8192, by omega⟩ ⟨R % 8192, by omega⟩ p)
      = v (ix3 ⟨R / 8192, by omega⟩ ⟨R % 8192, by omega⟩ q) := fun p q h => by rw [Fin.ext h]
  refine congrArg₂ (· + ·) (congrArg₂ (· + ·) (Finset.sum_congr rfl fun k _ => congrArg (· * _) ?_)
    (Finset.sum_congr rfl fun k _ => congrArg (· * _) ?_)) (Finset.sum_congr rfl fun k _ => congrArg (· * _) ?_)
  · exact dif_pos k.isLt
  · refine (dif_neg (by show ¬ 512 + k.val < 512; omega)).trans ((dif_pos (by show 512 + k.val - 512 < 256; omega)).trans ?_)
    exact eg _ _ (by show 512 + k.val - 512 = k.val; omega)
  · refine (dif_neg (by show ¬ 768 + k.val < 512; omega)).trans ((dif_neg (by show ¬ 768 + k.val - 512 < 256; omega)).trans ?_)
    exact ev _ _ (by show 768 + k.val - 512 - 256 = k.val; omega)

theorem ref9 : shapeCast _ (addf x (mulf (mulf (mixR a g w (ocR cv buf cw)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (mixR a g w (ocR cv buf cw)) (mixR a g w (ocR cv buf cw))) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 np)))) shapeCasts_S2x8192x1024_S16384x1024 = G9 x a g cv buf cw w np := by
  refine funext fun i => ?_
  obtain ⟨R, n, rfl⟩ : ∃ (R : Fin 16384) (n : Fin 1024), i = ix2 R n := ⟨i 0, i 1, eq_ix2 i⟩
  have h := fun n => mix_at a g w (ocR cv buf cw) R n
  have ho : (fun (R : Fin 16384) (j : Fin 256) => ocR cv buf cw (ix3 ⟨R / 8192, by omega⟩ ⟨R % 8192, by omega⟩ j)) = oc cv buf cw :=
    funext fun R => funext fun j => oc_at cv buf cw R j
  rw [ho] at h
  show _ = yrow x (mix a g (oc cv buf cw) w) np R n
  unfold yrow
  simp only [← h]
  generalize mixR a g w (ocR cv buf cw) = p
  pointwise []

theorem ref10 : extractStridedSlice S2x2x256 ![0, 8192, 0] (ucat cv buf) slices_S2x8194x256_S2x2x256_0_8192_0 = G10 cv buf := by
  refine funext fun i => ?_
  obtain ⟨b, s, j, rfl⟩ : ∃ (b : Fin 2) (s : Fin 2) (j : Fin 256), i = ix3 b s j := ⟨i 0, i 1, i 2, eq_ix3 i⟩
  refine Eq.trans ?_ (ucat_at cv buf b ⟨8192 + s.val, by omega⟩ j)
  generalize ucat cv buf = u
  pointwise []

end Cert.Proof.OutRef
-- ==== Proof.Out.lean ====
/- The output projection as a program of its own: its frames, and that it computes what the reference does. -/
module
public import proofs.«01_k».proof.Defs
public import proofs.«01_k».proof.Proof.OutRef
public import proofs.«01_k».proof.Proof.Gen.Kernel3.Frame

@[expose] public section

set_option maxRecDepth 16384

noncomputable section

namespace Cert.Proof.OutRef

open Cert.Reference3Ideal Cert.Reference3Ideal.Gen Cert.Proof.OutArr Idealize.ShloMosaic
open Idealize.ShloMosaic.TcCoe Idealize.SL.Sem

variable (m : (ℓ : Loc nD τ sig) → Buf (Elt Ideal) ℓ)

/-- The reference's first result is the layer's output, index by index. -/
theorem res48 (c : Dev nD) : Cert.Reference3Ideal.Value.res_main_v48 m c = G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  delta Cert.Reference3Ideal.Value.res_main_v48
  exact ref9 _ _ _ _ _ _ _ _

/-- Each result of the reference, index by index. -/
theorem run_ref (ρ : Dev nD → PrngReg) : θ_run defs (onTc (τ := τ) (main (F := Ideal))) ⟨m, fun _ => 0, ρ⟩ fun r => ∀ c : Dev nD,
      r.2.mem ((c.tc : Thread nD τ).loc main_v48) = G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28) = G10 (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.Reference3Ideal.Value.run (F := Ideal) m ρ)
  have hc := h c
  clear h
  obtain ⟨h9, h10, ha⟩ := hc
  refine ⟨h9.trans ?_, h10.trans ?_, ha⟩
  · exact res48 m c
  · exact ref10 _ _

end Cert.Proof.OutRef

namespace Cert.Proof

open Idealize.ShloMosaic

/-- The printed output projection's frame, at words. -/
theorem frame_kernel3 : Cert.quiescent_Kernel3 := fun m ρ _ => Cert.Kernel3.Gen.frame (F := Bits) m ρ

/-- The idealized output projection's frame, at the extended reals. -/
theorem frame_kernel3Ideal : Cert.quiescent_Kernel3Ideal := fun m ρ _ => Cert.Kernel3Ideal.Gen.frame (F := Ideal) m ρ

/-- The output projection's reference's frame. -/
theorem frame_reference3 : Cert.quiescent_Reference3Ideal := fun m ρ _ =>
  (θ_run Cert.Reference3Ideal.defs _ _).mono
    (fun r h => ⟨fun c => (h c).2.2, sem_eq_zero_of_no_sems (by decide) r.2⟩)
    (OutRef.run_ref m ρ)

set_option maxHeartbeats 4000000 in
/-- Over the extended reals the kernel's two arrays are the reference's. -/
theorem algebraic3 : Cert.algebraic_Kernel3Ideal_Reference3Ideal := fun m ρ m' ρ' _ hm => by
  refine ⟨fun c => OutArr.G9 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)),
      fun c => OutArr.G10 (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · refine (θ_run Cert.Kernel3Ideal.defs _ _).mono (fun r h c => ?_) (Cert.Kernel3Ideal.Value.run_blocks (F := Ideal) m ρ)
    have hc := h c
    clear h
    obtain ⟨h9, h10, ha⟩ := hc
    exact ⟨h9.trans (OutArr.final9 m c), h10.trans (OutArr.final10 m c), ha⟩
  · refine (θ_run Cert.Reference3Ideal.defs _ _).mono (fun r h c => ?_) (OutRef.run_ref m' ρ')
    have hc := h c
    clear h
    obtain ⟨h9, h10, ha⟩ := hc
    obtain ⟨e0, e1, e2, e3, e4, e5, e6, e7⟩ := hm c
    exact ⟨h9.trans (congr (congr (congr (congr (congr (congr (congr (congrArg OutArr.G9 e0) e1) e2) e3) e4) e5) e6) e7), h10.trans (congr (congrArg OutArr.G10 e3) e4), ha⟩

end Cert.Proof
-- ==== Proof.ProjSArr.lean ====
/- What the input projection of the sample's tokens computes and what its arrays hold after the run: every element is a
   product of a normalised row of `x` with a column of the weights as the host lays them out. -/
module
public import proofs.«01_k».proof.Proof.ProjArr
public import proofs.«01_k».proof.Proof.Gen.Kernel4Ideal.Value
public import Idealize.ShloMosaic.Lib.StableHlo.ReadAt

@[expose] public section

set_option maxRecDepth 16384

noncomputable section

namespace Cert.Proof.ProjSArr

open Cert.Kernel4Ideal Cert.Kernel4Ideal.Gen Cert.Kernel4Ideal.Value Idealize.ShloMosaic
open Idealize.ShloMosaic.TcCoe Idealize.SL.Sem
open Cert.Proof.ProjBlock (hz2)
open Cert.Proof.ProjArr (wcat)

/-- Row `r` of the block, normalised and scaled, times column `c` of the weights. -/
def prod (x0 : FVec Ideal S256x1024 .f32) (x1 : FVec Ideal S1x1024 .f32) (x2 : FVec Ideal S1024x3712 .bf16)
    (r : Fin 256) (c : Fin 3712) : EReal :=
  ∑ k : Fin 1024, x0 (ix2 r k) * Ideal.rsqrt (Ideal.div (∑ k' : Fin 1024, x0 (ix2 r k') * x0 (ix2 r k'))
    (Ideal.ofBits .f32 0x44800000#32) + Ideal.ofBits .f32 0x358637BD#32) * x1 (ix2 0 k) * x2 (ix2 k c)

section Body

variable (x0 : FVec Ideal S256x1024 .f32) (x1 : FVec Ideal S1x1024 .f32) (x2 : FVec Ideal S1024x3712 .bf16)
  (x3 : FVec Ideal S64x256 .f32)

theorem out4 (r : Fin 256) (j : Fin 512) :
    out0_4 (F := Ideal) x0 x1 x2 x3 (ix2 r j) = prod x0 x1 x2 r ⟨0 + (j : ℕ), by omega⟩ := by
  unfold_out out0_4
  rw [View.canon_unit_zero hz2]
  pointwise [k0_pay6, k0_pay5, r0_0, r0_1, r0_2, prod]

theorem out5 (r : Fin 256) (j : Fin 256) :
    out0_5 (F := Ideal) x0 x1 x2 x3 (ix2 r j) = prod x0 x1 x2 r ⟨512 + (j : ℕ), by omega⟩ := by
  unfold_out out0_5
  rw [View.canon_unit_zero hz2]
  pointwise [k0_pay7, k0_pay5, r0_0, r0_1, r0_4, prod]

theorem out6 (r : Fin 256) (j : Fin 256) :
    out0_6 (F := Ideal) x0 x1 x2 x3 (ix2 r j) = prod x0 x1 x2 r ⟨768 + (j : ℕ), by omega⟩ := by
  unfold_out out0_6
  rw [View.canon_unit_zero hz2]
  pointwise [k0_pay8, k0_pay5, r0_0, r0_1, r0_5, prod]

theorem out7 (r : Fin 256) (j : Fin 256) :
    out0_7 (F := Ideal) x0 x1 x2 x3 (ix2 r j) = prod x0 x1 x2 r ⟨1024 + (j : ℕ), by omega⟩ := by
  unfold_out out0_7
  rw [View.canon_unit_zero hz2]
  pointwise [k0_pay9, k0_pay5, r0_0, r0_1, r0_6, prod]

theorem out8 (r : Fin 256) (j : Fin 512) :
    out0_8 (F := Ideal) x0 x1 x2 x3 (ix2 r j) = prod x0 x1 x2 r ⟨1280 + (j : ℕ), by omega⟩ := by
  unfold_out out0_8
  rw [View.canon_unit_zero hz2]
  pointwise [k0_pay1, k0_pay5, r0_0, r0_1, r0_8, prod]

theorem out9 (r : Fin 256) (j : Fin 768) :
    out0_9 (F := Ideal) x0 x1 x2 x3 (ix2 r j) = prod x0 x1 x2 r ⟨1792 + (j : ℕ), by omega⟩ := by
  unfold_out out0_9
  rw [View.canon_unit_zero hz2]
  pointwise [k0_pay2, k0_pay5, r0_0, r0_1, r0_9, prod]

theorem out10 (r : Fin 256) (j : Fin 1024) :
    out0_10 (F := Ideal) x0 x1 x2 x3 (ix2 r j) = prod x0 x1 x2 r ⟨2560 + (j : ℕ), by omega⟩ := by
  unfold_out out0_10
  rw [View.canon_unit_zero hz2]
  pointwise [k0_pay3, k0_pay5, r0_0, r0_1, r0_11, prod]

theorem out11 (r : Fin 256) (j : Fin 128) :
    out0_11 (F := Ideal) x0 x1 x2 x3 (ix2 r j) = prod x0 x1 x2 r ⟨3584 + (j : ℕ), by omega⟩ := by
  unfold_out out0_11
  rw [View.canon_unit_zero hz2]
  pointwise [k0_pay4, k0_pay5, r0_0, r0_1, r0_12, prod]

end Body

variable (m : (ℓ : Loc nD τ sig) → Buf (Elt Ideal) ℓ)

/-- The kernel's region finds its weights so laid out. -/
theorem V_w (c : Dev nD) : V m c main_v21 = wcat (m ((c.tc : Thread nD τ).loc main_arg2)) := by
  unfold V hostOps0
  simp only [StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

/-- Row `R` of the tokens, all sequences one after the other, normalised and scaled. -/
def hrow (x : FVec Ideal S32x8x1024 .f32) (g : FVec Ideal S1024 .f32) (R : Fin 256) (k : Fin 1024) : EReal :=
  x (ix3 ⟨R / 8, by omega⟩ ⟨R % 8, by omega⟩ k)
    * Ideal.rsqrt (Ideal.div (∑ k' : Fin 1024, x (ix3 ⟨R / 8, by omega⟩ ⟨R % 8, by omega⟩ k')
        * x (ix3 ⟨R / 8, by omega⟩ ⟨R % 8, by omega⟩ k'))
      (Ideal.ofBits .f32 0x44800000#32) + Ideal.ofBits .f32 0x358637BD#32) * g (ix1 k)

/-- That row times column `c` of the weights as laid out. -/
def kcol (x : FVec Ideal S32x8x1024 .f32) (g : FVec Ideal S1024 .f32) (w : FVec Ideal S1024x3624 .f32)
    (R : Fin 256) (c : Fin 3712) : EReal := ∑ k : Fin 1024, hrow x g R k * wcat w (ix2 k c)

theorem V_x (c : Dev nD) (R : Fin 256) (k : Fin 1024) : V m c main_v10 (ix2 R k)
    = m ((c.tc : Thread nD τ).loc main_arg0) (ix3 ⟨R / 8, by omega⟩ ⟨R % 8, by omega⟩ k) := by
  unfold V hostOps0
  after_reads_at

theorem V_g (c : Dev nD) (k : Fin 1024) : V m c main_v11 (ix2 0 k) = m ((c.tc : Thread nD τ).loc main_arg1) (ix1 k) := by
  unfold V hostOps0
  after_reads_at

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem tlt (t : Fin cfg0.N) : t.val < 1 := t.isLt

theorem blk0 (c : Dev nD) (t : Fin cfg0.N) (r : Fin 256) (k : Fin 1024) :
    (iblk m c 0 t : FVec Ideal S256x1024 .f32) (ix2 r k)
      = V m c main_v10 (ix2 ⟨256 * t.val + r.val, by have := tlt t; omega⟩ k) := by
  obtain ⟨e0, e1⟩ := idx0 t
  show V m c main_v10 (((cfg0.win 0).blk t).view.emb (ix2 r k)) = _
  refine congrArg (V m c main_v10) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

theorem blk1 (c : Dev nD) (t : Fin cfg0.N) (k : Fin 1024) :
    (iblk m c 1 t : FVec Ideal S1x1024 .f32) (ix2 0 k) = V m c main_v11 (ix2 0 k) := by
  obtain ⟨e0, e1⟩ := idx1 t
  show V m c main_v11 (((cfg0.win 1).blk t).view.emb (ix2 0 k)) = _
  refine congrArg (V m c main_v11) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem blk2 (c : Dev nD) (t : Fin cfg0.N) (k : Fin 1024) (j : Fin 3712) :
    (iblk m c 2 t : FVec Ideal S1024x3712 .bf16) (ix2 k j) = V m c main_v21 (ix2 k j) := by
  obtain ⟨e0, e1⟩ := idx2 t
  show V m c main_v21 (((cfg0.win 2).blk t).view.emb (ix2 k j)) = _
  refine congrArg (V m c main_v21) (funext fun a => Fin.ext ?_)
  match a with
  | ⟨0, _⟩ => show win0_2.index t (0 : Fin 2) * 1024 + 1 * k.val = k.val; omega
  | ⟨1, _⟩ => show win0_2.index t (1 : Fin 2) * 3712 + 1 * j.val = j.val; omega

/-- A block's product is the product of the token's row. -/
theorem prod_blk (c : Dev nD) (t : Fin cfg0.N) (r : Fin 256) (j : Fin 3712) :
    prod (iblk m c 0 t) (iblk m c 1 t) (iblk m c 2 t) r j
      = kcol (m ((c.tc : Thread nD τ).loc main_arg0)) (m ((c.tc : Thread nD τ).loc main_arg1))
          (m ((c.tc : Thread nD τ).loc main_arg2)) ⟨256 * t.val + r.val, by have := tlt t; omega⟩ j := by
  unfold prod kcol hrow
  simp only [blk0, blk1, blk2]
  have hx := V_x m c ⟨256 * t.val + r.val, by have := tlt t; omega⟩
  have hg := V_g m c
  have hw := V_w m c
  refine Finset.sum_congr rfl fun k _ => ?_
  rw [hw]
  refine congrArg₂ (· * ·) (congrArg₂ (· * ·) (congrArg₂ (· * ·) (hx k) ?_) (hg k)) rfl
  exact congrArg Ideal.rsqrt (congrArg (· + _) (congrArg (Ideal.div · _)
    (Finset.sum_congr rfl fun k' _ => congrArg₂ (· * ·) (hx k') (hx k'))))

theorem idx4 : ∀ t : Fin cfg0.N, win0_4.index t (0 : Fin 2) = t.val ∧ win0_4.index t (1 : Fin 2) = 0 :=
  (by decide +kernel : ∀ t : Fin grid0.N, _)

theorem emb4 (t : Fin cfg0.N) (r : Fin 256) (j : Fin 512) : ((cfg0.win 4).blk t).view.emb (ix2 r j)
    = ix2 (⟨256 * t.val + r.val, by have := tlt t; omega⟩ : Fin 256) j := by
  obtain ⟨e0, e1⟩ := idx4 t
  refine funext fun a => Fin.ext ?_
  match a with
  | ⟨0, _⟩ => show win0_4.index t (0 : Fin 2) * 256 + 1 * r.val = 256 * t.val + r.val; omega
  | ⟨1, _⟩ => show win0_4.index t (1 : Fin 2) * 512 + 1 * j.val = j.val; omega

theorem at4 (c : Dev nD) (t : Fin cfg0.N) (r : Fin 256) (j : Fin 512) :
    out0_4 (F := Ideal) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨256 * t.val + r.val, by have := tlt t; omega⟩ ⟨0 + j.val, by omega⟩ := by
  refine (out4 (iblk m c 0 t) (iblk m c 1 t) (iblk m c 2 t) (iblk m c 3 t) r j).trans ?_
  exact prod_blk m c t r _

/-- Output 0 of the projection, as a function of its arguments. -/
def G4 (x : FVec Ideal S32x8x1024 .f32) (g : FVec Ideal S1024 .f32) (w : FVec Ideal S1024x3624 .f32) :
    FVec Ideal S256x512 .f32 := fun i => kcol (x) (g)
        (w) (i 0) ⟨0 + (i 1).val, by have hi : (i 1).val < 512 := (i 1).isLt; omega⟩

theorem flushed4_eq (c : Dev nD) (t : Fin cfg0.N) : (dats m 0 c).flushed 4 t
    = ((cfg0.win 4).blk t).view.read (Elt Ideal) (G4 (m ((c.tc : Thread nD τ).loc main_arg0)) (m ((c.tc : Thread nD τ).loc main_arg1)) (m ((c.tc : Thread nD τ).loc main_arg2))) := by
  rw [flushed4]
  refine funext fun y => ?_
  obtain ⟨r, j, rfl⟩ : ∃ (r : Fin 256) (j : Fin 512), y = ix2 r j := ⟨y 0, y 1, eq_ix2 y⟩
  refine (at4 m c t r j).trans ?_
  exact (congrArg (G4 (m ((c.tc : Thread nD τ).loc main_arg0)) (m ((c.tc : Thread nD τ).loc main_arg1)) (m ((c.tc : Thread nD τ).loc main_arg2))) (emb4 t r j)).symm

theorem covered4 (i : S256x512.Idx) :
    ∃ t : Fin cfg0.N, (cfg0.win 4).flush t = true ∧ i ∈ ((cfg0.win 4).blk t).view.set := by
  obtain ⟨R, j, rfl⟩ : ∃ (R : Fin 256) (j : Fin 512), i = ix2 R j := ⟨i 0, i 1, eq_ix2 i⟩
  have ht : R.val / 256 < cfg0.N := by show R.val / 256 < 1; omega
  have h := ((cfg0.win 4).blk ⟨R.val / 256, ht⟩).view.emb_mem_set (ix2 ⟨R.val % 256, by omega⟩ j)
  rw [emb4 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_4 _, hR ▸ h⟩

theorem final4 (c : Dev nD) : (dats m 0 c).arrAt 4 cfg0.N = G4 (m ((c.tc : Thread nD τ).loc main_arg0)) (m ((c.tc : Thread nD τ).loc main_arg1)) (m ((c.tc : Thread nD τ).loc main_arg2)) :=
  (dats m 0 c).arrAt_eq_of_cover 4 _ (fun t _ => flushed4_eq m c t) covered4

theorem idx5 : ∀ t : Fin cfg0.N, win0_5.index t (0 : Fin 2) = t.val ∧ win0_5.index t (1 : Fin 2) = 0 :=
  (by decide +kernel : ∀ t : Fin grid0.N, _)

theorem emb5 (t : Fin cfg0.N) (r : Fin 256) (j : Fin 256) : ((cfg0.win 5).blk t).view.emb (ix2 r j)
    = ix2 (⟨256 * t.val + r.val, by have := tlt t; omega⟩ : Fin 256) j := by
  obtain ⟨e0, e1⟩ := idx5 t
  refine funext fun a => Fin.ext ?_
  match a with
  | ⟨0, _⟩ => show win0_5.index t (0 : Fin 2) * 256 + 1 * r.val = 256 * t.val + r.val; omega
  | ⟨1, _⟩ => show win0_5.index t (1 : Fin 2) * 256 + 1 * j.val = j.val; omega

theorem at5 (c : Dev nD) (t : Fin cfg0.N) (r : Fin 256) (j : Fin 256) :
    out0_5 (F := Ideal) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨256 * t.val + r.val, by have := tlt t; omega⟩ ⟨512 + j.val, by omega⟩ := by
  refine (out5 (iblk m c 0 t) (iblk m c 1 t) (iblk m c 2 t) (iblk m c 3 t) r j).trans ?_
  exact prod_blk m c t r _

/-- Output 1 of the projection, as a function of its arguments. -/
def G5 (x : FVec Ideal S32x8x1024 .f32) (g : FVec Ideal S1024 .f32) (w : FVec Ideal S1024x3624 .f32) :
    FVec Ideal S256x256 .f32 := fun i => kcol (x) (g)
        (w) (i 0) ⟨512 + (i 1).val, by have hi : (i 1).val < 256 := (i 1).isLt; omega⟩

theorem flushed5_eq (c : Dev nD) (t : Fin cfg0.N) : (dats m 0 c).flushed 5 t
    = ((cfg0.win 5).blk t).view.read (Elt Ideal) (G5 (m ((c.tc : Thread nD τ).loc main_arg0)) (m ((c.tc : Thread nD τ).loc main_arg1)) (m ((c.tc : Thread nD τ).loc main_arg2))) := by
  rw [flushed5]
  refine funext fun y => ?_
  obtain ⟨r, j, rfl⟩ : ∃ (r : Fin 256) (j : Fin 256), y = ix2 r j := ⟨y 0, y 1, eq_ix2 y⟩
  refine (at5 m c t r j).trans ?_
  exact (congrArg (G5 (m ((c.tc : Thread nD τ).loc main_arg0)) (m ((c.tc : Thread nD τ).loc main_arg1)) (m ((c.tc : Thread nD τ).loc main_arg2))) (emb5 t r j)).symm

theorem covered5 (i : S256x256.Idx) :
    ∃ t : Fin cfg0.N, (cfg0.win 5).flush t = true ∧ i ∈ ((cfg0.win 5).blk t).view.set := by
  obtain ⟨R, j, rfl⟩ : ∃ (R : Fin 256) (j : Fin 256), i = ix2 R j := ⟨i 0, i 1, eq_ix2 i⟩
  have ht : R.val / 256 < cfg0.N := by show R.val / 256 < 1; omega
  have h := ((cfg0.win 5).blk ⟨R.val / 256, ht⟩).view.emb_mem_set (ix2 ⟨R.val % 256, by omega⟩ j)
  rw [emb5 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_5 _, hR ▸ h⟩

theorem final5 (c : Dev nD) : (dats m 0 c).arrAt 5 cfg0.N = G5 (m ((c.tc : Thread nD τ).loc main_arg0)) (m ((c.tc : Thread nD τ).loc main_arg1)) (m ((c.tc : Thread nD τ).loc main_arg2)) :=
  (dats m 0 c).arrAt_eq_of_cover 5 _ (fun t _ => flushed5_eq m c t) covered5

theorem idx6 : ∀ t : Fin cfg0.N, win0_6.index t (0 : Fin 2) = t.val ∧ win0_6.index t (1 : Fin 2) = 0 :=
  (by decide +kernel : ∀ t : Fin grid0.N, _)

theorem emb6 (t : Fin cfg0.N) (r : Fin 256) (j : Fin 256) : ((cfg0.win 6).blk t).view.emb (ix2 r j)
    = ix2 (⟨256 * t.val + r.val, by have := tlt t; omega⟩ : Fin 256) j := by
  obtain ⟨e0, e1⟩ := idx6 t
  refine funext fun a => Fin.ext ?_
  match a with
  | ⟨0, _⟩ => show win0_6.index t (0 : Fin 2) * 256 + 1 * r.val = 256 * t.val + r.val; omega
  | ⟨1, _⟩ => show win0_6.index t (1 : Fin 2) * 256 + 1 * j.val = j.val; omega

theorem at6 (c : Dev nD) (t : Fin cfg0.N) (r : Fin 256) (j : Fin 256) :
    out0_6 (F := Ideal) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨256 * t.val + r.val, by have := tlt t; omega⟩ ⟨768 + j.val, by omega⟩ := by
  refine (out6 (iblk m c 0 t) (iblk m c 1 t) (iblk m c 2 t) (iblk m c 3 t) r j).trans ?_
  exact prod_blk m c t r _

/-- Output 2 of the projection, as a function of its arguments. -/
def G6 (x : FVec Ideal S32x8x1024 .f32) (g : FVec Ideal S1024 .f32) (w : FVec Ideal S1024x3624 .f32) :
    FVec Ideal S256x256 .f32 := fun i => kcol (x) (g)
        (w) (i 0) ⟨768 + (i 1).val, by have hi : (i 1).val < 256 := (i 1).isLt; omega⟩

theorem flushed6_eq (c : Dev nD) (t : Fin cfg0.N) : (dats m 0 c).flushed 6 t
    = ((cfg0.win 6).blk t).view.read (Elt Ideal) (G6 (m ((c.tc : Thread nD τ).loc main_arg0)) (m ((c.tc : Thread nD τ).loc main_arg1)) (m ((c.tc : Thread nD τ).loc main_arg2))) := by
  rw [flushed6]
  refine funext fun y => ?_
  obtain ⟨r, j, rfl⟩ : ∃ (r : Fin 256) (j : Fin 256), y = ix2 r j := ⟨y 0, y 1, eq_ix2 y⟩
  refine (at6 m c t r j).trans ?_
  exact (congrArg (G6 (m ((c.tc : Thread nD τ).loc main_arg0)) (m ((c.tc : Thread nD τ).loc main_arg1)) (m ((c.tc : Thread nD τ).loc main_arg2))) (emb6 t r j)).symm

theorem covered6 (i : S256x256.Idx) :
    ∃ t : Fin cfg0.N, (cfg0.win 6).flush t = true ∧ i ∈ ((cfg0.win 6).blk t).view.set := by
  obtain ⟨R, j, rfl⟩ : ∃ (R : Fin 256) (j : Fin 256), i = ix2 R j := ⟨i 0, i 1, eq_ix2 i⟩
  have ht : R.val / 256 < cfg0.N := by show R.val / 256 < 1; omega
  have h := ((cfg0.win 6).blk ⟨R.val / 256, ht⟩).view.emb_mem_set (ix2 ⟨R.val % 256, by omega⟩ j)
  rw [emb6 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_6 _, hR ▸ h⟩

theorem final6 (c : Dev nD) : (dats m 0 c).arrAt 6 cfg0.N = G6 (m ((c.tc : Thread nD τ).loc main_arg0)) (m ((c.tc : Thread nD τ).loc main_arg1)) (m ((c.tc : Thread nD τ).loc main_arg2)) :=
  (dats m 0 c).arrAt_eq_of_cover 6 _ (fun t _ => flushed6_eq m c t) covered6

theorem idx7 : ∀ t : Fin cfg0.N, win0_7.index t (0 : Fin 2) = t.val ∧ win0_7.index t (1 : Fin 2) = 0 :=
  (by decide +kernel : ∀ t : Fin grid0.N, _)

theorem emb7 (t : Fin cfg0.N) (r : Fin 256) (j : Fin 256) : ((cfg0.win 7).blk t).view.emb (ix2 r j)
    = ix2 (⟨256 * t.val + r.val, by have := tlt t; omega⟩ : Fin 256) j := by
  obtain ⟨e0, e1⟩ := idx7 t
  refine funext fun a => Fin.ext ?_
  match a with
  | ⟨0, _⟩ => show win0_7.index t (0 : Fin 2) * 256 + 1 * r.val = 256 * t.val + r.val; omega
  | ⟨1, _⟩ => show win0_7.index t (1 : Fin 2) * 256 + 1 * j.val = j.val; omega

theorem at7 (c : Dev nD) (t : Fin cfg0.N) (r : Fin 256) (j : Fin 256) :
    out0_7 (F := Ideal) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨256 * t.val + r.val, by have := tlt t; omega⟩ ⟨1024 + j.val, by omega⟩ := by
  refine (out7 (iblk m c 0 t) (iblk m c 1 t) (iblk m c 2 t) (iblk m c 3 t) r j).trans ?_
  exact prod_blk m c t r _

/-- Output 3 of the projection, as a function of its arguments. -/
def G7 (x : FVec Ideal S32x8x1024 .f32) (g : FVec Ideal S1024 .f32) (w : FVec Ideal S1024x3624 .f32) :
    FVec Ideal S256x256 .f32 := fun i => kcol (x) (g)
        (w) (i 0) ⟨1024 + (i 1).val, by have hi : (i 1).val < 256 := (i 1).isLt; omega⟩

theorem flushed7_eq (c : Dev nD) (t : Fin cfg0.N) : (dats m 0 c).flushed 7 t
    = ((cfg0.win 7).blk t).view.read (Elt Ideal) (G7 (m ((c.tc : Thread nD τ).loc main_arg0)) (m ((c.tc : Thread nD τ).loc main_arg1)) (m ((c.tc : Thread nD τ).loc main_arg2))) := by
  rw [flushed7]
  refine funext fun y => ?_
  obtain ⟨r, j, rfl⟩ : ∃ (r : Fin 256) (j : Fin 256), y = ix2 r j := ⟨y 0, y 1, eq_ix2 y⟩
  refine (at7 m c t r j).trans ?_
  exact (congrArg (G7 (m ((c.tc : Thread nD τ).loc main_arg0)) (m ((c.tc : Thread nD τ).loc main_arg1)) (m ((c.tc : Thread nD τ).loc main_arg2))) (emb7 t r j)).symm

theorem covered7 (i : S256x256.Idx) :
    ∃ t : Fin cfg0.N, (cfg0.win 7).flush t = true ∧ i ∈ ((cfg0.win 7).blk t).view.set := by
  obtain ⟨R, j, rfl⟩ : ∃ (R : Fin 256) (j : Fin 256), i = ix2 R j := ⟨i 0, i 1, eq_ix2 i⟩
  have ht : R.val / 256 < cfg0.N := by show R.val / 256 < 1; omega
  have h := ((cfg0.win 7).blk ⟨R.val / 256, ht⟩).view.emb_mem_set (ix2 ⟨R.val % 256, by omega⟩ j)
  rw [emb7 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_7 _, hR ▸ h⟩

theorem final7 (c : Dev nD) : (dats m 0 c).arrAt 7 cfg0.N = G7 (m ((c.tc : Thread nD τ).loc main_arg0)) (m ((c.tc : Thread nD τ).loc main_arg1)) (m ((c.tc : Thread nD τ).loc main_arg2)) :=
  (dats m 0 c).arrAt_eq_of_cover 7 _ (fun t _ => flushed7_eq m c t) covered7

theorem idx8 : ∀ t : Fin cfg0.N, win0_8.index t (0 : Fin 2) = t.val ∧ win0_8.index t (1 : Fin 2) = 0 :=
  (by decide +kernel : ∀ t : Fin grid0.N, _)

theorem emb8 (t : Fin cfg0.N) (r : Fin 256) (j : Fin 512) : ((cfg0.win 8).blk t).view.emb (ix2 r j)
    = ix2 (⟨256 * t.val + r.val, by have := tlt t; omega⟩ : Fin 256) j := by
  obtain ⟨e0, e1⟩ := idx8 t
  refine funext fun a => Fin.ext ?_
  match a with
  | ⟨0, _⟩ => show win0_8.index t (0 : Fin 2) * 256 + 1 * r.val = 256 * t.val + r.val; omega
  | ⟨1, _⟩ => show win0_8.index t (1 : Fin 2) * 512 + 1 * j.val = j.val; omega

theorem at8 (c : Dev nD) (t : Fin cfg0.N) (r : Fin 256) (j : Fin 512) :
    out0_8 (F := Ideal) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨256 * t.val + r.val, by have := tlt t; omega⟩ ⟨1280 + j.val, by omega⟩ := by
  refine (out8 (iblk m c 0 t) (iblk m c 1 t) (iblk m c 2 t) (iblk m c 3 t) r j).trans ?_
  exact prod_blk m c t r _

/-- Output 4 of the projection, as a function of its arguments. -/
def G8 (x : FVec Ideal S32x8x1024 .f32) (g : FVec Ideal S1024 .f32) (w : FVec Ideal S1024x3624 .f32) :
    FVec Ideal S256x512 .f32 := fun i => kcol (x) (g)
        (w) (i 0) ⟨1280 + (i 1).val, by have hi : (i 1).val < 512 := (i 1).isLt; omega⟩

theorem flushed8_eq (c : Dev nD) (t : Fin cfg0.N) : (dats m 0 c).flushed 8 t
    = ((cfg0.win 8).blk t).view.read (Elt Ideal) (G8 (m ((c.tc : Thread nD τ).loc main_arg0)) (m ((c.tc : Thread nD τ).loc main_arg1)) (m ((c.tc : Thread nD τ).loc main_arg2))) := by
  rw [flushed8]
  refine funext fun y => ?_
  obtain ⟨r, j, rfl⟩ : ∃ (r : Fin 256) (j : Fin 512), y = ix2 r j := ⟨y 0, y 1, eq_ix2 y⟩
  refine (at8 m c t r j).trans ?_
  exact (congrArg (G8 (m ((c.tc : Thread nD τ).loc main_arg0)) (m ((c.tc : Thread nD τ).loc main_arg1)) (m ((c.tc : Thread nD τ).loc main_arg2))) (emb8 t r j)).symm

theorem covered8 (i : S256x512.Idx) :
    ∃ t : Fin cfg0.N, (cfg0.win 8).flush t = true ∧ i ∈ ((cfg0.win 8).blk t).view.set := by
  obtain ⟨R, j, rfl⟩ : ∃ (R : Fin 256) (j : Fin 512), i = ix2 R j := ⟨i 0, i 1, eq_ix2 i⟩
  have ht : R.val / 256 < cfg0.N := by show R.val / 256 < 1; omega
  have h := ((cfg0.win 8).blk ⟨R.val / 256, ht⟩).view.emb_mem_set (ix2 ⟨R.val % 256, by omega⟩ j)
  rw [emb8 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_8 _, hR ▸ h⟩

theorem final8 (c : Dev nD) : (dats m 0 c).arrAt 8 cfg0.N = G8 (m ((c.tc : Thread nD τ).loc main_arg0)) (m ((c.tc : Thread nD τ).loc main_arg1)) (m ((c.tc : Thread nD τ).loc main_arg2)) :=
  (dats m 0 c).arrAt_eq_of_cover 8 _ (fun t _ => flushed8_eq m c t) covered8

theorem idx9 : ∀ t : Fin cfg0.N, win0_9.index t (0 : Fin 2) = t.val ∧ win0_9.index t (1 : Fin 2) = 0 :=
  (by decide +kernel : ∀ t : Fin grid0.N, _)

theorem emb9 (t : Fin cfg0.N) (r : Fin 256) (j : Fin 768) : ((cfg0.win 9).blk t).view.emb (ix2 r j)
    = ix2 (⟨256 * t.val + r.val, by have := tlt t; omega⟩ : Fin 256) j := by
  obtain ⟨e0, e1⟩ := idx9 t
  refine funext fun a => Fin.ext ?_
  match a with
  | ⟨0, _⟩ => show win0_9.index t (0 : Fin 2) * 256 + 1 * r.val = 256 * t.val + r.val; omega
  | ⟨1, _⟩ => show win0_9.index t (1 : Fin 2) * 768 + 1 * j.val = j.val; omega

theorem at9 (c : Dev nD) (t : Fin cfg0.N) (r : Fin 256) (j : Fin 768) :
    out0_9 (F := Ideal) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨256 * t.val + r.val, by have := tlt t; omega⟩ ⟨1792 + j.val, by omega⟩ := by
  refine (out9 (iblk m c 0 t) (iblk m c 1 t) (iblk m c 2 t) (iblk m c 3 t) r j).trans ?_
  exact prod_blk m c t r _

/-- Output 5 of the projection, as a function of its arguments. -/
def G9 (x : FVec Ideal S32x8x1024 .f32) (g : FVec Ideal S1024 .f32) (w : FVec Ideal S1024x3624 .f32) :
    FVec Ideal S256x768 .f32 := fun i => kcol (x) (g)
        (w) (i 0) ⟨1792 + (i 1).val, by have hi : (i 1).val < 768 := (i 1).isLt; omega⟩

theorem flushed9_eq (c : Dev nD) (t : Fin cfg0.N) : (dats m 0 c).flushed 9 t
    = ((cfg0.win 9).blk t).view.read (Elt Ideal) (G9 (m ((c.tc : Thread nD τ).loc main_arg0)) (m ((c.tc : Thread nD τ).loc main_arg1)) (m ((c.tc : Thread nD τ).loc main_arg2))) := by
  rw [flushed9]
  refine funext fun y => ?_
  obtain ⟨r, j, rfl⟩ : ∃ (r : Fin 256) (j : Fin 768), y = ix2 r j := ⟨y 0, y 1, eq_ix2 y⟩
  refine (at9 m c t r j).trans ?_
  exact (congrArg (G9 (m ((c.tc : Thread nD τ).loc main_arg0)) (m ((c.tc : Thread nD τ).loc main_arg1)) (m ((c.tc : Thread nD τ).loc main_arg2))) (emb9 t r j)).symm

theorem covered9 (i : S256x768.Idx) :
    ∃ t : Fin cfg0.N, (cfg0.win 9).flush t = true ∧ i ∈ ((cfg0.win 9).blk t).view.set := by
  obtain ⟨R, j, rfl⟩ : ∃ (R : Fin 256) (j : Fin 768), i = ix2 R j := ⟨i 0, i 1, eq_ix2 i⟩
  have ht : R.val / 256 < cfg0.N := by show R.val / 256 < 1; omega
  have h := ((cfg0.win 9).blk ⟨R.val / 256, ht⟩).view.emb_mem_set (ix2 ⟨R.val % 256, by omega⟩ j)
  rw [emb9 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_9 _, hR ▸ h⟩

theorem final9 (c : Dev nD) : (dats m 0 c).arrAt 9 cfg0.N = G9 (m ((c.tc : Thread nD τ).loc main_arg0)) (m ((c.tc : Thread nD τ).loc main_arg1)) (m ((c.tc : Thread nD τ).loc main_arg2)) :=
  (dats m 0 c).arrAt_eq_of_cover 9 _ (fun t _ => flushed9_eq m c t) covered9

theorem idx10 : ∀ t : Fin cfg0.N, win0_10.index t (0 : Fin 2) = t.val ∧ win0_10.index t (1 : Fin 2) = 0 :=
  (by decide +kernel : ∀ t : Fin grid0.N, _)

theorem emb10 (t : Fin cfg0.N) (r : Fin 256) (j : Fin 1024) : ((cfg0.win 10).blk t).view.emb (ix2 r j)
    = ix2 (⟨256 * t.val + r.val, by have := tlt t; omega⟩ : Fin 256) j := by
  obtain ⟨e0, e1⟩ := idx10 t
  refine funext fun a => Fin.ext ?_
  match a with
  | ⟨0, _⟩ => show win0_10.index t (0 : Fin 2) * 256 + 1 * r.val = 256 * t.val + r.val; omega
  | ⟨1, _⟩ => show win0_10.index t (1 : Fin 2) * 1024 + 1 * j.val = j.val; omega

theorem at10 (c : Dev nD) (t : Fin cfg0.N) (r : Fin 256) (j : Fin 1024) :
    out0_10 (F := Ideal) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨256 * t.val + r.val, by have := tlt t; omega⟩ ⟨2560 + j.val, by omega⟩ := by
  refine (out10 (iblk m c 0 t) (iblk m c 1 t) (iblk m c 2 t) (iblk m c 3 t) r j).trans ?_
  exact prod_blk m c t r _

/-- Output 6 of the projection, as a function of its arguments. -/
def G10 (x : FVec Ideal S32x8x1024 .f32) (g : FVec Ideal S1024 .f32) (w : FVec Ideal S1024x3624 .f32) :
    FVec Ideal S256x1024 .f32 := fun i => kcol (x) (g)
        (w) (i 0) ⟨2560 + (i 1).val, by have hi : (i 1).val < 1024 := (i 1).isLt; omega⟩

theorem flushed10_eq (c : Dev nD) (t : Fin cfg0.N) : (dats m 0 c).flushed 10 t
    = ((cfg0.win 10).blk t).view.read (Elt Ideal) (G10 (m ((c.tc : Thread nD τ).loc main_arg0)) (m ((c.tc : Thread nD τ).loc main_arg1)) (m ((c.tc : Thread nD τ).loc main_arg2))) := by
  rw [flushed10]
  refine funext fun y => ?_
  obtain ⟨r, j, rfl⟩ : ∃ (r : Fin 256) (j : Fin 1024), y = ix2 r j := ⟨y 0, y 1, eq_ix2 y⟩
  refine (at10 m c t r j).trans ?_
  exact (congrArg (G10 (m ((c.tc : Thread nD τ).loc main_arg0)) (m ((c.tc : Thread nD τ).loc main_arg1)) (m ((c.tc : Thread nD τ).loc main_arg2))) (emb10 t r j)).symm

theorem covered10 (i : S256x1024.Idx) :
    ∃ t : Fin cfg0.N, (cfg0.win 10).flush t = true ∧ i ∈ ((cfg0.win 10).blk t).view.set := by
  obtain ⟨R, j, rfl⟩ : ∃ (R : Fin 256) (j : Fin 1024), i = ix2 R j := ⟨i 0, i 1, eq_ix2 i⟩
  have ht : R.val / 256 < cfg0.N := by show R.val / 256 < 1; omega
  have h := ((cfg0.win 10).blk ⟨R.val / 256, ht⟩).view.emb_mem_set (ix2 ⟨R.val % 256, by omega⟩ j)
  rw [emb10 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_10 _, hR ▸ h⟩

theorem final10 (c : Dev nD) : (dats m 0 c).arrAt 10 cfg0.N = G10 (m ((c.tc : Thread nD τ).loc main_arg0)) (m ((c.tc : Thread nD τ).loc main_arg1)) (m ((c.tc : Thread nD τ).loc main_arg2)) :=
  (dats m 0 c).arrAt_eq_of_cover 10 _ (fun t _ => flushed10_eq m c t) covered10

theorem idx11 : ∀ t : Fin cfg0.N, win0_11.index t (0 : Fin 2) = t.val ∧ win0_11.index t (1 : Fin 2) = 0 :=
  (by decide +kernel : ∀ t : Fin grid0.N, _)

theorem emb11 (t : Fin cfg0.N) (r : Fin 256) (j : Fin 128) : ((cfg0.win 11).blk t).view.emb (ix2 r j)
    = ix2 (⟨256 * t.val + r.val, by have := tlt t; omega⟩ : Fin 256) j := by
  obtain ⟨e0, e1⟩ := idx11 t
  refine funext fun a => Fin.ext ?_
  match a with
  | ⟨0, _⟩ => show win0_11.index t (0 : Fin 2) * 256 + 1 * r.val = 256 * t.val + r.val; omega
  | ⟨1, _⟩ => show win0_11.index t (1 : Fin 2) * 128 + 1 * j.val = j.val; omega

theorem at11 (c : Dev nD) (t : Fin cfg0.N) (r : Fin 256) (j : Fin 128) :
    out0_11 (F := Ideal) (iblk m c 0 t) (iblk m c 1 t) (iblk m c 2 t) (iblk m c 3 t) (ix2 r j)
      = kcol (m ((c.tc : Thread nD τ).loc main_arg0)) (m ((c.tc : Thread nD τ).loc main_arg1))
        (m ((c.tc : Thread nD τ).loc main_arg2)) ⟨256 * t.val + r.val, by have := tlt t; omega⟩ ⟨3584 + j.val, by omega⟩ := by
  refine (out11 (iblk m c 0 t) (iblk m c 1 t) (iblk m c 2 t) (iblk m c 3 t) r j).trans ?_
  exact prod_blk m c t r _

/-- Output 7 of the projection, as a function of its arguments. -/
def G11 (x : FVec Ideal S32x8x1024 .f32) (g : FVec Ideal S1024 .f32) (w : FVec Ideal S1024x3624 .f32) :
    FVec Ideal S256x128 .f32 := fun i => kcol (x) (g)
        (w) (i 0) ⟨3584 + (i 1).val, by have hi : (i 1).val < 128 := (i 1).isLt; omega⟩

theorem flushed11_eq (c : Dev nD) (t : Fin cfg0.N) : (dats m 0 c).flushed 11 t
    = ((cfg0.win 11).blk t).view.read (Elt Ideal) (G11 (m ((c.tc : Thread nD τ).loc main_arg0)) (m ((c.tc : Thread nD τ).loc main_arg1)) (m ((c.tc : Thread nD τ).loc main_arg2))) := by
  rw [flushed11]
  refine funext fun y => ?_
  obtain ⟨r, j, rfl⟩ : ∃ (r : Fin 256) (j : Fin 128), y = ix2 r j := ⟨y 0, y 1, eq_ix2 y⟩
  refine (at11 m c t r j).trans ?_
  exact (congrArg (G11 (m ((c.tc : Thread nD τ).loc main_arg0)) (m ((c.tc : Thread nD τ).loc main_arg1)) (m ((c.tc : Thread nD τ).loc main_arg2))) (emb11 t r j)).symm

theorem covered11 (i : S256x128.Idx) :
    ∃ t : Fin cfg0.N, (cfg0.win 11).flush t = true ∧ i ∈ ((cfg0.win 11).blk t).view.set := by
  obtain ⟨R, j, rfl⟩ : ∃ (R : Fin 256) (j : Fin 128), i = ix2 R j := ⟨i 0, i 1, eq_ix2 i⟩
  have ht : R.val / 256 < cfg0.N := by show R.val / 256 < 1; omega
  have h := ((cfg0.win 11).blk ⟨R.val / 256, ht⟩).view.emb_mem_set (ix2 ⟨R.val % 256, by omega⟩ j)
  rw [emb11 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_11 _, hR ▸ h⟩

theorem final11 (c : Dev nD) : (dats m 0 c).arrAt 11 cfg0.N = G11 (m ((c.tc : Thread nD τ).loc main_arg0)) (m ((c.tc : Thread nD τ).loc main_arg1)) (m ((c.tc : Thread nD τ).loc main_arg2)) :=
  (dats m 0 c).arrAt_eq_of_cover 11 _ (fun t _ => flushed11_eq m c t) covered11

end Cert.Proof.ProjSArr
-- ==== Proof.ProjSRef.lean ====
/- The reference's projection of the sample's tokens, index by index, and its equality with what the kernel writes. -/
module
public import proofs.«01_k».proof.Proof.ProjSArr
public import proofs.«01_k».proof.Proof.ProjRef
public import proofs.«01_k».proof.Proof.Gen.Reference4Ideal.Run
public import Idealize.ShloMosaic.Lib.Pointwise

@[expose] public section

set_option maxRecDepth 256

noncomputable section

namespace Cert.Proof.ProjSRef

open Cert.Reference4Ideal Cert.Reference4Ideal.Gen Cert.Proof.ProjSArr Idealize.ShloMosaic
open Idealize.ShloMosaic.TcCoe Idealize.SL.Sem
open Cert.Proof.ProjArr (wcat)
open Cert.Proof.ProjRef (wcat_at zero_word)

/-- The normalised tokens times all of the weights, as the reference writes it. -/
abbrev hdot (x : FVec Ideal S32x8x1024 .f32) (g : FVec Ideal S1024 .f32) (w : FVec Ideal S1024x3624 .f32) :
    FVec Ideal S32x8x3624 .f32 :=
  Host.dotGeneral dot_S32x8x1024_S1024x3624_S32x8x3624_2_0_01_1_n_n none (mulf (mulf x (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf x x) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))) w

/-- Column `c` of the weights, times row `R` of the normalised tokens. -/
def rcol (x : FVec Ideal S32x8x1024 .f32) (g : FVec Ideal S1024 .f32) (w : FVec Ideal S1024x3624 .f32)
    (R : Fin 256) (c : Fin 3624) : EReal := ∑ k : Fin 1024, hrow x g R k * w (ix2 k c)

theorem hdot_at (x : FVec Ideal S32x8x1024 .f32) (g : FVec Ideal S1024 .f32) (w : FVec Ideal S1024x3624 .f32)
    (R : Fin 256) (c : Fin 3624) : hdot x g w (ix3 ⟨R / 8, by omega⟩ ⟨R % 8, by omega⟩ c) = rcol x g w R c := by
  pointwise [hdot, rcol, hrow]

theorem kcol_eq (x : FVec Ideal S32x8x1024 .f32) (g : FVec Ideal S1024 .f32) (w : FVec Ideal S1024x3624 .f32)
    (R : Fin 256) (c : Fin 3712) (d : Fin 3624)
    (h : (c.val < 1280 ∧ d.val = c.val) ∨ (1280 ≤ c.val ∧ c.val < 2304 ∧ d.val = c.val + 24)
      ∨ (2304 ≤ c.val ∧ c.val < 3584 ∧ d.val = c.val + 40) ∨ (3584 ≤ c.val ∧ c.val < 3608 ∧ d.val + 2304 = c.val)
      ∨ (3608 ≤ c.val ∧ c.val < 3624 ∧ d.val + 1280 = c.val)) : kcol x g w R c = rcol x g w R d := by
  refine Finset.sum_congr rfl fun k _ => congrArg (hrow x g R k * ·) ?_
  rw [wcat_at]
  repeat' split
  all_goals first | omega | exact congrArg (fun q => w (ix2 k q)) (Fin.ext (by first | omega | (show _ = _; simp only []; omega)))

theorem kcol_zero (x : FVec Ideal S32x8x1024 .f32) (g : FVec Ideal S1024 .f32) (w : FVec Ideal S1024x3624 .f32)
    (R : Fin 256) (c : Fin 3712) (h : 3624 ≤ c.val) : kcol x g w R c = 0 := by
  refine Finset.sum_eq_zero fun k _ => ?_
  rw [wcat_at]
  repeat' split
  all_goals first | omega | exact mul_zero _

theorem ref4 (x : FVec Ideal S32x8x1024 .f32) (g : FVec Ideal S1024 .f32) (w : FVec Ideal S1024x3624 .f32) :
    shapeCast S256x512 (extractStridedSlice S32x8x512 ![0, 0, 0] (hdot x g w) slices_S32x8x3624_S32x8x512_0_0_0) shapeCasts_S32x8x512_S256x512
      = G4 x g w := by
  refine funext fun i => ?_
  obtain ⟨R, j, rfl⟩ : ∃ (R : Fin 256) (j : Fin 512), i = ix2 R j := ⟨i 0, i 1, eq_ix2 i⟩
  refine Eq.trans ?_ (kcol_eq x g w R ⟨0 + j.val, by omega⟩ ⟨0 + j.val, by omega⟩ (by first | omega | (dsimp only; omega))).symm
  rw [← hdot_at x g w R ⟨0 + j.val, by omega⟩]
  generalize hdot x g w = y
  pointwise []

theorem ref5 (x : FVec Ideal S32x8x1024 .f32) (g : FVec Ideal S1024 .f32) (w : FVec Ideal S1024x3624 .f32) :
    shapeCast S256x256 (extractStridedSlice S32x8x256 ![0, 0, 512] (hdot x g w) slices_S32x8x3624_S32x8x256_0_0_512) shapeCasts_S32x8x256_S256x256
      = G5 x g w := by
  refine funext fun i => ?_
  obtain ⟨R, j, rfl⟩ : ∃ (R : Fin 256) (j : Fin 256), i = ix2 R j := ⟨i 0, i 1, eq_ix2 i⟩
  refine Eq.trans ?_ (kcol_eq x g w R ⟨512 + j.val, by omega⟩ ⟨512 + j.val, by omega⟩ (by first | omega | (dsimp only; omega))).symm
  rw [← hdot_at x g w R ⟨512 + j.val, by omega⟩]
  generalize hdot x g w = y
  pointwise []

theorem ref6 (x : FVec Ideal S32x8x1024 .f32) (g : FVec Ideal S1024 .f32) (w : FVec Ideal S1024x3624 .f32) :
    shapeCast S256x256 (extractStridedSlice S32x8x256 ![0, 0, 768] (hdot x g w) slices_S32x8x3624_S32x8x256_0_0_768) shapeCasts_S32x8x256_S256x256
      = G6 x g w := by
  refine funext fun i => ?_
  obtain ⟨R, j, rfl⟩ : ∃ (R : Fin 256) (j : Fin 256), i = ix2 R j := ⟨i 0, i 1, eq_ix2 i⟩
  refine Eq.trans ?_ (kcol_eq x g w R ⟨768 + j.val, by omega⟩ ⟨768 + j.val, by omega⟩ (by first | omega | (dsimp only; omega))).symm
  rw [← hdot_at x g w R ⟨768 + j.val, by omega⟩]
  generalize hdot x g w = y
  pointwise []

theorem ref7 (x : FVec Ideal S32x8x1024 .f32) (g : FVec Ideal S1024 .f32) (w : FVec Ideal S1024x3624 .f32) :
    shapeCast S256x256 (extractStridedSlice S32x8x256 ![0, 0, 1024] (hdot x g w) slices_S32x8x3624_S32x8x256_0_0_1024) shapeCasts_S32x8x256_S256x256
      = G7 x g w := by
  refine funext fun i => ?_
  obtain ⟨R, j, rfl⟩ : ∃ (R : Fin 256) (j : Fin 256), i = ix2 R j := ⟨i 0, i 1, eq_ix2 i⟩
  refine Eq.trans ?_ (kcol_eq x g w R ⟨1024 + j.val, by omega⟩ ⟨1024 + j.val, by omega⟩ (by first | omega | (dsimp only; omega))).symm
  rw [← hdot_at x g w R ⟨1024 + j.val, by omega⟩]
  generalize hdot x g w = y
  pointwise []

theorem ref8 (x : FVec Ideal S32x8x1024 .f32) (g : FVec Ideal S1024 .f32) (w : FVec Ideal S1024x3624 .f32) :
    shapeCast S256x512 (extractStridedSlice S32x8x512 ![0, 0, 1304] (hdot x g w) slices_S32x8x3624_S32x8x512_0_0_1304) shapeCasts_S32x8x512_S256x512
      = G8 x g w := by
  refine funext fun i => ?_
  obtain ⟨R, j, rfl⟩ : ∃ (R : Fin 256) (j : Fin 512), i = ix2 R j := ⟨i 0, i 1, eq_ix2 i⟩
  refine Eq.trans ?_ (kcol_eq x g w R ⟨1280 + j.val, by omega⟩ ⟨1304 + j.val, by omega⟩ (by first | omega | (dsimp only; omega))).symm
  rw [← hdot_at x g w R ⟨1304 + j.val, by omega⟩]
  generalize hdot x g w = y
  pointwise []

theorem ref9 (x : FVec Ideal S32x8x1024 .f32) (g : FVec Ideal S1024 .f32) (w : FVec Ideal S1024x3624 .f32) :
    shapeCast S256x768 (concatenate S32x8x768 2 [⟨S32x8x128, extractStridedSlice S32x8x128 ![0, 0, 1816] (hdot x g w) slices_S32x8x3624_S32x8x128_0_0_1816⟩, ⟨S32x8x128, extractStridedSlice S32x8x128 ![0, 0, 1944] (hdot x g w) slices_S32x8x3624_S32x8x128_0_0_1944⟩, ⟨S32x8x256, extractStridedSlice S32x8x256 ![0, 0, 2072] (hdot x g w) slices_S32x8x3624_S32x8x256_0_0_2072⟩, ⟨S32x8x256, extractStridedSlice S32x8x256 ![0, 0, 2344] (hdot x g w) slices_S32x8x3624_S32x8x256_0_0_2344⟩] concatenates_S32x8x128_S32x8x128_S32x8x256_S32x8x256_S32x8x768_d2) shapeCasts_S32x8x768_S256x768
      = G9 x g w := by
  refine funext fun i => ?_
  obtain ⟨R, j, rfl⟩ : ∃ (R : Fin 256) (j : Fin 768), i = ix2 R j := ⟨i 0, i 1, eq_ix2 i⟩
  have hy := hdot_at x g w R
  have hk : ∀ (d : Fin 3624), ((j.val < 512 ∧ d.val = j.val + 1816) ∨ (512 ≤ j.val ∧ d.val = j.val + 1832)) → G9 x g w (ix2 R j) = hdot x g w (ix3 ⟨R / 8, by omega⟩ ⟨R % 8, by omega⟩ d) := fun d hd =>
    (kcol_eq x g w R ⟨1792 + j.val, by omega⟩ d (by first | omega | (dsimp only; omega))).trans (hy d).symm
  clear hy
  generalize hdot x g w = y at hk ⊢
  generalize G9 x g w (ix2 R j) = z at hk ⊢
  pointwise []
  split_ifs <;> exact (hk _ (by first | omega | (dsimp only; omega))).symm

theorem ref10 (x : FVec Ideal S32x8x1024 .f32) (g : FVec Ideal S1024 .f32) (w : FVec Ideal S1024x3624 .f32) :
    shapeCast S256x1024 (concatenate S32x8x1024 2 [⟨S32x8x256, extractStridedSlice S32x8x256 ![0, 0, 2600] (hdot x g w) slices_S32x8x3624_S32x8x256_0_0_2600⟩, ⟨S32x8x256, extractStridedSlice S32x8x256 ![0, 0, 2856] (hdot x g w) slices_S32x8x3624_S32x8x256_0_0_2856⟩, ⟨S32x8x256, extractStridedSlice S32x8x256 ![0, 0, 3112] (hdot x g w) slices_S32x8x3624_S32x8x256_0_0_3112⟩, ⟨S32x8x256, extractStridedSlice S32x8x256 ![0, 0, 3368] (hdot x g w) slices_S32x8x3624_S32x8x256_0_0_3368⟩] concatenates_S32x8x256_S32x8x256_S32x8x256_S32x8x256_S32x8x1024_d2) shapeCasts_S32x8x1024_S256x1024
      = G10 x g w := by
  refine funext fun i => ?_
  obtain ⟨R, j, rfl⟩ : ∃ (R : Fin 256) (j : Fin 1024), i = ix2 R j := ⟨i 0, i 1, eq_ix2 i⟩
  have hy := hdot_at x g w R
  have hk : ∀ (d : Fin 3624), d.val = j.val + 2600 → G10 x g w (ix2 R j) = hdot x g w (ix3 ⟨R / 8, by omega⟩ ⟨R % 8, by omega⟩ d) := fun d hd =>
    (kcol_eq x g w R ⟨2560 + j.val, by omega⟩ d (by first | omega | (dsimp only; omega))).trans (hy d).symm
  clear hy
  generalize hdot x g w = y at hk ⊢
  generalize G10 x g w (ix2 R j) = z at hk ⊢
  pointwise []
  split_ifs <;> exact (hk _ (by first | omega | (dsimp only; omega))).symm

theorem ref11 (x : FVec Ideal S32x8x1024 .f32) (g : FVec Ideal S1024 .f32) (w : FVec Ideal S1024x3624 .f32) :
    shapeCast S256x128 (pad S32x8x128 ![0, 0, 0] ![0, 0, 88] ![0, 0, 0] (concatenate S32x8x40 2 [⟨S32x8x24, extractStridedSlice S32x8x24 ![0, 0, 1280] (hdot x g w) slices_S32x8x3624_S32x8x24_0_0_1280⟩, ⟨S32x8x16, extractStridedSlice S32x8x16 ![0, 0, 2328] (hdot x g w) slices_S32x8x3624_S32x8x16_0_0_2328⟩] concatenates_S32x8x24_S32x8x16_S32x8x40_d2) (sitofp .f32 (constantI S_ 32 0#32)) pads_S32x8x40_S32x8x128_000_000_0880 h_S_) shapeCasts_S32x8x128_S256x128
      = G11 x g w := by
  refine funext fun i => ?_
  obtain ⟨R, j, rfl⟩ : ∃ (R : Fin 256) (j : Fin 128), i = ix2 R j := ⟨i 0, i 1, eq_ix2 i⟩
  have hy := hdot_at x g w R
  have hk : ∀ (d : Fin 3624), ((j.val < 24 ∧ d.val = j.val + 1280) ∨ (24 ≤ j.val ∧ j.val < 40 ∧ d.val = j.val + 2304)) →
      G11 x g w (ix2 R j) = hdot x g w (ix3 ⟨R / 8, by omega⟩ ⟨R % 8, by omega⟩ d) := fun d hd =>
    (kcol_eq x g w R ⟨3584 + j.val, by omega⟩ d (by first | omega | (dsimp only; omega))).trans (hy d).symm
  have hz : 40 ≤ j.val → G11 x g w (ix2 R j) = 0 := fun hj =>
    kcol_zero x g w R ⟨3584 + j.val, by omega⟩ (by first | omega | (dsimp only; omega))
  clear hy
  generalize hdot x g w = y at hk ⊢
  generalize G11 x g w (ix2 R j) = z at hk hz ⊢
  pointwise []
  split_ifs
  all_goals first
    | exact (hk _ (by first | omega | (dsimp only; omega))).symm
    | exact zero_word.trans (hz (by omega)).symm

variable (m : (ℓ : Loc nD τ sig) → Buf (Elt Ideal) ℓ)

theorem res38 (c : Dev nD) : Cert.Reference4Ideal.Value.res_main_v38 m c = G9 (m ((c.tc : Thread nD τ).loc main_arg0)) (m ((c.tc : Thread nD τ).loc main_arg1)) (m ((c.tc : Thread nD τ).loc main_arg2)) := by
  delta Cert.Reference4Ideal.Value.res_main_v38
  exact ref9 _ _ _

theorem res39 (c : Dev nD) : Cert.Reference4Ideal.Value.res_main_v39 m c = G10 (m ((c.tc : Thread nD τ).loc main_arg0)) (m ((c.tc : Thread nD τ).loc main_arg1)) (m ((c.tc : Thread nD τ).loc main_arg2)) := by
  delta Cert.Reference4Ideal.Value.res_main_v39
  exact ref10 _ _ _

/-- Each result of the reference, index by index. -/
theorem run_ref (ρ : Dev nD → PrngReg) : θ_run defs (onTc (τ := τ) (main (F := Ideal))) ⟨m, fun _ => 0, ρ⟩ fun r => ∀ c : Dev nD,
      r.2.mem ((c.tc : Thread nD τ).loc main_v33) = G4 (m ((c.tc : Thread nD τ).loc main_arg0)) (m ((c.tc : Thread nD τ).loc main_arg1)) (m ((c.tc : Thread nD τ).loc main_arg2))
      ∧ r.2.mem ((c.tc : Thread nD τ).loc main_v34) = G5 (m ((c.tc : Thread nD τ).loc main_arg0)) (m ((c.tc : Thread nD τ).loc main_arg1)) (m ((c.tc : Thread nD τ).loc main_arg2))
      ∧ r.2.mem ((c.tc : Thread nD τ).loc main_v35) = G6 (m ((c.tc : Thread nD τ).loc main_arg0)) (m ((c.tc : Thread nD τ).loc main_arg1)) (m ((c.tc : Thread nD τ).loc main_arg2))
      ∧ r.2.mem ((c.tc : Thread nD τ).loc main_v36) = G7 (m ((c.tc : Thread nD τ).loc main_arg0)) (m ((c.tc : Thread nD τ).loc main_arg1)) (m ((c.tc : Thread nD τ).loc main_arg2))
      ∧ r.2.mem ((c.tc : Thread nD τ).loc main_v37) = G8 (m ((c.tc : Thread nD τ).loc main_arg0)) (m ((c.tc : Thread nD τ).loc main_arg1)) (m ((c.tc : Thread nD τ).loc main_arg2))
      ∧ r.2.mem ((c.tc : Thread nD τ).loc main_v38) = G9 (m ((c.tc : Thread nD τ).loc main_arg0)) (m ((c.tc : Thread nD τ).loc main_arg1)) (m ((c.tc : Thread nD τ).loc main_arg2))
      ∧ r.2.mem ((c.tc : Thread nD τ).loc main_v39) = G10 (m ((c.tc : Thread nD τ).loc main_arg0)) (m ((c.tc : Thread nD τ).loc main_arg1)) (m ((c.tc : Thread nD τ).loc main_arg2))
      ∧ r.2.mem ((c.tc : Thread nD τ).loc main_v40) = G11 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Reference4Ideal.Value.run (F := Ideal) m ρ)
  have hc := h c
  clear h
  obtain ⟨h4, h5, h6, h7, h8, h9, h10, h11, ha⟩ := hc
  refine ⟨h4.trans ?_, h5.trans ?_, h6.trans ?_, h7.trans ?_, h8.trans ?_, h9.trans ?_, h10.trans ?_, h11.trans ?_, ha⟩
  · exact ref4 _ _ _
  · exact ref5 _ _ _
  · exact ref6 _ _ _
  · exact ref7 _ _ _
  · exact ref8 _ _ _
  · exact res38 m c
  · exact res39 m c
  · exact ref11 _ _ _

end Cert.Proof.ProjSRef
-- ==== Proof.ProjS.lean ====
/- The input projection of the sample as a program of its own: its frames, and that it computes what the reference does. -/
module
public import proofs.«01_k».proof.Defs
public import proofs.«01_k».proof.Proof.ProjSRef
public import proofs.«01_k».proof.Proof.Gen.Kernel4.Frame

@[expose] public section

set_option maxRecDepth 16384

noncomputable section

namespace Cert.Proof

open Idealize.ShloMosaic

/-- The printed projection's frame, at words. -/
theorem frame_kernel4 : Cert.quiescent_Kernel4 := fun m ρ _ => Cert.Kernel4.Gen.frame (F := Bits) m ρ

/-- The idealized projection's frame, at the extended reals. -/
theorem frame_kernel4Ideal : Cert.quiescent_Kernel4Ideal := fun m ρ _ => Cert.Kernel4Ideal.Gen.frame (F := Ideal) m ρ

/-- The projection's reference's frame. -/
theorem frame_reference4 : Cert.quiescent_Reference4Ideal := fun m ρ _ =>
  (θ_run Cert.Reference4Ideal.defs _ _).mono
    (fun r h => ⟨fun c => (h c).2.2.2.2.2.2.2.2, sem_eq_zero_of_no_sems (by decide) r.2⟩)
    (ProjSRef.run_ref m ρ)

set_option maxHeartbeats 4000000 in
/-- Over the extended reals the kernel's eight arrays are the reference's. -/
theorem algebraic4 : Cert.algebraic_Kernel4Ideal_Reference4Ideal := fun m ρ m' ρ' _ hm => by
  refine ⟨fun c => ProjSArr.G4 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
      fun c => ProjSArr.G5 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
      fun c => ProjSArr.G6 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
      fun c => ProjSArr.G7 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
      fun c => ProjSArr.G8 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
      fun c => ProjSArr.G9 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
      fun c => ProjSArr.G10 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
      fun c => ProjSArr.G11 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  · refine (θ_run Cert.Kernel4Ideal.defs _ _).mono (fun r h c => ?_) (Cert.Kernel4Ideal.Value.run_blocks (F := Ideal) m ρ)
    have hc := h c
    clear h
    obtain ⟨h4, h5, h6, h7, h8, h9, h10, h11, ha⟩ := hc
    exact ⟨h4.trans (ProjSArr.final4 m c), h5.trans (ProjSArr.final5 m c), h6.trans (ProjSArr.final6 m c), h7.trans (ProjSArr.final7 m c), h8.trans (ProjSArr.final8 m c), h9.trans (ProjSArr.final9 m c), h10.trans (ProjSArr.final10 m c), h11.trans (ProjSArr.final11 m c), ha⟩
  · refine (θ_run Cert.Reference4Ideal.defs _ _).mono (fun r h c => ?_) (ProjSRef.run_ref m' ρ')
    have hc := h c
    clear h
    obtain ⟨h4, h5, h6, h7, h8, h9, h10, h11, ha⟩ := hc
    obtain ⟨e0, e1, e2, e3, e4⟩ := hm c
    exact ⟨h4.trans (congr (congr (congrArg ProjSArr.G4 e0) e1) e2), h5.trans (congr (congr (congrArg ProjSArr.G5 e0) e1) e2), h6.trans (congr (congr (congrArg ProjSArr.G6 e0) e1) e2), h7.trans (congr (congr (congrArg ProjSArr.G7 e0) e1) e2), h8.trans (congr (congr (congrArg ProjSArr.G8 e0) e1) e2), h9.trans (congr (congr (congrArg ProjSArr.G9 e0) e1) e2), h10.trans (congr (congr (congrArg ProjSArr.G10 e0) e1) e2), h11.trans (congr (congr (congrArg ProjSArr.G11 e0) e1) e2), ha⟩

end Cert.Proof
-- ==== Proof.OutSBlock.lean ====
/- What the output projection's body computes of the sample's 256 tokens, at an index. -/
module
public import proofs.«01_k».proof.Proof.OutBlock
public import proofs.«01_k».proof.Proof.Gen.Kernel5Ideal.Value
public import Idealize.ShloMosaic.Lib.Pointwise
public import Idealize.ShloMosaic.Lib.WordCmp

@[expose] public section

set_option maxRecDepth 16384

noncomputable section

namespace Cert.Proof.OutSBlock

open Cert.Kernel5Ideal Cert.Kernel5Ideal.Gen Idealize.ShloMosaic
open Idealize.ShloMosaic.TcCoe Idealize.SL.Sem
open Cert.Proof.OutBlock (hz2 hz3 sel_row)

/-- The word "the row's place in its sequence of eight tokens". -/
theorem place_word : ∀ n : Fin 256, (Scalar.select
      (IntOp.andi
        (IntOp.xori
          (IntOp.cmpi CmpIPredicate.slt
            (IntOp.remsi ArithUnit.vector (BitVec.ofNat 32 n.val)
              (Scalar.select (Scalar.cmpi CmpIPredicate.eq 8#32 0#32) 1#32 8#32))
            0#32)
          (Scalar.cmpi CmpIPredicate.slt (Scalar.select (Scalar.cmpi CmpIPredicate.eq 8#32 0#32) 1#32 8#32) 0#32))
        (IntOp.cmpi CmpIPredicate.ne
          (IntOp.remsi ArithUnit.vector (BitVec.ofNat 32 n.val)
            (Scalar.select (Scalar.cmpi CmpIPredicate.eq 8#32 0#32) 1#32 8#32))
          0#32))
      (IntOp.addi
        (IntOp.remsi ArithUnit.vector (BitVec.ofNat 32 n.val)
          (Scalar.select (Scalar.cmpi CmpIPredicate.eq 8#32 0#32) 1#32 8#32))
        (Scalar.select (Scalar.cmpi CmpIPredicate.eq 8#32 0#32) 1#32 8#32))
      (IntOp.remsi ArithUnit.vector (BitVec.ofNat 32 n.val)
        (Scalar.select (Scalar.cmpi CmpIPredicate.eq 8#32 0#32) 1#32 8#32))) = BitVec.ofNat 32 (n.val % 8) := by decide +kernel

theorem pay8_at (r : Fin 256) (j : Fin 256) : k0_pay8 (ix2 r j) = BitVec.ofNat 32 (r.val % 8) := by
  pointwise [k0_pay8]
  exact place_word r

variable (x0 : FVec Ideal S256x1024 .f32) (x1 : FVec Ideal S256x512 .f32)
  (x2 : FVec Ideal S256x256 .f32) (x3 : FVec Ideal S256x1024 .f32) (x4 : FVec Ideal S8x1024 .f32)
  (x5 : FVec Ideal S32x2x256 .f32) (x6 : FVec Ideal S3x256 .f32) (x7 : FVec Ideal S1024x1024 .bf16)
  (x8 : FVec Ideal S1x1024 .f32)

/-- The convolution's input of a row: the product of the second and third groups of columns. -/
def urow (r : Fin 256) (j : Fin 256) : EReal :=
  x3 (ix2 r ⟨256 + j.val, by omega⟩) * x3 (ix2 r ⟨512 + j.val, by omega⟩)

/-- The convolution's input one token before a row: from the buffer at a sequence's first token. -/
def back1 (r : Fin 256) (j : Fin 256) : EReal :=
  if r.val % 8 = 0 then x5 (ix3 ⟨r.val / 8, by omega⟩ 1 j) else urow x3 ⟨(r.val + 256 - 1) % 256, by omega⟩ j

/-- The convolution's input two tokens before a row: from the buffer at a sequence's first two tokens. -/
def back2 (r : Fin 256) (j : Fin 256) : EReal :=
  if r.val % 8 = 0 then x5 (ix3 ⟨r.val / 8, by omega⟩ 0 j) else if r.val % 8 = 1 then x5 (ix3 ⟨r.val / 8, by omega⟩ 1 j)
  else urow x3 ⟨(r.val + 256 - 2) % 256, by omega⟩ j

/-- The gated convolution of one row. -/
def oconv (r : Fin 256) (j : Fin 256) : EReal :=
  x3 (ix2 r ⟨j.val, by omega⟩)
    * (back2 x3 x5 r j * x6 (ix2 0 j) + back1 x3 x5 r j * x6 (ix2 1 j) + urow x3 r j * x6 (ix2 2 j))
    * (x3 (ix2 r ⟨768 + j.val, by omega⟩) * Ideal.div 1 (1 + Ideal.exp (0 - x3 (ix2 r ⟨768 + j.val, by omega⟩))))

/-- The row's product with the output weights, in the three groups of columns. -/
def acc (v : Fin 256 → Fin 256 → EReal) (r : Fin 256) (n : Fin 1024) : EReal :=
  (∑ k : Fin 512, x1 (ix2 r k) * x7 (ix2 ⟨k.val, by omega⟩ n))
    + (∑ k : Fin 256, x2 (ix2 r k) * x7 (ix2 ⟨512 + k.val, by omega⟩ n))
    + ∑ k : Fin 256, v r k * x7 (ix2 ⟨768 + k.val, by omega⟩ n)

theorem pay4_at (r : Fin 256) (j : Fin 256) :
    k0_pay4 (F := Ideal) (View.ld x3 r0_0) (ix2 r j) = urow x3 r j := by
  pointwise [k0_pay4, k0_pay2, r0_0, urow]

theorem pay6_at (r : Fin 256) (j : Fin 256) :
    k0_pay6 (F := Ideal) (View.ld x5 r0_1) (ix2 r j) = x5 (ix3 ⟨r.val / 8, by omega⟩ 0 j) := by
  pointwise [k0_pay6, r0_1]

theorem pay7_at (r : Fin 256) (j : Fin 256) :
    k0_pay7 (F := Ideal) (View.ld x5 r0_1) (ix2 r j) = x5 (ix3 ⟨r.val / 8, by omega⟩ 1 j) := by
  pointwise [k0_pay7, r0_1]

theorem pay9_at (r : Fin 256) (j : Fin 256) :
    k0_pay9 (F := Ideal) (View.ld x3 r0_0) (View.ld x5 r0_1) (ix2 r j) = back1 x3 x5 r j := by
  have h7 := pay7_at x5 r j
  have h4 := fun r => pay4_at x3 r j
  have h8 := pay8_at r j
  unfold k0_pay9
  generalize k0_pay7 (F := Ideal) (View.ld x5 r0_1) = p at *
  generalize k0_pay4 (F := Ideal) (View.ld x3 r0_0) = q at *
  generalize k0_pay8 = w at *
  pointwise []
  rw [h8, h4, h7]
  exact sel_row (r.val % 8) 0 (by omega) (by omega) _ _

theorem pay11_at (r : Fin 256) (j : Fin 256) :
    k0_pay11 (F := Ideal) (View.ld x3 r0_0) (View.ld x5 r0_1) (ix2 r j)
      = if r.val % 8 = 1 then x5 (ix3 ⟨r.val / 8, by omega⟩ 1 j) else urow x3 ⟨(r.val + 256 - 2) % 256, by omega⟩ j := by
  have h7 := pay7_at x5 r j
  have h4 := fun r => pay4_at x3 r j
  have h8 := pay8_at r j
  unfold k0_pay11
  generalize k0_pay7 (F := Ideal) (View.ld x5 r0_1) = p at *
  generalize k0_pay4 (F := Ideal) (View.ld x3 r0_0) = q at *
  generalize k0_pay8 = w at *
  pointwise []
  rw [h8, h4, h7]
  exact sel_row (r.val % 8) 1 (by omega) (by omega) _ _

theorem pay10_at (r : Fin 256) (j : Fin 256) (a b : EReal) :
    Scalar.select (k0_pay10 (ix2 r j)) a b = if r.val % 8 = 0 then a else b := by
  have h8 := pay8_at r j
  unfold k0_pay10
  generalize k0_pay8 = w at *
  have e : cmpi (s := S256x256) .eq w (broadcast S256x256 0#32) (ix2 r j) = IntOp.cmpi .eq (w (ix2 r j)) 0#32 := rfl
  refine (congrArg (fun z => Scalar.select z a b) e).trans ?_
  rw [h8]
  exact sel_row (r.val % 8) 0 (by omega) (by omega) _ _

theorem pay14_at (r : Fin 256) (j : Fin 256) :
    k0_pay14 (F := Ideal) (k0_pay3 (View.ld x3 r0_0)) (k0_pay4 (View.ld x3 r0_0)) (k0_pay5 (View.ld x3 r0_0))
      (k0_pay6 (View.ld x5 r0_1)) (k0_pay9 (View.ld x3 r0_0) (View.ld x5 r0_1)) k0_pay10
      (k0_pay11 (View.ld x3 r0_0) (View.ld x5 r0_1)) (View.ld x6 r0_2) (ix2 r j) = oconv x3 x5 x6 r j := by
  have h6 := pay6_at x5 r j
  have h9 := pay9_at x3 x5 r j
  have h10 := pay10_at r j
  have h11 := pay11_at x3 x5 r j
  have h4 := fun r => pay4_at x3 r j
  have h3 : k0_pay3 (F := Ideal) (View.ld x3 r0_0) (ix2 r j) = x3 (ix2 r ⟨j.val, by omega⟩) := by
    pointwise [k0_pay3, k0_pay2, r0_0]
  have h5 : k0_pay5 (F := Ideal) (View.ld x3 r0_0) (ix2 r j) = x3 (ix2 r ⟨768 + j.val, by omega⟩) := by
    pointwise [k0_pay5, k0_pay2, r0_0]
  generalize k0_pay6 (F := Ideal) (View.ld x5 r0_1) = p at *
  generalize k0_pay9 (F := Ideal) (View.ld x3 r0_0) (View.ld x5 r0_1) = q at *
  generalize k0_pay11 (F := Ideal) (View.ld x3 r0_0) (View.ld x5 r0_1) = q2 at *
  generalize k0_pay10 = v38 at *
  generalize k0_pay4 (F := Ideal) (View.ld x3 r0_0) = v5 at *
  generalize k0_pay3 (F := Ideal) (View.ld x3 r0_0) = v2 at *
  generalize k0_pay5 (F := Ideal) (View.ld x3 r0_0) = v6 at *
  pointwise [k0_pay14, r0_2]
  rw [h10, h6, h9, h11, h4, h3, h5]
  rfl

theorem out9 (r : Fin 256) (n : Fin 1024) :
    out0_9 (F := Ideal) x0 x1 x2 x3 x4 x5 x6 x7 x8 (ix2 r n)
      = x0 (ix2 r n) + acc x1 x2 x7 (oconv x3 x5 x6) r n
        * Ideal.rsqrt (Ideal.div (∑ k : Fin 1024, acc x1 x2 x7 (oconv x3 x5 x6) r k * acc x1 x2 x7 (oconv x3 x5 x6) r k)
            (Ideal.ofBits .f32 1149239296#32) + Ideal.ofBits .f32 897988541#32) * x8 (ix2 0 n) := by
  unfold_out out0_9
  rw [View.canon_unit_zero hz2]
  have h := fun r j => pay14_at x3 x5 x6 r j
  generalize k0_pay14 (F := Ideal) _ _ _ _ _ _ _ _ = v at *
  pointwise [k0_pay1, k0_pay13, r0_0, r0_3, r0_4, r0_5, r0_6, r0_7, r0_8]
  simp only [h]
  rfl

theorem out10 (b : Fin 32) (a : Fin 2) (j : Fin 256) :
    out0_10 (F := Ideal) x0 x1 x2 x3 x4 x5 x6 x7 x8 (ix3 b a j) = urow x3 ⟨b.val * 8 + (6 + a.val), by omega⟩ j := by
  unfold_out out0_10
  rw [View.canon_unit_zero hz3]
  have h4 := fun r => pay4_at x3 r j
  generalize k0_pay4 (F := Ideal) (View.ld x3 r0_0) = v5 at *
  pointwise [k0_pay12, r0_1]
  exact h4 _

end Cert.Proof.OutSBlock
-- ==== Proof.OutSArr.lean ====
/- What the output projection's two arrays hold, for the sample, after the run, as functions of its arguments. -/
module
public import proofs.«01_k».proof.Proof.OutSBlock
public import Idealize.ShloMosaic.Lib.StableHlo.ReadAt

@[expose] public section

set_option maxRecDepth 256

noncomputable section

namespace Cert.Proof.OutSArr

open Cert.Kernel5Ideal Cert.Kernel5Ideal.Gen Cert.Kernel5Ideal.Value Cert.Proof.OutSBlock Idealize.ShloMosaic
open Idealize.ShloMosaic.TcCoe Idealize.SL.Sem

/-- The convolution's input, sequence by sequence: two kept tokens, then the products of two groups of columns. -/
def U (cv : FVec Ideal S32x8x1024 .f32) (buf : FVec Ideal S32x2x256 .f32) (b : Fin 32) (n : Fin 10) (j : Fin 256) : EReal :=
  if h : n.val < 2 then buf (ix3 b ⟨n.val, h⟩ j)
  else cv (ix3 b ⟨n.val - 2, by omega⟩ ⟨256 + j.val, by omega⟩) * cv (ix3 b ⟨n.val - 2, by omega⟩ ⟨512 + j.val, by omega⟩)

theorem U_congr (cv : FVec Ideal S32x8x1024 .f32) (buf : FVec Ideal S32x2x256 .f32) (b b' : Fin 32) (n n' : Fin 10) (j : Fin 256)
    (hb : b.val = b'.val) (hn : n.val = n'.val) : U cv buf b n j = U cv buf b' n' j := by
  obtain rfl := Fin.ext hb
  obtain rfl := Fin.ext hn
  rfl

/-- A token's product is the convolution's input two places further on. -/
theorem U_tok (cv : FVec Ideal S32x8x1024 .f32) (buf : FVec Ideal S32x2x256 .f32) (b b' : Fin 32) (s : Fin 8) (n : Fin 10) (j : Fin 256)
    (hb : b.val = b'.val) (hn : s.val + 2 = n.val) :
    cv (ix3 b s ⟨256 + j.val, by omega⟩) * cv (ix3 b s ⟨512 + j.val, by omega⟩) = U cv buf b' n j := by
  obtain rfl := Fin.ext hb
  unfold U
  rw [dif_neg (by omega)]
  have e : ∀ s' : Fin 8, s = s' → cv (ix3 b s ⟨256 + j.val, by omega⟩) * cv (ix3 b s ⟨512 + j.val, by omega⟩)
      = cv (ix3 b s' ⟨256 + j.val, by omega⟩) * cv (ix3 b s' ⟨512 + j.val, by omega⟩) := by rintro _ rfl; rfl
  exact e _ (Fin.ext (by show s.val = n.val - 2; omega))

theorem U_buf (cv : FVec Ideal S32x8x1024 .f32) (buf : FVec Ideal S32x2x256 .f32) (b b' : Fin 32) (s : Fin 2) (n : Fin 10) (j : Fin 256)
    (hb : b.val = b'.val) (hn : s.val = n.val) : buf (ix3 b s j) = U cv buf b' n j := by
  obtain rfl := Fin.ext hb
  unfold U
  rw [dif_pos (by omega)]
  exact congrArg (fun s => buf (ix3 b s j)) (Fin.ext hn)

/-- Token `R`'s gated convolution: three taps of the input, gated by the first group of columns and the sigmoid-weighted last. -/
def oc (cv : FVec Ideal S32x8x1024 .f32) (buf : FVec Ideal S32x2x256 .f32) (cw : FVec Ideal S3x256 .f32)
    (R : Fin 256) (j : Fin 256) : EReal :=
  cv (ix3 ⟨R / 8, by omega⟩ ⟨R % 8, by omega⟩ ⟨j.val, by omega⟩)
    * (U cv buf ⟨R / 8, by omega⟩ ⟨R % 8, by omega⟩ j * cw (ix2 0 j)
      + U cv buf ⟨R / 8, by omega⟩ ⟨1 + R % 8, by omega⟩ j * cw (ix2 1 j)
      + U cv buf ⟨R / 8, by omega⟩ ⟨2 + R % 8, by omega⟩ j * cw (ix2 2 j))
    * (cv (ix3 ⟨R / 8, by omega⟩ ⟨R % 8, by omega⟩ ⟨768 + j.val, by omega⟩)
      * Ideal.div 1 (1 + Ideal.exp (0 - cv (ix3 ⟨R / 8, by omega⟩ ⟨R % 8, by omega⟩ ⟨768 + j.val, by omega⟩))))

/-- Token `R`'s product with column `n` of the output weights: attention, recurrence and convolution side by side. -/
def mix (a : FVec Ideal S32x8x512 .f32) (g : FVec Ideal S32x8x256 .f32) (v : Fin 256 → Fin 256 → EReal)
    (w : FVec Ideal S1024x1024 .f32) (R : Fin 256) (n : Fin 1024) : EReal :=
  (∑ k : Fin 512, a (ix3 ⟨R / 8, by omega⟩ ⟨R % 8, by omega⟩ k) * w (ix2 ⟨k.val, by omega⟩ n))
    + (∑ k : Fin 256, g (ix3 ⟨R / 8, by omega⟩ ⟨R % 8, by omega⟩ k) * w (ix2 ⟨512 + k.val, by omega⟩ n))
    + ∑ k : Fin 256, v R k * w (ix2 ⟨768 + k.val, by omega⟩ n)

/-- The layer's output at token `R`, column `n`: the input plus the normalised product. -/
def yrow (x : FVec Ideal S32x8x1024 .f32) (p : Fin 256 → Fin 1024 → EReal) (g : FVec Ideal S1024 .f32)
    (R : Fin 256) (n : Fin 1024) : EReal :=
  x (ix3 ⟨R / 8, by omega⟩ ⟨R % 8, by omega⟩ n)
    + p R n * Ideal.rsqrt (Ideal.div (∑ k : Fin 1024, p R k * p R k) (Ideal.ofBits .f32 1149239296#32)
        + Ideal.ofBits .f32 897988541#32) * g (ix1 n)

/-- The layer's output as an array. -/
def G9 (x : FVec Ideal S32x8x1024 .f32) (a : FVec Ideal S32x8x512 .f32) (g : FVec Ideal S32x8x256 .f32)
    (cv : FVec Ideal S32x8x1024 .f32) (buf : FVec Ideal S32x2x256 .f32) (cw : FVec Ideal S3x256 .f32)
    (w : FVec Ideal S1024x1024 .f32) (np : FVec Ideal S1024 .f32) : FVec Ideal S256x1024 .f32 :=
  fun i => yrow x (mix a g (oc cv buf cw) w) np (i 0) (i 1)

/-- The convolution's last two inputs of each sequence. -/
def G10 (cv : FVec Ideal S32x8x1024 .f32) (buf : FVec Ideal S32x2x256 .f32) : FVec Ideal S32x2x256 .f32 :=
  fun i => U cv buf (i 0) ⟨8 + (i 1).val, by have h : (i 1).val < 2 := (i 1).isLt; omega⟩ (i 2)

variable (m : (ℓ : Loc nD τ sig) → Buf (Elt Ideal) ℓ)

theorem V_0 (c : Dev nD) (R : Fin 256) (k : Fin 1024) : V m c main_v0 (ix2 R k)
    = m ((c.tc : Thread nD τ).loc main_arg0) (ix3 ⟨R / 8, by omega⟩ ⟨R % 8, by omega⟩ k) := by
  unfold V hostOps0
  after_reads_at

theorem V_1 (c : Dev nD) (R : Fin 256) (k : Fin 512) : V m c main_v1 (ix2 R k)
    = m ((c.tc : Thread nD τ).loc main_arg1) (ix3 ⟨R / 8, by omega⟩ ⟨R % 8, by omega⟩ k) := by
  unfold V hostOps0
  after_reads_at

theorem V_2 (c : Dev nD) (R : Fin 256) (k : Fin 256) : V m c main_v2 (ix2 R k)
    = m ((c.tc : Thread nD τ).loc main_arg2) (ix3 ⟨R / 8, by omega⟩ ⟨R % 8, by omega⟩ k) := by
  unfold V hostOps0
  after_reads_at

theorem V_3 (c : Dev nD) (R : Fin 256) (k : Fin 1024) : V m c main_v3 (ix2 R k)
    = m ((c.tc : Thread nD τ).loc main_arg3) (ix3 ⟨R / 8, by omega⟩ ⟨R % 8, by omega⟩ k) := by
  unfold V hostOps0
  after_reads_at

theorem V_4 (c : Dev nD) (k n : Fin 1024) : V m c main_v4 (ix2 k n) = m ((c.tc : Thread nD τ).loc main_arg6) (ix2 k n) := by
  unfold V hostOps0
  after_reads_at

theorem V_5 (c : Dev nD) (n : Fin 1024) : V m c main_v5 (ix2 0 n) = m ((c.tc : Thread nD τ).loc main_arg7) (ix1 n) := by
  unfold V hostOps0
  after_reads_at

theorem tlt (t : Fin cfg0.N) : t.val < 1 := t.isLt

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)

theorem blk0 (c : Dev nD) (t : Fin cfg0.N) (r : Fin 256) (k : Fin 1024) :
    (iblk m c 0 t : FVec Ideal S256x1024 .f32) (ix2 r k)
      = m ((c.tc : Thread nD τ).loc main_arg0) (ix3 ⟨(256 * t.val + r.val) / 8, by have := tlt t; omega⟩ ⟨(256 * t.val + r.val) % 8, by omega⟩ k) := by
  obtain ⟨e0, e1⟩ := idx0 t
  refine Eq.trans ?_ (V_0 m c ⟨256 * t.val + r.val, by have := tlt t; omega⟩ k)
  show V m c main_v0 (((cfg0.win 0).blk t).view.emb (ix2 r k)) = _
  refine congrArg (V m c main_v0) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

theorem blk1 (c : Dev nD) (t : Fin cfg0.N) (r : Fin 256) (k : Fin 512) :
    (iblk m c 1 t : FVec Ideal S256x512 .f32) (ix2 r k)
      = m ((c.tc : Thread nD τ).loc main_arg1) (ix3 ⟨(256 * t.val + r.val) / 8, by have := tlt t; omega⟩ ⟨(256 * t.val + r.val) % 8, by omega⟩ k) := by
  obtain ⟨e0, e1⟩ := idx1 t
  refine Eq.trans ?_ (V_1 m c ⟨256 * t.val + r.val, by have := tlt t; omega⟩ k)
  show V m c main_v1 (((cfg0.win 1).blk t).view.emb (ix2 r k)) = _
  refine congrArg (V m c main_v1) (funext fun a => Fin.ext ?_)
  match a with
  | ⟨0, _⟩ => show win0_1.index t (0 : Fin 2) * 256 + 1 * r.val = 256 * t.val + r.val; omega
  | ⟨1, _⟩ => show win0_1.index t (1 : Fin 2) * 512 + 1 * k.val = k.val; omega

theorem blk2 (c : Dev nD) (t : Fin cfg0.N) (r : Fin 256) (k : Fin 256) :
    (iblk m c 2 t : FVec Ideal S256x256 .f32) (ix2 r k)
      = m ((c.tc : Thread nD τ).loc main_arg2) (ix3 ⟨(256 * t.val + r.val) / 8, by have := tlt t; omega⟩ ⟨(256 * t.val + r.val) % 8, by omega⟩ k) := by
  obtain ⟨e0, e1⟩ := idx2 t
  refine Eq.trans ?_ (V_2 m c ⟨256 * t.val + r.val, by have := tlt t; omega⟩ k)
  show V m c main_v2 (((cfg0.win 2).blk t).view.emb (ix2 r k)) = _
  refine congrArg (V m c main_v2) (funext fun a => Fin.ext ?_)
  match a with
  | ⟨0, _⟩ => show win0_2.index t (0 : Fin 2) * 256 + 1 * r.val = 256 * t.val + r.val; omega
  | ⟨1, _⟩ => show win0_2.index t (1 : Fin 2) * 256 + 1 * k.val = k.val; omega

theorem blk3 (c : Dev nD) (t : Fin cfg0.N) (r : Fin 256) (k : Fin 1024) :
    (iblk m c 3 t : FVec Ideal S256x1024 .f32) (ix2 r k)
      = m ((c.tc : Thread nD τ).loc main_arg3) (ix3 ⟨(256 * t.val + r.val) / 8, by have := tlt t; omega⟩ ⟨(256 * t.val + r.val) % 8, by omega⟩ k) := by
  obtain ⟨e0, e1⟩ := idx3 t
  refine Eq.trans ?_ (V_3 m c ⟨256 * t.val + r.val, by have := tlt t; omega⟩ k)
  show V m c main_v3 (((cfg0.win 3).blk t).view.emb (ix2 r k)) = _
  refine congrArg (V m c main_v3) (funext fun a => Fin.ext ?_)
  match a with
  | ⟨0, _⟩ => show win0_3.index t (0 : Fin 2) * 256 + 1 * r.val = 256 * t.val + r.val; omega
  | ⟨1, _⟩ => show win0_3.index t (1 : Fin 2) * 1024 + 1 * k.val = k.val; omega

theorem blk5 (c : Dev nD) (t : Fin cfg0.N) (b : Fin 32) (r : Fin 2) (j : Fin 256) :
    (iblk m c 5 t : FVec Ideal S32x2x256 .f32) (ix3 b r j) = m ((c.tc : Thread nD τ).loc main_arg4) (ix3 b r j) := by
  obtain ⟨e0, e1, e2⟩ := idx5 t
  refine Eq.trans ?_ (congrFun (V_main_arg4 m c) _)
  show V m c main_arg4 (((cfg0.win 5).blk t).view.emb (ix3 b r j)) = _
  refine congrArg (V m c main_arg4) (funext fun a => Fin.ext ?_)
  match a with
  | ⟨0, _⟩ => show win0_5.index t (0 : Fin 3) * 32 + 1 * b.val = b.val; omega
  | ⟨1, _⟩ => show win0_5.index t (1 : Fin 3) * 2 + 1 * r.val = r.val; omega
  | ⟨2, _⟩ => show win0_5.index t (2 : Fin 3) * 256 + 1 * j.val = j.val; omega

theorem blk6 (c : Dev nD) (t : Fin cfg0.N) (r : Fin 3) (j : Fin 256) :
    (iblk m c 6 t : FVec Ideal S3x256 .f32) (ix2 r j) = m ((c.tc : Thread nD τ).loc main_arg5) (ix2 r j) := by
  obtain ⟨e0, e1⟩ := idx6 t
  refine Eq.trans ?_ (congrFun (V_main_arg5 m c) _)
  show V m c main_arg5 (((cfg0.win 6).blk t).view.emb (ix2 r j)) = _
  refine congrArg (V m c main_arg5) (funext fun a => Fin.ext ?_)
  match a with
  | ⟨0, _⟩ => show win0_6.index t (0 : Fin 2) * 3 + 1 * r.val = r.val; omega
  | ⟨1, _⟩ => show win0_6.index t (1 : Fin 2) * 256 + 1 * j.val = j.val; omega

theorem blk7 (c : Dev nD) (t : Fin cfg0.N) (k n : Fin 1024) :
    (iblk m c 7 t : FVec Ideal S1024x1024 .bf16) (ix2 k n) = m ((c.tc : Thread nD τ).loc main_arg6) (ix2 k n) := by
  obtain ⟨e0, e1⟩ := idx7 t
  refine Eq.trans ?_ (V_4 m c k n)
  show V m c main_v4 (((cfg0.win 7).blk t).view.emb (ix2 k n)) = _
  refine congrArg (V m c main_v4) (funext fun a => Fin.ext ?_)
  match a with
  | ⟨0, _⟩ => show win0_7.index t (0 : Fin 2) * 1024 + 1 * k.val = k.val; omega
  | ⟨1, _⟩ => show win0_7.index t (1 : Fin 2) * 1024 + 1 * n.val = n.val; omega

theorem blk8 (c : Dev nD) (t : Fin cfg0.N) (n : Fin 1024) :
    (iblk m c 8 t : FVec Ideal S1x1024 .f32) (ix2 0 n) = m ((c.tc : Thread nD τ).loc main_arg7) (ix1 n) := by
  obtain ⟨e0, e1⟩ := idx8 t
  refine Eq.trans ?_ (V_5 m c n)
  show V m c main_v5 (((cfg0.win 8).blk t).view.emb (ix2 0 n)) = _
  refine congrArg (V m c main_v5) (funext fun a => Fin.ext ?_)
  match a with
  | ⟨0, _⟩ => show win0_8.index t (0 : Fin 2) * 1 + 1 * 0 = 0; omega
  | ⟨1, _⟩ => show win0_8.index t (1 : Fin 2) * 1024 + 1 * n.val = n.val; omega

theorem urow_at (c : Dev nD) (t : Fin cfg0.N) (r : Fin 256) (j : Fin 256) (b : Fin 32) (n : Fin 10)
    (hb : (256 * t.val + r.val) / 8 = b.val) (hn : (256 * t.val + r.val) % 8 + 2 = n.val) :
    urow (iblk m c 3 t) r j = U (m ((c.tc : Thread nD τ).loc main_arg3)) (m ((c.tc : Thread nD τ).loc main_arg4)) b n j :=
  (congrArg₂ (fun p q : EReal => p * q) (blk3 m c t r ⟨256 + j.val, by omega⟩) (blk3 m c t r ⟨512 + j.val, by omega⟩)).trans
    (U_tok _ _ _ _ _ _ _ hb hn)

theorem back1_at (c : Dev nD) (t : Fin cfg0.N) (r : Fin 256) (j : Fin 256) (b : Fin 32) (n : Fin 10)
    (hb : (256 * t.val + r.val) / 8 = b.val) (hn : (256 * t.val + r.val) % 8 + 1 = n.val) :
    back1 (iblk m c 3 t) (iblk m c 5 t) r j = U (m ((c.tc : Thread nD τ).loc main_arg3)) (m ((c.tc : Thread nD τ).loc main_arg4)) b n j := by
  unfold back1
  have := tlt t
  by_cases h : r.val % 8 = 0
  · rw [if_pos h]
    exact (blk5 m c t ⟨r.val / 8, by omega⟩ 1 j).trans (U_buf _ _ _ _ _ _ _ (by show r.val / 8 = b.val; omega) (by show 1 = n.val; omega))
  · rw [if_neg h]
    exact urow_at m c t _ j b n (by show (256 * t.val + (r.val + 256 - 1) % 256) / 8 = b.val; omega)
      (by show (256 * t.val + (r.val + 256 - 1) % 256) % 8 + 2 = n.val; omega)

theorem back2_at (c : Dev nD) (t : Fin cfg0.N) (r : Fin 256) (j : Fin 256) (b : Fin 32) (n : Fin 10)
    (hb : (256 * t.val + r.val) / 8 = b.val) (hn : (256 * t.val + r.val) % 8 = n.val) :
    back2 (iblk m c 3 t) (iblk m c 5 t) r j = U (m ((c.tc : Thread nD τ).loc main_arg3)) (m ((c.tc : Thread nD τ).loc main_arg4)) b n j := by
  unfold back2
  have := tlt t
  by_cases h : r.val % 8 = 0
  · rw [if_pos h]
    exact (blk5 m c t ⟨r.val / 8, by omega⟩ 0 j).trans (U_buf _ _ _ _ _ _ _ (by show r.val / 8 = b.val; omega) (by show 0 = n.val; omega))
  · rw [if_neg h]
    by_cases h1 : r.val % 8 = 1
    · rw [if_pos h1]
      exact (blk5 m c t ⟨r.val / 8, by omega⟩ 1 j).trans (U_buf _ _ _ _ _ _ _ (by show r.val / 8 = b.val; omega) (by show 1 = n.val; omega))
    · rw [if_neg h1]
      exact urow_at m c t _ j b n (by show (256 * t.val + (r.val + 256 - 2) % 256) / 8 = b.val; omega)
        (by show (256 * t.val + (r.val + 256 - 2) % 256) % 8 + 2 = n.val; omega)

/-- The body's gated convolution is the token's. -/
theorem oconv_at (c : Dev nD) (t : Fin cfg0.N) (r : Fin 256) (j : Fin 256) :
    oconv (iblk m c 3 t) (iblk m c 5 t) (iblk m c 6 t) r j
      = oc (m ((c.tc : Thread nD τ).loc main_arg3)) (m ((c.tc : Thread nD τ).loc main_arg4)) (m ((c.tc : Thread nD τ).loc main_arg5)) ⟨256 * t.val + r.val, by have := tlt t; omega⟩ j := by
  unfold oconv oc
  have := tlt t
  have z := blk3 m c t r ⟨768 + j.val, by omega⟩
  refine congrArg₂ (· * ·) (congrArg₂ (· * ·) (blk3 m c t r ⟨j.val, by omega⟩) ?_)
    (congrArg₂ (· * ·) z (congrArg (fun z => Ideal.div 1 (1 + Ideal.exp (0 - z))) z))
  exact congrArg₂ (· + ·) (congrArg₂ (· + ·)
    (congrArg₂ (· * ·) (back2_at m c t r j _ _ rfl rfl) (blk6 m c t 0 j))
    (congrArg₂ (· * ·) (back1_at m c t r j _ _ rfl (Nat.add_comm _ _)) (blk6 m c t 1 j)))
    (congrArg₂ (· * ·) (urow_at m c t r j _ _ rfl (Nat.add_comm _ _)) (blk6 m c t 2 j))

/-- The body's product is the token's. -/
theorem acc_at (c : Dev nD) (t : Fin cfg0.N) (r : Fin 256) (n : Fin 1024) :
    acc (iblk m c 1 t) (iblk m c 2 t) (iblk m c 7 t) (oconv (iblk m c 3 t) (iblk m c 5 t) (iblk m c 6 t)) r n
      = mix (m ((c.tc : Thread nD τ).loc main_arg1)) (m ((c.tc : Thread nD τ).loc main_arg2)) (oc (m ((c.tc : Thread nD τ).loc main_arg3)) (m ((c.tc : Thread nD τ).loc main_arg4)) (m ((c.tc : Thread nD τ).loc main_arg5))) (m ((c.tc : Thread nD τ).loc main_arg6)) ⟨256 * t.val + r.val, by have := tlt t; omega⟩ n := by
  unfold acc mix
  exact congrArg₂ (· + ·) (congrArg₂ (· + ·)
    (Finset.sum_congr rfl fun k _ => congrArg₂ (· * ·) (blk1 m c t r k) (blk7 m c t _ n))
    (Finset.sum_congr rfl fun k _ => congrArg₂ (· * ·) (blk2 m c t r k) (blk7 m c t _ n)))
    (Finset.sum_congr rfl fun k _ => congrArg₂ (· * ·) (oconv_at m c t r k) (blk7 m c t _ n))

theorem emb9 (t : Fin cfg0.N) (r : Fin 256) (n : Fin 1024) : ((cfg0.win 9).blk t).view.emb (ix2 r n)
    = ix2 (⟨256 * t.val + r.val, by have := tlt t; omega⟩ : Fin 256) n := by
  obtain ⟨e0, e1⟩ := idx9 t
  refine funext fun a => Fin.ext ?_
  match a with
  | ⟨0, _⟩ => show win0_9.index t (0 : Fin 2) * 256 + 1 * r.val = 256 * t.val + r.val; omega
  | ⟨1, _⟩ => show win0_9.index t (1 : Fin 2) * 1024 + 1 * n.val = n.val; omega

theorem rms_congr (f g : Fin 1024 → EReal) (h : ∀ k, f k = g k) :
    Ideal.rsqrt (Ideal.div (∑ k : Fin 1024, f k * f k) (Ideal.ofBits .f32 1149239296#32) + Ideal.ofBits .f32 897988541#32)
      = Ideal.rsqrt (Ideal.div (∑ k : Fin 1024, g k * g k) (Ideal.ofBits .f32 1149239296#32) + Ideal.ofBits .f32 897988541#32) := by
  rw [funext h]

theorem at9 (c : Dev nD) (t : Fin cfg0.N) (r : Fin 256) (n : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 r n)
      = yrow (m ((c.tc : Thread nD τ).loc main_arg0)) (mix (m ((c.tc : Thread nD τ).loc main_arg1)) (m ((c.tc : Thread nD τ).loc main_arg2)) (oc (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg7)) ⟨256 * t.val + r.val, by have := tlt t; omega⟩ n := by
  refine (out9 (iblk m c 0 t) (iblk m c 1 t) (iblk m c 2 t) (iblk m c 3 t) (iblk m c 4 t) (iblk m c 5 t) (iblk m c 6 t) (iblk m c 7 t) (iblk m c 8 t) r n).trans ?_
  unfold yrow
  have h := fun k => acc_at m c t r k
  refine congrArg₂ (· + ·) (blk0 m c t r n) (congrArg₂ (· * ·) (congrArg₂ (· * ·) (h n) ?_) (blk8 m c t n))
  exact rms_congr _ _ h

theorem flushed9_eq (c : Dev nD) (t : Fin cfg0.N) : (dats m 0 c).flushed 9 t
    = ((cfg0.win 9).blk t).view.read (Elt Ideal) (G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  rw [flushed9]
  refine funext fun y => ?_
  obtain ⟨r, n, rfl⟩ : ∃ (r : Fin 256) (n : Fin 1024), y = ix2 r n := ⟨y 0, y 1, eq_ix2 y⟩
  refine (at9 m c t r n).trans ?_
  exact (congrArg (G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (emb9 t r n)).symm

theorem covered9 (i : S256x1024.Idx) :
    ∃ t : Fin cfg0.N, (cfg0.win 9).flush t = true ∧ i ∈ ((cfg0.win 9).blk t).view.set := by
  obtain ⟨R, j, rfl⟩ : ∃ (R : Fin 256) (j : Fin 1024), i = ix2 R j := ⟨i 0, i 1, eq_ix2 i⟩
  have ht : R.val / 256 < cfg0.N := by show R.val / 256 < 1; omega
  have h := ((cfg0.win 9).blk ⟨R.val / 256, ht⟩).view.emb_mem_set (ix2 ⟨R.val % 256, by omega⟩ j)
  rw [emb9 ⟨R.val / 256, ht⟩ ⟨R.val % 256, by omega⟩ j] at h
  have hR : (⟨256 * (R.val / 256) + R.val % 256, by omega⟩ : Fin 256) = R := Fin.ext (by show 256 * (R.val / 256) + R.val % 256 = R.val; omega)
  exact ⟨_, flush0_9 _, hR ▸ h⟩

/-- The first array after the run: the layer's output. -/
theorem final9 (c : Dev nD) : (dats m 0 c).arrAt 9 cfg0.N = G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (dats m 0 c).arrAt_eq_of_cover 9 _ (fun t _ => flushed9_eq m c t) covered9

theorem emb10 (t : Fin cfg0.N) (b : Fin 32) (s : Fin 2) (j : Fin 256) : ((cfg0.win 10).blk t).view.emb (ix3 b s j) = ix3 b s j := by
  obtain ⟨e0, e1, e2⟩ := idx10 t
  refine funext fun a => Fin.ext ?_
  match a with
  | ⟨0, _⟩ => show win0_10.index t (0 : Fin 3) * 32 + 1 * b.val = b.val; omega
  | ⟨1, _⟩ => show win0_10.index t (1 : Fin 3) * 2 + 1 * s.val = s.val; omega
  | ⟨2, _⟩ => show win0_10.index t (2 : Fin 3) * 256 + 1 * j.val = j.val; omega

theorem flushed10_eq (c : Dev nD) (t : Fin cfg0.N) : (dats m 0 c).flushed 10 t
    = ((cfg0.win 10).blk t).view.read (Elt Ideal) (G10 (m ((c.tc : Thread nD τ).loc main_arg3)) (m ((c.tc : Thread nD τ).loc main_arg4))) := by
  rw [flushed10]
  refine funext fun y => ?_
  obtain ⟨b, s, j, rfl⟩ : ∃ (b : Fin 32) (s : Fin 2) (j : Fin 256), y = ix3 b s j := ⟨y 0, y 1, y 2, eq_ix3 y⟩
  have := tlt t
  refine (out10 (iblk m c 0 t) (iblk m c 1 t) (iblk m c 2 t) (iblk m c 3 t) (iblk m c 4 t) (iblk m c 5 t) (iblk m c 6 t) (iblk m c 7 t) (iblk m c 8 t) b s j).trans ?_
  refine (urow_at m c t ⟨b.val * 8 + (6 + s.val), by omega⟩ j b ⟨8 + s.val, by omega⟩ ?_ ?_).trans ?_
  · show (256 * t.val + (b.val * 8 + (6 + s.val))) / 8 = b.val; omega
  · show (256 * t.val + (b.val * 8 + (6 + s.val))) % 8 + 2 = 8 + s.val; omega
  · exact (congrArg (G10 (m ((c.tc : Thread nD τ).loc main_arg3)) (m ((c.tc : Thread nD τ).loc main_arg4))) (emb10 t b s j)).symm

theorem covered10 (i : S32x2x256.Idx) :
    ∃ t : Fin cfg0.N, (cfg0.win 10).flush t = true ∧ i ∈ ((cfg0.win 10).blk t).view.set := by
  obtain ⟨b, s, j, rfl⟩ : ∃ (b : Fin 32) (s : Fin 2) (j : Fin 256), i = ix3 b s j := ⟨i 0, i 1, i 2, eq_ix3 i⟩
  obtain ⟨t⟩ : Nonempty (Fin cfg0.N) := ⟨⟨0, by show 0 < 1; omega⟩⟩
  have h := ((cfg0.win 10).blk t).view.emb_mem_set (ix3 b s j)
  rw [emb10 t b s j] at h
  exact ⟨t, flush0_10 t, h⟩

/-- The second array after the run: the convolution's last two inputs. -/
theorem final10 (c : Dev nD) : (dats m 0 c).arrAt 10 cfg0.N = G10 (m ((c.tc : Thread nD τ).loc main_arg3)) (m ((c.tc : Thread nD τ).loc main_arg4)) :=
  (dats m 0 c).arrAt_eq_of_cover 10 _ (fun t _ => flushed10_eq m c t) covered10

end Cert.Proof.OutSArr
-- ==== Proof.OutSRef.lean ====
/- The reference's output projection of the sample's tokens, index by index, and its equality with what the kernel writes. -/
module
public import proofs.«01_k».proof.Proof.OutSArr
public import proofs.«01_k».proof.Proof.OutRef
public import proofs.«01_k».proof.Proof.Gen.Reference5Ideal.Run

@[expose] public section

set_option maxRecDepth 256

noncomputable section

namespace Cert.Proof.OutSRef

open Cert.Reference5Ideal Cert.Reference5Ideal.Gen Cert.Proof.OutSArr Idealize.ShloMosaic
open Idealize.ShloMosaic.TcCoe Idealize.SL.Sem
open Cert.Proof.OutRef (sum_split)

variable (x : FVec Ideal S32x8x1024 .f32) (a : FVec Ideal S32x8x512 .f32) (g : FVec Ideal S32x8x256 .f32)
  (cv : FVec Ideal S32x8x1024 .f32) (buf : FVec Ideal S32x2x256 .f32) (cw : FVec Ideal S3x256 .f32)
  (w : FVec Ideal S1024x1024 .f32) (np : FVec Ideal S1024 .f32)

/-- The convolution's input with the buffer before it, as the reference writes it. -/
abbrev ucat : FVec Ideal S32x10x256 .f32 :=
  concatenate S32x10x256 1 [⟨S32x2x256, buf⟩, ⟨S32x8x256, (mulf (extractStridedSlice S32x8x256 ![0, 0, 256] cv slices_S32x8x1024_S32x8x256_0_0_256) (extractStridedSlice S32x8x256 ![0, 0, 512] cv slices_S32x8x1024_S32x8x256_0_0_512))⟩] concatenates_S32x2x256_S32x8x256_S32x10x256_d1

/-- The gated convolution, as the reference writes it. -/
abbrev ocR : FVec Ideal S32x8x256 .f32 :=
  mulf (mulf (extractStridedSlice S32x8x256 ![0, 0, 0] cv slices_S32x8x1024_S32x8x256_0_0_0) (addf (addf (addf (broadcastInDim S32x8x256 ![] bcast_S_S32x8x256 (constant (F := Ideal) S_ .f32 0x00000000#32)) (mulf (extractStridedSlice S32x8x256 ![0, 0, 0] (ucat cv buf) slices_S32x10x256_S32x8x256_0_0_0) (broadcastInDim S32x8x256 ![0, 1, 2] bcast_S1x1x256_S32x8x256_0_1_2 (broadcastInDim S1x1x256 ![2] bcast_S256_S1x1x256_2 (shapeCast _ (extractStridedSlice S1x256 ![0, 0] cw slices_S3x256_S1x256_0_0) shapeCasts_S1x256_S256))))) (mulf (extractStridedSlice S32x8x256 ![0, 1, 0] (ucat cv buf) slices_S32x10x256_S32x8x256_0_1_0) (broadcastInDim S32x8x256 ![0, 1, 2] bcast_S1x1x256_S32x8x256_0_1_2 (broadcastInDim S1x1x256 ![2] bcast_S256_S1x1x256_2 (shapeCast _ (extractStridedSlice S1x256 ![1, 0] cw slices_S3x256_S1x256_1_0) shapeCasts_S1x256_S256))))) (mulf (extractStridedSlice S32x8x256 ![0, 2, 0] (ucat cv buf) slices_S32x10x256_S32x8x256_0_2_0) (broadcastInDim S32x8x256 ![0, 1, 2] bcast_S1x1x256_S32x8x256_0_1_2 (broadcastInDim S1x1x256 ![2] bcast_S256_S1x1x256_2 (shapeCast _ (extractStridedSlice S1x256 ![2, 0] cw slices_S3x256_S1x256_2_0) shapeCasts_S1x256_S256)))))) (mulf (extractStridedSlice S32x8x256 ![0, 0, 768] cv slices_S32x8x1024_S32x8x256_0_0_768) (Host.divf (broadcastInDim S32x8x256 ![] bcast_S_S32x8x256 (constant (F := Ideal) S_ .f32 0x3F800000#32)) (addf (broadcastInDim S32x8x256 ![] bcast_S_S32x8x256 (constant (F := Ideal) S_ .f32 0x3F800000#32)) (Host.exp (Host.negf (extractStridedSlice S32x8x256 ![0, 0, 768] cv slices_S32x8x1024_S32x8x256_0_0_768))))))

/-- The product with the output weights, as the reference writes it. -/
abbrev mixR (v : FVec Ideal S32x8x256 .f32) : FVec Ideal S32x8x1024 .f32 :=
  Host.dotGeneral dot_S32x8x1024_S1024x1024_S32x8x1024_2_0_01_1_n_n none ((concatenate S32x8x1024 2 [⟨S32x8x512, (a : (⟨S32x8x512, .f32⟩ : BufTy).Contents (Elt Ideal))⟩, ⟨S32x8x256, (g : (⟨S32x8x256, .f32⟩ : BufTy).Contents (Elt Ideal))⟩, ⟨S32x8x256, (v : (⟨S32x8x256, .f32⟩ : BufTy).Contents (Elt Ideal))⟩] concatenates_S32x8x512_S32x8x256_S32x8x256_S32x8x1024_d2 : FVec Ideal S32x8x1024 .f32)) w

theorem ucat_at (b : Fin 32) (n : Fin 10) (j : Fin 256) : ucat cv buf (ix3 b n j) = U cv buf b n j := by
  pointwise [ucat, U]

theorem oc_at (R : Fin 256) (j : Fin 256) : ocR cv buf cw (ix3 ⟨R / 8, by omega⟩ ⟨R % 8, by omega⟩ j) = oc cv buf cw R j := by
  have h := fun n => ucat_at cv buf ⟨R / 8, by omega⟩ n j
  unfold ocR oc
  simp only [← h]
  generalize ucat cv buf = u
  pointwise []
  rw [zero_sub]

theorem mix_at (v : FVec Ideal S32x8x256 .f32) (R : Fin 256) (n : Fin 1024) :
    mixR a g w v (ix3 ⟨R / 8, by omega⟩ ⟨R % 8, by omega⟩ n)
      = mix a g (fun R j => v (ix3 ⟨R / 8, by omega⟩ ⟨R % 8, by omega⟩ j)) w R n := by
  pointwise [mixR]
  rw [sum_split]
  unfold mix
  have eg : ∀ (p q : Fin 256), p.val = q.val → g (ix3 ⟨R / 8, by omega⟩ ⟨R % 8, by omega⟩ p)
      = g (ix3 ⟨R / 8, by omega⟩ ⟨R % 8, by omega⟩ q) := fun p q h => by rw [Fin.ext h]
  have ev : ∀ (p q : Fin 256), p.val = q.val → v (ix3 ⟨R / 8, by omega⟩ ⟨R % 8, by omega⟩ p)
      = v (ix3 ⟨R / 8, by omega⟩ ⟨R % 8, by omega⟩ q) := fun p q h => by rw [Fin.ext h]
  refine congrArg₂ (· + ·) (congrArg₂ (· + ·) (Finset.sum_congr rfl fun k _ => congrArg (· * _) ?_)
    (Finset.sum_congr rfl fun k _ => congrArg (· * _) ?_)) (Finset.sum_congr rfl fun k _ => congrArg (· * _) ?_)
  · exact dif_pos k.isLt
  · refine (dif_neg (by show ¬ 512 + k.val < 512; omega)).trans ((dif_pos (by show 512 + k.val - 512 < 256; omega)).trans ?_)
    exact eg _ _ (by show 512 + k.val - 512 = k.val; omega)
  · refine (dif_neg (by show ¬ 768 + k.val < 512; omega)).trans ((dif_neg (by show ¬ 768 + k.val - 512 < 256; omega)).trans ?_)
    exact ev _ _ (by show 768 + k.val - 512 - 256 = k.val; omega)

theorem ref9 : shapeCast _ (addf x (mulf (mulf (mixR a g w (ocR cv buf cw)) (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf (mixR a g w (ocR cv buf cw)) (mixR a g w (ocR cv buf cw))) (constant (F := Ideal) S_ .f32 0x00000000#32) reducesTo_S32x8x1024_S32x8_d2 h_S_)) (broadcastInDim S32x8x1 ![] bcast_S_S32x8x1 (constant (F := Ideal) S_ .f32 0x44800000#32))) (broadcastInDim S32x8x1 ![] bcast_S_S32x8x1 (constant (F := Ideal) S_ .f32 0x358637BD#32)))))) (broadcastInDim S32x8x1024 ![0, 1, 2] bcast_S1x1x1024_S32x8x1024_0_1_2 (broadcastInDim S1x1x1024 ![2] bcast_S1024_S1x1x1024_2 np)))) shapeCasts_S32x8x1024_S256x1024 = G9 x a g cv buf cw w np := by
  refine funext fun i => ?_
  obtain ⟨R, n, rfl⟩ : ∃ (R : Fin 256) (n : Fin 1024), i = ix2 R n := ⟨i 0, i 1, eq_ix2 i⟩
  have h := fun n => mix_at a g w (ocR cv buf cw) R n
  have ho : (fun (R : Fin 256) (j : Fin 256) => ocR cv buf cw (ix3 ⟨R / 8, by omega⟩ ⟨R % 8, by omega⟩ j)) = oc cv buf cw :=
    funext fun R => funext fun j => oc_at cv buf cw R j
  rw [ho] at h
  show _ = yrow x (mix a g (oc cv buf cw) w) np R n
  unfold yrow
  simp only [← h]
  generalize mixR a g w (ocR cv buf cw) = p
  pointwise []

theorem ref10 : extractStridedSlice S32x2x256 ![0, 8, 0] (ucat cv buf) slices_S32x10x256_S32x2x256_0_8_0 = G10 cv buf := by
  refine funext fun i => ?_
  obtain ⟨b, s, j, rfl⟩ : ∃ (b : Fin 32) (s : Fin 2) (j : Fin 256), i = ix3 b s j := ⟨i 0, i 1, i 2, eq_ix3 i⟩
  refine Eq.trans ?_ (ucat_at cv buf b ⟨8 + s.val, by omega⟩ j)
  generalize ucat cv buf = u
  pointwise []

end Cert.Proof.OutSRef
-- ==== Proof.OutS.lean ====
/- The output projection of the sample as a program of its own: its frames, and that it computes what the reference does. -/
module
public import proofs.«01_k».proof.Defs
public import proofs.«01_k».proof.Proof.OutSRef
public import proofs.«01_k».proof.Proof.Gen.Kernel5.Frame

@[expose] public section

set_option maxRecDepth 16384

noncomputable section

namespace Cert.Proof.OutSRef

open Cert.Reference5Ideal Cert.Reference5Ideal.Gen Cert.Proof.OutSArr Idealize.ShloMosaic
open Idealize.ShloMosaic.TcCoe Idealize.SL.Sem

variable (m : (ℓ : Loc nD τ sig) → Buf (Elt Ideal) ℓ)

/-- The reference's first result is the layer's output, index by index. -/
theorem res48 (c : Dev nD) : Cert.Reference5Ideal.Value.res_main_v48 m c = G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  delta Cert.Reference5Ideal.Value.res_main_v48
  exact ref9 _ _ _ _ _ _ _ _

/-- Each result of the reference, index by index. -/
theorem run_ref (ρ : Dev nD → PrngReg) : θ_run defs (onTc (τ := τ) (main (F := Ideal))) ⟨m, fun _ => 0, ρ⟩ fun r => ∀ c : Dev nD,
      r.2.mem ((c.tc : Thread nD τ).loc main_v48) = G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28) = G10 (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.Reference5Ideal.Value.run (F := Ideal) m ρ)
  have hc := h c
  clear h
  obtain ⟨h9, h10, ha⟩ := hc
  refine ⟨h9.trans ?_, h10.trans ?_, ha⟩
  · exact res48 m c
  · exact ref10 _ _

end Cert.Proof.OutSRef

namespace Cert.Proof

open Idealize.ShloMosaic

/-- The printed output projection's frame, at words. -/
theorem frame_kernel5 : Cert.quiescent_Kernel5 := fun m ρ _ => Cert.Kernel5.Gen.frame (F := Bits) m ρ

/-- The idealized output projection's frame, at the extended reals. -/
theorem frame_kernel5Ideal : Cert.quiescent_Kernel5Ideal := fun m ρ _ => Cert.Kernel5Ideal.Gen.frame (F := Ideal) m ρ

/-- The output projection's reference's frame. -/
theorem frame_reference5 : Cert.quiescent_Reference5Ideal := fun m ρ _ =>
  (θ_run Cert.Reference5Ideal.defs _ _).mono
    (fun r h => ⟨fun c => (h c).2.2, sem_eq_zero_of_no_sems (by decide) r.2⟩)
    (OutSRef.run_ref m ρ)

set_option maxHeartbeats 4000000 in
/-- Over the extended reals the kernel's two arrays are the reference's. -/
theorem algebraic5 : Cert.algebraic_Kernel5Ideal_Reference5Ideal := fun m ρ m' ρ' _ hm => by
  refine ⟨fun c => OutSArr.G9 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)),
      fun c => OutSArr.G10 (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · refine (θ_run Cert.Kernel5Ideal.defs _ _).mono (fun r h c => ?_) (Cert.Kernel5Ideal.Value.run_blocks (F := Ideal) m ρ)
    have hc := h c
    clear h
    obtain ⟨h9, h10, ha⟩ := hc
    exact ⟨h9.trans (OutSArr.final9 m c), h10.trans (OutSArr.final10 m c), ha⟩
  · refine (θ_run Cert.Reference5Ideal.defs _ _).mono (fun r h c => ?_) (OutSRef.run_ref m' ρ')
    have hc := h c
    clear h
    obtain ⟨h9, h10, ha⟩ := hc
    obtain ⟨e0, e1, e2, e3, e4, e5, e6, e7⟩ := hm c
    exact ⟨h9.trans (congr (congr (congr (congr (congr (congr (congr (congrArg OutSArr.G9 e0) e1) e2) e3) e4) e5) e6) e7), h10.trans (congr (congrArg OutSArr.G10 e3) e4), ha⟩

end Cert.Proof
-- ==== Proof.GlaRun.lean ====
/- The linear attention's call for the sampling step: the state and the output that its body stores for each of a block's eight
   sequences are functions of that sequence's inputs. -/
module
public import proofs.«01_k».proof.Proof.Gen.Kernel6Ideal.Value
public import Idealize.ShloMosaic.Lib.Pipeline.ReadBack
public import Idealize.ShloMosaic.Lib.Pointwise

@[expose] public section

set_option maxRecDepth 16384

noncomputable section

namespace Cert.Proof.GlaRun

open Cert.Kernel6Ideal Cert.Kernel6Ideal.Gen Idealize.ShloMosaic
open Idealize.ShloMosaic.TcCoe Idealize.SL.Sem

variable {F : FTy → Type} [FloatOps F]

/-- Which entries of the 256×128 state are of one head in both coordinates. -/
def mask : IVec S256x128 1 := k0_pay56 k0_pay51 k0_pay52 k0_pay53 k0_pay54 k0_pay55

/-- The logarithm of the decay of a sequence's eight tokens. -/
def decay (mi : Vec F S1x8x128 .f32) (a2 : Vec F S128x128 .f32) (ab : Vec F S1x128 .f32) : FVec F S8x128 .f32 :=
  k0_pay88 (k0_pay86 (k0_pay77 a2 mi ab)) (k0_pay87 (k0_pay77 a2 mi ab))

/-- Its sums up to each token. -/
def cum (l : FVec F S8x128 .f32) : FVec F S8x128 .f32 := k0_pay130 k0_pay67 (k0_pay98 l) (k0_pay100 l) (k0_pay101 l)

/-- What the tokens add to the state, in 256×128 form. -/
def upd (g : Vec F S1x8x768 .f32) (b : FVec F S8x128 .f32) : FVec F S256x128 .f32 :=
  k0_pay211 mask b (k0_pay148 g) (k0_pay200 b) k0_pay208 (k0_pay209 (k0_pay156 g)) (k0_pay210 (k0_pay156 g))

/-- The state after the tokens, in 256×128 form. -/
def state (g : Vec F S1x8x768 .f32) (b : FVec F S8x128 .f32) (s : Vec F S1x4x32x64 .f32) : FVec F S256x128 .f32 :=
  k0_pay237 (k0_pay200 b) (upd g b) (k0_pay14 mask k0_pay3 s)

/-- The new state of one sequence. -/
def seq (g : Vec F S1x8x768 .f32) (mi : Vec F S1x8x128 .f32) (a2 : Vec F S128x128 .f32) (ab : Vec F S1x128 .f32) (s : Vec F S1x4x32x64 .f32) :
    FVec F S1x4x32x64 .f32 :=
  k0_pay27 (k0_pay238 (state g (cum (decay mi a2 ab)) s))

/-- Which entries of the 32×256 values are of one head in both coordinates. -/
def vmask : IVec S32x256 1 := k0_pay65 k0_pay62 (iota Kind.tc S32x256 32 [1] iota_S32x256_d1_w32) (64#32) k0_pay63 k0_pay64 1#32

/-- Which entries of the 32×128 keys are of one head in both coordinates. -/
def kmask : IVec S32x128 1 := k0_pay61 k0_pay57 (iota Kind.tc S32x128 32 [1] iota_S32x128_d1_w32) (32#32) k0_pay58 k0_pay59 k0_pay60

/-- The token that a column of the 8×32 scores is of. -/
def tokens : IVec S8x32 32 := k0_pay75 (8#32) k0_pay72 k0_pay73 k0_pay74 0#1

/-- The linear attention of a sequence's eight tokens, from the decays' sums, before its norm. -/
def att (g : Vec F S1x8x768 .f32) (b : FVec F S8x128 .f32) (s : Vec F S1x4x32x64 .f32) : FVec F S8x256 .f32 :=
  k0_pay236 (k0_pay164 b (k0_pay140 g))
    (k0_pay183 tokens (iota Kind.tc S8x32 32 [0] iota_S8x32_d0_w32) (k0_pay172 vmask (k0_pay156 g)) (k0_pay181 b (k0_pay140 g))
      (k0_pay182 kmask (iota Kind.tc S8x128 32 [0] iota_S8x128_d0_w32) b (k0_pay148 g)) (constant S8x32 FTy.f32 0#32))
    (k0_pay14 mask k0_pay3 s)

/-- The output of one sequence. -/
def outp (g : Vec F S1x8x768 .f32) (mi : Vec F S1x8x128 .f32) (a2 : Vec F S128x128 .f32) (ab : Vec F S1x128 .f32) (gn : Vec F S1x256 .f32) (s : Vec F S1x4x32x64 .f32) :
    FVec F S1x8x256 .f32 :=
  k0_pay261 (k0_pay71 k0_pay68 k0_pay69 k0_pay70) (att g (cum (decay mi a2 ab)) s) g gn

theorem hz2 : (![0, 0] : Fin 2 → ℕ) = fun _ => 0 := by decide

set_option maxHeartbeats 4000000 in
/-- The block of new states: each sequence's is `seq` of its own rows. -/
theorem out7 (c : Dev nD) (i : grid0.Coords) (arg2 : Memref sig .tc .vmem S8x8x768 .f32) (harg2 : arg2.IsWhole) (arg3 : Memref sig .tc .vmem S8x8x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S8x4x32x64 .f32) (harg7 : arg7.IsWhole) (arg8 : Memref sig .tc .vmem S8x8x256 .f32) (harg8 : arg8.IsWhole) (arg9 : Memref sig .tc .vmem S8x4x32x64 .f32) (harg9 : arg9.IsWhole) (arg10 : Memref sig .tc .vmem S8x256x128 .f32) (harg10 : arg10.IsWhole) (hc0 : cond0_0 i) (hc1 : cond0_1 i)
    (x0 : Vec F S8x8x768 .f32) (x1 : Vec F S8x8x128 .f32) (x2 : Vec F S128x128 .f32) (x3 : Vec F S1x128 .f32) (x4 : Vec F S1x256 .f32) (x5 : Vec F S8x4x32x64 .f32) :
    out0_A_7 c i arg2 harg2 arg3 harg3 arg4 harg4 arg5 harg5 arg6 harg6 arg7 harg7 arg8 harg8 arg9 harg9 arg10 harg10 hc0 hc1 x0 x1 x2 x3 x4 x5 = View.canon [⟨Rect.unit (s := S8x4x32x64) ![7, 0, 0, 0] S1x4x32x64.size inb_S8x4x32x64_S1x4x32x64_7_0_0_0, seq (View.ld x0 (Rect.unit ![7, 0, 0] S1x8x768.size inb_S8x8x768_S1x8x768_7_0_0)) (View.ld x1 (Rect.unit ![7, 0, 0] S1x8x128.size inb_S8x8x128_S1x8x128_7_0_0)) (View.ld x2 (Rect.unit ![0, 0] S128x128.size inb_S128x128_S128x128_0_0)) (View.ld x3 (Rect.unit ![0, 0] S1x128.size inb_S1x128_S1x128_0_0)) (View.ld x5 (Rect.unit ![7, 0, 0, 0] S1x4x32x64.size inb_S8x4x32x64_S1x4x32x64_7_0_0_0))⟩,
      ⟨Rect.unit (s := S8x4x32x64) ![6, 0, 0, 0] S1x4x32x64.size inb_S8x4x32x64_S1x4x32x64_6_0_0_0, seq (View.ld x0 (Rect.unit ![6, 0, 0] S1x8x768.size inb_S8x8x768_S1x8x768_6_0_0)) (View.ld x1 (Rect.unit ![6, 0, 0] S1x8x128.size inb_S8x8x128_S1x8x128_6_0_0)) (View.ld x2 (Rect.unit ![0, 0] S128x128.size inb_S128x128_S128x128_0_0)) (View.ld x3 (Rect.unit ![0, 0] S1x128.size inb_S1x128_S1x128_0_0)) (View.ld x5 (Rect.unit ![6, 0, 0, 0] S1x4x32x64.size inb_S8x4x32x64_S1x4x32x64_6_0_0_0))⟩,
      ⟨Rect.unit (s := S8x4x32x64) ![5, 0, 0, 0] S1x4x32x64.size inb_S8x4x32x64_S1x4x32x64_5_0_0_0, seq (View.ld x0 (Rect.unit ![5, 0, 0] S1x8x768.size inb_S8x8x768_S1x8x768_5_0_0)) (View.ld x1 (Rect.unit ![5, 0, 0] S1x8x128.size inb_S8x8x128_S1x8x128_5_0_0)) (View.ld x2 (Rect.unit ![0, 0] S128x128.size inb_S128x128_S128x128_0_0)) (View.ld x3 (Rect.unit ![0, 0] S1x128.size inb_S1x128_S1x128_0_0)) (View.ld x5 (Rect.unit ![5, 0, 0, 0] S1x4x32x64.size inb_S8x4x32x64_S1x4x32x64_5_0_0_0))⟩,
      ⟨Rect.unit (s := S8x4x32x64) ![4, 0, 0, 0] S1x4x32x64.size inb_S8x4x32x64_S1x4x32x64_4_0_0_0, seq (View.ld x0 (Rect.unit ![4, 0, 0] S1x8x768.size inb_S8x8x768_S1x8x768_4_0_0)) (View.ld x1 (Rect.unit ![4, 0, 0] S1x8x128.size inb_S8x8x128_S1x8x128_4_0_0)) (View.ld x2 (Rect.unit ![0, 0] S128x128.size inb_S128x128_S128x128_0_0)) (View.ld x3 (Rect.unit ![0, 0] S1x128.size inb_S1x128_S1x128_0_0)) (View.ld x5 (Rect.unit ![4, 0, 0, 0] S1x4x32x64.size inb_S8x4x32x64_S1x4x32x64_4_0_0_0))⟩,
      ⟨Rect.unit (s := S8x4x32x64) ![3, 0, 0, 0] S1x4x32x64.size inb_S8x4x32x64_S1x4x32x64_3_0_0_0, seq (View.ld x0 (Rect.unit ![3, 0, 0] S1x8x768.size inb_S8x8x768_S1x8x768_3_0_0)) (View.ld x1 (Rect.unit ![3, 0, 0] S1x8x128.size inb_S8x8x128_S1x8x128_3_0_0)) (View.ld x2 (Rect.unit ![0, 0] S128x128.size inb_S128x128_S128x128_0_0)) (View.ld x3 (Rect.unit ![0, 0] S1x128.size inb_S1x128_S1x128_0_0)) (View.ld x5 (Rect.unit ![3, 0, 0, 0] S1x4x32x64.size inb_S8x4x32x64_S1x4x32x64_3_0_0_0))⟩,
      ⟨Rect.unit (s := S8x4x32x64) ![2, 0, 0, 0] S1x4x32x64.size inb_S8x4x32x64_S1x4x32x64_2_0_0_0, seq (View.ld x0 (Rect.unit ![2, 0, 0] S1x8x768.size inb_S8x8x768_S1x8x768_2_0_0)) (View.ld x1 (Rect.unit ![2, 0, 0] S1x8x128.size inb_S8x8x128_S1x8x128_2_0_0)) (View.ld x2 (Rect.unit ![0, 0] S128x128.size inb_S128x128_S128x128_0_0)) (View.ld x3 (Rect.unit ![0, 0] S1x128.size inb_S1x128_S1x128_0_0)) (View.ld x5 (Rect.unit ![2, 0, 0, 0] S1x4x32x64.size inb_S8x4x32x64_S1x4x32x64_2_0_0_0))⟩,
      ⟨Rect.unit (s := S8x4x32x64) ![1, 0, 0, 0] S1x4x32x64.size inb_S8x4x32x64_S1x4x32x64_1_0_0_0, seq (View.ld x0 (Rect.unit ![1, 0, 0] S1x8x768.size inb_S8x8x768_S1x8x768_1_0_0)) (View.ld x1 (Rect.unit ![1, 0, 0] S1x8x128.size inb_S8x8x128_S1x8x128_1_0_0)) (View.ld x2 (Rect.unit ![0, 0] S128x128.size inb_S128x128_S128x128_0_0)) (View.ld x3 (Rect.unit ![0, 0] S1x128.size inb_S1x128_S1x128_0_0)) (View.ld x5 (Rect.unit ![1, 0, 0, 0] S1x4x32x64.size inb_S8x4x32x64_S1x4x32x64_1_0_0_0))⟩,
      ⟨Rect.unit (s := S8x4x32x64) ![0, 0, 0, 0] S1x4x32x64.size inb_S8x4x32x64_S1x4x32x64_0_0_0_0, seq (View.ld x0 (Rect.unit ![0, 0, 0] S1x8x768.size inb_S8x8x768_S1x8x768_0_0_0)) (View.ld x1 (Rect.unit ![0, 0, 0] S1x8x128.size inb_S8x8x128_S1x8x128_0_0_0)) (View.ld x2 (Rect.unit ![0, 0] S128x128.size inb_S128x128_S128x128_0_0)) (View.ld x3 (Rect.unit ![0, 0] S1x128.size inb_S1x128_S1x128_0_0)) (View.ld x5 (Rect.unit ![0, 0, 0, 0] S1x4x32x64.size inb_S8x4x32x64_S1x4x32x64_0_0_0_0))⟩] := by
  unfold out0_A_7
  rw [View.read_writes_junk_eq_canon]
  delta kernelRun0_A
  dsimp only
  sl_unfold_words
  simp (disch := decide) only [↓ View.readCov_skip, ↓ View.readCov_cons_toLoadRect, View.readAt_eq_ld, Memref.IsWhole.read_unread]
  rfl

set_option maxHeartbeats 4000000 in
/-- The block of outputs: each sequence's is `outp` of its own rows. -/
theorem out6 (c : Dev nD) (i : grid0.Coords) (arg2 : Memref sig .tc .vmem S8x8x768 .f32) (harg2 : arg2.IsWhole) (arg3 : Memref sig .tc .vmem S8x8x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S8x4x32x64 .f32) (harg7 : arg7.IsWhole) (arg8 : Memref sig .tc .vmem S8x8x256 .f32) (harg8 : arg8.IsWhole) (arg9 : Memref sig .tc .vmem S8x4x32x64 .f32) (harg9 : arg9.IsWhole) (arg10 : Memref sig .tc .vmem S8x256x128 .f32) (harg10 : arg10.IsWhole) (hc0 : cond0_0 i) (hc1 : cond0_1 i)
    (x0 : Vec F S8x8x768 .f32) (x1 : Vec F S8x8x128 .f32) (x2 : Vec F S128x128 .f32) (x3 : Vec F S1x128 .f32) (x4 : Vec F S1x256 .f32) (x5 : Vec F S8x4x32x64 .f32) :
    out0_A_6 c i arg2 harg2 arg3 harg3 arg4 harg4 arg5 harg5 arg6 harg6 arg7 harg7 arg8 harg8 arg9 harg9 arg10 harg10 hc0 hc1 x0 x1 x2 x3 x4 x5 = View.canon [⟨Rect.unit (s := S8x8x256) ![7, 0, 0] S1x8x256.size inb_S8x8x256_S1x8x256_7_0_0, outp (View.ld x0 (Rect.unit ![7, 0, 0] S1x8x768.size inb_S8x8x768_S1x8x768_7_0_0)) (View.ld x1 (Rect.unit ![7, 0, 0] S1x8x128.size inb_S8x8x128_S1x8x128_7_0_0)) (View.ld x2 (Rect.unit ![0, 0] S128x128.size inb_S128x128_S128x128_0_0)) (View.ld x3 (Rect.unit ![0, 0] S1x128.size inb_S1x128_S1x128_0_0)) (View.ld x4 (Rect.unit ![0, 0] S1x256.size inb_S1x256_S1x256_0_0)) (View.ld x5 (Rect.unit ![7, 0, 0, 0] S1x4x32x64.size inb_S8x4x32x64_S1x4x32x64_7_0_0_0))⟩,
      ⟨Rect.unit (s := S8x8x256) ![6, 0, 0] S1x8x256.size inb_S8x8x256_S1x8x256_6_0_0, outp (View.ld x0 (Rect.unit ![6, 0, 0] S1x8x768.size inb_S8x8x768_S1x8x768_6_0_0)) (View.ld x1 (Rect.unit ![6, 0, 0] S1x8x128.size inb_S8x8x128_S1x8x128_6_0_0)) (View.ld x2 (Rect.unit ![0, 0] S128x128.size inb_S128x128_S128x128_0_0)) (View.ld x3 (Rect.unit ![0, 0] S1x128.size inb_S1x128_S1x128_0_0)) (View.ld x4 (Rect.unit ![0, 0] S1x256.size inb_S1x256_S1x256_0_0)) (View.ld x5 (Rect.unit ![6, 0, 0, 0] S1x4x32x64.size inb_S8x4x32x64_S1x4x32x64_6_0_0_0))⟩,
      ⟨Rect.unit (s := S8x8x256) ![5, 0, 0] S1x8x256.size inb_S8x8x256_S1x8x256_5_0_0, outp (View.ld x0 (Rect.unit ![5, 0, 0] S1x8x768.size inb_S8x8x768_S1x8x768_5_0_0)) (View.ld x1 (Rect.unit ![5, 0, 0] S1x8x128.size inb_S8x8x128_S1x8x128_5_0_0)) (View.ld x2 (Rect.unit ![0, 0] S128x128.size inb_S128x128_S128x128_0_0)) (View.ld x3 (Rect.unit ![0, 0] S1x128.size inb_S1x128_S1x128_0_0)) (View.ld x4 (Rect.unit ![0, 0] S1x256.size inb_S1x256_S1x256_0_0)) (View.ld x5 (Rect.unit ![5, 0, 0, 0] S1x4x32x64.size inb_S8x4x32x64_S1x4x32x64_5_0_0_0))⟩,
      ⟨Rect.unit (s := S8x8x256) ![4, 0, 0] S1x8x256.size inb_S8x8x256_S1x8x256_4_0_0, outp (View.ld x0 (Rect.unit ![4, 0, 0] S1x8x768.size inb_S8x8x768_S1x8x768_4_0_0)) (View.ld x1 (Rect.unit ![4, 0, 0] S1x8x128.size inb_S8x8x128_S1x8x128_4_0_0)) (View.ld x2 (Rect.unit ![0, 0] S128x128.size inb_S128x128_S128x128_0_0)) (View.ld x3 (Rect.unit ![0, 0] S1x128.size inb_S1x128_S1x128_0_0)) (View.ld x4 (Rect.unit ![0, 0] S1x256.size inb_S1x256_S1x256_0_0)) (View.ld x5 (Rect.unit ![4, 0, 0, 0] S1x4x32x64.size inb_S8x4x32x64_S1x4x32x64_4_0_0_0))⟩,
      ⟨Rect.unit (s := S8x8x256) ![3, 0, 0] S1x8x256.size inb_S8x8x256_S1x8x256_3_0_0, outp (View.ld x0 (Rect.unit ![3, 0, 0] S1x8x768.size inb_S8x8x768_S1x8x768_3_0_0)) (View.ld x1 (Rect.unit ![3, 0, 0] S1x8x128.size inb_S8x8x128_S1x8x128_3_0_0)) (View.ld x2 (Rect.unit ![0, 0] S128x128.size inb_S128x128_S128x128_0_0)) (View.ld x3 (Rect.unit ![0, 0] S1x128.size inb_S1x128_S1x128_0_0)) (View.ld x4 (Rect.unit ![0, 0] S1x256.size inb_S1x256_S1x256_0_0)) (View.ld x5 (Rect.unit ![3, 0, 0, 0] S1x4x32x64.size inb_S8x4x32x64_S1x4x32x64_3_0_0_0))⟩,
      ⟨Rect.unit (s := S8x8x256) ![2, 0, 0] S1x8x256.size inb_S8x8x256_S1x8x256_2_0_0, outp (View.ld x0 (Rect.unit ![2, 0, 0] S1x8x768.size inb_S8x8x768_S1x8x768_2_0_0)) (View.ld x1 (Rect.unit ![2, 0, 0] S1x8x128.size inb_S8x8x128_S1x8x128_2_0_0)) (View.ld x2 (Rect.unit ![0, 0] S128x128.size inb_S128x128_S128x128_0_0)) (View.ld x3 (Rect.unit ![0, 0] S1x128.size inb_S1x128_S1x128_0_0)) (View.ld x4 (Rect.unit ![0, 0] S1x256.size inb_S1x256_S1x256_0_0)) (View.ld x5 (Rect.unit ![2, 0, 0, 0] S1x4x32x64.size inb_S8x4x32x64_S1x4x32x64_2_0_0_0))⟩,
      ⟨Rect.unit (s := S8x8x256) ![1, 0, 0] S1x8x256.size inb_S8x8x256_S1x8x256_1_0_0, outp (View.ld x0 (Rect.unit ![1, 0, 0] S1x8x768.size inb_S8x8x768_S1x8x768_1_0_0)) (View.ld x1 (Rect.unit ![1, 0, 0] S1x8x128.size inb_S8x8x128_S1x8x128_1_0_0)) (View.ld x2 (Rect.unit ![0, 0] S128x128.size inb_S128x128_S128x128_0_0)) (View.ld x3 (Rect.unit ![0, 0] S1x128.size inb_S1x128_S1x128_0_0)) (View.ld x4 (Rect.unit ![0, 0] S1x256.size inb_S1x256_S1x256_0_0)) (View.ld x5 (Rect.unit ![1, 0, 0, 0] S1x4x32x64.size inb_S8x4x32x64_S1x4x32x64_1_0_0_0))⟩,
      ⟨Rect.unit (s := S8x8x256) ![0, 0, 0] S1x8x256.size inb_S8x8x256_S1x8x256_0_0_0, outp (View.ld x0 (Rect.unit ![0, 0, 0] S1x8x768.size inb_S8x8x768_S1x8x768_0_0_0)) (View.ld x1 (Rect.unit ![0, 0, 0] S1x8x128.size inb_S8x8x128_S1x8x128_0_0_0)) (View.ld x2 (Rect.unit ![0, 0] S128x128.size inb_S128x128_S128x128_0_0)) (View.ld x3 (Rect.unit ![0, 0] S1x128.size inb_S1x128_S1x128_0_0)) (View.ld x4 (Rect.unit ![0, 0] S1x256.size inb_S1x256_S1x256_0_0)) (View.ld x5 (Rect.unit ![0, 0, 0, 0] S1x4x32x64.size inb_S8x4x32x64_S1x4x32x64_0_0_0_0))⟩] := by
  unfold out0_A_6
  rw [View.read_writes_junk_eq_canon]
  delta kernelRun0_A
  dsimp only
  sl_unfold_words
  simp (disch := decide) only [↓ View.readCov_skip, ↓ View.readCov_cons_toLoadRect, View.readAt_eq_ld, Memref.IsWhole.read_unread]
  rfl

end Cert.Proof.GlaRun
-- ==== Proof.GlaSeq.lean ====
/- What the linear attention's body computes of one sequence's state, over the extended reals. -/
module
public import proofs.«01_k».proof.Proof.GlaRun
public import proofs.«01_k».proof.Proof.OutBlock
public import Idealize.ShloMosaic.Lib.WordCmp

@[expose] public section

set_option maxRecDepth 16384

noncomputable section

namespace Cert.Proof.GlaSeq

open Cert.Kernel6Ideal Cert.Kernel6Ideal.Gen Idealize.ShloMosaic
open Idealize.ShloMosaic.TcCoe Idealize.SL.Sem
open Cert.Proof.GlaRun
open Cert.Proof.OutBlock (sel_row)

/-- A row of an identity matrix picks the entry. -/
theorem pick {n : ℕ} (i : Fin n) (f : Fin n → EReal) : ∑ j : Fin n, (if i = j then (1 : EReal) else 0) * f j = f i := by
  rw [Finset.sum_eq_single i]
  · rw [if_pos rfl, one_mul]
  · intro j _ h
    rw [if_neg (fun e => h e.symm), zero_mul]
  · intro h
    exact absurd (Finset.mem_univ _) h

theorem coe_sum {n : ℕ} (f : Fin n → ℝ) : ((∑ j : Fin n, f j : ℝ) : EReal) = ∑ j : Fin n, (f j : EReal) := by
  induction n with
  | zero => simp
  | succ n ih => rw [Fin.sum_univ_succ, Fin.sum_univ_succ, EReal.coe_add, ih]

theorem sub_self_coe (x : ℝ) : (x : EReal) - (x : EReal) = 0 := by
  rw [← EReal.coe_sub, sub_self, EReal.coe_zero]

/-- The logits of a sequence's decays. -/
theorem logit_at (mi : FVec Ideal S1x8x128 .f32) (a2 : FVec Ideal S128x128 .f32) (ab : FVec Ideal S1x128 .f32) (t : Fin 8) (c : Fin 128) :
    k0_pay77 (F := Ideal) a2 mi ab (ix2 t c) = (∑ j : Fin 128, mi (ix3 0 t j) * a2 (ix2 j c)) + ab (ix2 0 c) := by
  pointwise [k0_pay77, k0_pay76]

/-- The logarithm of the logistic function, over 16. -/
def ldec (x : ℝ) : ℝ := (min x 0 - Real.log (1 + Real.exp (-|x|))) / 16

/-- The same of an extended real: nothing at plus infinity, minus infinity at minus infinity. -/
def ldecE (x : EReal) : EReal := if x = ⊥ then ⊥ else if x = ⊤ then 0 else (ldec x.toReal : ℝ)

theorem ldecE_coe (x : ℝ) : ldecE (x : EReal) = (ldec x : ℝ) := by
  unfold ldecE
  rw [if_neg (EReal.coe_ne_bot x), if_neg (EReal.coe_ne_top x), EReal.toReal_coe]

theorem ldecE_ne_top (x : EReal) : ldecE x ≠ ⊤ := by
  unfold ldecE
  split
  · exact bot_ne_top
  · split
    · exact EReal.zero_ne_top
    · exact EReal.coe_ne_top _

theorem ldec_eq (x : EReal) : (min x 0 - Ideal.log (1 + Ideal.exp (0 - FloatOps.absf (F := Ideal) (φ := .f32) x))) * Ideal.ofBits FTy.f32 1031798784#32
    = ldecE x := by
  have hc : Ideal.ofBits FTy.f32 1031798784#32 = ((1 / 16 : ℝ) : EReal) := by
    simp [Ideal.ofBits, Ideal.ieee, -EReal.coe_mul]
    norm_num
  have h0 : Ideal.log 1 = 0 := by
    rw [← EReal.coe_one, Ideal.log_coe, if_neg (by norm_num), Real.log_one, EReal.coe_zero]
  rw [hc]
  induction x with
  | bot =>
    have ha : FloatOps.absf (F := Ideal) (φ := .f32) (⊥ : EReal) = ⊤ := by
      show max (⊥ : EReal) (-⊥) = ⊤
      simp
    rw [ha, zero_sub, EReal.neg_top, Ideal.exp_bot, add_zero, h0, sub_zero, min_eq_left bot_le, EReal.bot_mul_coe_of_pos (by norm_num)]
    simp [ldecE]
  | top =>
    have ha : FloatOps.absf (F := Ideal) (φ := .f32) (⊤ : EReal) = ⊤ := by
      show max (⊤ : EReal) (-⊤) = ⊤
      simp
    rw [ha, zero_sub, EReal.neg_top, Ideal.exp_bot, add_zero, h0, sub_zero, min_eq_right le_top, zero_mul]
    simp [ldecE]
  | coe x =>
    have ha : FloatOps.absf (F := Ideal) (φ := .f32) (x : EReal) = ((|x| : ℝ) : EReal) := by
      show max (x : EReal) (-(x : EReal)) = _
      rw [← EReal.coe_neg]
      exact (EReal.coe_strictMono.monotone.map_max (a := x) (b := -x)).symm
    have hp : ¬ (1 + Real.exp (-|x|) ≤ 0) := by have := Real.exp_pos (-|x|); linarith
    have hm : min (x : EReal) ((0 : ℝ) : EReal) = ((min x 0 : ℝ) : EReal) := (EReal.coe_strictMono.monotone.map_min (a := x) (b := 0)).symm
    rw [ldecE_coe, ha, ← EReal.coe_zero, ← EReal.coe_sub, zero_sub, Ideal.exp_coe, ← EReal.coe_one, ← EReal.coe_add, Ideal.log_coe, if_neg hp,
      hm, ← EReal.coe_sub, ← EReal.coe_mul]
    congr 1
    unfold ldec
    ring

theorem decay_at (l : FVec Ideal S8x128 .f32) (t : Fin 8) (c : Fin 128) :
    k0_pay88 (F := Ideal) (k0_pay86 l) (k0_pay87 l) (ix2 t c) = ldecE (l (ix2 t c)) := by
  pointwise [k0_pay88, k0_pay86, k0_pay87]
  exact ldec_eq _

/-- A sum with minus infinity in it. -/
theorem sum_bot {n : ℕ} (f : Fin n → EReal) (i : Fin n) (h : f i = ⊥) : ∑ j : Fin n, f j = ⊥ := by
  rw [← Finset.add_sum_erase _ _ (Finset.mem_univ i), h, EReal.bot_add]

/-- A sum without plus infinity. -/
theorem sum_ne_top {n : ℕ} (f : Fin n → EReal) (h : ∀ i, f i ≠ ⊤) : ∑ j : Fin n, f j ≠ ⊤ := by
  induction n with
  | zero => simp
  | succ n ih =>
    rw [Fin.sum_univ_succ]
    exact EReal.add_ne_top (h 0) (ih _ fun i => h i.succ)

theorem sub_self_ne_top {x : EReal} (h : x ≠ ⊤) : x - x = if x = ⊥ then ⊥ else 0 := by
  induction x with
  | bot => simp
  | top => exact absurd rfl h
  | coe x => rw [sub_self_coe, if_neg (EReal.coe_ne_bot x)]

/-- A sum whose entries are split into parts by differences is the sum. -/
theorem sum_parts {n : ℕ} (P : Fin n → Prop) [DecidablePred P] (L : Fin n → EReal) (hL : ∀ s, L s ≠ ⊤) (d : Fin n → EReal) (hd : ∀ s, d s = if L s = ⊥ then ⊥ else 0) :
    (∑ s : Fin n, (if P s then (1 : EReal) else 0) * L s) + (∑ s : Fin n, (if P s then (1 : EReal) else 0) * d s) = ∑ s : Fin n, if P s then L s else 0 := by
  have h1 : ∀ f : Fin n → EReal, (∑ s : Fin n, (if P s then (1 : EReal) else 0) * f s) = ∑ s : Fin n, if P s then f s else 0 := fun f =>
    Finset.sum_congr rfl fun s _ => by split <;> simp
  rw [h1, h1]
  by_cases e : ∃ s, P s ∧ L s = ⊥
  · obtain ⟨s, hs, hb⟩ := e
    rw [sum_bot (fun s => if P s then L s else 0) s (by rw [if_pos hs, hb]), EReal.bot_add]
  · have h2 : (∑ s : Fin n, if P s then d s else 0) = 0 := Finset.sum_eq_zero fun s _ => by
      by_cases hs : P s
      · rw [if_pos hs, hd, if_neg fun hb => e ⟨s, hs, hb⟩]
      · rw [if_neg hs]
    rw [h2, add_zero]

/-- One where the row is no earlier than the column. -/
theorem tri_at (t s : Fin 8) : k0_pay67 (F := Ideal) (ix2 t s) = if s ≤ t then 1 else 0 := by
  pointwise [k0_pay67]
  have h : ∀ t s : Fin 8, IntOp.cmpi CmpIPredicate.sge (BitVec.ofNat 32 t.val) (BitVec.ofNat 32 s.val) = if s ≤ t then 1#1 else 0#1 := by decide +kernel
  rw [h]
  by_cases e : s ≤ t
  · simp [e, Scalar.select]
  · simp [e, Scalar.select]

/-- The sum of a sequence's decays up to a token. -/
theorem cum_at (l : FVec Ideal S8x128 .f32) (L : Fin 8 → Fin 128 → EReal) (hl : ∀ s c, l (ix2 s c) = L s c) (hL : ∀ s c, L s c ≠ ⊤) (t : Fin 8) (c : Fin 128) :
    cum (F := Ideal) l (ix2 t c) = ∑ s : Fin 8, if s ≤ t then L s c else (0 : EReal) := by
  unfold cum
  have h := tri_at
  generalize k0_pay67 (F := Ideal) = T at *
  pointwise [k0_pay130, k0_pay98, k0_pay100, k0_pay101, k0_pay99]
  have hd : ∀ s, L s c - L s c = if L s c = ⊥ then ⊥ else 0 := fun s => sub_self_ne_top (hL s c)
  have hd2 : ∀ s, L s c - L s c - (L s c - L s c) = if L s c = ⊥ then ⊥ else 0 := fun s => by
    rw [hd]
    split <;> simp
  simp only [hl, h]
  rw [sum_parts (fun s => s ≤ t) (fun s => L s c) (fun s => hL s c) (fun s => L s c - L s c) hd]
  have h2 := sum_parts (fun s => s ≤ t) (fun s => L s c) (fun s => hL s c) (fun s => L s c - L s c - (L s c - L s c)) hd2
  refine Eq.trans (congrArg (· + _) (Finset.sum_congr rfl fun s _ => ?_)) h2
  split <;> simp

theorem row_word : ∀ n : Fin 256, (Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32)) = BitVec.ofNat 32 (n.val / 64) := by decide +kernel

theorem col_word : ∀ n : Fin 128, (Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 n.val) 32#32) 0#32))
        (IntOp.subi (IntOp.divsi ArithUnit.vector (BitVec.ofNat 32 n.val) 32#32) 1#32)
        (IntOp.divsi ArithUnit.vector (BitVec.ofNat 32 n.val) 32#32)) = BitVec.ofNat 32 (n.val / 32) := by decide +kernel

theorem rep_word : ∀ n : Fin 256, (Scalar.select
          (IntOp.andi
            (IntOp.xori
              (IntOp.cmpi CmpIPredicate.slt
                (IntOp.remsi ArithUnit.vector (BitVec.ofNat 32 n.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 n.val)
                (Scalar.select (Scalar.cmpi CmpIPredicate.eq 64#32 0#32) 1#32 64#32))
              0#32))
          (IntOp.addi
            (IntOp.remsi ArithUnit.vector (BitVec.ofNat 32 n.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 n.val)
            (Scalar.select (Scalar.cmpi CmpIPredicate.eq 64#32 0#32) 1#32 64#32))) = BitVec.ofNat 32 (n.val % 64) := by decide +kernel

/-- The mask keeps an entry whose row and column are of one head. -/
theorem mask_at (r : Fin 256) (c : Fin 128) (a b : EReal) :
    Scalar.select (mask (ix2 r c)) a b = if r.val / 64 = c.val / 32 then a else b := by
  unfold mask
  pointwise [k0_pay56, k0_pay51, k0_pay52, k0_pay53, k0_pay54, k0_pay55]
  rw [row_word, col_word]
  exact sel_row _ _ (by omega) (by omega) a b

theorem id_at (r j : Fin 256) : k0_pay208 (F := Ideal) (ix2 r j) = if r = j then 1 else 0 := by
  pointwise [k0_pay208]
  rw [sel_row _ _ (by omega) (by omega)]
  simp only [Fin.ext_iff]

theorem rep_at (r : Fin 256) (j : Fin 64) : k0_pay3 (F := Ideal) (ix2 r j) = if (⟨r.val % 64, by omega⟩ : Fin 64) = j then 1 else 0 := by
  pointwise [k0_pay3]
  rw [rep_word, sel_row _ _ (by omega) (by omega)]
  simp only [Fin.ext_iff]

/-- What the tokens add to the state. -/
theorem upd_at (g : FVec Ideal S1x8x768 .f32) (b : FVec Ideal S8x128 .f32) (V : Fin 8 → Fin 256 → ℝ) (K : Fin 8 → Fin 128 → ℝ) (E : Fin 8 → Fin 128 → ℝ)
    (hV : ∀ s j, g (ix3 0 s ⟨256 + j.val, by omega⟩) = (V s j : ℝ)) (hK : ∀ s j, g (ix3 0 s ⟨128 + j.val, by omega⟩) = (K s j : ℝ))
    (hE : ∀ s j, Ideal.exp (b (ix2 7 j) - b (ix2 s j)) = (E s j : ℝ)) (r : Fin 256) (c : Fin 128) : upd (F := Ideal) g b (ix2 r c)
      = ((if r.val / 64 = c.val / 32 then ∑ s : Fin 8, V s r * (K s c * E s c) else 0 : ℝ) : EReal) := by
  unfold upd
  have hI := id_at
  have hM := mask_at
  generalize k0_pay208 (F := Ideal) = I at *
  generalize mask = M at *
  pointwise [k0_pay211, k0_pay148, k0_pay200, k0_pay209, k0_pay210, k0_pay156]
  simp only [hM, hI, hV, hK, hE, pick, sub_self_coe, sub_zero, add_zero, mul_zero, Finset.sum_const_zero, ← EReal.coe_mul]
  rw [← coe_sum]
  split <;> rfl

/-- The state before the tokens. -/
theorem st0_at (s : FVec Ideal S1x4x32x64 .f32) (S : Fin 4 → Fin 32 → Fin 64 → ℝ) (hS : ∀ h k v, s (ix4 0 h k v) = (S h k v : ℝ))
    (r : Fin 256) (c : Fin 128) : k0_pay14 (F := Ideal) mask k0_pay3 s (ix3 0 r c)
      = ((if r.val / 64 = c.val / 32 then S ⟨c.val / 32, by omega⟩ ⟨c.val % 32, by omega⟩ ⟨r.val % 64, by omega⟩ else 0 : ℝ) : EReal) := by
  have hI := rep_at
  have hM := mask_at
  generalize k0_pay3 (F := Ideal) = I at *
  generalize mask = M at *
  pointwise [k0_pay14]
  simp only [hM, hI, hS, pick, sub_self_coe, sub_zero, add_zero, mul_zero, Finset.sum_const_zero]
  split <;> rfl

/-- The four heads' blocks added and transposed. -/
theorem out_at (w : FVec Ideal S1x256x128 .f32) (W : Fin 256 → Fin 128 → ℝ) (hW : ∀ r c, w (ix3 0 r c) = (W r c : ℝ))
    (h : Fin 4) (k : Fin 32) (v : Fin 64) : k0_pay27 (F := Ideal) w (ix4 0 h k v)
      = ((W ⟨v.val, by omega⟩ ⟨h.val * 32 + k.val, by omega⟩ + W ⟨64 + v.val, by omega⟩ ⟨h.val * 32 + k.val, by omega⟩
        + W ⟨128 + v.val, by omega⟩ ⟨h.val * 32 + k.val, by omega⟩ + W ⟨192 + v.val, by omega⟩ ⟨h.val * 32 + k.val, by omega⟩ : ℝ) : EReal) := by
  pointwise [k0_pay27]
  have e : ∀ (f : Fin 128 → EReal), ∑ x : Fin 128, Scalar.select (IntOp.cmpi CmpIPredicate.eq (BitVec.ofNat 32 (h.val * 32 + k.val)) (BitVec.ofNat 32 x.val)) (f x) 0
      = f ⟨h.val * 32 + k.val, by omega⟩ := by
    intro f
    rw [← pick ⟨h.val * 32 + k.val, by omega⟩ f]
    refine Finset.sum_congr rfl fun x _ => ?_
    rw [sel_row _ _ (by omega) (by omega)]
    simp only [Fin.ext_iff, ite_mul, one_mul, zero_mul]
  simp only [hW, ← EReal.coe_add, sub_self_coe, sub_zero, e, add_zero]

theorem st_at (e : FVec Ideal S1x128 .f32) (u : FVec Ideal S256x128 .f32) (w : FVec Ideal S1x256x128 .f32) (r : Fin 256) (c : Fin 128) :
    k0_pay238 (F := Ideal) (k0_pay237 e u w) (ix3 0 r c) = w (ix3 0 r c) * Ideal.exp (e (ix2 0 c)) + u (ix2 r c) := by
  pointwise [k0_pay238, k0_pay237, k0_pay235]

theorem last_at (b : FVec Ideal S8x128 .f32) (c : Fin 128) : k0_pay200 (F := Ideal) b (ix2 0 c) = b (ix2 7 c) := by
  pointwise [k0_pay200]

/-- The decays summed up to a token, from the logits. -/
def Bsum (X : Fin 8 → Fin 128 → EReal) (t : Fin 8) (c : Fin 128) : EReal := ∑ s : Fin 8, if s ≤ t then ldecE (X s c) else 0

theorem bsum_ne_top (X : Fin 8 → Fin 128 → EReal) (t : Fin 8) (c : Fin 128) : Bsum X t c ≠ ⊤ :=
  sum_ne_top _ fun s => by
    split
    · exact ldecE_ne_top _
    · exact EReal.zero_ne_top

theorem bsum_bot (X : Fin 8 → Fin 128 → EReal) (t : Fin 8) (c : Fin 128) (h : Bsum X t c = ⊥) : Bsum X 7 c = ⊥ := by
  by_contra e
  have h0 : ∀ s, ldecE (X s c) ≠ ⊥ := fun s hs => e (sum_bot (fun s => if s ≤ 7 then ldecE (X s c) else 0) s (by
    rw [if_pos (by omega), hs]))
  have h1 : Bsum X t c = ((∑ s : Fin 8, if s ≤ t then (ldecE (X s c)).toReal else 0 : ℝ) : EReal) := by
    rw [coe_sum]
    refine Finset.sum_congr rfl fun s _ => ?_
    split
    · exact (EReal.coe_toReal (ldecE_ne_top _) (h0 s)).symm
    · rfl
  exact EReal.coe_ne_bot _ (h1.symm.trans h)

theorem exp_real {x : EReal} (h : x ≠ ⊤) : Ideal.exp x = ((Ideal.exp x).toReal : ℝ) := by
  induction x with
  | bot => simp
  | top => exact absurd rfl h
  | coe x => rw [Ideal.exp_coe, EReal.toReal_coe]

/-- The decay of a sequence's old state. -/
def Dall (X : Fin 8 → Fin 128 → EReal) (c : Fin 128) : ℝ := (Ideal.exp (Bsum X 7 c)).toReal

/-- The decay from a token to the last one. -/
def Dfrom (X : Fin 8 → Fin 128 → EReal) (s : Fin 8) (c : Fin 128) : ℝ := (Ideal.exp (Bsum X 7 c - Bsum X s c)).toReal

theorem dall_eq (X : Fin 8 → Fin 128 → EReal) (c : Fin 128) : Ideal.exp (Bsum X 7 c) = (Dall X c : ℝ) := exp_real (bsum_ne_top X 7 c)

theorem dfrom_eq (X : Fin 8 → Fin 128 → EReal) (s : Fin 8) (c : Fin 128) : Ideal.exp (Bsum X 7 c - Bsum X s c) = (Dfrom X s c : ℝ) := by
  refine exp_real ?_
  by_cases h : Bsum X s c = ⊥
  · rw [bsum_bot X s c h, EReal.bot_sub]
    exact bot_ne_top
  · rw [← EReal.coe_toReal (bsum_ne_top X s c) h, sub_eq_add_neg, ← EReal.coe_neg]
    exact EReal.add_ne_top (bsum_ne_top X 7 c) (EReal.coe_ne_top _)

/-- The new state of a sequence from its logits, keys, values and old state. -/
def newState (X : Fin 8 → Fin 128 → EReal) (K : Fin 8 → Fin 128 → ℝ) (V : Fin 8 → Fin 256 → ℝ) (S : Fin 4 → Fin 32 → Fin 64 → ℝ)
    (h : Fin 4) (k : Fin 32) (v : Fin 64) : ℝ :=
  S h k v * Dall X ⟨h.val * 32 + k.val, by omega⟩
    + ∑ s : Fin 8, V s ⟨h.val * 64 + v.val, by omega⟩ * (K s ⟨h.val * 32 + k.val, by omega⟩ * Dfrom X s ⟨h.val * 32 + k.val, by omega⟩)

/-- What the body stores of one sequence, where its keys, values and old state are finite. -/
theorem seq_at (g : FVec Ideal S1x8x768 .f32) (mi : FVec Ideal S1x8x128 .f32) (a2 : FVec Ideal S128x128 .f32) (ab : FVec Ideal S1x128 .f32)
    (s : FVec Ideal S1x4x32x64 .f32) (X : Fin 8 → Fin 128 → EReal) (K : Fin 8 → Fin 128 → ℝ) (V : Fin 8 → Fin 256 → ℝ) (S : Fin 4 → Fin 32 → Fin 64 → ℝ)
    (hX : ∀ t c, (∑ j : Fin 128, mi (ix3 0 t j) * a2 (ix2 j c)) + ab (ix2 0 c) = X t c)
    (hV : ∀ s j, g (ix3 0 s ⟨256 + j.val, by omega⟩) = (V s j : ℝ)) (hK : ∀ s j, g (ix3 0 s ⟨128 + j.val, by omega⟩) = (K s j : ℝ))
    (hS : ∀ h k v, s (ix4 0 h k v) = (S h k v : ℝ)) (h : Fin 4) (k : Fin 32) (v : Fin 64) :
    seq (F := Ideal) g mi a2 ab s (ix4 0 h k v) = (newState X K V S h k v : ℝ) := by
  have hB : ∀ t c, cum (F := Ideal) (decay mi a2 ab) (ix2 t c) = Bsum X t c := fun t c =>
    cum_at _ (fun s c => ldecE (X s c)) (fun s c => (decay_at _ s c).trans (congrArg ldecE ((logit_at mi a2 ab s c).trans (hX s c)))) (fun s c => ldecE_ne_top _) t c
  unfold seq
  rw [out_at _ (fun r c => (if r.val / 64 = c.val / 32 then S ⟨c.val / 32, by omega⟩ ⟨c.val % 32, by omega⟩ ⟨r.val % 64, by omega⟩ else 0)
      * Dall X c + (if r.val / 64 = c.val / 32 then ∑ s : Fin 8, V s r * (K s c * Dfrom X s c) else 0))]
  · congr 1
    unfold newState
    have hk := k.isLt
    have hv := v.isLt
    have e1 : (h.val * 32 + k.val) / 32 = h.val := by omega
    have e2 : (h.val * 32 + k.val) % 32 = k.val := by omega
    have e3 : v.val / 64 = 0 := by omega
    have e4 : (64 + v.val) / 64 = 1 := by omega
    have e5 : (128 + v.val) / 64 = 2 := by omega
    have e6 : (192 + v.val) / 64 = 3 := by omega
    have f3 : v.val % 64 = v.val := by omega
    have f4 : (64 + v.val) % 64 = v.val := by omega
    have f5 : (128 + v.val) % 64 = v.val := by omega
    have f6 : (192 + v.val) % 64 = v.val := by omega
    simp only [e1, e2, e3, e4, e5, e6, f3, f4, f5, f6]
    match h with
    | ⟨0, _⟩ => simp
    | ⟨1, _⟩ => simp
    | ⟨2, _⟩ => simp
    | ⟨3, _⟩ => simp
  · intro r c
    unfold GlaRun.state
    rw [st_at, last_at, hB, dall_eq, st0_at s S hS, upd_at g _ V K (Dfrom X) hV hK (fun s j => by rw [hB, hB, dfrom_eq]), ← EReal.coe_mul, ← EReal.coe_add]

end Cert.Proof.GlaSeq
-- ==== Proof.GlaArr.lean ====
/- What the linear attention's new state holds, for the sample, after the run, as a function of its arguments. -/
module
public import proofs.«01_k».proof.Proof.GlaSeq
public import Idealize.ShloMosaic.Lib.StableHlo.ReadAt
public import Idealize.ShloMosaic.Lib.Routing.OpsSet
public import Idealize.ShloMosaic.Lib.Pipeline.ValueKit.Tiles
public import Idealize.ShloMosaic.Lib.Routing.OpsPair

@[expose] public section

set_option maxRecDepth 256

noncomputable section

namespace Cert.Proof.GlaArr

open Cert.Kernel6Ideal Cert.Kernel6Ideal.Gen Cert.Kernel6Ideal.Value Cert.Proof.GlaRun Cert.Proof.GlaSeq Idealize.ShloMosaic
open Idealize.ShloMosaic.TcCoe Idealize.SL.Sem

/-- A value that is a real number. -/
def IsReal (x : EReal) : Prop := x = ((x.toReal : ℝ) : EReal)

/-- The decay's logits, as extended reals. -/
def lg (misc : FVec Ideal S32x8x128 .f32) (a2 : FVec Ideal S16x128 .f32) (ab : FVec Ideal S128 .f32) (b : Fin 32) (t : Fin 8) (c : Fin 128) : EReal :=
  (∑ r : Fin 16, misc (ix3 b t ⟨24 + r.val, by omega⟩) * a2 (ix2 r c)) + ab (ix1 c)

/-- The keys' entries as real numbers. -/
def Kr (g : FVec Ideal S32x8x768 .f32) (b : Fin 32) (s : Fin 8) (j : Fin 128) : ℝ := (g (ix3 b s ⟨128 + j.val, by omega⟩)).toReal

/-- The values' entries as real numbers. -/
def Vr (g : FVec Ideal S32x8x768 .f32) (b : Fin 32) (s : Fin 8) (j : Fin 256) : ℝ := (g (ix3 b s ⟨256 + j.val, by omega⟩)).toReal

/-- The old state's entries as real numbers. -/
def Sr (s0 : FVec Ideal S32x4x32x64 .f32) (b : Fin 32) (h : Fin 4) (k : Fin 32) (v : Fin 64) : ℝ := (s0 (ix4 b h k v)).toReal

/-- The queries, the keys, the values and the old state are real numbers. -/
structure Real6 (g : FVec Ideal S32x8x768 .f32) (s0 : FVec Ideal S32x4x32x64 .f32) : Prop where
  gla : ∀ b s (j : Fin 512), IsReal (g (ix3 b s ⟨j.val, by omega⟩))
  old : ∀ b h k v, IsReal (s0 (ix4 b h k v))

section
variable {g : FVec Ideal S32x8x768 .f32} {s0 : FVec Ideal S32x4x32x64 .f32}

theorem key_real (H : Real6 g s0) (b : Fin 32) (s : Fin 8) (j : Fin 128) : g (ix3 b s ⟨128 + j.val, by omega⟩) = (Kr g b s j : ℝ) :=
  H.gla b s ⟨128 + j.val, by omega⟩

theorem val_real (H : Real6 g s0) (b : Fin 32) (s : Fin 8) (j : Fin 256) : g (ix3 b s ⟨256 + j.val, by omega⟩) = (Vr g b s j : ℝ) :=
  H.gla b s ⟨256 + j.val, by omega⟩

end

/-- The linear attention's new state. -/
def G7 (g : FVec Ideal S32x8x768 .f32) (misc : FVec Ideal S32x8x128 .f32) (a2 : FVec Ideal S16x128 .f32) (ab : FVec Ideal S128 .f32)
    (s0 : FVec Ideal S32x4x32x64 .f32) : FVec Ideal S32x4x32x64 .f32 :=
  fun i => (newState (lg misc a2 ab (i 0)) (Kr g (i 0)) (Vr g (i 0)) (Sr s0 (i 0)) (i 1) (i 2) (i 3) : ℝ)

variable (m : (ℓ : Loc nD τ sig) → Buf (Elt Ideal) ℓ)

theorem V_0 (c : Dev nD) (b : Fin 32) (t : Fin 8) (k : Fin 768) : V m c main_v10 (ix3 b t k)
    = m ((c.tc : Thread nD τ).loc main_arg0) (ix3 b t k) := by
  unfold V hostOps0
  after_reads_at
  exact congrArg₂ (fun b t => m ((c.tc : Thread nD τ).loc main_arg0) (ix3 b t k)) (Fin.ext (by show (b.val * 8 + t.val) / 8 = b.val; omega))
    (Fin.ext (by show (b.val * 8 + t.val) % 8 = t.val; omega))

theorem V_1 (c : Dev nD) (b : Fin 32) (t : Fin 8) (k : Fin 128) : V m c main_v11 (ix3 b t k)
    = m ((c.tc : Thread nD τ).loc main_arg1) (ix3 b t k) := by
  unfold V hostOps0
  after_reads_at
  exact congrArg₂ (fun b t => m ((c.tc : Thread nD τ).loc main_arg1) (ix3 b t k)) (Fin.ext (by show (b.val * 8 + t.val) / 8 = b.val; omega))
    (Fin.ext (by show (b.val * 8 + t.val) % 8 = t.val; omega))

theorem V_3 (c : Dev nD) (k : Fin 128) : V m c main_v9 (ix2 0 k)
    = m ((c.tc : Thread nD τ).loc main_arg3) (ix1 k) := by
  unfold V hostOps0
  after_reads_at

/-- Where entry `(r', k')` of the decay's weights lands: 24 rows further down. -/
theorem lands (idx : IVec S1 32) (hidx : idx (ix1 0) = 24#32) (j : S16x128.Idx) (r k : Fin 128) :
    scatter_S128x128_S1_S16x128_01_n_0_0.resultIdx? j idx = some (ix2 r k) ↔ 24 + (j 0).val = r.val ∧ (j 1).val = k.val := by
  have hm : (0 : Fin 2) ∈ scatter_S128x128_S1_S16x128_01_n_0_0.scatterDimsToOperandDims := List.mem_singleton.2 rfl
  have hkept : scatter_S128x128_S1_S16x128_01_n_0_0.sKept = [0, 1] := by decide
  have hwin0 : scatter_S128x128_S1_S16x128_01_n_0_0.window j 0 = (j 0).val := by
    unfold ScatterDims.window
    rw [dif_pos (by rw [hkept]; decide)]
    rfl
  have hwin1 : scatter_S128x128_S1_S16x128_01_n_0_0.window j 1 = (j 1).val := by
    unfold ScatterDims.window
    rw [dif_pos (by rw [hkept]; decide)]
    rfl
  have hstart1 : scatter_S128x128_S1_S16x128_01_n_0_0.start j idx 1 = 0 := by
    unfold ScatterDims.start
    exact dif_neg fun h => absurd (List.mem_singleton.1 h) (by decide : (1 : Fin 2) ≠ 0)
  have hstart0 : scatter_S128x128_S1_S16x128_01_n_0_0.start j idx 0 = 24 := by
    unfold ScatterDims.start
    rw [dif_pos hm]
    have hsi : scatter_S128x128_S1_S16x128_01_n_0_0.siIdx j ⟨scatter_S128x128_S1_S16x128_01_n_0_0.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
    decide
  refine (Idealize.ShloMosaic.Routing.resultIdx?_ix2 (R := 128) (C := 128) scatter_S128x128_S1_S16x128_01_n_0_0 j idx r k).trans ?_
  rw [hstart0, hwin0, hstart1, hwin1]
  omega

theorem V_2 (c : Dev nD) (r k : Fin 128) : V m c main_v2 (ix2 r k)
    = if h : 24 ≤ r.val ∧ r.val < 40 then m ((c.tc : Thread nD τ).loc main_arg2) (ix2 ⟨r.val - 24, by omega⟩ k) else (0 : EReal) := by
  unfold V hostOps0
  after_reads_at
  have hl := lands (broadcastInDim S1 ![] bcast_S_S1 (constantI S_ 32 24#32)) rfl
  by_cases h : 24 ≤ r.val ∧ r.val < 40
  · rw [dif_pos h]
    refine Idealize.ShloMosaic.Routing.scatter_set_hit _ _ _ _ _ _ (fun j hj => ?_) (ix2 ⟨r.val - 24, by omega⟩ k) ((hl _ r k).2 ⟨?_, rfl⟩)
    · have e := (hl j r k).1 hj
      rw [eq_ix2 j]
      exact congrArg₂ (fun a b => m ((c.tc : Thread nD τ).loc main_arg2) (ix2 a b)) (Fin.ext (by show (j 0).val = r.val - 24; omega)) (Fin.ext e.2)
    · show 24 + (r.val - 24) = r.val
      omega
  · rw [dif_neg h]
    refine (Idealize.ShloMosaic.Routing.scatter_set_miss _ _ _ _ _ (fun j hj => h ?_)).trans ?_
    · have e := (hl j r k).1 hj
      have : (j 0).val < 16 := (j 0).isLt
      omega
    · pointwise

/-- The sum over the padded rows is the sum over the 16 rows of the weights. -/
theorem pad_sum (misc : Fin 128 → EReal) (a2 : Fin 16 → EReal) :
    (∑ r : Fin 128, misc r * (if h : 24 ≤ r.val ∧ r.val < 40 then a2 ⟨r.val - 24, by omega⟩ else (0 : EReal)))
      = ∑ r : Fin 16, misc ⟨24 + r.val, by omega⟩ * a2 r := by
  refine (Fintype.sum_of_injective (fun r : Fin 16 => (⟨24 + r.val, by omega⟩ : Fin 128)) (fun a b e => ?_) _ _ (fun i hi => ?_) (fun i => ?_)).symm
  · have := Fin.ext_iff.1 e
    exact Fin.ext (by dsimp only at this; omega)
  · rw [dif_neg fun h => hi ⟨⟨i.val - 24, by omega⟩, Fin.ext (by show 24 + (i.val - 24) = i.val; omega)⟩, mul_zero]
  · rw [dif_pos ⟨by dsimp only; omega, by dsimp only; omega⟩]
    exact congrArg (fun a => misc ⟨24 + i.val, by omega⟩ * a2 a) (Fin.ext (by show i.val = 24 + i.val - 24; omega))

theorem tlt (t : Fin cfg0.N) : t.val < 4 := t.isLt

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
theorem idx7 : ∀ t : Fin cfg0.N, win0_7.index t (0 : Fin 4) = t.val ∧ win0_7.index t (1 : Fin 4) = 0 ∧ win0_7.index t (2 : Fin 4) = 0 ∧ win0_7.index t (3 : Fin 4) = 0 :=
  (by decide +kernel : ∀ t : Fin grid0.N, _)

theorem blk0 (c : Dev nD) (t : Fin cfg0.N) (b : Fin 8) (s : Fin 8) (k : Fin 768) :
    (iblk m c 0 t : FVec Ideal S8x8x768 .f32) (ix3 b s k) = m ((c.tc : Thread nD τ).loc main_arg0) (ix3 ⟨8 * t.val + b.val, by have := tlt t; omega⟩ s k) := by
  obtain ⟨e0, e1, e2⟩ := idx0 t
  refine Eq.trans ?_ (V_0 m c ⟨8 * t.val + b.val, by have := tlt t; omega⟩ s k)
  show V m c main_v10 (((cfg0.win 0).blk t).view.emb (ix3 b s k)) = _
  refine congrArg (V m c main_v10) (funext fun a => Fin.ext ?_)
  match a with
  | ⟨0, _⟩ => show win0_0.index t (0 : Fin 3) * 8 + 1 * b.val = 8 * t.val + b.val; omega
  | ⟨1, _⟩ => show win0_0.index t (1 : Fin 3) * 8 + 1 * s.val = s.val; omega
  | ⟨2, _⟩ => show win0_0.index t (2 : Fin 3) * 768 + 1 * k.val = k.val; omega

theorem blk1 (c : Dev nD) (t : Fin cfg0.N) (b : Fin 8) (s : Fin 8) (k : Fin 128) :
    (iblk m c 1 t : FVec Ideal S8x8x128 .f32) (ix3 b s k) = m ((c.tc : Thread nD τ).loc main_arg1) (ix3 ⟨8 * t.val + b.val, by have := tlt t; omega⟩ s k) := by
  obtain ⟨e0, e1, e2⟩ := idx1 t
  refine Eq.trans ?_ (V_1 m c ⟨8 * t.val + b.val, by have := tlt t; omega⟩ s k)
  show V m c main_v11 (((cfg0.win 1).blk t).view.emb (ix3 b s k)) = _
  refine congrArg (V m c main_v11) (funext fun a => Fin.ext ?_)
  match a with
  | ⟨0, _⟩ => show win0_1.index t (0 : Fin 3) * 8 + 1 * b.val = 8 * t.val + b.val; omega
  | ⟨1, _⟩ => show win0_1.index t (1 : Fin 3) * 8 + 1 * s.val = s.val; omega
  | ⟨2, _⟩ => show win0_1.index t (2 : Fin 3) * 128 + 1 * k.val = k.val; omega

theorem blk2 (c : Dev nD) (t : Fin cfg0.N) (r k : Fin 128) :
    (iblk m c 2 t : FVec Ideal S128x128 .f32) (ix2 r k)
      = if h : 24 ≤ r.val ∧ r.val < 40 then m ((c.tc : Thread nD τ).loc main_arg2) (ix2 ⟨r.val - 24, by omega⟩ k) else (0 : EReal) := by
  obtain ⟨e0, e1⟩ := idx2 t
  refine Eq.trans ?_ (V_2 m c r k)
  show V m c main_v2 (((cfg0.win 2).blk t).view.emb (ix2 r k)) = _
  refine congrArg (V m c main_v2) (funext fun a => Fin.ext ?_)
  match a with
  | ⟨0, _⟩ => show win0_2.index t (0 : Fin 2) * 128 + 1 * r.val = r.val; omega
  | ⟨1, _⟩ => show win0_2.index t (1 : Fin 2) * 128 + 1 * k.val = k.val; omega

theorem blk3 (c : Dev nD) (t : Fin cfg0.N) (k : Fin 128) :
    (iblk m c 3 t : FVec Ideal S1x128 .f32) (ix2 0 k) = m ((c.tc : Thread nD τ).loc main_arg3) (ix1 k) := by
  obtain ⟨e0, e1⟩ := idx3 t
  refine Eq.trans ?_ (V_3 m c k)
  show V m c main_v9 (((cfg0.win 3).blk t).view.emb (ix2 0 k)) = _
  refine congrArg (V m c main_v9) (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

theorem blk5 (c : Dev nD) (t : Fin cfg0.N) (b : Fin 8) (h : Fin 4) (k : Fin 32) (v : Fin 64) :
    (iblk m c 5 t : FVec Ideal S8x4x32x64 .f32) (ix4 b h k v) = m ((c.tc : Thread nD τ).loc main_arg5) (ix4 ⟨8 * t.val + b.val, by have := tlt t; omega⟩ h k v) := by
  obtain ⟨e0, e1, e2, e3⟩ := idx5 t
  refine Eq.trans ?_ (congrFun (V_main_arg5 m c) _)
  show V m c main_arg5 (((cfg0.win 5).blk t).view.emb (ix4 b h k v)) = _
  refine congrArg (V m c main_arg5) (funext fun a => Fin.ext ?_)
  match a with
  | ⟨0, _⟩ => show win0_5.index t (0 : Fin 4) * 8 + 1 * b.val = 8 * t.val + b.val; omega
  | ⟨1, _⟩ => show win0_5.index t (1 : Fin 4) * 4 + 1 * h.val = h.val; omega
  | ⟨2, _⟩ => show win0_5.index t (2 : Fin 4) * 32 + 1 * k.val = k.val; omega
  | ⟨3, _⟩ => show win0_5.index t (3 : Fin 4) * 64 + 1 * v.val = v.val; omega

theorem emb7 (t : Fin cfg0.N) (b : Fin 8) (h : Fin 4) (k : Fin 32) (v : Fin 64) :
    ((cfg0.win 7).blk t).view.emb (ix4 b h k v) = ix4 ⟨8 * t.val + b.val, by have := tlt t; omega⟩ h k v := by
  obtain ⟨e0, e1, e2, e3⟩ := idx7 t
  refine funext fun a => Fin.ext ?_
  match a with
  | ⟨0, _⟩ => show win0_7.index t (0 : Fin 4) * 8 + 1 * b.val = 8 * t.val + b.val; omega
  | ⟨1, _⟩ => show win0_7.index t (1 : Fin 4) * 4 + 1 * h.val = h.val; omega
  | ⟨2, _⟩ => show win0_7.index t (2 : Fin 4) * 32 + 1 * k.val = k.val; omega
  | ⟨3, _⟩ => show win0_7.index t (3 : Fin 4) * 64 + 1 * v.val = v.val; omega

/-- The part of the new state that grid point `t` writes. -/
def part (c : Dev nD) (t : Fin cfg0.N) : FVec Ideal S8x4x32x64 .f32 :=
  fun i => G7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    (ix4 ⟨8 * t.val + (i 0).val, by have := tlt t; have h : (i 0).val < 8 := (i 0).isLt; omega⟩ (i 1) (i 2) (i 3))

set_option maxHeartbeats 1000000 in
/-- What is stored for the block's sequence `b`. -/
theorem piece (c : Dev nD) (t : Fin cfg0.N)
    (H : Real6 (m ((c.tc : Thread nD τ).loc main_arg0)) (m ((c.tc : Thread nD τ).loc main_arg5)))
    (b : Fin 8) (h0 : ∀ a, (![b.val, 0, 0] : Fin 3 → Nat) a + S1x8x768.size a ≤ S8x8x768.size a)
    (h1 : ∀ a, (![b.val, 0, 0] : Fin 3 → Nat) a + S1x8x128.size a ≤ S8x8x128.size a)
    (h2 : ∀ a, (![0, 0] : Fin 2 → Nat) a + S128x128.size a ≤ S128x128.size a)
    (h3 : ∀ a, (![0, 0] : Fin 2 → Nat) a + S1x128.size a ≤ S1x128.size a)
    (h5 : ∀ a, (![b.val, 0, 0, 0] : Fin 4 → Nat) a + S1x4x32x64.size a ≤ S8x4x32x64.size a)
    (x : (Rect.unit (s := S8x4x32x64) ![b.val, 0, 0, 0] S1x4x32x64.size h5).shape.Idx) :
    seq (F := Ideal) (View.ld (iblk m c 0 t : FVec Ideal S8x8x768 .f32) (Rect.unit ![b.val, 0, 0] S1x8x768.size h0))
        (View.ld (iblk m c 1 t : FVec Ideal S8x8x128 .f32) (Rect.unit ![b.val, 0, 0] S1x8x128.size h1))
        (View.ld (iblk m c 2 t : FVec Ideal S128x128 .f32) (Rect.unit ![0, 0] S128x128.size h2))
        (View.ld (iblk m c 3 t : FVec Ideal S1x128 .f32) (Rect.unit ![0, 0] S1x128.size h3))
        (View.ld (iblk m c 5 t : FVec Ideal S8x4x32x64 .f32) (Rect.unit ![b.val, 0, 0, 0] S1x4x32x64.size h5)) x
      = part m c t ((Rect.unit (s := S8x4x32x64) ![b.val, 0, 0, 0] S1x4x32x64.size h5).emb x) := by
  obtain ⟨z, h, k, v, rfl⟩ : ∃ (z : Fin 1) (h : Fin 4) (k : Fin 32) (v : Fin 64), x = ix4 z h k v := ⟨x 0, x 1, x 2, x 3, eq_ix4 x⟩
  obtain rfl : z = 0 := Subsingleton.elim _ _
  have hb := tlt t
  have B : 8 * t.val + b.val < 32 := by omega
  have e : (Rect.unit (s := S8x4x32x64) ![b.val, 0, 0, 0] S1x4x32x64.size h5).emb (ix4 0 h k v) = ix4 b h k v := by
    refine funext fun a => Fin.ext ?_
    match a with
    | ⟨0, _⟩ => show b.val + 1 * 0 = b.val; omega
    | ⟨1, _⟩ => show 0 + 1 * h.val = h.val; omega
    | ⟨2, _⟩ => show 0 + 1 * k.val = k.val; omega
    | ⟨3, _⟩ => show 0 + 1 * v.val = v.val; omega
  rw [e]
  have l0 : ∀ (s : Fin 8) (j : Fin 768), View.ld (iblk m c 0 t : FVec Ideal S8x8x768 .f32) (Rect.unit ![b.val, 0, 0] S1x8x768.size h0) (ix3 0 s j)
      = m ((c.tc : Thread nD τ).loc main_arg0) (ix3 ⟨8 * t.val + b.val, B⟩ s j) := fun s j => by
    refine (View.ld_unit_apply_of _ _ _ _ _ (ix3 b s j) fun a => ?_).trans (blk0 m c t b s j)
    match a with
    | ⟨0, _⟩ => show b.val = b.val + 0; omega
    | ⟨1, _⟩ => show s.val = 0 + s.val; omega
    | ⟨2, _⟩ => show j.val = 0 + j.val; omega
  have l1 : ∀ (s : Fin 8) (j : Fin 128), View.ld (iblk m c 1 t : FVec Ideal S8x8x128 .f32) (Rect.unit ![b.val, 0, 0] S1x8x128.size h1) (ix3 0 s j)
      = m ((c.tc : Thread nD τ).loc main_arg1) (ix3 ⟨8 * t.val + b.val, B⟩ s j) := fun s j => by
    refine (View.ld_unit_apply_of _ _ _ _ _ (ix3 b s j) fun a => ?_).trans (blk1 m c t b s j)
    match a with
    | ⟨0, _⟩ => show b.val = b.val + 0; omega
    | ⟨1, _⟩ => show s.val = 0 + s.val; omega
    | ⟨2, _⟩ => show j.val = 0 + j.val; omega
  have l2 : ∀ (r j : Fin 128), View.ld (iblk m c 2 t : FVec Ideal S128x128 .f32) (Rect.unit ![0, 0] S128x128.size h2) (ix2 r j)
      = if h : 24 ≤ r.val ∧ r.val < 40 then m ((c.tc : Thread nD τ).loc main_arg2) (ix2 ⟨r.val - 24, by omega⟩ j) else (0 : EReal) := fun r j => by
    refine (View.ld_unit_apply_of _ _ _ _ _ (ix2 r j) fun a => ?_).trans (blk2 m c t r j)
    match a with
    | ⟨0, _⟩ => show r.val = 0 + r.val; omega
    | ⟨1, _⟩ => show j.val = 0 + j.val; omega
  have l3 : ∀ (j : Fin 128), View.ld (iblk m c 3 t : FVec Ideal S1x128 .f32) (Rect.unit ![0, 0] S1x128.size h3) (ix2 0 j)
      = m ((c.tc : Thread nD τ).loc main_arg3) (ix1 j) := fun j => by
    refine (View.ld_unit_apply_of _ _ _ _ _ (ix2 0 j) fun a => ?_).trans (blk3 m c t j)
    match a with
    | ⟨0, _⟩ => show 0 = 0 + 0; omega
    | ⟨1, _⟩ => show j.val = 0 + j.val; omega
  have l5 : ∀ (h : Fin 4) (k : Fin 32) (v : Fin 64), View.ld (iblk m c 5 t : FVec Ideal S8x4x32x64 .f32) (Rect.unit ![b.val, 0, 0, 0] S1x4x32x64.size h5) (ix4 0 h k v)
      = m ((c.tc : Thread nD τ).loc main_arg5) (ix4 ⟨8 * t.val + b.val, B⟩ h k v) := fun h k v => by
    refine (View.ld_unit_apply_of _ _ _ _ _ (ix4 b h k v) fun a => ?_).trans (blk5 m c t b h k v)
    match a with
    | ⟨0, _⟩ => show b.val = b.val + 0; omega
    | ⟨1, _⟩ => show h.val = 0 + h.val; omega
    | ⟨2, _⟩ => show k.val = 0 + k.val; omega
    | ⟨3, _⟩ => show v.val = 0 + v.val; omega
  refine seq_at _ _ _ _ _ (lg (m ((c.tc : Thread nD τ).loc main_arg1)) (m ((c.tc : Thread nD τ).loc main_arg2)) (m ((c.tc : Thread nD τ).loc main_arg3)) ⟨8 * t.val + b.val, B⟩) (Kr _ ⟨8 * t.val + b.val, B⟩) (Vr _ ⟨8 * t.val + b.val, B⟩) (Sr _ ⟨8 * t.val + b.val, B⟩) (fun s j => ?_) (fun s j => ?_) (fun s j => ?_)
    (fun h k v => ?_) h k v
  · refine congrArg₂ (· + ·) (Eq.trans ?_ (pad_sum (fun r => m ((c.tc : Thread nD τ).loc main_arg1) (ix3 ⟨8 * t.val + b.val, B⟩ s r)) (fun r => m ((c.tc : Thread nD τ).loc main_arg2) (ix2 r j)))) (l3 j)
    exact Finset.sum_congr rfl fun r _ => congrArg₂ (fun p q : EReal => p * q) (l1 s r) (l2 r j)
  · exact (l0 s _).trans (val_real H _ s j)
  · exact (l0 s _).trans (key_real H _ s j)
  · exact (l5 h k v).trans (H.old _ h k v)

set_option maxHeartbeats 1000000 in
theorem flushed7_eq (c : Dev nD) (t : Fin cfg0.N) (H : Real6 (m ((c.tc : Thread nD τ).loc main_arg0)) (m ((c.tc : Thread nD τ).loc main_arg5))) : (dats m 0 c).flushed 7 t
    = ((cfg0.win 7).blk t).view.read (Elt Ideal) (G7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) := by
  rw [flushed7_A, out7]
  refine funext fun y => ?_
  obtain ⟨b, h, k, v, rfl⟩ : ∃ (b : Fin 8) (h : Fin 4) (k : Fin 32) (v : Fin 64), y = ix4 b h k v := ⟨y 0, y 1, y 2, y 3, eq_ix4 y⟩
  refine Eq.trans ?_ (congrArg (G7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) (emb7 t b h k v)).symm
  refine (View.canon_apply_of_pieces (Val := Elt Ideal) (S := S8x4x32x64) (e := .f32) (part m c t) _ (fun p hp => ?_) (ix4 b h k v) ?_)
  · simp only [List.mem_cons, List.not_mem_nil, or_false] at hp
    rcases hp with rfl | rfl | rfl | rfl | rfl | rfl | rfl | rfl
    · exact fun x => piece m c t H 7 _ _ _ _ _ x
    · exact fun x => piece m c t H 6 _ _ _ _ _ x
    · exact fun x => piece m c t H 5 _ _ _ _ _ x
    · exact fun x => piece m c t H 4 _ _ _ _ _ x
    · exact fun x => piece m c t H 3 _ _ _ _ _ x
    · exact fun x => piece m c t H 2 _ _ _ _ _ x
    · exact fun x => piece m c t H 1 _ _ _ _ _ x
    · exact fun x => piece m c t H 0 _ _ _ _ _ x
  · have key : ∀ (b : Fin 8) (h5 : ∀ a, (![b.val, 0, 0, 0] : Fin 4 → Nat) a + S1x4x32x64.size a ≤ S8x4x32x64.size a),
        ix4 b h k v ∈ (Rect.unit (s := S8x4x32x64) ![b.val, 0, 0, 0] S1x4x32x64.size h5).set := fun b h5 => by
      have e : (Rect.unit (s := S8x4x32x64) ![b.val, 0, 0, 0] S1x4x32x64.size h5).emb (ix4 0 h k v) = ix4 b h k v := by
        refine funext fun a => Fin.ext ?_
        match a with
        | ⟨0, _⟩ => show b.val + 1 * 0 = b.val; omega
        | ⟨1, _⟩ => show 0 + 1 * h.val = h.val; omega
        | ⟨2, _⟩ => show 0 + 1 * k.val = k.val; omega
        | ⟨3, _⟩ => show 0 + 1 * v.val = v.val; omega
      rw [← e]
      exact LoadRect.idx_mem _ _
    simp only [List.mem_cons, List.not_mem_nil, or_false, exists_eq_or_imp, exists_eq_left]
    match b with
    | ⟨0, _⟩ => exact Or.inr (Or.inr (Or.inr (Or.inr (Or.inr (Or.inr (Or.inr ((key 0 _))))))))
    | ⟨1, _⟩ => exact Or.inr (Or.inr (Or.inr (Or.inr (Or.inr (Or.inr (Or.inl (key 1 _)))))))
    | ⟨2, _⟩ => exact Or.inr (Or.inr (Or.inr (Or.inr (Or.inr (Or.inl (key 2 _))))))
    | ⟨3, _⟩ => exact Or.inr (Or.inr (Or.inr (Or.inr (Or.inl (key 3 _)))))
    | ⟨4, _⟩ => exact Or.inr (Or.inr (Or.inr (Or.inl (key 4 _))))
    | ⟨5, _⟩ => exact Or.inr (Or.inr (Or.inl (key 5 _)))
    | ⟨6, _⟩ => exact Or.inr (Or.inl (key 6 _))
    | ⟨7, _⟩ => exact Or.inl (key 7 _)

theorem covered7 (i : S32x4x32x64.Idx) :
    ∃ t : Fin cfg0.N, (cfg0.win 7).flush t = true ∧ i ∈ ((cfg0.win 7).blk t).view.set := by
  obtain ⟨B, h, k, v, rfl⟩ : ∃ (B : Fin 32) (h : Fin 4) (k : Fin 32) (v : Fin 64), i = ix4 B h k v := ⟨i 0, i 1, i 2, i 3, eq_ix4 i⟩
  have ht : B.val / 8 < cfg0.N := by show B.val / 8 < 4; omega
  have e := ((cfg0.win 7).blk ⟨B.val / 8, ht⟩).view.emb_mem_set (ix4 ⟨B.val % 8, by omega⟩ h k v)
  rw [emb7 ⟨B.val / 8, ht⟩ ⟨B.val % 8, by omega⟩ h k v] at e
  have hB : (⟨8 * (B.val / 8) + B.val % 8, by omega⟩ : Fin 32) = B := Fin.ext (by show 8 * (B.val / 8) + B.val % 8 = B.val; omega)
  exact ⟨_, flush0_7 _, hB ▸ e⟩

/-- The second array after the run: the new state. -/
theorem final7 (c : Dev nD) (H : Real6 (m ((c.tc : Thread nD τ).loc main_arg0)) (m ((c.tc : Thread nD τ).loc main_arg5))) : (dats m 0 c).arrAt 7 cfg0.N = G7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  (dats m 0 c).arrAt_eq_of_cover 7 _ (fun t _ => flushed7_eq m c t H) covered7

end Cert.Proof.GlaArr
-- ==== Proof.GlaOut.lean ====
/- What the linear attention's body computes of one sequence's output, over the extended reals. -/
module
public import proofs.«01_k».proof.Proof.GlaSeq

@[expose] public section

set_option maxRecDepth 16384

noncomputable section

namespace Cert.Proof.GlaOut

open Cert.Kernel6Ideal Cert.Kernel6Ideal.Gen Idealize.ShloMosaic
open Idealize.ShloMosaic.TcCoe Idealize.SL.Sem
open Cert.Proof.GlaRun Cert.Proof.GlaSeq
open Cert.Proof.OutBlock (sel_row)

/-- A sum whose terms are zero outside one block of `n` is the sum over the block. -/
theorem block_sum {M : Type} [AddCommMonoid M] {N n : ℕ} (hn : 0 < n) (h : ℕ) (hN : h * n + n ≤ N) (f : Fin N → M) :
    (∑ c : Fin N, if h = c.val / n then f c else 0) = ∑ k : Fin n, f ⟨h * n + k.val, by omega⟩ := by
  refine (Fintype.sum_of_injective (fun k : Fin n => (⟨h * n + k.val, by omega⟩ : Fin N)) (fun a b e => ?_) _ _ (fun i hi => ?_) (fun k => ?_)).symm
  · have := Fin.ext_iff.1 e
    exact Fin.ext (by dsimp only at this; omega)
  · refine if_neg fun e => hi ⟨⟨i.val % n, Nat.mod_lt _ hn⟩, Fin.ext ?_⟩
    show h * n + i.val % n = i.val
    rw [e]
    exact Nat.div_add_mod' i.val n
  · refine (if_pos ?_).symm
    show h = (h * n + k.val) / n
    rw [Nat.mul_comm, Nat.mul_add_div hn, Nat.div_eq_of_lt k.isLt, Nat.add_zero]

/-- The decay of the old state at a token. -/
def Dto (X : Fin 8 → Fin 128 → EReal) (t : Fin 8) (c : Fin 128) : ℝ := (Ideal.exp (Bsum X t c)).toReal

/-- The decay from a token to a later one. -/
def Dbetw (X : Fin 8 → Fin 128 → EReal) (t s : Fin 8) (c : Fin 128) : ℝ := (Ideal.exp (Bsum X t c - Bsum X s c)).toReal

theorem dto_eq (X : Fin 8 → Fin 128 → EReal) (t : Fin 8) (c : Fin 128) : Ideal.exp (Bsum X t c) = (Dto X t c : ℝ) := exp_real (bsum_ne_top X t c)

theorem bsum_bot_le (X : Fin 8 → Fin 128 → EReal) (s t : Fin 8) (hst : s ≤ t) (c : Fin 128) (h : Bsum X s c = ⊥) : Bsum X t c = ⊥ := by
  by_contra e
  have h0 : ∀ r, r ≤ t → ldecE (X r c) ≠ ⊥ := fun r hr hs => e (sum_bot (fun s => if s ≤ t then ldecE (X s c) else 0) r (by
    rw [if_pos hr, hs]))
  have h1 : Bsum X s c = ((∑ r : Fin 8, if r ≤ s then (ldecE (X r c)).toReal else 0 : ℝ) : EReal) := by
    rw [coe_sum]
    refine Finset.sum_congr rfl fun r _ => ?_
    by_cases hr : r ≤ s
    · rw [if_pos hr, if_pos hr]
      exact (EReal.coe_toReal (ldecE_ne_top _) (h0 r (hr.trans hst))).symm
    · rw [if_neg hr, if_neg hr]
      rfl
  exact EReal.coe_ne_bot _ (h1.symm.trans h)

theorem dbetw_eq (X : Fin 8 → Fin 128 → EReal) (t s : Fin 8) (hst : s ≤ t) (c : Fin 128) : Ideal.exp (Bsum X t c - Bsum X s c) = (Dbetw X t s c : ℝ) := by
  refine exp_real ?_
  by_cases h : Bsum X s c = ⊥
  · rw [bsum_bot_le X s t hst c h, EReal.bot_sub]
    exact bot_ne_top
  · rw [← EReal.coe_toReal (bsum_ne_top X s c) h, sub_eq_add_neg, ← EReal.coe_neg]
    exact EReal.add_ne_top (bsum_ne_top X t c) (EReal.coe_ne_top _)

/-- A query and a key, each with its decay to the first token, have the decay between them. -/
theorem decays (X : Fin 8 → Fin 128 → EReal) (t s : Fin 8) (hst : s ≤ t) (c : Fin 128) (q k : ℝ) :
    (q : EReal) * Ideal.exp (Bsum X t c - Bsum X 0 c) * ((k : EReal) * Ideal.exp (Bsum X 0 c - Bsum X s c)) = ((q * k * Dbetw X t s c : ℝ) : EReal) := by
  rw [EReal.coe_mul, ← dbetw_eq X t s hst c]
  by_cases ht : Bsum X t c = ⊥
  · simp [ht]
  · have hs : Bsum X s c ≠ ⊥ := fun h => ht (bsum_bot_le X s t hst c h)
    have h0 : Bsum X 0 c ≠ ⊥ := fun h => ht (bsum_bot_le X 0 t (Fin.zero_le _) c h)
    rw [← EReal.coe_toReal (bsum_ne_top X t c) ht, ← EReal.coe_toReal (bsum_ne_top X s c) hs, ← EReal.coe_toReal (bsum_ne_top X 0 c) h0]
    simp only [← EReal.coe_sub, Ideal.exp_coe, ← EReal.coe_mul]
    congr 1
    rw [show (Bsum X t c).toReal - (Bsum X s c).toReal = ((Bsum X t c).toReal - (Bsum X 0 c).toReal) + ((Bsum X 0 c).toReal - (Bsum X s c).toReal) by ring, Real.exp_add]
    ring

theorem q_at (g : FVec Ideal S1x8x768 .f32) (t : Fin 8) (c : Fin 128) : k0_pay140 (F := Ideal) g (ix2 t c) = g (ix3 0 t ⟨c.val, by omega⟩) * Ideal.ofBits .f32 0x3E3504F3#32 := by
  pointwise [k0_pay140]

theorem qe_at (b q : FVec Ideal S8x128 .f32) (t : Fin 8) (c : Fin 128) : k0_pay164 (F := Ideal) b q (ix2 t c) = q (ix2 t c) * Ideal.exp (b (ix2 t c)) := by
  pointwise [k0_pay164]

theorem qd_at (b q : FVec Ideal S8x128 .f32) (t : Fin 8) (c : Fin 128) : k0_pay181 (F := Ideal) b q (ix2 t c) = q (ix2 t c) * Ideal.exp (b (ix2 t c) - b (ix2 0 c)) := by
  pointwise [k0_pay181, k0_pay180]

theorem k_at (g : FVec Ideal S1x8x768 .f32) (t : Fin 8) (c : Fin 128) : k0_pay148 (F := Ideal) g (ix2 t c) = g (ix3 0 t ⟨128 + c.val, by omega⟩) := by
  pointwise [k0_pay148]

theorem v_at (g : FVec Ideal S1x8x768 .f32) (t : Fin 8) (c : Fin 256) : k0_pay156 (F := Ideal) g (ix2 t c) = g (ix3 0 t ⟨256 + c.val, by omega⟩) := by
  pointwise [k0_pay156]

theorem eight_word : ∀ n : Fin 32, (Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 n.val) 8#32) 0#32))
        (IntOp.subi (IntOp.divsi ArithUnit.vector (BitVec.ofNat 32 n.val) 8#32) 1#32)
        (IntOp.divsi ArithUnit.vector (BitVec.ofNat 32 n.val) 8#32)) = BitVec.ofNat 32 (n.val / 8) := by decide +kernel

theorem kmask_at (r : Fin 32) (c : Fin 128) (a b : EReal) :
    Scalar.select (kmask (ix2 r c)) a b = if r.val / 8 = c.val / 32 then a else b := by
  unfold kmask
  pointwise [k0_pay57, k0_pay58, k0_pay59, k0_pay60, k0_pay61]
  rw [eight_word, col_word]
  exact sel_row _ _ (by omega) (by omega) a b

theorem row_word' : ∀ n : Fin 256, (Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (1#32)
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32)) = BitVec.ofNat 32 (n.val / 64) := by decide +kernel

theorem vmask_at (r : Fin 32) (c : Fin 256) (a b : EReal) :
    Scalar.select (vmask (ix2 r c)) a b = if r.val / 8 = c.val / 64 then a else b := by
  unfold vmask
  pointwise [k0_pay62, k0_pay63, k0_pay64, k0_pay65]
  rw [eight_word, row_word']
  exact sel_row _ _ (by omega) (by omega) a b

theorem tokens_at (t : Fin 8) (r : Fin 32) : IntOp.cmpi CmpIPredicate.sle (tokens (ix2 t r)) (IntOp.addi (BitVec.ofNat 32 t.val) 0#32) = if r.val % 8 ≤ t.val then 1#1 else 0#1 := by
  unfold tokens
  pointwise [k0_pay75, k0_pay74, k0_pay73, k0_pay72]
  revert t r
  decide +kernel

/-- Four copies of eight rows, one below the other. -/
theorem copies (f : Fin 8 → EReal) (n : Fin 32) :
    (if h : n.val < 8 then f ⟨n.val, h⟩ else if h : n.val - 8 < 8 then f ⟨n.val - 8, h⟩ else if h : n.val - 8 - 8 < 8 then f ⟨n.val - 8 - 8, h⟩
      else f ⟨n.val - 8 - 8 - 8, by omega⟩) = f ⟨n.val % 8, by omega⟩ := by
  split_ifs <;> exact congrArg f (Fin.ext (by dsimp only; omega))

theorem slt_word : ∀ n : Fin 8, IntOp.cmpi CmpIPredicate.slt (BitVec.ofNat 32 n.val) 8#32 = 1#1 := by decide +kernel

/-- The keys with their decays, by head and token. -/
theorem kb_at (k b : FVec Ideal S8x128 .f32) (r : Fin 32) (c : Fin 128) :
    k0_pay182 (F := Ideal) kmask (iota Kind.tc S8x128 32 [0] iota_S8x128_d0_w32) b k (ix2 r c)
      = if r.val / 8 = c.val / 32 then k (ix2 ⟨r.val % 8, by omega⟩ c) * Ideal.exp (b (ix2 0 c) - b (ix2 ⟨r.val % 8, by omega⟩ c)) else 0 := by
  have hM := kmask_at
  generalize kmask = M at *
  pointwise [k0_pay182, k0_pay180]
  rw [hM]
  refine congrArg (fun e : EReal => if r.val / 8 = c.val / 32 then e else 0) ?_
  refine (copies (fun s => k (ix2 s c) * Ideal.exp (Scalar.select (IntOp.cmpi CmpIPredicate.slt (BitVec.ofNat 32 s.val) 8#32) (b (ix2 0 c) - b (ix2 s c))
    (Ideal.ofBits FTy.f32 4048155338#32))) r).trans ?_
  dsimp only
  rw [slt_word ⟨r.val % 8, by omega⟩]
  rfl

theorem inter_at (w : FVec Ideal S1x256x128 .f32) (qe : FVec Ideal S8x128 .f32) (i : FVec Ideal S8x256 .f32) (t : Fin 8) (r : Fin 256) :
    k0_pay236 (F := Ideal) qe i w (ix2 t r) = (∑ x : Fin 128, qe (ix2 t x) * w (ix3 0 r x)) + i (ix2 t r) := by
  pointwise [k0_pay236, k0_pay235]

/-- The masked scores times the values. -/
theorem masked_at (v : FVec Ideal S8x256 .f32) (qd : FVec Ideal S8x128 .f32) (kb : FVec Ideal S32x128 .f32) (t : Fin 8) (r : Fin 256) :
    k0_pay183 (F := Ideal) tokens (iota Kind.tc S8x32 32 [0] iota_S8x32_d0_w32) (k0_pay172 vmask v) qd kb (constant S8x32 FTy.f32 0#32) (ix2 t r)
      = ∑ s : Fin 8, if s ≤ t then (∑ c : Fin 128, qd (ix2 t c) * kb (ix2 ⟨r.val / 64 * 8 + s.val, by omega⟩ c)) * v (ix2 s r) else 0 := by
  have hM := vmask_at
  have hT := tokens_at
  generalize vmask = M at *
  generalize tokens = T at *
  pointwise [k0_pay183, k0_pay172]
  simp only [hM, hT]
  have e : ∀ x : Fin 32, (if x.val / 8 = r.val / 64 then
        Scalar.select (if x.val % 8 ≤ t.val then 1#1 else 0#1)
          ((∑ c : Fin 128, qd (ix2 t c) * kb (ix2 x c)) *
            (if h : x.val < 8 then v (ix2 ⟨x.val, h⟩ r) else if h : x.val - 8 < 8 then v (ix2 ⟨x.val - 8, h⟩ r)
              else if h : x.val - 8 - 8 < 8 then v (ix2 ⟨x.val - 8 - 8, h⟩ r) else v (ix2 ⟨x.val - 8 - 8 - 8, by omega⟩ r)))
          0
      else 0) = if r.val / 64 = x.val / 8 then (if (⟨x.val % 8, by omega⟩ : Fin 8) ≤ t then (∑ c : Fin 128, qd (ix2 t c) * kb (ix2 x c)) * v (ix2 ⟨x.val % 8, by omega⟩ r) else 0) else (0 : EReal) := fun x => by
    rw [copies (fun s => v (ix2 s r)) x]
    refine if_congr eq_comm ?_ rfl
    by_cases h : x.val % 8 ≤ t.val
    · rw [if_pos h, if_pos (show (⟨x.val % 8, by omega⟩ : Fin 8) ≤ t from h)]
      rfl
    · rw [if_neg h, if_neg (show ¬ (⟨x.val % 8, by omega⟩ : Fin 8) ≤ t from h)]
      rfl
  refine (Finset.sum_congr rfl fun x _ => e x).trans ?_
  rw [block_sum (by omega) _ (by omega)]
  refine Finset.sum_congr rfl fun s _ => ?_
  have e2 : (⟨(r.val / 64 * 8 + s.val) % 8, by omega⟩ : Fin 8) = s := Fin.ext (by dsimp only; omega)
  rw [e2]

/-- The attention of one sequence's tokens, before the norm. -/
def attn (X : Fin 8 → Fin 128 → EReal) (Q K : Fin 8 → Fin 128 → ℝ) (V : Fin 8 → Fin 256 → ℝ) (S : Fin 4 → Fin 32 → Fin 64 → ℝ) (t : Fin 8) (r : Fin 256) : ℝ :=
  (∑ k : Fin 32, Q t ⟨r.val / 64 * 32 + k.val, by omega⟩ * Dto X t ⟨r.val / 64 * 32 + k.val, by omega⟩ * S ⟨r.val / 64, by omega⟩ k ⟨r.val % 64, by omega⟩)
    + ∑ s : Fin 8, if s ≤ t then (∑ k : Fin 32, Q t ⟨r.val / 64 * 32 + k.val, by omega⟩ * K s ⟨r.val / 64 * 32 + k.val, by omega⟩ * Dbetw X t s ⟨r.val / 64 * 32 + k.val, by omega⟩) * V s r else 0

theorem att_at (g : FVec Ideal S1x8x768 .f32) (b : FVec Ideal S8x128 .f32) (s : FVec Ideal S1x4x32x64 .f32) (X : Fin 8 → Fin 128 → EReal)
    (Q K : Fin 8 → Fin 128 → ℝ) (V : Fin 8 → Fin 256 → ℝ) (S : Fin 4 → Fin 32 → Fin 64 → ℝ) (hB : ∀ t c, b (ix2 t c) = Bsum X t c)
    (hQ : ∀ s j, g (ix3 0 s ⟨j.val, by omega⟩) * Ideal.ofBits .f32 0x3E3504F3#32 = (Q s j : ℝ))
    (hV : ∀ s j, g (ix3 0 s ⟨256 + j.val, by omega⟩) = (V s j : ℝ)) (hK : ∀ s j, g (ix3 0 s ⟨128 + j.val, by omega⟩) = (K s j : ℝ))
    (hS : ∀ h k v, s (ix4 0 h k v) = (S h k v : ℝ)) (t : Fin 8) (r : Fin 256) : att (F := Ideal) g b s (ix2 t r) = (attn X Q K V S t r : ℝ) := by
  unfold att
  rw [inter_at, masked_at]
  simp only [st0_at s S hS, kb_at, qe_at, qd_at, q_at, k_at, v_at, hQ, hV, hK, hB, dto_eq]
  unfold attn
  rw [EReal.coe_add, coe_sum, coe_sum]
  refine congrArg₂ (· + ·) ?_ (Finset.sum_congr rfl fun s _ => ?_)
  · have e : ∀ x : Fin 128, ((Q t x : EReal) * (Dto X t x : EReal)) * (((if r.val / 64 = x.val / 32 then S ⟨x.val / 32, by omega⟩ ⟨x.val % 32, by omega⟩ ⟨r.val % 64, by omega⟩ else 0 : ℝ)) : EReal)
        = if r.val / 64 = x.val / 32 then ((Q t x * Dto X t x * S ⟨x.val / 32, by omega⟩ ⟨x.val % 32, by omega⟩ ⟨r.val % 64, by omega⟩ : ℝ) : EReal) else 0 := fun x => by
      rw [← EReal.coe_mul, ← EReal.coe_mul]
      split <;> simp
    refine (Finset.sum_congr rfl fun x _ => e x).trans ?_
    rw [block_sum (by omega) _ (by omega)]
    refine Finset.sum_congr rfl fun k _ => ?_
    have e1 : (⟨(r.val / 64 * 32 + k.val) / 32, by omega⟩ : Fin 4) = ⟨r.val / 64, by omega⟩ := Fin.ext (by dsimp only; omega)
    have e2 : (⟨(r.val / 64 * 32 + k.val) % 32, by omega⟩ : Fin 32) = k := Fin.ext (by dsimp only; omega)
    rw [e1, e2]
  · by_cases hst : s ≤ t
    · rw [if_pos hst, if_pos hst, EReal.coe_mul, coe_sum]
      refine congrArg₂ (fun p q : EReal => p * q) ?_ rfl
      have e1 : (r.val / 64 * 8 + s.val) / 8 = r.val / 64 := by omega
      have e2 : (⟨(r.val / 64 * 8 + s.val) % 8, by omega⟩ : Fin 8) = s := Fin.ext (by dsimp only; omega)
      have e : ∀ c : Fin 128, (Q t c : EReal) * Ideal.exp (Bsum X t c - Bsum X 0 c)
          * k0_pay182 (F := Ideal) kmask (iota Kind.tc S8x128 32 [0] iota_S8x128_d0_w32) b (k0_pay148 g) (ix2 ⟨r.val / 64 * 8 + s.val, by omega⟩ c)
            = if r.val / 64 = c.val / 32 then ((Q t c * K s c * Dbetw X t s c : ℝ) : EReal) else 0 := fun c => by
        rw [kb_at, k_at, hB, hB]
        dsimp only
        rw [e1, e2, hK, mul_ite, mul_zero, decays X t s hst]
      exact (Finset.sum_congr rfl fun c _ => e c).trans (block_sum (by omega) _ (by omega) _)
    · rw [if_neg hst, if_neg hst, EReal.coe_zero]

/-- The mean of the squares of a token's outputs in a head. -/
def msq (O : Fin 8 → Fin 256 → ℝ) (t : Fin 8) (r : Fin 256) : ℝ :=
  (∑ v : Fin 64, O t ⟨r.val / 64 * 64 + v.val, by omega⟩ * O t ⟨r.val / 64 * 64 + v.val, by omega⟩) / 64

/-- An output after its norm and its gate. -/
def gated (O : Fin 8 → Fin 256 → ℝ) (n z : EReal) (t : Fin 8) (r : Fin 256) : EReal :=
  (O t r : EReal) * Ideal.rsqrt ((msq O t r : ℝ) + Ideal.ofBits FTy.f32 897988541#32) * n * (z * Ideal.div 1 (1 + Ideal.exp (0 - z)))

theorem norm_at (o : FVec Ideal S8x256 .f32) (g : FVec Ideal S1x8x768 .f32) (gn : FVec Ideal S1x256 .f32) (O : Fin 8 → Fin 256 → ℝ)
    (hO : ∀ t r, o (ix2 t r) = (O t r : ℝ)) (t : Fin 8) (r : Fin 256) :
    k0_pay261 (F := Ideal) (k0_pay71 k0_pay68 k0_pay69 k0_pay70) o g gn (ix3 0 t r)
      = gated O (gn (ix2 0 r)) (g (ix3 0 t ⟨512 + r.val, by omega⟩)) t r := by
  have hc : Ideal.ofBits FTy.f32 1015021568#32 = ((1 / 64 : ℝ) : EReal) := by
    simp [Ideal.ofBits, Ideal.ieee, -EReal.coe_mul]
    norm_num
  pointwise [k0_pay261, k0_pay71, k0_pay68, k0_pay69, k0_pay70]
  have hw : ∀ (x : Fin 256) (a b : EReal), Scalar.select (IntOp.cmpi CmpIPredicate.eq (BitVec.ofNat 32 (x.val / 64)) (BitVec.ofNat 32 (r.val / 64))) a b
      = if r.val / 64 = x.val / 64 then a else b := fun x a b => by
    rw [sel_row _ _ (by omega) (by omega)]
    simp only [eq_comm]
  simp only [row_word, hw, hO, sub_self_coe, ← EReal.coe_mul, zero_mul, ite_self, Finset.sum_const_zero, add_zero, hc]
  rw [block_sum (by omega) _ (by omega), ← coe_sum, ← Finset.sum_mul]
  unfold gated msq
  rw [mul_one_div]

/-- What the body stores of one sequence's output, where its queries, keys, values and old state are finite. -/
theorem outp_at (g : FVec Ideal S1x8x768 .f32) (mi : FVec Ideal S1x8x128 .f32) (a2 : FVec Ideal S128x128 .f32) (ab : FVec Ideal S1x128 .f32) (gn : FVec Ideal S1x256 .f32)
    (s : FVec Ideal S1x4x32x64 .f32) (X : Fin 8 → Fin 128 → EReal) (Q K : Fin 8 → Fin 128 → ℝ) (V : Fin 8 → Fin 256 → ℝ) (S : Fin 4 → Fin 32 → Fin 64 → ℝ)
    (hX : ∀ t c, (∑ j : Fin 128, mi (ix3 0 t j) * a2 (ix2 j c)) + ab (ix2 0 c) = X t c)
    (hQ : ∀ s j, g (ix3 0 s ⟨j.val, by omega⟩) * Ideal.ofBits .f32 0x3E3504F3#32 = (Q s j : ℝ))
    (hV : ∀ s j, g (ix3 0 s ⟨256 + j.val, by omega⟩) = (V s j : ℝ)) (hK : ∀ s j, g (ix3 0 s ⟨128 + j.val, by omega⟩) = (K s j : ℝ))
    (hS : ∀ h k v, s (ix4 0 h k v) = (S h k v : ℝ)) (t : Fin 8) (r : Fin 256) :
    outp (F := Ideal) g mi a2 ab gn s (ix3 0 t r) = gated (attn X Q K V S) (gn (ix2 0 r)) (g (ix3 0 t ⟨512 + r.val, by omega⟩)) t r := by
  have hB : ∀ t c, cum (F := Ideal) (decay mi a2 ab) (ix2 t c) = Bsum X t c := fun t c =>
    cum_at _ (fun s c => ldecE (X s c)) (fun s c => (decay_at _ s c).trans (congrArg ldecE ((logit_at mi a2 ab s c).trans (hX s c)))) (fun s c => ldecE_ne_top _) t c
  unfold outp
  exact norm_at _ g gn _ (att_at g _ s X Q K V S hB hQ hV hK hS) t r

end Cert.Proof.GlaOut
-- ==== Proof.GlaArr6.lean ====
/- What the linear attention's output holds, for the sample, after the run, as a function of its arguments. -/
module
public import proofs.«01_k».proof.Proof.GlaArr
public import proofs.«01_k».proof.Proof.GlaOut

@[expose] public section

set_option maxRecDepth 256

noncomputable section

namespace Cert.Proof.GlaArr6

open Cert.Kernel6Ideal Cert.Kernel6Ideal.Gen Cert.Kernel6Ideal.Value Cert.Proof.GlaRun Cert.Proof.GlaSeq Cert.Proof.GlaOut Cert.Proof.GlaArr Idealize.ShloMosaic
open Idealize.ShloMosaic.TcCoe Idealize.SL.Sem

/-- The scaled queries' entries as real numbers. -/
def Qr (g : FVec Ideal S32x8x768 .f32) (b : Fin 32) (s : Fin 8) (j : Fin 128) : ℝ := (g (ix3 b s ⟨j.val, by omega⟩)).toReal * (11863283 / 67108864)

theorem query_real {g : FVec Ideal S32x8x768 .f32} {s0 : FVec Ideal S32x4x32x64 .f32} (H : Real6 g s0) (b : Fin 32) (s : Fin 8) (j : Fin 128) :
    g (ix3 b s ⟨j.val, by omega⟩) * Ideal.ofBits .f32 0x3E3504F3#32 = (Qr g b s j : ℝ) := by
  have hc : Ideal.ofBits .f32 0x3E3504F3#32 = ((11863283 / 67108864 : ℝ) : EReal) := by
    simp [Ideal.ofBits, Ideal.ieee, -EReal.coe_mul]
    norm_num
  have h := H.gla b s ⟨j.val, by omega⟩
  unfold IsReal at h
  rw [hc]
  unfold Qr
  rw [EReal.coe_mul]
  exact congrArg (fun e : EReal => e * _) h

/-- The linear attention's output. -/
def G6 (g : FVec Ideal S32x8x768 .f32) (misc : FVec Ideal S32x8x128 .f32) (a2 : FVec Ideal S16x128 .f32) (ab : FVec Ideal S128 .f32)
    (gn : FVec Ideal S64 .f32) (s0 : FVec Ideal S32x4x32x64 .f32) : FVec Ideal S32x8x256 .f32 :=
  fun i => gated (attn (lg misc a2 ab (i 0)) (Qr g (i 0)) (Kr g (i 0)) (Vr g (i 0)) (Sr s0 (i 0)))
    (gn (ix1 ⟨(i 2).val % 64, Nat.mod_lt _ (by omega)⟩)) (g (ix3 (i 0) (i 1) ⟨512 + (i 2).val, by have h : (i 2).val < 256 := (i 2).isLt; omega⟩)) (i 1) (i 2)

variable (m : (ℓ : Loc nD τ sig) → Buf (Elt Ideal) ℓ)

theorem V_4 (c : Dev nD) (k : Fin 256) : V m c main_v6 (ix2 0 k)
    = m ((c.tc : Thread nD τ).loc main_arg4) (ix1 ⟨k.val % 64, by omega⟩) := by
  unfold V hostOps0
  after_reads_at

theorem idx4 : ∀ t : Fin cfg0.N, win0_4.index t (0 : Fin 2) = 0 ∧ win0_4.index t (1 : Fin 2) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

theorem blk4 (c : Dev nD) (t : Fin cfg0.N) (k : Fin 256) :
    (iblk m c 4 t : FVec Ideal S1x256 .f32) (ix2 0 k) = m ((c.tc : Thread nD τ).loc main_arg4) (ix1 ⟨k.val % 64, by omega⟩) := by
  obtain ⟨e0, e1⟩ := idx4 t
  refine Eq.trans ?_ (V_4 m c k)
  show V m c main_v6 (((cfg0.win 4).blk t).view.emb (ix2 0 k)) = _
  refine congrArg (V m c main_v6) (funext fun a => Fin.ext ?_)
  match a with
  | ⟨0, _⟩ => show win0_4.index t (0 : Fin 2) * 1 + 1 * 0 = 0; omega
  | ⟨1, _⟩ => show win0_4.index t (1 : Fin 2) * 256 + 1 * k.val = k.val; omega

theorem emb6 (t : Fin cfg0.N) (b q : Fin 8) (r : Fin 256) :
    ((cfg0.win 6).blk t).view.emb (ix3 b q r) = ix3 ⟨8 * t.val + b.val, by have := tlt t; omega⟩ q r := by
  obtain ⟨e0, e1, e2⟩ := idx6 t
  refine funext fun a => Fin.ext ?_
  match a with
  | ⟨0, _⟩ => show win0_6.index t (0 : Fin 3) * 8 + 1 * b.val = 8 * t.val + b.val; omega
  | ⟨1, _⟩ => show win0_6.index t (1 : Fin 3) * 8 + 1 * q.val = q.val; omega
  | ⟨2, _⟩ => show win0_6.index t (2 : Fin 3) * 256 + 1 * r.val = r.val; omega

/-- The part of the output that grid point `t` writes. -/
def part6 (c : Dev nD) (t : Fin cfg0.N) : FVec Ideal S8x8x256 .f32 :=
  fun i => G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (ix3 ⟨8 * t.val + (i 0).val, by have := tlt t; have h : (i 0).val < 8 := (i 0).isLt; omega⟩ (i 1) (i 2))

set_option maxHeartbeats 1000000 in
/-- The output that is stored for the block's sequence `b`. -/
theorem piece6 (c : Dev nD) (t : Fin cfg0.N)
    (H : Real6 (m ((c.tc : Thread nD τ).loc main_arg0)) (m ((c.tc : Thread nD τ).loc main_arg5)))
    (b : Fin 8) (h0 : ∀ a, (![b.val, 0, 0] : Fin 3 → Nat) a + S1x8x768.size a ≤ S8x8x768.size a)
    (h1 : ∀ a, (![b.val, 0, 0] : Fin 3 → Nat) a + S1x8x128.size a ≤ S8x8x128.size a)
    (h2 : ∀ a, (![0, 0] : Fin 2 → Nat) a + S128x128.size a ≤ S128x128.size a)
    (h3 : ∀ a, (![0, 0] : Fin 2 → Nat) a + S1x128.size a ≤ S1x128.size a)
    (h4 : ∀ a, (![0, 0] : Fin 2 → Nat) a + S1x256.size a ≤ S1x256.size a)
    (h5 : ∀ a, (![b.val, 0, 0, 0] : Fin 4 → Nat) a + S1x4x32x64.size a ≤ S8x4x32x64.size a)
    (h6 : ∀ a, (![b.val, 0, 0] : Fin 3 → Nat) a + S1x8x256.size a ≤ S8x8x256.size a)
    (x : (Rect.unit (s := S8x8x256) ![b.val, 0, 0] S1x8x256.size h6).shape.Idx) :
    outp (F := Ideal) (View.ld (iblk m c 0 t : FVec Ideal S8x8x768 .f32) (Rect.unit ![b.val, 0, 0] S1x8x768.size h0))
        (View.ld (iblk m c 1 t : FVec Ideal S8x8x128 .f32) (Rect.unit ![b.val, 0, 0] S1x8x128.size h1))
        (View.ld (iblk m c 2 t : FVec Ideal S128x128 .f32) (Rect.unit ![0, 0] S128x128.size h2))
        (View.ld (iblk m c 3 t : FVec Ideal S1x128 .f32) (Rect.unit ![0, 0] S1x128.size h3))
        (View.ld (iblk m c 4 t : FVec Ideal S1x256 .f32) (Rect.unit ![0, 0] S1x256.size h4))
        (View.ld (iblk m c 5 t : FVec Ideal S8x4x32x64 .f32) (Rect.unit ![b.val, 0, 0, 0] S1x4x32x64.size h5)) x
      = part6 m c t ((Rect.unit (s := S8x8x256) ![b.val, 0, 0] S1x8x256.size h6).emb x) := by
  obtain ⟨z, q, r, rfl⟩ : ∃ (z : Fin 1) (q : Fin 8) (r : Fin 256), x = ix3 z q r := ⟨x 0, x 1, x 2, eq_ix3 x⟩
  obtain rfl : z = 0 := Subsingleton.elim _ _
  have hb := tlt t
  have B : 8 * t.val + b.val < 32 := by omega
  have e : (Rect.unit (s := S8x8x256) ![b.val, 0, 0] S1x8x256.size h6).emb (ix3 0 q r) = ix3 b q r := by
    refine funext fun a => Fin.ext ?_
    match a with
    | ⟨0, _⟩ => show b.val + 1 * 0 = b.val; omega
    | ⟨1, _⟩ => show 0 + 1 * q.val = q.val; omega
    | ⟨2, _⟩ => show 0 + 1 * r.val = r.val; omega
  rw [e]
  have l0 : ∀ (s : Fin 8) (j : Fin 768), View.ld (iblk m c 0 t : FVec Ideal S8x8x768 .f32) (Rect.unit ![b.val, 0, 0] S1x8x768.size h0) (ix3 0 s j)
      = m ((c.tc : Thread nD τ).loc main_arg0) (ix3 ⟨8 * t.val + b.val, B⟩ s j) := fun s j => by
    refine (View.ld_unit_apply_of _ _ _ _ _ (ix3 b s j) fun a => ?_).trans (blk0 m c t b s j)
    match a with
    | ⟨0, _⟩ => show b.val = b.val + 0; omega
    | ⟨1, _⟩ => show s.val = 0 + s.val; omega
    | ⟨2, _⟩ => show j.val = 0 + j.val; omega
  have l1 : ∀ (s : Fin 8) (j : Fin 128), View.ld (iblk m c 1 t : FVec Ideal S8x8x128 .f32) (Rect.unit ![b.val, 0, 0] S1x8x128.size h1) (ix3 0 s j)
      = m ((c.tc : Thread nD τ).loc main_arg1) (ix3 ⟨8 * t.val + b.val, B⟩ s j) := fun s j => by
    refine (View.ld_unit_apply_of _ _ _ _ _ (ix3 b s j) fun a => ?_).trans (blk1 m c t b s j)
    match a with
    | ⟨0, _⟩ => show b.val = b.val + 0; omega
    | ⟨1, _⟩ => show s.val = 0 + s.val; omega
    | ⟨2, _⟩ => show j.val = 0 + j.val; omega
  have l2 : ∀ (r j : Fin 128), View.ld (iblk m c 2 t : FVec Ideal S128x128 .f32) (Rect.unit ![0, 0] S128x128.size h2) (ix2 r j)
      = if h : 24 ≤ r.val ∧ r.val < 40 then m ((c.tc : Thread nD τ).loc main_arg2) (ix2 ⟨r.val - 24, by omega⟩ j) else (0 : EReal) := fun r j => by
    refine (View.ld_unit_apply_of _ _ _ _ _ (ix2 r j) fun a => ?_).trans (blk2 m c t r j)
    match a with
    | ⟨0, _⟩ => show r.val = 0 + r.val; omega
    | ⟨1, _⟩ => show j.val = 0 + j.val; omega
  have l3 : ∀ (j : Fin 128), View.ld (iblk m c 3 t : FVec Ideal S1x128 .f32) (Rect.unit ![0, 0] S1x128.size h3) (ix2 0 j)
      = m ((c.tc : Thread nD τ).loc main_arg3) (ix1 j) := fun j => by
    refine (View.ld_unit_apply_of _ _ _ _ _ (ix2 0 j) fun a => ?_).trans (blk3 m c t j)
    match a with
    | ⟨0, _⟩ => show 0 = 0 + 0; omega
    | ⟨1, _⟩ => show j.val = 0 + j.val; omega
  have l4 : ∀ (j : Fin 256), View.ld (iblk m c 4 t : FVec Ideal S1x256 .f32) (Rect.unit ![0, 0] S1x256.size h4) (ix2 0 j)
      = m ((c.tc : Thread nD τ).loc main_arg4) (ix1 ⟨j.val % 64, by omega⟩) := fun j => by
    refine (View.ld_unit_apply_of _ _ _ _ _ (ix2 0 j) fun a => ?_).trans (blk4 m c t j)
    match a with
    | ⟨0, _⟩ => show 0 = 0 + 0; omega
    | ⟨1, _⟩ => show j.val = 0 + j.val; omega
  have l5 : ∀ (h : Fin 4) (k : Fin 32) (v : Fin 64), View.ld (iblk m c 5 t : FVec Ideal S8x4x32x64 .f32) (Rect.unit ![b.val, 0, 0, 0] S1x4x32x64.size h5) (ix4 0 h k v)
      = m ((c.tc : Thread nD τ).loc main_arg5) (ix4 ⟨8 * t.val + b.val, B⟩ h k v) := fun h k v => by
    refine (View.ld_unit_apply_of _ _ _ _ _ (ix4 b h k v) fun a => ?_).trans (blk5 m c t b h k v)
    match a with
    | ⟨0, _⟩ => show b.val = b.val + 0; omega
    | ⟨1, _⟩ => show h.val = 0 + h.val; omega
    | ⟨2, _⟩ => show k.val = 0 + k.val; omega
    | ⟨3, _⟩ => show v.val = 0 + v.val; omega
  refine (outp_at _ _ _ _ _ _ (lg (m ((c.tc : Thread nD τ).loc main_arg1)) (m ((c.tc : Thread nD τ).loc main_arg2)) (m ((c.tc : Thread nD τ).loc main_arg3)) ⟨8 * t.val + b.val, B⟩) (Qr (m ((c.tc : Thread nD τ).loc main_arg0)) ⟨8 * t.val + b.val, B⟩) (Kr (m ((c.tc : Thread nD τ).loc main_arg0)) ⟨8 * t.val + b.val, B⟩) (Vr (m ((c.tc : Thread nD τ).loc main_arg0)) ⟨8 * t.val + b.val, B⟩) (Sr (m ((c.tc : Thread nD τ).loc main_arg5)) ⟨8 * t.val + b.val, B⟩) (fun s j => ?_) (fun s j => ?_) (fun s j => ?_) (fun s j => ?_)
    (fun h k v => ?_) q r).trans ?_
  · refine congrArg₂ (· + ·) (Eq.trans ?_ (pad_sum (fun r => m ((c.tc : Thread nD τ).loc main_arg1) (ix3 ⟨8 * t.val + b.val, B⟩ s r)) (fun r => m ((c.tc : Thread nD τ).loc main_arg2) (ix2 r j)))) (l3 j)
    exact Finset.sum_congr rfl fun r _ => congrArg₂ (fun p q : EReal => p * q) (l1 s r) (l2 r j)
  · exact (congrArg (fun e : EReal => e * _) (l0 s _)).trans (query_real H _ s j)
  · exact (l0 s _).trans (val_real H _ s j)
  · exact (l0 s _).trans (key_real H _ s j)
  · exact (l5 h k v).trans (H.old _ h k v)
  · rw [l4 r, l0 q]
    rfl

set_option maxHeartbeats 1000000 in
theorem flushed6_eq (c : Dev nD) (t : Fin cfg0.N) (H : Real6 (m ((c.tc : Thread nD τ).loc main_arg0)) (m ((c.tc : Thread nD τ).loc main_arg5))) : (dats m 0 c).flushed 6 t
    = ((cfg0.win 6).blk t).view.read (Elt Ideal) (G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  rw [flushed6_A, out6]
  refine funext fun y => ?_
  obtain ⟨b, q, r, rfl⟩ : ∃ (b : Fin 8) (q : Fin 8) (r : Fin 256), y = ix3 b q r := ⟨y 0, y 1, y 2, eq_ix3 y⟩
  refine Eq.trans ?_ (congrArg (G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (emb6 t b q r)).symm
  refine (View.canon_apply_of_pieces (Val := Elt Ideal) (S := S8x8x256) (e := .f32) (part6 m c t) _ (fun p hp => ?_) (ix3 b q r) ?_)
  · simp only [List.mem_cons, List.not_mem_nil, or_false] at hp
    rcases hp with rfl | rfl | rfl | rfl | rfl | rfl | rfl | rfl
    · exact fun x => piece6 m c t H 7 _ _ _ _ _ _ inb_S8x8x256_S1x8x256_7_0_0 x
    · exact fun x => piece6 m c t H 6 _ _ _ _ _ _ inb_S8x8x256_S1x8x256_6_0_0 x
    · exact fun x => piece6 m c t H 5 _ _ _ _ _ _ inb_S8x8x256_S1x8x256_5_0_0 x
    · exact fun x => piece6 m c t H 4 _ _ _ _ _ _ inb_S8x8x256_S1x8x256_4_0_0 x
    · exact fun x => piece6 m c t H 3 _ _ _ _ _ _ inb_S8x8x256_S1x8x256_3_0_0 x
    · exact fun x => piece6 m c t H 2 _ _ _ _ _ _ inb_S8x8x256_S1x8x256_2_0_0 x
    · exact fun x => piece6 m c t H 1 _ _ _ _ _ _ inb_S8x8x256_S1x8x256_1_0_0 x
    · exact fun x => piece6 m c t H 0 _ _ _ _ _ _ inb_S8x8x256_S1x8x256_0_0_0 x
  · have key : ∀ (b : Fin 8) (h5 : ∀ a, (![b.val, 0, 0] : Fin 3 → Nat) a + S1x8x256.size a ≤ S8x8x256.size a),
        ix3 b q r ∈ (Rect.unit (s := S8x8x256) ![b.val, 0, 0] S1x8x256.size h5).set := fun b h5 => by
      have e : (Rect.unit (s := S8x8x256) ![b.val, 0, 0] S1x8x256.size h5).emb (ix3 0 q r) = ix3 b q r := by
        refine funext fun a => Fin.ext ?_
        match a with
        | ⟨0, _⟩ => show b.val + 1 * 0 = b.val; omega
        | ⟨1, _⟩ => show 0 + 1 * q.val = q.val; omega
        | ⟨2, _⟩ => show 0 + 1 * r.val = r.val; omega
      rw [← e]
      exact LoadRect.idx_mem _ _
    simp only [List.mem_cons, List.not_mem_nil, or_false, exists_eq_or_imp, exists_eq_left]
    match b with
    | ⟨0, _⟩ => exact Or.inr (Or.inr (Or.inr (Or.inr (Or.inr (Or.inr (Or.inr ((key 0 _))))))))
    | ⟨1, _⟩ => exact Or.inr (Or.inr (Or.inr (Or.inr (Or.inr (Or.inr (Or.inl (key 1 _)))))))
    | ⟨2, _⟩ => exact Or.inr (Or.inr (Or.inr (Or.inr (Or.inr (Or.inl (key 2 _))))))
    | ⟨3, _⟩ => exact Or.inr (Or.inr (Or.inr (Or.inr (Or.inl (key 3 _)))))
    | ⟨4, _⟩ => exact Or.inr (Or.inr (Or.inr (Or.inl (key 4 _))))
    | ⟨5, _⟩ => exact Or.inr (Or.inr (Or.inl (key 5 _)))
    | ⟨6, _⟩ => exact Or.inr (Or.inl (key 6 _))
    | ⟨7, _⟩ => exact Or.inl (key 7 _)

theorem covered6 (i : S32x8x256.Idx) :
    ∃ t : Fin cfg0.N, (cfg0.win 6).flush t = true ∧ i ∈ ((cfg0.win 6).blk t).view.set := by
  obtain ⟨B, q, r, rfl⟩ : ∃ (B : Fin 32) (q : Fin 8) (r : Fin 256), i = ix3 B q r := ⟨i 0, i 1, i 2, eq_ix3 i⟩
  have ht : B.val / 8 < cfg0.N := by show B.val / 8 < 4; omega
  have e := ((cfg0.win 6).blk ⟨B.val / 8, ht⟩).view.emb_mem_set (ix3 ⟨B.val % 8, by omega⟩ q r)
  rw [emb6 ⟨B.val / 8, ht⟩ ⟨B.val % 8, by omega⟩ q r] at e
  have hB : (⟨8 * (B.val / 8) + B.val % 8, by omega⟩ : Fin 32) = B := Fin.ext (by show 8 * (B.val / 8) + B.val % 8 = B.val; omega)
  exact ⟨_, flush0_6 _, hB ▸ e⟩

/-- The first array after the run: the output. -/
theorem final6 (c : Dev nD) (H : Real6 (m ((c.tc : Thread nD τ).loc main_arg0)) (m ((c.tc : Thread nD τ).loc main_arg5))) : (dats m 0 c).arrAt 6 cfg0.N = G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 6 _ (fun t _ => flushed6_eq m c t H) covered6

end Cert.Proof.GlaArr6
-- ==== Proof.GlaRef.lean ====
/- The reference's new state of the linear attention, index by index, and its equality with what the kernel writes. -/
module
public import proofs.«01_k».proof.Proof.GlaArr
public import proofs.«01_k».proof.Proof.Gen.Reference6Ideal.Run

@[expose] public section

set_option maxRecDepth 256

noncomputable section

namespace Cert.Proof.GlaRef

open Cert.Reference6Ideal Cert.Reference6Ideal.Gen Cert.Proof.GlaArr Cert.Proof.GlaSeq Idealize.ShloMosaic
open Idealize.ShloMosaic.TcCoe Idealize.SL.Sem

/-- The window of the running sum. -/
abbrev W : Shape := ⟨4, ![1, 1, 8, 1]⟩

theorem fold_add {N : Nat} (f : Fin N → EReal) (a : EReal) : (List.finRange N).foldl (fun r n => r + f n) a = a + ∑ n : Fin N, f n := by
  rw [← List.sum_ofFn, List.ofFn_eq_map]
  generalize List.finRange N = L
  induction L generalizing a with
  | nil => simp
  | cons n L ih => rw [List.foldl_cons, ih, List.map_cons, List.sum_cons, add_assoc]

/-- The running sum's window, moved to the tokens. -/
theorem window_sum (X : Fin 8 → EReal) (t : Fin 8) :
    (∑ s : Fin 8, if h : 7 ≤ t.val + s.val then X ⟨t.val + s.val - 7, by omega⟩ else 0) = ∑ s : Fin 8, if s ≤ t then X s else 0 := by
  rw [Fin.sum_univ_eight, Fin.sum_univ_eight]
  match t with
  | ⟨0, _⟩ => simp
  | ⟨1, _⟩ => simp
  | ⟨2, _⟩ => simp
  | ⟨3, _⟩ => simp
  | ⟨4, _⟩ => simp
  | ⟨5, _⟩ => simp
  | ⟨6, _⟩ => simp
  | ⟨7, _⟩ => simp

/-- The host's float window sum as a sum over the window's positions. -/
theorem window_add {s t u : Shape} (window strides lo hi : Fin s.rank → Nat) (x : FVec Ideal s .f32) (v : FVec Ideal u .f32) (hv : ∀ i, v i = (0 : EReal))
    (h : s.ReduceWindows window strides lo hi t) (hu : 0 < u.numel) (j : t.Idx) :
    Host.reduceWindowAdd window strides lo hi x v h hu j
      = ∑ w : (⟨s.rank, window⟩ : Shape).Idx, (if hin : ∀ a, lo a ≤ (j (Fin.cast h.1.symm a)).val * strides a + (w a).val
          ∧ (j (Fin.cast h.1.symm a)).val * strides a + (w a).val - lo a < s.size a
        then x (fun a => ⟨(j (Fin.cast h.1.symm a)).val * strides a + (w a).val - lo a, (hin a).2⟩) else (0 : EReal)) := by
  unfold Host.reduceWindowAdd
  rw [Ideal.hostReduceWindowAdd_def]
  unfold Ideal.hostReduceWindowAdd Host.reduceWindow
  dsimp only
  rw [hv]
  refine (fold_add _ _).trans ?_
  rw [zero_add, ← Equiv.sum_comp (⟨s.rank, window⟩ : Shape).rowMajor.symm]
  refine Finset.sum_congr rfl fun n _ => ?_
  split <;> rfl

/-- The running sum over the tokens, read at an index. -/
theorem cum_sum (x : FVec Ideal S32x4x8x32 .f32) (v : FVec Ideal S_ .f32) (hv : ∀ i, v i = (0 : EReal)) (b : Fin 32) (h : Fin 4) (t : Fin 8) (k : Fin 32) :
    Host.reduceWindowAdd (F := Ideal) ![1, 1, 8, 1] ![1, 1, 1, 1] ![0, 0, 7, 0] ![0, 0, 0, 0] x v reduceWindows_S32x4x8x32_S32x4x8x32_w1s1p0_0_w1s1p0_0_w8s1p7_0_w1s1p0_0 h_S_ (ix4 b h t k)
      = ∑ s : Fin 8, if s ≤ t then x (ix4 b h s k) else (0 : EReal) := by
  rw [window_add _ _ _ _ x v hv]
  refine Eq.trans ?_ (window_sum (fun s => x (ix4 b h s k)) t)
  have hs : Function.Bijective (fun s : Fin 8 => (ix4 (0 : Fin 1) (0 : Fin 1) s (0 : Fin 1) : W.Idx)) :=
    ⟨fun p q e => congrFun e (2 : Fin 4), fun w => ⟨w 2, funext fun a => by
      match a with
      | ⟨0, _⟩ => exact Subsingleton.elim (α := Fin 1) _ _
      | ⟨1, _⟩ => exact Subsingleton.elim (α := Fin 1) _ _
      | ⟨2, _⟩ => rfl
      | ⟨3, _⟩ => exact Subsingleton.elim (α := Fin 1) _ _⟩⟩
  refine (Fintype.sum_bijective _ hs _ _ fun s => ?_).symm
  have hb := b.isLt
  have hh := h.isLt
  have hk := k.isLt
  have ht := t.isLt
  by_cases e : 7 ≤ t.val + s.val
  · rw [dif_pos e]
    rw [dif_pos]
    · refine congrArg x (funext fun a => Fin.ext ?_)
      match a with
      | ⟨0, _⟩ => show b.val = b.val * 1 + 0 - 0; omega
      | ⟨1, _⟩ => show h.val = h.val * 1 + 0 - 0; omega
      | ⟨2, _⟩ => show t.val + s.val - 7 = t.val * 1 + s.val - 7; omega
      | ⟨3, _⟩ => show k.val = k.val * 1 + 0 - 0; omega
    · intro a
      match a with
      | ⟨0, _⟩ => show 0 ≤ b.val * 1 + 0 ∧ b.val * 1 + 0 - 0 < 32; omega
      | ⟨1, _⟩ => show 0 ≤ h.val * 1 + 0 ∧ h.val * 1 + 0 - 0 < 4; omega
      | ⟨2, _⟩ => show 7 ≤ t.val * 1 + s.val ∧ t.val * 1 + s.val - 7 < 8; omega
      | ⟨3, _⟩ => show 0 ≤ k.val * 1 + 0 ∧ k.val * 1 + 0 - 0 < 32; omega
  · rw [dif_neg e, dif_neg]
    intro hin
    have h2 : 7 ≤ t.val * 1 + s.val := (hin (2 : Fin 4)).1
    omega

variable (g : FVec Ideal S32x8x768 .f32) (misc : FVec Ideal S32x8x128 .f32) (a2 : FVec Ideal S16x128 .f32) (ab : FVec Ideal S128 .f32)
  (s0 : FVec Ideal S32x4x32x64 .f32)

/-- The decay's logits, as the reference writes them. -/
abbrev logitR : FVec Ideal S32x8x128 .f32 :=
  addf (Host.dotGeneral dot_S32x8x16_S16x128_S32x8x128_2_0_01_1_n_n none (extractStridedSlice S32x8x16 ![0, 0, 24] misc slices_S32x8x128_S32x8x16_0_0_24) a2) (broadcastInDim S32x8x128 ![0, 1, 2] bcast_S1x1x128_S32x8x128_0_1_2 (broadcastInDim S1x1x128 ![2] bcast_S128_S1x1x128_2 ab))

/-- The logarithm of the decay, as the reference writes it, from the logits. -/
abbrev decayR (l : FVec Ideal S32x8x128 .f32) : FVec Ideal S32x8x128 .f32 :=
  Host.divf (Host.negf (select (cmpf .une (subf (Host.negf l) (broadcastInDim S32x8x128 ![] bcast_S_S32x8x128 (constant (F := Ideal) S_ .f32 0x00000000#32))) (subf (Host.negf l) (broadcastInDim S32x8x128 ![] bcast_S_S32x8x128 (constant (F := Ideal) S_ .f32 0x00000000#32)))) (addf (Host.negf l) (broadcastInDim S32x8x128 ![] bcast_S_S32x8x128 (constant (F := Ideal) S_ .f32 0x00000000#32))) (addf (maximumf (Host.negf l) (broadcastInDim S32x8x128 ![] bcast_S_S32x8x128 (constant (F := Ideal) S_ .f32 0x00000000#32))) (Host.log1p (Host.exp (Host.negf (Host.absf (subf (Host.negf l) (broadcastInDim S32x8x128 ![] bcast_S_S32x8x128 (constant (F := Ideal) S_ .f32 0x00000000#32)))))))))) (broadcastInDim S32x8x128 ![] bcast_S_S32x8x128 (constant (F := Ideal) S_ .f32 0x41800000#32))

/-- Its running sum over the tokens, head by head, as the reference writes it. -/
abbrev cumR (d : FVec Ideal S32x8x128 .f32) : FVec Ideal S32x4x8x32 .f32 :=
  Host.reduceWindowAdd ![1, 1, 8, 1] ![1, 1, 1, 1] ![0, 0, 7, 0] ![0, 0, 0, 0] (transpose S32x4x8x32 [0, 2, 1, 3] (shapeCast S32x8x4x32 d shapeCasts_S32x8x128_S32x8x4x32) transposes_S32x8x4x32_S32x4x8x32_0_2_1_3) (broadcastInDim S_ ![] bcast_S_S_ (constant (F := Ideal) S_ .f32 0x00000000#32)) reduceWindows_S32x4x8x32_S32x4x8x32_w1s1p0_0_w1s1p0_0_w8s1p7_0_w1s1p0_0 h_S_

theorem logitR_at (b : Fin 32) (t : Fin 8) (c : Fin 128) : logitR misc a2 ab (ix3 b t c) = lg misc a2 ab b t c := by
  pointwise [logitR, lg]

theorem decay_eq (x : EReal) : Ideal.div (-if -x ≠ -x then -x else max (-x) 0 + Ideal.log1p (Ideal.exp (-FloatOps.absf (F := Ideal) (φ := .f32) (-x))))
      (Ideal.ofBits FTy.f32 1098907648#32) = ldecE x := by
  have hc : Ideal.ofBits FTy.f32 1098907648#32 = ((16 : ℝ) : EReal) := by
    simp [Ideal.ofBits, Ideal.ieee, -EReal.coe_mul]
    norm_num
  have h0 : Ideal.log1p 0 = 0 := by
    show Ideal.log (1 + 0) = 0
    rw [add_zero, ← EReal.coe_one, Ideal.log_coe, if_neg (by norm_num), Real.log_one, EReal.coe_zero]
  rw [if_neg (fun h => h rfl), hc, Ideal.div_coe (by norm_num)]
  induction x with
  | bot =>
    have ha : FloatOps.absf (F := Ideal) (φ := .f32) (⊤ : EReal) = ⊤ := by
      show max (⊤ : EReal) (-⊤) = ⊤
      simp
    rw [EReal.neg_bot, ha, EReal.neg_top, Ideal.exp_bot, h0, add_zero, max_eq_left le_top, EReal.neg_top, EReal.bot_mul_coe_of_pos (by norm_num)]
    simp [ldecE]
  | top =>
    have ha : FloatOps.absf (F := Ideal) (φ := .f32) (⊥ : EReal) = ⊤ := by
      show max (⊥ : EReal) (-⊥) = ⊤
      simp
    rw [EReal.neg_top, ha, EReal.neg_top, Ideal.exp_bot, h0, add_zero, max_eq_right bot_le, neg_zero, zero_mul]
    simp [ldecE]
  | coe x =>
    have ha : FloatOps.absf (F := Ideal) (φ := .f32) (-(x : EReal)) = ((|x| : ℝ) : EReal) := by
      show max (-(x : EReal)) (-(-(x : EReal))) = _
      rw [neg_neg, ← EReal.coe_neg, max_comm]
      exact (EReal.coe_strictMono.monotone.map_max (a := x) (b := -x)).symm
    have hp : ¬ (1 + Real.exp (-|x|) ≤ 0) := by have := Real.exp_pos (-|x|); linarith
    have hm : max ((-x : ℝ) : EReal) ((0 : ℝ) : EReal) = ((max (-x) 0 : ℝ) : EReal) := (EReal.coe_strictMono.monotone.map_max (a := -x) (b := 0)).symm
    have hl : Ideal.log1p ((Real.exp (-|x|) : ℝ) : EReal) = ((Real.log (1 + Real.exp (-|x|)) : ℝ) : EReal) := by
      show Ideal.log (1 + ((Real.exp (-|x|) : ℝ) : EReal)) = _
      rw [← EReal.coe_one, ← EReal.coe_add, Ideal.log_coe, if_neg hp]
    rw [ldecE_coe, ha, ← EReal.coe_neg |x|, Ideal.exp_coe, hl, ← EReal.coe_neg x, ← EReal.coe_zero, hm, ← EReal.coe_add, ← EReal.coe_neg, ← EReal.coe_mul]
    congr 1
    unfold ldec
    have h2 : max (-x) 0 = -min x 0 := by rw [← neg_zero, max_neg_neg, neg_zero]
    rw [h2]
    ring

theorem decayR_at (l : FVec Ideal S32x8x128 .f32) (b : Fin 32) (t : Fin 8) (c : Fin 128) : decayR l (ix3 b t c) = ldecE (l (ix3 b t c)) := by
  pointwise [decayR]
  exact decay_eq _

theorem cumR_at (d : FVec Ideal S32x8x128 .f32) (b : Fin 32) (h : Fin 4) (t : Fin 8) (k : Fin 32) :
    cumR d (ix4 b h t k) = ∑ s : Fin 8, if s ≤ t then d (ix3 b s ⟨h.val * 32 + k.val, by omega⟩) else (0 : EReal) := by
  refine (cum_sum _ _ (fun i => ?_) b h t k).trans ?_
  · pointwise
  · refine Finset.sum_congr rfl fun s _ => ?_
    pointwise

/-- The new state, as the reference writes it, from the running sums. -/
abbrev stateR (B : FVec Ideal S32x4x8x32 .f32) : FVec Ideal S32x4x32x64 .f32 :=
  addf (mulf (broadcastInDim S32x4x32x64 ![0, 1, 2, 3] bcast_S32x4x32x1_S32x4x32x64_0_1_2_3 (broadcastInDim S32x4x32x1 ![0, 1, 2] bcast_S32x4x32_S32x4x32x1_0_1_2 (Host.exp (shapeCast S32x4x32 (extractStridedSlice S32x4x1x32 ![0, 0, 7, 0] B slices_S32x4x8x32_S32x4x1x32_0_0_7_0) shapeCasts_S32x4x1x32_S32x4x32)))) s0) (Host.dotGeneral dot_S32x4x8x32_S32x4x8x64_S32x4x32x64_2_2_3_3_01_01 none (mulf (transpose S32x4x8x32 [0, 2, 1, 3] (shapeCast S32x8x4x32 (extractStridedSlice S32x8x128 ![0, 0, 128] g slices_S32x8x768_S32x8x128_0_0_128) shapeCasts_S32x8x128_S32x8x4x32) transposes_S32x8x4x32_S32x4x8x32_0_2_1_3) (Host.exp (subf (broadcastInDim S32x4x8x32 ![0, 1, 2, 3] bcast_S32x4x1x32_S32x4x8x32_0_1_2_3 (extractStridedSlice S32x4x1x32 ![0, 0, 7, 0] B slices_S32x4x8x32_S32x4x1x32_0_0_7_0)) B))) (transpose S32x4x8x64 [0, 2, 1, 3] (shapeCast S32x8x4x64 (extractStridedSlice S32x8x256 ![0, 0, 256] g slices_S32x8x768_S32x8x256_0_0_256) shapeCasts_S32x8x256_S32x8x4x64) transposes_S32x8x4x64_S32x4x8x64_0_2_1_3))

theorem stateR_at (B : FVec Ideal S32x4x8x32 .f32) (b : Fin 32) (h : Fin 4) (k : Fin 32) (v : Fin 64) :
    stateR g s0 B (ix4 b h k v) = Ideal.exp (B (ix4 b h 7 k)) * s0 (ix4 b h k v)
      + ∑ s : Fin 8, g (ix3 b s ⟨128 + (h.val * 32 + k.val), by omega⟩) * Ideal.exp (B (ix4 b h 7 k) - B (ix4 b h s k)) * g (ix3 b s ⟨256 + (h.val * 64 + v.val), by omega⟩) := by
  pointwise [stateR]

section
variable {g misc a2 ab s0}

/-- The running sums are the sums of the logarithms of the decays. -/
theorem bsum_at (b : Fin 32) (h : Fin 4) (t : Fin 8) (k : Fin 32) :
    cumR (decayR (logitR misc a2 ab)) (ix4 b h t k) = Bsum (lg misc a2 ab b) t ⟨h.val * 32 + k.val, by omega⟩ := by
  rw [cumR_at]
  unfold Bsum
  refine Finset.sum_congr rfl fun s _ => ?_
  rw [decayR_at, logitR_at]

/-- The reference's new state is the kernel's. -/
theorem ref (H : Real6 g s0) : stateR g s0 (cumR (decayR (logitR misc a2 ab))) = G7 g misc a2 ab s0 := by
  refine funext fun i => ?_
  obtain ⟨b, h, k, v, rfl⟩ : ∃ (b : Fin 32) (h : Fin 4) (k : Fin 32) (v : Fin 64), i = ix4 b h k v := ⟨i 0, i 1, i 2, i 3, eq_ix4 i⟩
  refine (stateR_at g s0 _ b h k v).trans ?_
  show _ = (newState (lg misc a2 ab b) (Kr g b) (Vr g b) (Sr s0 b) h k v : EReal)
  have hs : s0 (ix4 b h k v) = (Sr s0 b h k v : ℝ) := H.old b h k v
  have hB := fun t => bsum_at (misc := misc) (a2 := a2) (ab := ab) b h t k
  unfold newState
  rw [EReal.coe_add, coe_sum, EReal.coe_mul, hB, hs, dall_eq, mul_comm]
  refine congrArg _ (Finset.sum_congr rfl fun s _ => ?_)
  rw [hB, dfrom_eq, EReal.coe_mul, EReal.coe_mul, mul_comm]
  exact congrArg₂ (fun p q : EReal => p * (q * _)) (val_real H b s ⟨h.val * 64 + v.val, by omega⟩) (key_real H b s ⟨h.val * 32 + k.val, by omega⟩)

end

end Cert.Proof.GlaRef
-- ==== Proof.GlaRef6.lean ====
/- The reference's output of the linear attention, index by index, and its equality with what the kernel writes. -/
module
public import proofs.«01_k».proof.Proof.GlaArr6
public import proofs.«01_k».proof.Proof.GlaRef

@[expose] public section

set_option maxRecDepth 256

noncomputable section

namespace Cert.Proof.GlaRef

open Cert.Reference6Ideal Cert.Reference6Ideal.Gen Cert.Proof.GlaArr Cert.Proof.GlaArr6 Cert.Proof.GlaSeq Cert.Proof.GlaOut Idealize.ShloMosaic
open Idealize.ShloMosaic.TcCoe Idealize.SL.Sem

variable (g : FVec Ideal S32x8x768 .f32) (misc : FVec Ideal S32x8x128 .f32) (a2 : FVec Ideal S16x128 .f32) (ab : FVec Ideal S128 .f32)
  (gn : FVec Ideal S64 .f32) (s0 : FVec Ideal S32x4x32x64 .f32)

/-- The attention before its norm, as the reference writes it, from the running sums. -/
abbrev attnR (B : FVec Ideal S32x4x8x32 .f32) : FVec Ideal S32x4x8x64 .f32 :=
  addf (Host.dotGeneral dot_S32x4x8x32_S32x4x32x64_S32x4x8x64_3_2_2_3_01_01 none (mulf (transpose S32x4x8x32 [0, 2, 1, 3] (mulf (shapeCast S32x8x4x32 (extractStridedSlice S32x8x128 ![0, 0, 0] g slices_S32x8x768_S32x8x128_0_0_0) shapeCasts_S32x8x128_S32x8x4x32) (broadcastInDim S32x8x4x32 ![] bcast_S_S32x8x4x32 (constant (F := Ideal) S_ .f32 0x3E3504F3#32))) transposes_S32x8x4x32_S32x4x8x32_0_2_1_3) (Host.exp B)) s0) (Host.dotGeneral dot_S32x4x8x8_S32x4x8x64_S32x4x8x64_3_2_2_3_01_01 none (Host.reduceAdd (mulf (mulf (broadcastInDim S32x4x8x8x32 ![0, 1, 2, 3, 4] bcast_S32x4x8x1x32_S32x4x8x8x32_0_1_2_3_4 (broadcastInDim S32x4x8x1x32 ![0, 1, 2, 4] bcast_S32x4x8x32_S32x4x8x1x32_0_1_2_4 (transpose S32x4x8x32 [0, 2, 1, 3] (mulf (shapeCast S32x8x4x32 (extractStridedSlice S32x8x128 ![0, 0, 0] g slices_S32x8x768_S32x8x128_0_0_0) shapeCasts_S32x8x128_S32x8x4x32) (broadcastInDim S32x8x4x32 ![] bcast_S_S32x8x4x32 (constant (F := Ideal) S_ .f32 0x3E3504F3#32))) transposes_S32x8x4x32_S32x4x8x32_0_2_1_3))) (broadcastInDim S32x4x8x8x32 ![0, 1, 2, 3, 4] bcast_S32x4x1x8x32_S32x4x8x8x32_0_1_2_3_4 (broadcastInDim S32x4x1x8x32 ![0, 1, 3, 4] bcast_S32x4x8x32_S32x4x1x8x32_0_1_3_4 (transpose S32x4x8x32 [0, 2, 1, 3] (shapeCast S32x8x4x32 (extractStridedSlice S32x8x128 ![0, 0, 128] g slices_S32x8x768_S32x8x128_0_0_128) shapeCasts_S32x8x128_S32x8x4x32) transposes_S32x8x4x32_S32x4x8x32_0_2_1_3)))) (Host.exp (select (broadcastInDim S32x4x8x8x32 ![2, 3, 4] bcast_S8x8x1_S32x4x8x8x32_2_3_4 (broadcastInDim S8x8x1 ![0, 1] bcast_S8x8_S8x8x1_0_1 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))) (subf (broadcastInDim S32x4x8x8x32 ![0, 1, 2, 3, 4] bcast_S32x4x8x1x32_S32x4x8x8x32_0_1_2_3_4 (broadcastInDim S32x4x8x1x32 ![0, 1, 2, 4] bcast_S32x4x8x32_S32x4x8x1x32_0_1_2_4 B)) (broadcastInDim S32x4x8x8x32 ![0, 1, 2, 3, 4] bcast_S32x4x1x8x32_S32x4x8x8x32_0_1_2_3_4 (broadcastInDim S32x4x1x8x32 ![0, 1, 3, 4] bcast_S32x4x8x32_S32x4x1x8x32_0_1_3_4 B))) (broadcastInDim S32x4x8x8x32 ![] bcast_S_S32x4x8x8x32 (id (constant (F := Ideal) S_ .f32 0xFF800000#32)))))) (constant (F := Ideal) S_ .f32 0x00000000#32) reducesTo_S32x4x8x8x32_S32x4x8x8_d4 h_S_) (transpose S32x4x8x64 [0, 2, 1, 3] (shapeCast S32x8x4x64 (extractStridedSlice S32x8x256 ![0, 0, 256] g slices_S32x8x768_S32x8x256_0_0_256) shapeCasts_S32x8x256_S32x8x4x64) transposes_S32x8x4x64_S32x4x8x64_0_2_1_3))

/-- The output, as the reference writes it, from the attention before its norm. -/
abbrev outR (gn : FVec Ideal S64 .f32) (o : FVec Ideal S32x4x8x64 .f32) : FVec Ideal S32x8x256 .f32 :=
  mulf (shapeCast S32x8x256 (mulf (mulf (transpose S32x8x4x64 [0, 2, 1, 3] o transposes_S32x4x8x64_S32x8x4x64_0_2_1_3) (broadcastInDim S32x8x4x64 ![0, 1, 2, 3] bcast_S32x8x4x1_S32x8x4x64_0_1_2_3 (Host.rsqrt (addf (Host.divf (broadcastInDim S32x8x4x1 ![0, 1, 2] bcast_S32x8x4_S32x8x4x1_0_1_2 (Host.reduceAdd (mulf (transpose S32x8x4x64 [0, 2, 1, 3] o transposes_S32x4x8x64_S32x8x4x64_0_2_1_3) (transpose S32x8x4x64 [0, 2, 1, 3] o transposes_S32x4x8x64_S32x8x4x64_0_2_1_3)) (constant (F := Ideal) S_ .f32 0x00000000#32) reducesTo_S32x8x4x64_S32x8x4_d3 h_S_)) (broadcastInDim S32x8x4x1 ![] bcast_S_S32x8x4x1 (constant (F := Ideal) S_ .f32 0x42800000#32))) (broadcastInDim S32x8x4x1 ![] bcast_S_S32x8x4x1 (constant (F := Ideal) S_ .f32 0x358637BD#32)))))) (broadcastInDim S32x8x4x64 ![0, 1, 2, 3] bcast_S1x1x1x64_S32x8x4x64_0_1_2_3 (broadcastInDim S1x1x1x64 ![3] bcast_S64_S1x1x1x64_3 gn))) shapeCasts_S32x8x4x64_S32x8x256) (mulf (extractStridedSlice S32x8x256 ![0, 0, 512] g slices_S32x8x768_S32x8x256_0_0_512) (Host.divf (broadcastInDim S32x8x256 ![] bcast_S_S32x8x256 (constant (F := Ideal) S_ .f32 0x3F800000#32)) (addf (broadcastInDim S32x8x256 ![] bcast_S_S32x8x256 (constant (F := Ideal) S_ .f32 0x3F800000#32)) (Host.exp (Host.negf (extractStridedSlice S32x8x256 ![0, 0, 512] g slices_S32x8x768_S32x8x256_0_0_512))))))

theorem causal_word : ∀ t s : Fin 8, Scalar.select (IntOp.cmpi CmpIPredicate.sge (IntOp.addi (BitVec.ofNat 32 t.val) 0#32) (BitVec.ofNat 32 s.val)) 1#1 0#1
    = if s ≤ t then 1#1 else 0#1 := by decide +kernel

/-- A decay with the mask: nothing of a later token. -/
theorem masked_exp (p : Prop) [Decidable p] (x : EReal) :
    Ideal.exp (Scalar.select (if p then 1#1 else 0#1) x (id (constant (F := Ideal) S_ FTy.f32 4286578688#32) ix0)) = if p then Ideal.exp x else 0 := by
  have hb : Ideal.ofBits FTy.f32 4286578688#32 = ⊥ := by simp [Ideal.ofBits, Ideal.ieee]
  by_cases h : p
  · rw [if_pos h, if_pos h]
    rfl
  · rw [if_neg h, if_neg h]
    show Ideal.exp (Ideal.ofBits FTy.f32 4286578688#32) = 0
    rw [hb, Ideal.exp_bot]

theorem attnR_at (B : FVec Ideal S32x4x8x32 .f32) (b : Fin 32) (h : Fin 4) (t : Fin 8) (v : Fin 64) :
    attnR g s0 B (ix4 b h t v)
      = (∑ k : Fin 32, g (ix3 b t ⟨h.val * 32 + k.val, by omega⟩) * Ideal.ofBits .f32 0x3E3504F3#32 * Ideal.exp (B (ix4 b h t k)) * s0 (ix4 b h k v))
        + ∑ s : Fin 8, (∑ k : Fin 32, g (ix3 b t ⟨h.val * 32 + k.val, by omega⟩) * Ideal.ofBits .f32 0x3E3504F3#32 * g (ix3 b s ⟨128 + (h.val * 32 + k.val), by omega⟩)
            * (if s ≤ t then Ideal.exp (B (ix4 b h t k) - B (ix4 b h s k)) else 0)) * g (ix3 b s ⟨256 + (h.val * 64 + v.val), by omega⟩) := by
  pointwise [attnR]
  simp only [causal_word, masked_exp]

theorem outR_at (o : FVec Ideal S32x4x8x64 .f32) (b : Fin 32) (t : Fin 8) (r : Fin 256) :
    outR g gn o (ix3 b t r) = o (ix4 b ⟨r.val / 64, by omega⟩ t ⟨r.val % 64, by omega⟩)
          * Ideal.rsqrt (Ideal.div (∑ v : Fin 64, o (ix4 b ⟨r.val / 64, by omega⟩ t v) * o (ix4 b ⟨r.val / 64, by omega⟩ t v)) (Ideal.ofBits FTy.f32 1115684864#32)
              + Ideal.ofBits FTy.f32 897988541#32)
        * gn (ix1 ⟨r.val % 64, by omega⟩)
      * (g (ix3 b t ⟨512 + r.val, by omega⟩) * Ideal.div 1 (1 + Ideal.exp (-g (ix3 b t ⟨512 + r.val, by omega⟩)))) := by
  pointwise [outR]

section
variable {g misc a2 ab s0}

/-- The reference's attention before its norm is the kernel's. -/
theorem attn_eq (H : Real6 g s0) (b : Fin 32) (h : Fin 4) (t : Fin 8) (v : Fin 64) :
    attnR g s0 (cumR (decayR (logitR misc a2 ab))) (ix4 b h t v)
      = (attn (lg misc a2 ab b) (Qr g b) (Kr g b) (Vr g b) (Sr s0 b) t ⟨h.val * 64 + v.val, by omega⟩ : ℝ) := by
  rw [attnR_at]
  have hs : ∀ k, s0 (ix4 b h k v) = (Sr s0 b h k v : ℝ) := fun k => H.old b h k v
  have hB := fun t k => bsum_at (misc := misc) (a2 := a2) (ab := ab) b h t k
  have hq := fun k : Fin 32 => query_real H b t ⟨h.val * 32 + k.val, by omega⟩
  have hk := fun (s : Fin 8) (k : Fin 32) => key_real H b s ⟨h.val * 32 + k.val, by omega⟩
  have hv := fun s : Fin 8 => val_real H b s ⟨h.val * 64 + v.val, by omega⟩
  dsimp only at hq hk hv
  unfold attn
  have e1 : (h.val * 64 + v.val) / 64 = h.val := by omega
  have e2 : (⟨(h.val * 64 + v.val) % 64, by omega⟩ : Fin 64) = v := Fin.ext (by dsimp only; omega)
  simp only [e1, e2]
  rw [EReal.coe_add, coe_sum, coe_sum]
  refine congrArg₂ (· + ·) (Finset.sum_congr rfl fun k _ => ?_) (Finset.sum_congr rfl fun s _ => ?_)
  · rw [hq, hs, hB, dto_eq, ← EReal.coe_mul, ← EReal.coe_mul]
  · rw [hv]
    by_cases hst : s ≤ t
    · rw [if_pos hst, EReal.coe_mul, coe_sum]
      refine congrArg₂ (fun p q : EReal => p * q) (Finset.sum_congr rfl fun k _ => ?_) rfl
      rw [if_pos hst, hq, hk, hB, hB, dbetw_eq _ t s hst, ← EReal.coe_mul, ← EReal.coe_mul]
    · rw [if_neg hst]
      have e : ∀ f : Fin 32 → EReal, ∑ k : Fin 32, f k * (if s ≤ t then Ideal.exp (cumR (decayR (logitR misc a2 ab)) (ix4 b h t k) - cumR (decayR (logitR misc a2 ab)) (ix4 b h s k)) else 0) = 0 :=
        fun f => Finset.sum_eq_zero fun k _ => by rw [if_neg hst, mul_zero]
      rw [e, zero_mul, EReal.coe_zero]

/-- The reference's output is the kernel's. -/
theorem refOut (H : Real6 g s0) : outR g gn (attnR g s0 (cumR (decayR (logitR misc a2 ab)))) = G6 g misc a2 ab gn s0 := by
  refine funext fun i => ?_
  obtain ⟨b, t, r, rfl⟩ : ∃ (b : Fin 32) (t : Fin 8) (r : Fin 256), i = ix3 b t r := ⟨i 0, i 1, i 2, eq_ix3 i⟩
  have hc : Ideal.ofBits FTy.f32 1115684864#32 = ((64 : ℝ) : EReal) := by
    simp [Ideal.ofBits, Ideal.ieee, -EReal.coe_mul]
    norm_num
  refine (outR_at g gn _ b t r).trans ?_
  show _ = gated (attn (lg misc a2 ab b) (Qr g b) (Kr g b) (Vr g b) (Sr s0 b)) (gn (ix1 ⟨r.val % 64, by omega⟩)) (g (ix3 b t ⟨512 + r.val, by omega⟩)) t r
  have ho := fun v => attn_eq (misc := misc) (a2 := a2) (ab := ab) H b ⟨r.val / 64, by omega⟩ t v
  have er : (⟨r.val / 64 * 64 + r.val % 64, by omega⟩ : Fin 256) = r := Fin.ext (by dsimp only; omega)
  unfold gated msq
  simp only [ho, ← EReal.coe_mul]
  rw [← coe_sum, hc, Ideal.div_coe (by norm_num), ← EReal.coe_mul, mul_one_div, zero_sub, er]

end

end Cert.Proof.GlaRef
-- ==== Proof.GlaS.lean ====
/- The linear attention of the sample as a program of its own: its frames, and that its output and its new state are the reference's. -/
module
public import proofs.«01_k».proof.Defs
public import proofs.«01_k».proof.Proof.GlaRef6
public import proofs.«01_k».proof.Proof.Gen.Kernel6.Frame

@[expose] public section

set_option maxRecDepth 16384

noncomputable section

namespace Cert.Proof.GlaRef

open Cert.Reference6Ideal Cert.Reference6Ideal.Gen Cert.Proof.GlaArr Cert.Proof.GlaArr6 Idealize.ShloMosaic
open Idealize.ShloMosaic.TcCoe Idealize.SL.Sem

/-- A value whose magnitude is below infinity is a real number. -/
theorem isReal_of_lt (x : EReal) (h : FloatOps.cmpf (F := Ideal) (φ := .f32) .olt (FloatOps.hostAbsf (F := Ideal) (φ := .f32) x) (Ideal.ofBits .f32 0x7F800000#32) = 1#1) : IsReal x := by
  have ht : Ideal.ofBits .f32 0x7F800000#32 = ⊤ := by simp [Ideal.ofBits, Ideal.ieee]
  rw [ht] at h
  have h2 : BitVec.ofBool (decide (max x (-x) < ⊤)) = 1#1 := h
  have h3 : max x (-x) < ⊤ := by
    by_contra e
    rw [decide_eq_false e] at h2
    exact absurd h2 (by decide)
  have h4 := max_lt_iff.1 h3
  refine (EReal.coe_toReal h4.1.ne ?_).symm
  rintro rfl
  exact absurd h4.2 (by simp)

/-- The precondition says that the queries, the keys, the values and the old state are real numbers. -/
theorem real_of_finite [Cert.Pre_finite.Facts] (g : FVec Ideal S32x8x768 .f32) (misc : FVec Ideal S32x8x128 .f32) (a2 : FVec Ideal S16x128 .f32) (ab : FVec Ideal S128 .f32)
    (gn : FVec Ideal S64 .f32) (s0 : FVec Ideal S32x4x32x64 .f32)
    (H : (Cert.Pre_finite.fn (F := Ideal) g misc a2 ab gn s0).1 = (fun _ => 1#1) ∧ (Cert.Pre_finite.fn (F := Ideal) g misc a2 ab gn s0).2 = (fun _ => 1#1)) :
    Real6 g s0 := by
  obtain ⟨h0, h1⟩ := H
  unfold Cert.Pre_finite.fn at h0 h1
  dsimp only at h0 h1
  refine ⟨fun b s j => isReal_of_lt _ ?_, fun b h k v => isReal_of_lt _ (congrFun h1 (ix4 b h k v))⟩
  have e := congrFun h0 (ix3 b s j)
  pointwise at e
  exact e

variable (m : (ℓ : Loc nD τ sig) → Buf (Elt Ideal) ℓ)

/-- The reference's second result is the new state, where the queries, the keys, the values and the old state are real numbers. -/
theorem resState (c : Dev nD) (H : Real6 (m ((c.tc : Thread nD τ).loc main_arg0)) (m ((c.tc : Thread nD τ).loc main_arg5))) : Cert.Reference6Ideal.Value.res_main_v56 m c = G7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  delta Cert.Reference6Ideal.Value.res_main_v56
  exact ref H

/-- The reference's first result is the output, where the queries, the keys, the values and the old state are real numbers. -/
theorem resOut (c : Dev nD) (H : Real6 (m ((c.tc : Thread nD τ).loc main_arg0)) (m ((c.tc : Thread nD τ).loc main_arg5))) : Cert.Reference6Ideal.Value.res_main_v73 m c = G6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  delta Cert.Reference6Ideal.Value.res_main_v73
  exact refOut _ H

end Cert.Proof.GlaRef

namespace Cert.Proof

open Idealize.ShloMosaic

/-- The shape relations that the precondition's operations take. -/
theorem facts_finite : Cert.Pre_finite.Facts where
  slices_S32x8x768_S32x8x512_0_0_0 := by decide +kernel
  bcast_S_S32x8x512 := by decide +kernel
  bcast_S_S32x4x32x64 := by decide +kernel

/-- The printed linear attention's frame, at words. -/
theorem frame_kernel6 : Cert.quiescent_Kernel6 := fun m ρ _ => Cert.Kernel6.Gen.frame (F := Bits) m ρ

/-- The idealized linear attention's frame, at the extended reals. -/
theorem frame_kernel6Ideal : Cert.quiescent_Kernel6Ideal := fun m ρ _ => Cert.Kernel6Ideal.Gen.frame (F := Ideal) m ρ

/-- The same, of arrays that the precondition holds of. -/
theorem frame_kernel6Ideal_finite [hp : Cert.Pre_finite.Facts] : Cert.quiescent_Kernel6Ideal_pre_finite := fun m ρ _ => Cert.Kernel6Ideal.Gen.frame (F := Ideal) m ρ

/-- The linear attention's reference's frame. -/
theorem frame_reference6 : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run (F := Ideal) m ρ)

/-- The same, of arrays that the precondition holds of. -/
theorem frame_reference6_finite [hp : Cert.Pre_finite.Facts] : Cert.quiescent_Reference6Ideal_pre_finite := fun m ρ _ => frame_reference6 m ρ trivial

set_option maxHeartbeats 4000000 in
/-- Over the extended reals, of finite queries, keys, values and old state, the kernel's output and new state are the reference's. -/
theorem algebraic6 [hp : Cert.Pre_finite.Facts] : Cert.algebraic_Kernel6Ideal_Reference6Ideal_pre_finite := fun m ρ m' ρ' hf hm => by
  have HR := fun c => GlaRef.real_of_finite _ _ _ _ _ _ (hf c)
  refine ⟨fun c => GlaArr6.G6 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)),
    fun c => GlaArr.G7 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg5)), ?_, ?_⟩
  · refine (θ_run Cert.Kernel6Ideal.defs _ _).mono (fun r h c => ?_) (Cert.Kernel6Ideal.Value.run_blocks (F := Ideal) m ρ)
    have hc := h c
    clear h
    obtain ⟨h6, h7, ha⟩ := hc
    exact ⟨h6.trans (GlaArr6.final6 m c (HR c)), h7.trans (GlaArr.final7 m c (HR c)), ha⟩
  · refine (θ_run Cert.Reference6Ideal.defs _ _).mono (fun r h c => ?_) (Cert.Reference6Ideal.Value.run (F := Ideal) m' ρ')
    have hc := h c
    clear h
    obtain ⟨h73, h56, ha⟩ := hc
    obtain ⟨e0, e1, e2, e3, e4, e5⟩ := hm c
    have H := HR c
    have eG := congr (congr (congr (congr (congrArg GlaArr.G7 e0) e1) e2) e3) e5
    have eO := congr (congr (congr (congr (congr (congrArg GlaArr6.G6 e0) e1) e2) e3) e4) e5
    rw [← e0, ← e5] at H
    exact ⟨h73.trans ((GlaRef.resOut m' c H).trans eO), h56.trans ((GlaRef.resState m' c H).trans eG), ha⟩

end Cert.Proof
-- ==== Proof.lean ====
/-
  The certificate: of the sparse attention the frames of the printed and of the idealized kernel and of the reference, and the
  two named constants; of the input projection and of the output projection, for the prompt and for the
  sample, and of the linear attention's state for the sample, the frames and the equality with their references.
-/
module

public import proofs.«01_k».proof.Defs
public import proofs.«01_k».proof.Proof.Run
public import proofs.«01_k».proof.Proof.RunK
public import proofs.«01_k».proof.Proof.Gen.ReferenceIdeal.Run
public import proofs.«01_k».proof.Proof.Proj
public import proofs.«01_k».proof.Proof.Out
public import proofs.«01_k».proof.Proof.ProjS
public import proofs.«01_k».proof.Proof.OutS
public import proofs.«01_k».proof.Proof.GlaS

@[expose] public section

noncomputable section

namespace Cert.Proof

open Idealize.ShloMosaic

/-- The printed kernel's frame, at words. -/
theorem frame_kernel : Cert.quiescent_Kernel := fun m ρ _ => Cert.Kernel.Hand.frame_run (F := Bits) m ρ

/-- The idealized kernel's frame, at the extended reals. -/
theorem frame_kernelIdeal : Cert.quiescent_KernelIdeal := fun m ρ _ => Cert.KernelIdeal.Hand.frame_run (F := Ideal) m ρ

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The two named constants are the ones the words stand for. -/
theorem preserves : Cert.preserves_Kernel_KernelIdeal :=
  ⟨IdealRules.named_const.statement Cert.KernelIdeal.κ "scale" .f32 0x3E38AA3B#32 _ rfl,
    IdealRules.named_const.statement Cert.KernelIdeal.κ "mask" .f32 0xF149F2CA#32 _ rfl⟩

/-- All claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, facts_finite,
    frame_kernel, frame_kernelIdeal, frame_reference,
    frame_kernel2, frame_kernel2Ideal, frame_reference2,
    frame_kernel3, frame_kernel3Ideal, frame_reference3,
    frame_kernel4, frame_kernel4Ideal, frame_reference4,
    frame_kernel5, frame_kernel5Ideal, frame_reference5,
    frame_kernel6, frame_kernel6Ideal, frame_kernel6Ideal_finite (hp := facts_finite), frame_reference6, frame_reference6_finite (hp := facts_finite),
    preserves, trivial, algebraic2, trivial, algebraic3, trivial, algebraic4, trivial, algebraic5,
    trivial, algebraic6 (hp := facts_finite)⟩

end Cert.Proof

end
